-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_scales_normal [hPre_gate_scales_normal : Cert.Pre_gate_scales_normal.Facts] (m : (ℓ : Loc Cert.GateIdeal.nD Cert.GateIdeal.τ Cert.GateIdeal.sig) → Buf (Elt Ideal) ℓ) : Prop :=
  ∀ c : Dev Cert.GateIdeal.nD,
    (Cert.Pre_gate_scales_normal.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_scales_normal [hPre_gate_scales_normal : Cert.Pre_gate_scales_normal.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_scales_normal.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_out_scales_normal [hPre_out_scales_normal : Cert.Pre_out_scales_normal.Facts] (m : (ℓ : Loc Cert.OutIdeal.nD Cert.OutIdeal.τ Cert.OutIdeal.sig) → Buf (Elt Ideal) ℓ) : Prop :=
  ∀ c : Dev Cert.OutIdeal.nD,
    (Cert.Pre_out_scales_normal.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_out_scales_normal [hPre_out_scales_normal : Cert.Pre_out_scales_normal.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_out_scales_normal.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2))) = (fun _ => 1#1)

def Pre_ConvQk (m : (ℓ : Loc Cert.ConvQk.nD Cert.ConvQk.τ Cert.ConvQk.sig) → Buf (Elt Bits) ℓ) : Prop :=
  True

def Pre_ConvQkIdeal (m : (ℓ : Loc Cert.ConvQkIdeal.nD Cert.ConvQkIdeal.τ Cert.ConvQkIdeal.sig) → Buf (Elt Ideal) ℓ) : Prop :=
  True

def Pre_ConvQkIdeal_conv_qk_scales_normal [hPre_conv_qk_scales_normal : Cert.Pre_conv_qk_scales_normal.Facts] (m : (ℓ : Loc Cert.ConvQkIdeal.nD Cert.ConvQkIdeal.τ Cert.ConvQkIdeal.sig) → Buf (Elt Ideal) ℓ) : Prop :=
  ∀ c : Dev Cert.ConvQkIdeal.nD,
    (Cert.Pre_conv_qk_scales_normal.fn (F := Ideal) (m ((c.tc : Thread Cert.ConvQkIdeal.nD Cert.ConvQkIdeal.τ).loc Cert.ConvQkIdeal.main_arg0)) (m ((c.tc : Thread Cert.ConvQkIdeal.nD Cert.ConvQkIdeal.τ).loc Cert.ConvQkIdeal.main_arg1)) (m ((c.tc : Thread Cert.ConvQkIdeal.nD Cert.ConvQkIdeal.τ).loc Cert.ConvQkIdeal.main_arg2)) (m ((c.tc : Thread Cert.ConvQkIdeal.nD Cert.ConvQkIdeal.τ).loc Cert.ConvQkIdeal.main_arg3)) (m ((c.tc : Thread Cert.ConvQkIdeal.nD Cert.ConvQkIdeal.τ).loc Cert.ConvQkIdeal.main_arg4))) = (fun _ => 1#1)

def Pre_ConvQkRefIdeal (m : (ℓ : Loc Cert.ConvQkRefIdeal.nD Cert.ConvQkRefIdeal.τ Cert.ConvQkRefIdeal.sig) → Buf (Elt Ideal) ℓ) : Prop :=
  True

def Pre_ConvQkRefIdeal_conv_qk_scales_normal [hPre_conv_qk_scales_normal : Cert.Pre_conv_qk_scales_normal.Facts] (m : (ℓ : Loc Cert.ConvQkRefIdeal.nD Cert.ConvQkRefIdeal.τ Cert.ConvQkRefIdeal.sig) → Buf (Elt Ideal) ℓ) : Prop :=
  ∀ c : Dev Cert.ConvQkRefIdeal.nD,
    (Cert.Pre_conv_qk_scales_normal.fn (F := Ideal) (m ((c.tc : Thread Cert.ConvQkRefIdeal.nD Cert.ConvQkRefIdeal.τ).loc Cert.ConvQkRefIdeal.main_arg0)) (m ((c.tc : Thread Cert.ConvQkRefIdeal.nD Cert.ConvQkRefIdeal.τ).loc Cert.ConvQkRefIdeal.main_arg1)) (m ((c.tc : Thread Cert.ConvQkRefIdeal.nD Cert.ConvQkRefIdeal.τ).loc Cert.ConvQkRefIdeal.main_arg2)) (m ((c.tc : Thread Cert.ConvQkRefIdeal.nD Cert.ConvQkRefIdeal.τ).loc Cert.ConvQkRefIdeal.main_arg3)) (m ((c.tc : Thread Cert.ConvQkRefIdeal.nD Cert.ConvQkRefIdeal.τ).loc Cert.ConvQkRefIdeal.main_arg4))) = (fun _ => 1#1)

def Pre_ConvV (m : (ℓ : Loc Cert.ConvV.nD Cert.ConvV.τ Cert.ConvV.sig) → Buf (Elt Bits) ℓ) : Prop :=
  True

def Pre_ConvVIdeal (m : (ℓ : Loc Cert.ConvVIdeal.nD Cert.ConvVIdeal.τ Cert.ConvVIdeal.sig) → Buf (Elt Ideal) ℓ) : Prop :=
  True

def Pre_ConvVIdeal_conv_v_scales_normal [hPre_conv_v_scales_normal : Cert.Pre_conv_v_scales_normal.Facts] (m : (ℓ : Loc Cert.ConvVIdeal.nD Cert.ConvVIdeal.τ Cert.ConvVIdeal.sig) → Buf (Elt Ideal) ℓ) : Prop :=
  ∀ c : Dev Cert.ConvVIdeal.nD,
    (Cert.Pre_conv_v_scales_normal.fn (F := Ideal) (m ((c.tc : Thread Cert.ConvVIdeal.nD Cert.ConvVIdeal.τ).loc Cert.ConvVIdeal.main_arg0)) (m ((c.tc : Thread Cert.ConvVIdeal.nD Cert.ConvVIdeal.τ).loc Cert.ConvVIdeal.main_arg1)) (m ((c.tc : Thread Cert.ConvVIdeal.nD Cert.ConvVIdeal.τ).loc Cert.ConvVIdeal.main_arg2)) (m ((c.tc : Thread Cert.ConvVIdeal.nD Cert.ConvVIdeal.τ).loc Cert.ConvVIdeal.main_arg3)) (m ((c.tc : Thread Cert.ConvVIdeal.nD Cert.ConvVIdeal.τ).loc Cert.ConvVIdeal.main_arg4))) = (fun _ => 1#1)

def Pre_ConvVRefIdeal (m : (ℓ : Loc Cert.ConvVRefIdeal.nD Cert.ConvVRefIdeal.τ Cert.ConvVRefIdeal.sig) → Buf (Elt Ideal) ℓ) : Prop :=
  True

def Pre_ConvVRefIdeal_conv_v_scales_normal [hPre_conv_v_scales_normal : Cert.Pre_conv_v_scales_normal.Facts] (m : (ℓ : Loc Cert.ConvVRefIdeal.nD Cert.ConvVRefIdeal.τ Cert.ConvVRefIdeal.sig) → Buf (Elt Ideal) ℓ) : Prop :=
  ∀ c : Dev Cert.ConvVRefIdeal.nD,
    (Cert.Pre_conv_v_scales_normal.fn (F := Ideal) (m ((c.tc : Thread Cert.ConvVRefIdeal.nD Cert.ConvVRefIdeal.τ).loc Cert.ConvVRefIdeal.main_arg0)) (m ((c.tc : Thread Cert.ConvVRefIdeal.nD Cert.ConvVRefIdeal.τ).loc Cert.ConvVRefIdeal.main_arg1)) (m ((c.tc : Thread Cert.ConvVRefIdeal.nD Cert.ConvVRefIdeal.τ).loc Cert.ConvVRefIdeal.main_arg2)) (m ((c.tc : Thread Cert.ConvVRefIdeal.nD Cert.ConvVRefIdeal.τ).loc Cert.ConvVRefIdeal.main_arg3)) (m ((c.tc : Thread Cert.ConvVRefIdeal.nD Cert.ConvVRefIdeal.τ).loc Cert.ConvVRefIdeal.main_arg4))) = (fun _ => 1#1)

def Pre_Rec (m : (ℓ : Loc Cert.Rec.nD Cert.Rec.τ Cert.Rec.sig) → Buf (Elt Bits) ℓ) : Prop :=
  True

def Pre_RecIdeal (m : (ℓ : Loc Cert.RecIdeal.nD Cert.RecIdeal.τ Cert.RecIdeal.sig) → Buf (Elt Ideal) ℓ) : Prop :=
  True

def Pre_RecIdeal_rec_scales_normal [hPre_rec_scales_normal : Cert.Pre_rec_scales_normal.Facts] (m : (ℓ : Loc Cert.RecIdeal.nD Cert.RecIdeal.τ Cert.RecIdeal.sig) → Buf (Elt Ideal) ℓ) : Prop :=
  ∀ c : Dev Cert.RecIdeal.nD,
    (Cert.Pre_rec_scales_normal.fn (F := Ideal) (m ((c.tc : Thread Cert.RecIdeal.nD Cert.RecIdeal.τ).loc Cert.RecIdeal.main_arg0)) (m ((c.tc : Thread Cert.RecIdeal.nD Cert.RecIdeal.τ).loc Cert.RecIdeal.main_arg1)) (m ((c.tc : Thread Cert.RecIdeal.nD Cert.RecIdeal.τ).loc Cert.RecIdeal.main_arg2)) (m ((c.tc : Thread Cert.RecIdeal.nD Cert.RecIdeal.τ).loc Cert.RecIdeal.main_arg3)) (m ((c.tc : Thread Cert.RecIdeal.nD Cert.RecIdeal.τ).loc Cert.RecIdeal.main_arg4)) (m ((c.tc : Thread Cert.RecIdeal.nD Cert.RecIdeal.τ).loc Cert.RecIdeal.main_arg5)) (m ((c.tc : Thread Cert.RecIdeal.nD Cert.RecIdeal.τ).loc Cert.RecIdeal.main_arg6)) (m ((c.tc : Thread Cert.RecIdeal.nD Cert.RecIdeal.τ).loc Cert.RecIdeal.main_arg7)) (m ((c.tc : Thread Cert.RecIdeal.nD Cert.RecIdeal.τ).loc Cert.RecIdeal.main_arg8)) (m ((c.tc : Thread Cert.RecIdeal.nD Cert.RecIdeal.τ).loc Cert.RecIdeal.main_arg9)) (m ((c.tc : Thread Cert.RecIdeal.nD Cert.RecIdeal.τ).loc Cert.RecIdeal.main_arg10)) (m ((c.tc : Thread Cert.RecIdeal.nD Cert.RecIdeal.τ).loc Cert.RecIdeal.main_arg11))) = (fun _ => 1#1)

def Pre_RecRefIdeal (m : (ℓ : Loc Cert.RecRefIdeal.nD Cert.RecRefIdeal.τ Cert.RecRefIdeal.sig) → Buf (Elt Ideal) ℓ) : Prop :=
  True

def Pre_RecRefIdeal_rec_scales_normal [hPre_rec_scales_normal : Cert.Pre_rec_scales_normal.Facts] (m : (ℓ : Loc Cert.RecRefIdeal.nD Cert.RecRefIdeal.τ Cert.RecRefIdeal.sig) → Buf (Elt Ideal) ℓ) : Prop :=
  ∀ c : Dev Cert.RecRefIdeal.nD,
    (Cert.Pre_rec_scales_normal.fn (F := Ideal) (m ((c.tc : Thread Cert.RecRefIdeal.nD Cert.RecRefIdeal.τ).loc Cert.RecRefIdeal.main_arg0)) (m ((c.tc : Thread Cert.RecRefIdeal.nD Cert.RecRefIdeal.τ).loc Cert.RecRefIdeal.main_arg1)) (m ((c.tc : Thread Cert.RecRefIdeal.nD Cert.RecRefIdeal.τ).loc Cert.RecRefIdeal.main_arg2)) (m ((c.tc : Thread Cert.RecRefIdeal.nD Cert.RecRefIdeal.τ).loc Cert.RecRefIdeal.main_arg3)) (m ((c.tc : Thread Cert.RecRefIdeal.nD Cert.RecRefIdeal.τ).loc Cert.RecRefIdeal.main_arg4)) (m ((c.tc : Thread Cert.RecRefIdeal.nD Cert.RecRefIdeal.τ).loc Cert.RecRefIdeal.main_arg5)) (m ((c.tc : Thread Cert.RecRefIdeal.nD Cert.RecRefIdeal.τ).loc Cert.RecRefIdeal.main_arg6)) (m ((c.tc : Thread Cert.RecRefIdeal.nD Cert.RecRefIdeal.τ).loc Cert.RecRefIdeal.main_arg7)) (m ((c.tc : Thread Cert.RecRefIdeal.nD Cert.RecRefIdeal.τ).loc Cert.RecRefIdeal.main_arg8)) (m ((c.tc : Thread Cert.RecRefIdeal.nD Cert.RecRefIdeal.τ).loc Cert.RecRefIdeal.main_arg9)) (m ((c.tc : Thread Cert.RecRefIdeal.nD Cert.RecRefIdeal.τ).loc Cert.RecRefIdeal.main_arg10)) (m ((c.tc : Thread Cert.RecRefIdeal.nD Cert.RecRefIdeal.τ).loc Cert.RecRefIdeal.main_arg11))) = (fun _ => 1#1)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateIdeal_pre_gate_scales_normal [hGateIdeal : Cert.GateIdeal.Facts] [hPre_gate_scales_normal : Cert.Pre_gate_scales_normal.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_scales_normal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateRefIdeal_pre_gate_scales_normal [hGateRefIdeal : Cert.GateRefIdeal.Facts] [hPre_gate_scales_normal : Cert.Pre_gate_scales_normal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_scales_normal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutIdeal_pre_out_scales_normal [hOutIdeal : Cert.OutIdeal.Facts] [hPre_out_scales_normal : Cert.Pre_out_scales_normal.Facts] : Prop :=
  ∀ (m : (ℓ : Loc Cert.OutIdeal.nD Cert.OutIdeal.τ Cert.OutIdeal.sig) → Buf (Elt Ideal) ℓ) (g : Dev Cert.OutIdeal.nD → PrngReg), Pre_OutIdeal_out_scales_normal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutRefIdeal_pre_out_scales_normal [hOutRefIdeal : Cert.OutRefIdeal.Facts] [hPre_out_scales_normal : Cert.Pre_out_scales_normal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_out_scales_normal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_ConvQk [hConvQk : Cert.ConvQk.Facts] : Prop :=
  ∀ (m : (ℓ : Loc Cert.ConvQk.nD Cert.ConvQk.τ Cert.ConvQk.sig) → Buf (Elt Bits) ℓ) (g : Dev Cert.ConvQk.nD → PrngReg), Pre_ConvQk m →
    θ_run (Cert.ConvQk.defs (F := Bits)) (onTc (τ := Cert.ConvQk.τ) (Cert.ConvQk.main (F := Bits))) ⟨m, fun _ => 0, g⟩ (fun r => (∀ c : Dev Cert.ConvQk.nD,
      r.2.mem ((c.tc : Thread Cert.ConvQk.nD Cert.ConvQk.τ).loc Cert.ConvQk.main_arg0) = m ((c.tc : Thread Cert.ConvQk.nD Cert.ConvQk.τ).loc Cert.ConvQk.main_arg0)
      ∧ r.2.mem ((c.tc : Thread Cert.ConvQk.nD Cert.ConvQk.τ).loc Cert.ConvQk.main_arg1) = m ((c.tc : Thread Cert.ConvQk.nD Cert.ConvQk.τ).loc Cert.ConvQk.main_arg1)
      ∧ r.2.mem ((c.tc : Thread Cert.ConvQk.nD Cert.ConvQk.τ).loc Cert.ConvQk.main_arg2) = m ((c.tc : Thread Cert.ConvQk.nD Cert.ConvQk.τ).loc Cert.ConvQk.main_arg2)
      ∧ r.2.mem ((c.tc : Thread Cert.ConvQk.nD Cert.ConvQk.τ).loc Cert.ConvQk.main_arg3) = m ((c.tc : Thread Cert.ConvQk.nD Cert.ConvQk.τ).loc Cert.ConvQk.main_arg3)
      ∧ r.2.mem ((c.tc : Thread Cert.ConvQk.nD Cert.ConvQk.τ).loc Cert.ConvQk.main_arg4) = m ((c.tc : Thread Cert.ConvQk.nD Cert.ConvQk.τ).loc Cert.ConvQk.main_arg4))
      ∧ r.2.sem = fun _ => 0)

def quiescent_ConvQkIdeal [hConvQkIdeal : Cert.ConvQkIdeal.Facts] : Prop :=
  ∀ (m : (ℓ : Loc Cert.ConvQkIdeal.nD Cert.ConvQkIdeal.τ Cert.ConvQkIdeal.sig) → Buf (Elt Ideal) ℓ) (g : Dev Cert.ConvQkIdeal.nD → PrngReg), Pre_ConvQkIdeal m →
    θ_run (Cert.ConvQkIdeal.defs (F := Ideal)) (onTc (τ := Cert.ConvQkIdeal.τ) (Cert.ConvQkIdeal.main (F := Ideal))) ⟨m, fun _ => 0, g⟩ (fun r => (∀ c : Dev Cert.ConvQkIdeal.nD,
      r.2.mem ((c.tc : Thread Cert.ConvQkIdeal.nD Cert.ConvQkIdeal.τ).loc Cert.ConvQkIdeal.main_arg0) = m ((c.tc : Thread Cert.ConvQkIdeal.nD Cert.ConvQkIdeal.τ).loc Cert.ConvQkIdeal.main_arg0)
      ∧ r.2.mem ((c.tc : Thread Cert.ConvQkIdeal.nD Cert.ConvQkIdeal.τ).loc Cert.ConvQkIdeal.main_arg1) = m ((c.tc : Thread Cert.ConvQkIdeal.nD Cert.ConvQkIdeal.τ).loc Cert.ConvQkIdeal.main_arg1)
      ∧ r.2.mem ((c.tc : Thread Cert.ConvQkIdeal.nD Cert.ConvQkIdeal.τ).loc Cert.ConvQkIdeal.main_arg2) = m ((c.tc : Thread Cert.ConvQkIdeal.nD Cert.ConvQkIdeal.τ).loc Cert.ConvQkIdeal.main_arg2)
      ∧ r.2.mem ((c.tc : Thread Cert.ConvQkIdeal.nD Cert.ConvQkIdeal.τ).loc Cert.ConvQkIdeal.main_arg3) = m ((c.tc : Thread Cert.ConvQkIdeal.nD Cert.ConvQkIdeal.τ).loc Cert.ConvQkIdeal.main_arg3)
      ∧ r.2.mem ((c.tc : Thread Cert.ConvQkIdeal.nD Cert.ConvQkIdeal.τ).loc Cert.ConvQkIdeal.main_arg4) = m ((c.tc : Thread Cert.ConvQkIdeal.nD Cert.ConvQkIdeal.τ).loc Cert.ConvQkIdeal.main_arg4))
      ∧ r.2.sem = fun _ => 0)

def quiescent_ConvQkIdeal_pre_conv_qk_scales_normal [hConvQkIdeal : Cert.ConvQkIdeal.Facts] [hPre_conv_qk_scales_normal : Cert.Pre_conv_qk_scales_normal.Facts] : Prop :=
  ∀ (m : (ℓ : Loc Cert.ConvQkIdeal.nD Cert.ConvQkIdeal.τ Cert.ConvQkIdeal.sig) → Buf (Elt Ideal) ℓ) (g : Dev Cert.ConvQkIdeal.nD → PrngReg), Pre_ConvQkIdeal_conv_qk_scales_normal m →
    θ_run (Cert.ConvQkIdeal.defs (F := Ideal)) (onTc (τ := Cert.ConvQkIdeal.τ) (Cert.ConvQkIdeal.main (F := Ideal))) ⟨m, fun _ => 0, g⟩ (fun r => (∀ c : Dev Cert.ConvQkIdeal.nD,
      r.2.mem ((c.tc : Thread Cert.ConvQkIdeal.nD Cert.ConvQkIdeal.τ).loc Cert.ConvQkIdeal.main_arg0) = m ((c.tc : Thread Cert.ConvQkIdeal.nD Cert.ConvQkIdeal.τ).loc Cert.ConvQkIdeal.main_arg0)
      ∧ r.2.mem ((c.tc : Thread Cert.ConvQkIdeal.nD Cert.ConvQkIdeal.τ).loc Cert.ConvQkIdeal.main_arg1) = m ((c.tc : Thread Cert.ConvQkIdeal.nD Cert.ConvQkIdeal.τ).loc Cert.ConvQkIdeal.main_arg1)
      ∧ r.2.mem ((c.tc : Thread Cert.ConvQkIdeal.nD Cert.ConvQkIdeal.τ).loc Cert.ConvQkIdeal.main_arg2) = m ((c.tc : Thread Cert.ConvQkIdeal.nD Cert.ConvQkIdeal.τ).loc Cert.ConvQkIdeal.main_arg2)
      ∧ r.2.mem ((c.tc : Thread Cert.ConvQkIdeal.nD Cert.ConvQkIdeal.τ).loc Cert.ConvQkIdeal.main_arg3) = m ((c.tc : Thread Cert.ConvQkIdeal.nD Cert.ConvQkIdeal.τ).loc Cert.ConvQkIdeal.main_arg3)
      ∧ r.2.mem ((c.tc : Thread Cert.ConvQkIdeal.nD Cert.ConvQkIdeal.τ).loc Cert.ConvQkIdeal.main_arg4) = m ((c.tc : Thread Cert.ConvQkIdeal.nD Cert.ConvQkIdeal.τ).loc Cert.ConvQkIdeal.main_arg4))
      ∧ r.2.sem = fun _ => 0)

def quiescent_ConvQkRefIdeal [hConvQkRefIdeal : Cert.ConvQkRefIdeal.Facts] : Prop :=
  ∀ (m : (ℓ : Loc Cert.ConvQkRefIdeal.nD Cert.ConvQkRefIdeal.τ Cert.ConvQkRefIdeal.sig) → Buf (Elt Ideal) ℓ) (g : Dev Cert.ConvQkRefIdeal.nD → PrngReg), Pre_ConvQkRefIdeal m →
    θ_run (Cert.ConvQkRefIdeal.defs (F := Ideal)) (onTc (τ := Cert.ConvQkRefIdeal.τ) (Cert.ConvQkRefIdeal.main (F := Ideal))) ⟨m, fun _ => 0, g⟩ (fun r => (∀ c : Dev Cert.ConvQkRefIdeal.nD,
      r.2.mem ((c.tc : Thread Cert.ConvQkRefIdeal.nD Cert.ConvQkRefIdeal.τ).loc Cert.ConvQkRefIdeal.main_arg0) = m ((c.tc : Thread Cert.ConvQkRefIdeal.nD Cert.ConvQkRefIdeal.τ).loc Cert.ConvQkRefIdeal.main_arg0)
      ∧ r.2.mem ((c.tc : Thread Cert.ConvQkRefIdeal.nD Cert.ConvQkRefIdeal.τ).loc Cert.ConvQkRefIdeal.main_arg1) = m ((c.tc : Thread Cert.ConvQkRefIdeal.nD Cert.ConvQkRefIdeal.τ).loc Cert.ConvQkRefIdeal.main_arg1)
      ∧ r.2.mem ((c.tc : Thread Cert.ConvQkRefIdeal.nD Cert.ConvQkRefIdeal.τ).loc Cert.ConvQkRefIdeal.main_arg2) = m ((c.tc : Thread Cert.ConvQkRefIdeal.nD Cert.ConvQkRefIdeal.τ).loc Cert.ConvQkRefIdeal.main_arg2)
      ∧ r.2.mem ((c.tc : Thread Cert.ConvQkRefIdeal.nD Cert.ConvQkRefIdeal.τ).loc Cert.ConvQkRefIdeal.main_arg3) = m ((c.tc : Thread Cert.ConvQkRefIdeal.nD Cert.ConvQkRefIdeal.τ).loc Cert.ConvQkRefIdeal.main_arg3)
      ∧ r.2.mem ((c.tc : Thread Cert.ConvQkRefIdeal.nD Cert.ConvQkRefIdeal.τ).loc Cert.ConvQkRefIdeal.main_arg4) = m ((c.tc : Thread Cert.ConvQkRefIdeal.nD Cert.ConvQkRefIdeal.τ).loc Cert.ConvQkRefIdeal.main_arg4))
      ∧ r.2.sem = fun _ => 0)

def quiescent_ConvQkRefIdeal_pre_conv_qk_scales_normal [hConvQkRefIdeal : Cert.ConvQkRefIdeal.Facts] [hPre_conv_qk_scales_normal : Cert.Pre_conv_qk_scales_normal.Facts] : Prop :=
  ∀ (m : (ℓ : Loc Cert.ConvQkRefIdeal.nD Cert.ConvQkRefIdeal.τ Cert.ConvQkRefIdeal.sig) → Buf (Elt Ideal) ℓ) (g : Dev Cert.ConvQkRefIdeal.nD → PrngReg), Pre_ConvQkRefIdeal_conv_qk_scales_normal m →
    θ_run (Cert.ConvQkRefIdeal.defs (F := Ideal)) (onTc (τ := Cert.ConvQkRefIdeal.τ) (Cert.ConvQkRefIdeal.main (F := Ideal))) ⟨m, fun _ => 0, g⟩ (fun r => (∀ c : Dev Cert.ConvQkRefIdeal.nD,
      r.2.mem ((c.tc : Thread Cert.ConvQkRefIdeal.nD Cert.ConvQkRefIdeal.τ).loc Cert.ConvQkRefIdeal.main_arg0) = m ((c.tc : Thread Cert.ConvQkRefIdeal.nD Cert.ConvQkRefIdeal.τ).loc Cert.ConvQkRefIdeal.main_arg0)
      ∧ r.2.mem ((c.tc : Thread Cert.ConvQkRefIdeal.nD Cert.ConvQkRefIdeal.τ).loc Cert.ConvQkRefIdeal.main_arg1) = m ((c.tc : Thread Cert.ConvQkRefIdeal.nD Cert.ConvQkRefIdeal.τ).loc Cert.ConvQkRefIdeal.main_arg1)
      ∧ r.2.mem ((c.tc : Thread Cert.ConvQkRefIdeal.nD Cert.ConvQkRefIdeal.τ).loc Cert.ConvQkRefIdeal.main_arg2) = m ((c.tc : Thread Cert.ConvQkRefIdeal.nD Cert.ConvQkRefIdeal.τ).loc Cert.ConvQkRefIdeal.main_arg2)
      ∧ r.2.mem ((c.tc : Thread Cert.ConvQkRefIdeal.nD Cert.ConvQkRefIdeal.τ).loc Cert.ConvQkRefIdeal.main_arg3) = m ((c.tc : Thread Cert.ConvQkRefIdeal.nD Cert.ConvQkRefIdeal.τ).loc Cert.ConvQkRefIdeal.main_arg3)
      ∧ r.2.mem ((c.tc : Thread Cert.ConvQkRefIdeal.nD Cert.ConvQkRefIdeal.τ).loc Cert.ConvQkRefIdeal.main_arg4) = m ((c.tc : Thread Cert.ConvQkRefIdeal.nD Cert.ConvQkRefIdeal.τ).loc Cert.ConvQkRefIdeal.main_arg4))
      ∧ r.2.sem = fun _ => 0)

def quiescent_ConvV [hConvV : Cert.ConvV.Facts] : Prop :=
  ∀ (m : (ℓ : Loc Cert.ConvV.nD Cert.ConvV.τ Cert.ConvV.sig) → Buf (Elt Bits) ℓ) (g : Dev Cert.ConvV.nD → PrngReg), Pre_ConvV m →
    θ_run (Cert.ConvV.defs (F := Bits)) (onTc (τ := Cert.ConvV.τ) (Cert.ConvV.main (F := Bits))) ⟨m, fun _ => 0, g⟩ (fun r => (∀ c : Dev Cert.ConvV.nD,
      r.2.mem ((c.tc : Thread Cert.ConvV.nD Cert.ConvV.τ).loc Cert.ConvV.main_arg0) = m ((c.tc : Thread Cert.ConvV.nD Cert.ConvV.τ).loc Cert.ConvV.main_arg0)
      ∧ r.2.mem ((c.tc : Thread Cert.ConvV.nD Cert.ConvV.τ).loc Cert.ConvV.main_arg1) = m ((c.tc : Thread Cert.ConvV.nD Cert.ConvV.τ).loc Cert.ConvV.main_arg1)
      ∧ r.2.mem ((c.tc : Thread Cert.ConvV.nD Cert.ConvV.τ).loc Cert.ConvV.main_arg2) = m ((c.tc : Thread Cert.ConvV.nD Cert.ConvV.τ).loc Cert.ConvV.main_arg2)
      ∧ r.2.mem ((c.tc : Thread Cert.ConvV.nD Cert.ConvV.τ).loc Cert.ConvV.main_arg3) = m ((c.tc : Thread Cert.ConvV.nD Cert.ConvV.τ).loc Cert.ConvV.main_arg3)
      ∧ r.2.mem ((c.tc : Thread Cert.ConvV.nD Cert.ConvV.τ).loc Cert.ConvV.main_arg4) = m ((c.tc : Thread Cert.ConvV.nD Cert.ConvV.τ).loc Cert.ConvV.main_arg4))
      ∧ r.2.sem = fun _ => 0)

def quiescent_ConvVIdeal [hConvVIdeal : Cert.ConvVIdeal.Facts] : Prop :=
  ∀ (m : (ℓ : Loc Cert.ConvVIdeal.nD Cert.ConvVIdeal.τ Cert.ConvVIdeal.sig) → Buf (Elt Ideal) ℓ) (g : Dev Cert.ConvVIdeal.nD → PrngReg), Pre_ConvVIdeal m →
    θ_run (Cert.ConvVIdeal.defs (F := Ideal)) (onTc (τ := Cert.ConvVIdeal.τ) (Cert.ConvVIdeal.main (F := Ideal))) ⟨m, fun _ => 0, g⟩ (fun r => (∀ c : Dev Cert.ConvVIdeal.nD,
      r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
      ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1)
      ∧ r.2.mem ((c.tc : Thread Cert.ConvVIdeal.nD Cert.ConvVIdeal.τ).loc Cert.ConvVIdeal.main_arg2) = m ((c.tc : Thread Cert.ConvVIdeal.nD Cert.ConvVIdeal.τ).loc Cert.ConvVIdeal.main_arg2)
      ∧ r.2.mem ((c.tc : Thread Cert.ConvVIdeal.nD Cert.ConvVIdeal.τ).loc Cert.ConvVIdeal.main_arg3) = m ((c.tc : Thread Cert.ConvVIdeal.nD Cert.ConvVIdeal.τ).loc Cert.ConvVIdeal.main_arg3)
      ∧ r.2.mem ((c.tc : Thread Cert.ConvVIdeal.nD Cert.ConvVIdeal.τ).loc Cert.ConvVIdeal.main_arg4) = m ((c.tc : Thread Cert.ConvVIdeal.nD Cert.ConvVIdeal.τ).loc Cert.ConvVIdeal.main_arg4))
      ∧ r.2.sem = fun _ => 0)

def quiescent_ConvVIdeal_pre_conv_v_scales_normal [hConvVIdeal : Cert.ConvVIdeal.Facts] [hPre_conv_v_scales_normal : Cert.Pre_conv_v_scales_normal.Facts] : Prop :=
  ∀ (m : (ℓ : Loc Cert.ConvVIdeal.nD Cert.ConvVIdeal.τ Cert.ConvVIdeal.sig) → Buf (Elt Ideal) ℓ) (g : Dev Cert.ConvVIdeal.nD → PrngReg), Pre_ConvVIdeal_conv_v_scales_normal m →
    θ_run (Cert.ConvVIdeal.defs (F := Ideal)) (onTc (τ := Cert.ConvVIdeal.τ) (Cert.ConvVIdeal.main (F := Ideal))) ⟨m, fun _ => 0, g⟩ (fun r => (∀ c : Dev Cert.ConvVIdeal.nD,
      r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
      ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1)
      ∧ r.2.mem ((c.tc : Thread Cert.ConvVIdeal.nD Cert.ConvVIdeal.τ).loc Cert.ConvVIdeal.main_arg2) = m ((c.tc : Thread Cert.ConvVIdeal.nD Cert.ConvVIdeal.τ).loc Cert.ConvVIdeal.main_arg2)
      ∧ r.2.mem ((c.tc : Thread Cert.ConvVIdeal.nD Cert.ConvVIdeal.τ).loc Cert.ConvVIdeal.main_arg3) = m ((c.tc : Thread Cert.ConvVIdeal.nD Cert.ConvVIdeal.τ).loc Cert.ConvVIdeal.main_arg3)
      ∧ r.2.mem ((c.tc : Thread Cert.ConvVIdeal.nD Cert.ConvVIdeal.τ).loc Cert.ConvVIdeal.main_arg4) = m ((c.tc : Thread Cert.ConvVIdeal.nD Cert.ConvVIdeal.τ).loc Cert.ConvVIdeal.main_arg4))
      ∧ r.2.sem = fun _ => 0)

def quiescent_ConvVRefIdeal [hConvVRefIdeal : Cert.ConvVRefIdeal.Facts] : Prop :=
  ∀ (m : (ℓ : Loc Cert.ConvVRefIdeal.nD Cert.ConvVRefIdeal.τ Cert.ConvVRefIdeal.sig) → Buf (Elt Ideal) ℓ) (g : Dev Cert.ConvVRefIdeal.nD → PrngReg), Pre_ConvVRefIdeal m →
    θ_run (Cert.ConvVRefIdeal.defs (F := Ideal)) (onTc (τ := Cert.ConvVRefIdeal.τ) (Cert.ConvVRefIdeal.main (F := Ideal))) ⟨m, fun _ => 0, g⟩ (fun r => (∀ c : Dev Cert.ConvVRefIdeal.nD,
      r.2.mem ((c.tc : Thread Cert.ConvVRefIdeal.nD Cert.ConvVRefIdeal.τ).loc Cert.ConvVRefIdeal.main_arg0) = m ((c.tc : Thread Cert.ConvVRefIdeal.nD Cert.ConvVRefIdeal.τ).loc Cert.ConvVRefIdeal.main_arg0)
      ∧ r.2.mem ((c.tc : Thread Cert.ConvVRefIdeal.nD Cert.ConvVRefIdeal.τ).loc Cert.ConvVRefIdeal.main_arg1) = m ((c.tc : Thread Cert.ConvVRefIdeal.nD Cert.ConvVRefIdeal.τ).loc Cert.ConvVRefIdeal.main_arg1)
      ∧ r.2.mem ((c.tc : Thread Cert.ConvVRefIdeal.nD Cert.ConvVRefIdeal.τ).loc Cert.ConvVRefIdeal.main_arg2) = m ((c.tc : Thread Cert.ConvVRefIdeal.nD Cert.ConvVRefIdeal.τ).loc Cert.ConvVRefIdeal.main_arg2)
      ∧ r.2.mem ((c.tc : Thread Cert.ConvVRefIdeal.nD Cert.ConvVRefIdeal.τ).loc Cert.ConvVRefIdeal.main_arg3) = m ((c.tc : Thread Cert.ConvVRefIdeal.nD Cert.ConvVRefIdeal.τ).loc Cert.ConvVRefIdeal.main_arg3)
      ∧ r.2.mem ((c.tc : Thread Cert.ConvVRefIdeal.nD Cert.ConvVRefIdeal.τ).loc Cert.ConvVRefIdeal.main_arg4) = m ((c.tc : Thread Cert.ConvVRefIdeal.nD Cert.ConvVRefIdeal.τ).loc Cert.ConvVRefIdeal.main_arg4))
      ∧ r.2.sem = fun _ => 0)

def quiescent_ConvVRefIdeal_pre_conv_v_scales_normal [hConvVRefIdeal : Cert.ConvVRefIdeal.Facts] [hPre_conv_v_scales_normal : Cert.Pre_conv_v_scales_normal.Facts] : Prop :=
  ∀ (m : (ℓ : Loc Cert.ConvVRefIdeal.nD Cert.ConvVRefIdeal.τ Cert.ConvVRefIdeal.sig) → Buf (Elt Ideal) ℓ) (g : Dev Cert.ConvVRefIdeal.nD → PrngReg), Pre_ConvVRefIdeal_conv_v_scales_normal m →
    θ_run (Cert.ConvVRefIdeal.defs (F := Ideal)) (onTc (τ := Cert.ConvVRefIdeal.τ) (Cert.ConvVRefIdeal.main (F := Ideal))) ⟨m, fun _ => 0, g⟩ (fun r => (∀ c : Dev Cert.ConvVRefIdeal.nD,
      r.2.mem ((c.tc : Thread Cert.ConvVRefIdeal.nD Cert.ConvVRefIdeal.τ).loc Cert.ConvVRefIdeal.main_arg0) = m ((c.tc : Thread Cert.ConvVRefIdeal.nD Cert.ConvVRefIdeal.τ).loc Cert.ConvVRefIdeal.main_arg0)
      ∧ r.2.mem ((c.tc : Thread Cert.ConvVRefIdeal.nD Cert.ConvVRefIdeal.τ).loc Cert.ConvVRefIdeal.main_arg1) = m ((c.tc : Thread Cert.ConvVRefIdeal.nD Cert.ConvVRefIdeal.τ).loc Cert.ConvVRefIdeal.main_arg1)
      ∧ r.2.mem ((c.tc : Thread Cert.ConvVRefIdeal.nD Cert.ConvVRefIdeal.τ).loc Cert.ConvVRefIdeal.main_arg2) = m ((c.tc : Thread Cert.ConvVRefIdeal.nD Cert.ConvVRefIdeal.τ).loc Cert.ConvVRefIdeal.main_arg2)
      ∧ r.2.mem ((c.tc : Thread Cert.ConvVRefIdeal.nD Cert.ConvVRefIdeal.τ).loc Cert.ConvVRefIdeal.main_arg3) = m ((c.tc : Thread Cert.ConvVRefIdeal.nD Cert.ConvVRefIdeal.τ).loc Cert.ConvVRefIdeal.main_arg3)
      ∧ r.2.mem ((c.tc : Thread Cert.ConvVRefIdeal.nD Cert.ConvVRefIdeal.τ).loc Cert.ConvVRefIdeal.main_arg4) = m ((c.tc : Thread Cert.ConvVRefIdeal.nD Cert.ConvVRefIdeal.τ).loc Cert.ConvVRefIdeal.main_arg4))
      ∧ r.2.sem = fun _ => 0)

def quiescent_Rec [hRec : Cert.Rec.Facts] : Prop :=
  ∀ (m : (ℓ : Loc Cert.Rec.nD Cert.Rec.τ Cert.Rec.sig) → Buf (Elt Bits) ℓ) (g : Dev Cert.Rec.nD → PrngReg), Pre_Rec m →
    θ_run (Cert.Rec.defs (F := Bits)) (onTc (τ := Cert.Rec.τ) (Cert.Rec.main (F := Bits))) ⟨m, fun _ => 0, g⟩ (fun r => (∀ c : Dev Cert.Rec.nD,
      r.2.mem ((c.tc : Thread Cert.Rec.nD Cert.Rec.τ).loc Cert.Rec.main_arg0) = m ((c.tc : Thread Cert.Rec.nD Cert.Rec.τ).loc Cert.Rec.main_arg0)
      ∧ r.2.mem ((c.tc : Thread Cert.Rec.nD Cert.Rec.τ).loc Cert.Rec.main_arg1) = m ((c.tc : Thread Cert.Rec.nD Cert.Rec.τ).loc Cert.Rec.main_arg1)
      ∧ r.2.mem ((c.tc : Thread Cert.Rec.nD Cert.Rec.τ).loc Cert.Rec.main_arg2) = m ((c.tc : Thread Cert.Rec.nD Cert.Rec.τ).loc Cert.Rec.main_arg2)
      ∧ r.2.mem ((c.tc : Thread Cert.Rec.nD Cert.Rec.τ).loc Cert.Rec.main_arg3) = m ((c.tc : Thread Cert.Rec.nD Cert.Rec.τ).loc Cert.Rec.main_arg3)
      ∧ r.2.mem ((c.tc : Thread Cert.Rec.nD Cert.Rec.τ).loc Cert.Rec.main_arg4) = m ((c.tc : Thread Cert.Rec.nD Cert.Rec.τ).loc Cert.Rec.main_arg4)
      ∧ r.2.mem ((c.tc : Thread Cert.Rec.nD Cert.Rec.τ).loc Cert.Rec.main_arg5) = m ((c.tc : Thread Cert.Rec.nD Cert.Rec.τ).loc Cert.Rec.main_arg5)
      ∧ r.2.mem ((c.tc : Thread Cert.Rec.nD Cert.Rec.τ).loc Cert.Rec.main_arg6) = m ((c.tc : Thread Cert.Rec.nD Cert.Rec.τ).loc Cert.Rec.main_arg6)
      ∧ r.2.mem ((c.tc : Thread Cert.Rec.nD Cert.Rec.τ).loc Cert.Rec.main_arg7) = m ((c.tc : Thread Cert.Rec.nD Cert.Rec.τ).loc Cert.Rec.main_arg7)
      ∧ r.2.mem ((c.tc : Thread Cert.Rec.nD Cert.Rec.τ).loc Cert.Rec.main_arg8) = m ((c.tc : Thread Cert.Rec.nD Cert.Rec.τ).loc Cert.Rec.main_arg8)
      ∧ r.2.mem ((c.tc : Thread Cert.Rec.nD Cert.Rec.τ).loc Cert.Rec.main_arg9) = m ((c.tc : Thread Cert.Rec.nD Cert.Rec.τ).loc Cert.Rec.main_arg9)
      ∧ r.2.mem ((c.tc : Thread Cert.Rec.nD Cert.Rec.τ).loc Cert.Rec.main_arg10) = m ((c.tc : Thread Cert.Rec.nD Cert.Rec.τ).loc Cert.Rec.main_arg10)
      ∧ r.2.mem ((c.tc : Thread Cert.Rec.nD Cert.Rec.τ).loc Cert.Rec.main_arg11) = m ((c.tc : Thread Cert.Rec.nD Cert.Rec.τ).loc Cert.Rec.main_arg11))
      ∧ r.2.sem = fun _ => 0)

def quiescent_RecIdeal [hRecIdeal : Cert.RecIdeal.Facts] : Prop :=
  ∀ (m : (ℓ : Loc Cert.RecIdeal.nD Cert.RecIdeal.τ Cert.RecIdeal.sig) → Buf (Elt Ideal) ℓ) (g : Dev Cert.RecIdeal.nD → PrngReg), Pre_RecIdeal m →
    θ_run (Cert.RecIdeal.defs (F := Ideal)) (onTc (τ := Cert.RecIdeal.τ) (Cert.RecIdeal.main (F := Ideal))) ⟨m, fun _ => 0, g⟩ (fun r => (∀ c : Dev Cert.RecIdeal.nD,
      r.2.mem ((c.tc : Thread Cert.RecIdeal.nD Cert.RecIdeal.τ).loc Cert.RecIdeal.main_arg0) = m ((c.tc : Thread Cert.RecIdeal.nD Cert.RecIdeal.τ).loc Cert.RecIdeal.main_arg0)
      ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
      ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
      ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
      ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
      ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
      ∧ r.2.mem ((c.tc : Thread Cert.RecIdeal.nD Cert.RecIdeal.τ).loc Cert.RecIdeal.main_arg6) = m ((c.tc : Thread Cert.RecIdeal.nD Cert.RecIdeal.τ).loc Cert.RecIdeal.main_arg6)
      ∧ r.2.mem ((c.tc : Thread Cert.RecIdeal.nD Cert.RecIdeal.τ).loc Cert.RecIdeal.main_arg7) = m ((c.tc : Thread Cert.RecIdeal.nD Cert.RecIdeal.τ).loc Cert.RecIdeal.main_arg7)
      ∧ r.2.mem ((c.tc : Thread Cert.RecIdeal.nD Cert.RecIdeal.τ).loc Cert.RecIdeal.main_arg8) = m ((c.tc : Thread Cert.RecIdeal.nD Cert.RecIdeal.τ).loc Cert.RecIdeal.main_arg8)
      ∧ r.2.mem ((c.tc : Thread Cert.RecIdeal.nD Cert.RecIdeal.τ).loc Cert.RecIdeal.main_arg9) = m ((c.tc : Thread Cert.RecIdeal.nD Cert.RecIdeal.τ).loc Cert.RecIdeal.main_arg9)
      ∧ r.2.mem ((c.tc : Thread Cert.RecIdeal.nD Cert.RecIdeal.τ).loc Cert.RecIdeal.main_arg10) = m ((c.tc : Thread Cert.RecIdeal.nD Cert.RecIdeal.τ).loc Cert.RecIdeal.main_arg10)
      ∧ r.2.mem ((c.tc : Thread Cert.RecIdeal.nD Cert.RecIdeal.τ).loc Cert.RecIdeal.main_arg11) = m ((c.tc : Thread Cert.RecIdeal.nD Cert.RecIdeal.τ).loc Cert.RecIdeal.main_arg11))
      ∧ r.2.sem = fun _ => 0)

def quiescent_RecIdeal_pre_rec_scales_normal [hRecIdeal : Cert.RecIdeal.Facts] [hPre_rec_scales_normal : Cert.Pre_rec_scales_normal.Facts] : Prop :=
  ∀ (m : (ℓ : Loc Cert.RecIdeal.nD Cert.RecIdeal.τ Cert.RecIdeal.sig) → Buf (Elt Ideal) ℓ) (g : Dev Cert.RecIdeal.nD → PrngReg), Pre_RecIdeal_rec_scales_normal m →
    θ_run (Cert.RecIdeal.defs (F := Ideal)) (onTc (τ := Cert.RecIdeal.τ) (Cert.RecIdeal.main (F := Ideal))) ⟨m, fun _ => 0, g⟩ (fun r => (∀ c : Dev Cert.RecIdeal.nD,
      r.2.mem ((c.tc : Thread Cert.RecIdeal.nD Cert.RecIdeal.τ).loc Cert.RecIdeal.main_arg0) = m ((c.tc : Thread Cert.RecIdeal.nD Cert.RecIdeal.τ).loc Cert.RecIdeal.main_arg0)
      ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
      ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
      ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
      ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
      ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
      ∧ r.2.mem ((c.tc : Thread Cert.RecIdeal.nD Cert.RecIdeal.τ).loc Cert.RecIdeal.main_arg6) = m ((c.tc : Thread Cert.RecIdeal.nD Cert.RecIdeal.τ).loc Cert.RecIdeal.main_arg6)
      ∧ r.2.mem ((c.tc : Thread Cert.RecIdeal.nD Cert.RecIdeal.τ).loc Cert.RecIdeal.main_arg7) = m ((c.tc : Thread Cert.RecIdeal.nD Cert.RecIdeal.τ).loc Cert.RecIdeal.main_arg7)
      ∧ r.2.mem ((c.tc : Thread Cert.RecIdeal.nD Cert.RecIdeal.τ).loc Cert.RecIdeal.main_arg8) = m ((c.tc : Thread Cert.RecIdeal.nD Cert.RecIdeal.τ).loc Cert.RecIdeal.main_arg8)
      ∧ r.2.mem ((c.tc : Thread Cert.RecIdeal.nD Cert.RecIdeal.τ).loc Cert.RecIdeal.main_arg9) = m ((c.tc : Thread Cert.RecIdeal.nD Cert.RecIdeal.τ).loc Cert.RecIdeal.main_arg9)
      ∧ r.2.mem ((c.tc : Thread Cert.RecIdeal.nD Cert.RecIdeal.τ).loc Cert.RecIdeal.main_arg10) = m ((c.tc : Thread Cert.RecIdeal.nD Cert.RecIdeal.τ).loc Cert.RecIdeal.main_arg10)
      ∧ r.2.mem ((c.tc : Thread Cert.RecIdeal.nD Cert.RecIdeal.τ).loc Cert.RecIdeal.main_arg11) = m ((c.tc : Thread Cert.RecIdeal.nD Cert.RecIdeal.τ).loc Cert.RecIdeal.main_arg11))
      ∧ r.2.sem = fun _ => 0)

def quiescent_RecRefIdeal [hRecRefIdeal : Cert.RecRefIdeal.Facts] : Prop :=
  ∀ (m : (ℓ : Loc Cert.RecRefIdeal.nD Cert.RecRefIdeal.τ Cert.RecRefIdeal.sig) → Buf (Elt Ideal) ℓ) (g : Dev Cert.RecRefIdeal.nD → PrngReg), Pre_RecRefIdeal m →
    θ_run (Cert.RecRefIdeal.defs (F := Ideal)) (onTc (τ := Cert.RecRefIdeal.τ) (Cert.RecRefIdeal.main (F := Ideal))) ⟨m, fun _ => 0, g⟩ (fun r => (∀ c : Dev Cert.RecRefIdeal.nD,
      r.2.mem ((c.tc : Thread Cert.RecRefIdeal.nD Cert.RecRefIdeal.τ).loc Cert.RecRefIdeal.main_arg0) = m ((c.tc : Thread Cert.RecRefIdeal.nD Cert.RecRefIdeal.τ).loc Cert.RecRefIdeal.main_arg0)
      ∧ r.2.mem ((c.tc : Thread Cert.RecRefIdeal.nD Cert.RecRefIdeal.τ).loc Cert.RecRefIdeal.main_arg1) = m ((c.tc : Thread Cert.RecRefIdeal.nD Cert.RecRefIdeal.τ).loc Cert.RecRefIdeal.main_arg1)
      ∧ r.2.mem ((c.tc : Thread Cert.RecRefIdeal.nD Cert.RecRefIdeal.τ).loc Cert.RecRefIdeal.main_arg2) = m ((c.tc : Thread Cert.RecRefIdeal.nD Cert.RecRefIdeal.τ).loc Cert.RecRefIdeal.main_arg2)
      ∧ r.2.mem ((c.tc : Thread Cert.RecRefIdeal.nD Cert.RecRefIdeal.τ).loc Cert.RecRefIdeal.main_arg3) = m ((c.tc : Thread Cert.RecRefIdeal.nD Cert.RecRefIdeal.τ).loc Cert.RecRefIdeal.main_arg3)
      ∧ r.2.mem ((c.tc : Thread Cert.RecRefIdeal.nD Cert.RecRefIdeal.τ).loc Cert.RecRefIdeal.main_arg4) = m ((c.tc : Thread Cert.RecRefIdeal.nD Cert.RecRefIdeal.τ).loc Cert.RecRefIdeal.main_arg4)
      ∧ r.2.mem ((c.tc : Thread Cert.RecRefIdeal.nD Cert.RecRefIdeal.τ).loc Cert.RecRefIdeal.main_arg5) = m ((c.tc : Thread Cert.RecRefIdeal.nD Cert.RecRefIdeal.τ).loc Cert.RecRefIdeal.main_arg5)
      ∧ r.2.mem ((c.tc : Thread Cert.RecRefIdeal.nD Cert.RecRefIdeal.τ).loc Cert.RecRefIdeal.main_arg6) = m ((c.tc : Thread Cert.RecRefIdeal.nD Cert.RecRefIdeal.τ).loc Cert.RecRefIdeal.main_arg6)
      ∧ r.2.mem ((c.tc : Thread Cert.RecRefIdeal.nD Cert.RecRefIdeal.τ).loc Cert.RecRefIdeal.main_arg7) = m ((c.tc : Thread Cert.RecRefIdeal.nD Cert.RecRefIdeal.τ).loc Cert.RecRefIdeal.main_arg7)
      ∧ r.2.mem ((c.tc : Thread Cert.RecRefIdeal.nD Cert.RecRefIdeal.τ).loc Cert.RecRefIdeal.main_arg8) = m ((c.tc : Thread Cert.RecRefIdeal.nD Cert.RecRefIdeal.τ).loc Cert.RecRefIdeal.main_arg8)
      ∧ r.2.mem ((c.tc : Thread Cert.RecRefIdeal.nD Cert.RecRefIdeal.τ).loc Cert.RecRefIdeal.main_arg9) = m ((c.tc : Thread Cert.RecRefIdeal.nD Cert.RecRefIdeal.τ).loc Cert.RecRefIdeal.main_arg9)
      ∧ r.2.mem ((c.tc : Thread Cert.RecRefIdeal.nD Cert.RecRefIdeal.τ).loc Cert.RecRefIdeal.main_arg10) = m ((c.tc : Thread Cert.RecRefIdeal.nD Cert.RecRefIdeal.τ).loc Cert.RecRefIdeal.main_arg10)
      ∧ r.2.mem ((c.tc : Thread Cert.RecRefIdeal.nD Cert.RecRefIdeal.τ).loc Cert.RecRefIdeal.main_arg11) = m ((c.tc : Thread Cert.RecRefIdeal.nD Cert.RecRefIdeal.τ).loc Cert.RecRefIdeal.main_arg11))
      ∧ r.2.sem = fun _ => 0)

def quiescent_RecRefIdeal_pre_rec_scales_normal [hRecRefIdeal : Cert.RecRefIdeal.Facts] [hPre_rec_scales_normal : Cert.Pre_rec_scales_normal.Facts] : Prop :=
  ∀ (m : (ℓ : Loc Cert.RecRefIdeal.nD Cert.RecRefIdeal.τ Cert.RecRefIdeal.sig) → Buf (Elt Ideal) ℓ) (g : Dev Cert.RecRefIdeal.nD → PrngReg), Pre_RecRefIdeal_rec_scales_normal m →
    θ_run (Cert.RecRefIdeal.defs (F := Ideal)) (onTc (τ := Cert.RecRefIdeal.τ) (Cert.RecRefIdeal.main (F := Ideal))) ⟨m, fun _ => 0, g⟩ (fun r => (∀ c : Dev Cert.RecRefIdeal.nD,
      r.2.mem ((c.tc : Thread Cert.RecRefIdeal.nD Cert.RecRefIdeal.τ).loc Cert.RecRefIdeal.main_arg0) = m ((c.tc : Thread Cert.RecRefIdeal.nD Cert.RecRefIdeal.τ).loc Cert.RecRefIdeal.main_arg0)
      ∧ r.2.mem ((c.tc : Thread Cert.RecRefIdeal.nD Cert.RecRefIdeal.τ).loc Cert.RecRefIdeal.main_arg1) = m ((c.tc : Thread Cert.RecRefIdeal.nD Cert.RecRefIdeal.τ).loc Cert.RecRefIdeal.main_arg1)
      ∧ r.2.mem ((c.tc : Thread Cert.RecRefIdeal.nD Cert.RecRefIdeal.τ).loc Cert.RecRefIdeal.main_arg2) = m ((c.tc : Thread Cert.RecRefIdeal.nD Cert.RecRefIdeal.τ).loc Cert.RecRefIdeal.main_arg2)
      ∧ r.2.mem ((c.tc : Thread Cert.RecRefIdeal.nD Cert.RecRefIdeal.τ).loc Cert.RecRefIdeal.main_arg3) = m ((c.tc : Thread Cert.RecRefIdeal.nD Cert.RecRefIdeal.τ).loc Cert.RecRefIdeal.main_arg3)
      ∧ r.2.mem ((c.tc : Thread Cert.RecRefIdeal.nD Cert.RecRefIdeal.τ).loc Cert.RecRefIdeal.main_arg4) = m ((c.tc : Thread Cert.RecRefIdeal.nD Cert.RecRefIdeal.τ).loc Cert.RecRefIdeal.main_arg4)
      ∧ r.2.mem ((c.tc : Thread Cert.RecRefIdeal.nD Cert.RecRefIdeal.τ).loc Cert.RecRefIdeal.main_arg5) = m ((c.tc : Thread Cert.RecRefIdeal.nD Cert.RecRefIdeal.τ).loc Cert.RecRefIdeal.main_arg5)
      ∧ r.2.mem ((c.tc : Thread Cert.RecRefIdeal.nD Cert.RecRefIdeal.τ).loc Cert.RecRefIdeal.main_arg6) = m ((c.tc : Thread Cert.RecRefIdeal.nD Cert.RecRefIdeal.τ).loc Cert.RecRefIdeal.main_arg6)
      ∧ r.2.mem ((c.tc : Thread Cert.RecRefIdeal.nD Cert.RecRefIdeal.τ).loc Cert.RecRefIdeal.main_arg7) = m ((c.tc : Thread Cert.RecRefIdeal.nD Cert.RecRefIdeal.τ).loc Cert.RecRefIdeal.main_arg7)
      ∧ r.2.mem ((c.tc : Thread Cert.RecRefIdeal.nD Cert.RecRefIdeal.τ).loc Cert.RecRefIdeal.main_arg8) = m ((c.tc : Thread Cert.RecRefIdeal.nD Cert.RecRefIdeal.τ).loc Cert.RecRefIdeal.main_arg8)
      ∧ r.2.mem ((c.tc : Thread Cert.RecRefIdeal.nD Cert.RecRefIdeal.τ).loc Cert.RecRefIdeal.main_arg9) = m ((c.tc : Thread Cert.RecRefIdeal.nD Cert.RecRefIdeal.τ).loc Cert.RecRefIdeal.main_arg9)
      ∧ r.2.mem ((c.tc : Thread Cert.RecRefIdeal.nD Cert.RecRefIdeal.τ).loc Cert.RecRefIdeal.main_arg10) = m ((c.tc : Thread Cert.RecRefIdeal.nD Cert.RecRefIdeal.τ).loc Cert.RecRefIdeal.main_arg10)
      ∧ r.2.mem ((c.tc : Thread Cert.RecRefIdeal.nD Cert.RecRefIdeal.τ).loc Cert.RecRefIdeal.main_arg11) = m ((c.tc : Thread Cert.RecRefIdeal.nD Cert.RecRefIdeal.τ).loc Cert.RecRefIdeal.main_arg11))
      ∧ r.2.sem = fun _ => 0)

def preserves_Gate_GateIdeal : Prop :=
  True

def algebraic_GateIdeal_GateRefIdeal_pre_gate_scales_normal [hGateIdeal : Cert.GateIdeal.Facts] [hGateRefIdeal : Cert.GateRefIdeal.Facts] [hPre_gate_scales_normal : Cert.Pre_gate_scales_normal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_scales_normal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v15) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Out_OutIdeal : Prop :=
  True

def algebraic_OutIdeal_OutRefIdeal_pre_out_scales_normal [hOutIdeal : Cert.OutIdeal.Facts] [hOutRefIdeal : Cert.OutRefIdeal.Facts] [hPre_out_scales_normal : Cert.Pre_out_scales_normal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_out_scales_normal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v15) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_ConvQk_ConvQkIdeal : Prop :=
  True

def algebraic_ConvQkIdeal_ConvQkRefIdeal_pre_conv_qk_scales_normal [hConvQkIdeal : Cert.ConvQkIdeal.Facts] [hConvQkRefIdeal : Cert.ConvQkRefIdeal.Facts] [hPre_conv_qk_scales_normal : Cert.Pre_conv_qk_scales_normal.Facts] : Prop :=
  ∀ (m : (ℓ : Loc Cert.ConvQkIdeal.nD Cert.ConvQkIdeal.τ Cert.ConvQkIdeal.sig) → Buf (Elt Ideal) ℓ) (g : Dev Cert.ConvQkIdeal.nD → PrngReg)
    (m' : (ℓ : Loc Cert.ConvQkRefIdeal.nD Cert.ConvQkRefIdeal.τ Cert.ConvQkRefIdeal.sig) → Buf (Elt Ideal) ℓ) (g' : Dev Cert.ConvQkRefIdeal.nD → PrngReg), Pre_ConvQkIdeal_conv_qk_scales_normal m →
    (∀ c : Dev Cert.ConvQkIdeal.nD,
      m' ((c.tc : Thread Cert.ConvQkRefIdeal.nD Cert.ConvQkRefIdeal.τ).loc Cert.ConvQkRefIdeal.main_arg0) = m ((c.tc : Thread Cert.ConvQkIdeal.nD Cert.ConvQkIdeal.τ).loc Cert.ConvQkIdeal.main_arg0)
      ∧ m' ((c.tc : Thread Cert.ConvQkRefIdeal.nD Cert.ConvQkRefIdeal.τ).loc Cert.ConvQkRefIdeal.main_arg1) = m ((c.tc : Thread Cert.ConvQkIdeal.nD Cert.ConvQkIdeal.τ).loc Cert.ConvQkIdeal.main_arg1)
      ∧ m' ((c.tc : Thread Cert.ConvQkRefIdeal.nD Cert.ConvQkRefIdeal.τ).loc Cert.ConvQkRefIdeal.main_arg2) = m ((c.tc : Thread Cert.ConvQkIdeal.nD Cert.ConvQkIdeal.τ).loc Cert.ConvQkIdeal.main_arg2)
      ∧ m' ((c.tc : Thread Cert.ConvQkRefIdeal.nD Cert.ConvQkRefIdeal.τ).loc Cert.ConvQkRefIdeal.main_arg3) = m ((c.tc : Thread Cert.ConvQkIdeal.nD Cert.ConvQkIdeal.τ).loc Cert.ConvQkIdeal.main_arg3)
      ∧ m' ((c.tc : Thread Cert.ConvQkRefIdeal.nD Cert.ConvQkRefIdeal.τ).loc Cert.ConvQkRefIdeal.main_arg4) = m ((c.tc : Thread Cert.ConvQkIdeal.nD Cert.ConvQkIdeal.τ).loc Cert.ConvQkIdeal.main_arg4)) →
    ∃ (v0 : (c : Dev Cert.ConvQkIdeal.nD) → Buf (Elt Ideal) ((c.tc : Thread Cert.ConvQkIdeal.nD Cert.ConvQkIdeal.τ).loc Cert.ConvQkIdeal.main_v4_0)) (v1 : (c : Dev Cert.ConvQkIdeal.nD) → Buf (Elt Ideal) ((c.tc : Thread Cert.ConvQkIdeal.nD Cert.ConvQkIdeal.τ).loc Cert.ConvQkIdeal.main_v5)),
      θ_run (Cert.ConvQkIdeal.defs (F := Ideal)) (onTc (τ := Cert.ConvQkIdeal.τ) (Cert.ConvQkIdeal.main (F := Ideal))) ⟨m, fun _ => 0, g⟩ (fun r => ∀ c : Dev Cert.ConvQkIdeal.nD,
          r.2.mem ((c.tc : Thread Cert.ConvQkIdeal.nD Cert.ConvQkIdeal.τ).loc Cert.ConvQkIdeal.main_v4_0) = v0 c
          ∧ r.2.mem ((c.tc : Thread Cert.ConvQkIdeal.nD Cert.ConvQkIdeal.τ).loc Cert.ConvQkIdeal.main_v5) = v1 c
          ∧ r.2.mem ((c.tc : Thread Cert.ConvQkIdeal.nD Cert.ConvQkIdeal.τ).loc Cert.ConvQkIdeal.main_arg0) = m ((c.tc : Thread Cert.ConvQkIdeal.nD Cert.ConvQkIdeal.τ).loc Cert.ConvQkIdeal.main_arg0)
          ∧ r.2.mem ((c.tc : Thread Cert.ConvQkIdeal.nD Cert.ConvQkIdeal.τ).loc Cert.ConvQkIdeal.main_arg1) = m ((c.tc : Thread Cert.ConvQkIdeal.nD Cert.ConvQkIdeal.τ).loc Cert.ConvQkIdeal.main_arg1)
          ∧ r.2.mem ((c.tc : Thread Cert.ConvQkIdeal.nD Cert.ConvQkIdeal.τ).loc Cert.ConvQkIdeal.main_arg2) = m ((c.tc : Thread Cert.ConvQkIdeal.nD Cert.ConvQkIdeal.τ).loc Cert.ConvQkIdeal.main_arg2)
          ∧ r.2.mem ((c.tc : Thread Cert.ConvQkIdeal.nD Cert.ConvQkIdeal.τ).loc Cert.ConvQkIdeal.main_arg3) = m ((c.tc : Thread Cert.ConvQkIdeal.nD Cert.ConvQkIdeal.τ).loc Cert.ConvQkIdeal.main_arg3)
          ∧ r.2.mem ((c.tc : Thread Cert.ConvQkIdeal.nD Cert.ConvQkIdeal.τ).loc Cert.ConvQkIdeal.main_arg4) = m ((c.tc : Thread Cert.ConvQkIdeal.nD Cert.ConvQkIdeal.τ).loc Cert.ConvQkIdeal.main_arg4))
      ∧ θ_run (Cert.ConvQkRefIdeal.defs (F := Ideal)) (onTc (τ := Cert.ConvQkRefIdeal.τ) (Cert.ConvQkRefIdeal.main (F := Ideal))) ⟨m', fun _ => 0, g'⟩ (fun r => ∀ c : Dev Cert.ConvQkRefIdeal.nD,
          r.2.mem ((c.tc : Thread Cert.ConvQkRefIdeal.nD Cert.ConvQkRefIdeal.τ).loc Cert.ConvQkRefIdeal.main_v50) = v0 c
          ∧ r.2.mem ((c.tc : Thread Cert.ConvQkRefIdeal.nD Cert.ConvQkRefIdeal.τ).loc Cert.ConvQkRefIdeal.main_v51) = v1 c
          ∧ r.2.mem ((c.tc : Thread Cert.ConvQkRefIdeal.nD Cert.ConvQkRefIdeal.τ).loc Cert.ConvQkRefIdeal.main_arg0) = m' ((c.tc : Thread Cert.ConvQkRefIdeal.nD Cert.ConvQkRefIdeal.τ).loc Cert.ConvQkRefIdeal.main_arg0)
          ∧ r.2.mem ((c.tc : Thread Cert.ConvQkRefIdeal.nD Cert.ConvQkRefIdeal.τ).loc Cert.ConvQkRefIdeal.main_arg1) = m' ((c.tc : Thread Cert.ConvQkRefIdeal.nD Cert.ConvQkRefIdeal.τ).loc Cert.ConvQkRefIdeal.main_arg1)
          ∧ r.2.mem ((c.tc : Thread Cert.ConvQkRefIdeal.nD Cert.ConvQkRefIdeal.τ).loc Cert.ConvQkRefIdeal.main_arg2) = m' ((c.tc : Thread Cert.ConvQkRefIdeal.nD Cert.ConvQkRefIdeal.τ).loc Cert.ConvQkRefIdeal.main_arg2)
          ∧ r.2.mem ((c.tc : Thread Cert.ConvQkRefIdeal.nD Cert.ConvQkRefIdeal.τ).loc Cert.ConvQkRefIdeal.main_arg3) = m' ((c.tc : Thread Cert.ConvQkRefIdeal.nD Cert.ConvQkRefIdeal.τ).loc Cert.ConvQkRefIdeal.main_arg3)
          ∧ r.2.mem ((c.tc : Thread Cert.ConvQkRefIdeal.nD Cert.ConvQkRefIdeal.τ).loc Cert.ConvQkRefIdeal.main_arg4) = m' ((c.tc : Thread Cert.ConvQkRefIdeal.nD Cert.ConvQkRefIdeal.τ).loc Cert.ConvQkRefIdeal.main_arg4))

def preserves_ConvV_ConvVIdeal : Prop :=
  True

def algebraic_ConvVIdeal_ConvVRefIdeal_pre_conv_v_scales_normal [hConvVIdeal : Cert.ConvVIdeal.Facts] [hConvVRefIdeal : Cert.ConvVRefIdeal.Facts] [hPre_conv_v_scales_normal : Cert.Pre_conv_v_scales_normal.Facts] : Prop :=
  ∀ (m : (ℓ : Loc Cert.ConvVIdeal.nD Cert.ConvVIdeal.τ Cert.ConvVIdeal.sig) → Buf (Elt Ideal) ℓ) (g : Dev Cert.ConvVIdeal.nD → PrngReg)
    (m' : (ℓ : Loc Cert.ConvVRefIdeal.nD Cert.ConvVRefIdeal.τ Cert.ConvVRefIdeal.sig) → Buf (Elt Ideal) ℓ) (g' : Dev Cert.ConvVRefIdeal.nD → PrngReg), Pre_ConvVIdeal_conv_v_scales_normal m →
    (∀ c : Dev Cert.ConvVIdeal.nD,
      m' ((c.tc : Thread Cert.ConvVRefIdeal.nD Cert.ConvVRefIdeal.τ).loc Cert.ConvVRefIdeal.main_arg0) = m ((c.tc : Thread Cert.ConvVIdeal.nD Cert.ConvVIdeal.τ).loc Cert.ConvVIdeal.main_arg0)
      ∧ m' ((c.tc : Thread Cert.ConvVRefIdeal.nD Cert.ConvVRefIdeal.τ).loc Cert.ConvVRefIdeal.main_arg1) = m ((c.tc : Thread Cert.ConvVIdeal.nD Cert.ConvVIdeal.τ).loc Cert.ConvVIdeal.main_arg1)
      ∧ m' ((c.tc : Thread Cert.ConvVRefIdeal.nD Cert.ConvVRefIdeal.τ).loc Cert.ConvVRefIdeal.main_arg2) = m ((c.tc : Thread Cert.ConvVIdeal.nD Cert.ConvVIdeal.τ).loc Cert.ConvVIdeal.main_arg2)
      ∧ m' ((c.tc : Thread Cert.ConvVRefIdeal.nD Cert.ConvVRefIdeal.τ).loc Cert.ConvVRefIdeal.main_arg3) = m ((c.tc : Thread Cert.ConvVIdeal.nD Cert.ConvVIdeal.τ).loc Cert.ConvVIdeal.main_arg3)
      ∧ m' ((c.tc : Thread Cert.ConvVRefIdeal.nD Cert.ConvVRefIdeal.τ).loc Cert.ConvVRefIdeal.main_arg4) = m ((c.tc : Thread Cert.ConvVIdeal.nD Cert.ConvVIdeal.τ).loc Cert.ConvVIdeal.main_arg4)) →
    ∃ (v0 : (c : Dev Cert.ConvVIdeal.nD) → Buf (Elt Ideal) ((c.tc : Thread Cert.ConvVIdeal.nD Cert.ConvVIdeal.τ).loc Cert.ConvVIdeal.main_v4_0)) (v1 : (c : Dev Cert.ConvVIdeal.nD) → Buf (Elt Ideal) ((c.tc : Thread Cert.ConvVIdeal.nD Cert.ConvVIdeal.τ).loc Cert.ConvVIdeal.main_v5)),
      θ_run (Cert.ConvVIdeal.defs (F := Ideal)) (onTc (τ := Cert.ConvVIdeal.τ) (Cert.ConvVIdeal.main (F := Ideal))) ⟨m, fun _ => 0, g⟩ (fun r => ∀ c : Dev Cert.ConvVIdeal.nD,
          r.2.mem ((c.tc : Thread Cert.ConvVIdeal.nD Cert.ConvVIdeal.τ).loc Cert.ConvVIdeal.main_v4_0) = v0 c
          ∧ r.2.mem ((c.tc : Thread Cert.ConvVIdeal.nD Cert.ConvVIdeal.τ).loc Cert.ConvVIdeal.main_v5) = v1 c
          ∧ r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
          ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1)
          ∧ r.2.mem ((c.tc : Thread Cert.ConvVIdeal.nD Cert.ConvVIdeal.τ).loc Cert.ConvVIdeal.main_arg2) = m ((c.tc : Thread Cert.ConvVIdeal.nD Cert.ConvVIdeal.τ).loc Cert.ConvVIdeal.main_arg2)
          ∧ r.2.mem ((c.tc : Thread Cert.ConvVIdeal.nD Cert.ConvVIdeal.τ).loc Cert.ConvVIdeal.main_arg3) = m ((c.tc : Thread Cert.ConvVIdeal.nD Cert.ConvVIdeal.τ).loc Cert.ConvVIdeal.main_arg3)
          ∧ r.2.mem ((c.tc : Thread Cert.ConvVIdeal.nD Cert.ConvVIdeal.τ).loc Cert.ConvVIdeal.main_arg4) = m ((c.tc : Thread Cert.ConvVIdeal.nD Cert.ConvVIdeal.τ).loc Cert.ConvVIdeal.main_arg4))
      ∧ θ_run (Cert.ConvVRefIdeal.defs (F := Ideal)) (onTc (τ := Cert.ConvVRefIdeal.τ) (Cert.ConvVRefIdeal.main (F := Ideal))) ⟨m', fun _ => 0, g'⟩ (fun r => ∀ c : Dev Cert.ConvVRefIdeal.nD,
          r.2.mem ((c.tc : Thread Cert.ConvVRefIdeal.nD Cert.ConvVRefIdeal.τ).loc Cert.ConvVRefIdeal.main_v50) = v0 c
          ∧ r.2.mem ((c.tc : Thread Cert.ConvVRefIdeal.nD Cert.ConvVRefIdeal.τ).loc Cert.ConvVRefIdeal.main_v51) = v1 c
          ∧ r.2.mem ((c.tc : Thread Cert.ConvVRefIdeal.nD Cert.ConvVRefIdeal.τ).loc Cert.ConvVRefIdeal.main_arg0) = m' ((c.tc : Thread Cert.ConvVRefIdeal.nD Cert.ConvVRefIdeal.τ).loc Cert.ConvVRefIdeal.main_arg0)
          ∧ r.2.mem ((c.tc : Thread Cert.ConvVRefIdeal.nD Cert.ConvVRefIdeal.τ).loc Cert.ConvVRefIdeal.main_arg1) = m' ((c.tc : Thread Cert.ConvVRefIdeal.nD Cert.ConvVRefIdeal.τ).loc Cert.ConvVRefIdeal.main_arg1)
          ∧ r.2.mem ((c.tc : Thread Cert.ConvVRefIdeal.nD Cert.ConvVRefIdeal.τ).loc Cert.ConvVRefIdeal.main_arg2) = m' ((c.tc : Thread Cert.ConvVRefIdeal.nD Cert.ConvVRefIdeal.τ).loc Cert.ConvVRefIdeal.main_arg2)
          ∧ r.2.mem ((c.tc : Thread Cert.ConvVRefIdeal.nD Cert.ConvVRefIdeal.τ).loc Cert.ConvVRefIdeal.main_arg3) = m' ((c.tc : Thread Cert.ConvVRefIdeal.nD Cert.ConvVRefIdeal.τ).loc Cert.ConvVRefIdeal.main_arg3)
          ∧ r.2.mem ((c.tc : Thread Cert.ConvVRefIdeal.nD Cert.ConvVRefIdeal.τ).loc Cert.ConvVRefIdeal.main_arg4) = m' ((c.tc : Thread Cert.ConvVRefIdeal.nD Cert.ConvVRefIdeal.τ).loc Cert.ConvVRefIdeal.main_arg4))

def preserves_Rec_RecIdeal : Prop :=
  True

def algebraic_RecIdeal_RecRefIdeal_pre_rec_scales_normal [hRecIdeal : Cert.RecIdeal.Facts] [hRecRefIdeal : Cert.RecRefIdeal.Facts] [hPre_rec_scales_normal : Cert.Pre_rec_scales_normal.Facts] : Prop :=
  ∀ (m : (ℓ : Loc Cert.RecIdeal.nD Cert.RecIdeal.τ Cert.RecIdeal.sig) → Buf (Elt Ideal) ℓ) (g : Dev Cert.RecIdeal.nD → PrngReg)
    (m' : (ℓ : Loc Cert.RecRefIdeal.nD Cert.RecRefIdeal.τ Cert.RecRefIdeal.sig) → Buf (Elt Ideal) ℓ) (g' : Dev Cert.RecRefIdeal.nD → PrngReg), Pre_RecIdeal_rec_scales_normal m →
    (∀ c : Dev Cert.RecIdeal.nD,
      m' ((c.tc : Thread Cert.RecRefIdeal.nD Cert.RecRefIdeal.τ).loc Cert.RecRefIdeal.main_arg0) = m ((c.tc : Thread Cert.RecIdeal.nD Cert.RecIdeal.τ).loc Cert.RecIdeal.main_arg0)
      ∧ m' ((c.tc : Thread Cert.RecRefIdeal.nD Cert.RecRefIdeal.τ).loc Cert.RecRefIdeal.main_arg1) = m ((c.tc : Thread Cert.RecIdeal.nD Cert.RecIdeal.τ).loc Cert.RecIdeal.main_arg1)
      ∧ m' ((c.tc : Thread Cert.RecRefIdeal.nD Cert.RecRefIdeal.τ).loc Cert.RecRefIdeal.main_arg2) = m ((c.tc : Thread Cert.RecIdeal.nD Cert.RecIdeal.τ).loc Cert.RecIdeal.main_arg2)
      ∧ m' ((c.tc : Thread Cert.RecRefIdeal.nD Cert.RecRefIdeal.τ).loc Cert.RecRefIdeal.main_arg3) = m ((c.tc : Thread Cert.RecIdeal.nD Cert.RecIdeal.τ).loc Cert.RecIdeal.main_arg3)
      ∧ m' ((c.tc : Thread Cert.RecRefIdeal.nD Cert.RecRefIdeal.τ).loc Cert.RecRefIdeal.main_arg4) = m ((c.tc : Thread Cert.RecIdeal.nD Cert.RecIdeal.τ).loc Cert.RecIdeal.main_arg4)
      ∧ m' ((c.tc : Thread Cert.RecRefIdeal.nD Cert.RecRefIdeal.τ).loc Cert.RecRefIdeal.main_arg5) = m ((c.tc : Thread Cert.RecIdeal.nD Cert.RecIdeal.τ).loc Cert.RecIdeal.main_arg5)
      ∧ m' ((c.tc : Thread Cert.RecRefIdeal.nD Cert.RecRefIdeal.τ).loc Cert.RecRefIdeal.main_arg6) = m ((c.tc : Thread Cert.RecIdeal.nD Cert.RecIdeal.τ).loc Cert.RecIdeal.main_arg6)
      ∧ m' ((c.tc : Thread Cert.RecRefIdeal.nD Cert.RecRefIdeal.τ).loc Cert.RecRefIdeal.main_arg7) = m ((c.tc : Thread Cert.RecIdeal.nD Cert.RecIdeal.τ).loc Cert.RecIdeal.main_arg7)
      ∧ m' ((c.tc : Thread Cert.RecRefIdeal.nD Cert.RecRefIdeal.τ).loc Cert.RecRefIdeal.main_arg8) = m ((c.tc : Thread Cert.RecIdeal.nD Cert.RecIdeal.τ).loc Cert.RecIdeal.main_arg8)
      ∧ m' ((c.tc : Thread Cert.RecRefIdeal.nD Cert.RecRefIdeal.τ).loc Cert.RecRefIdeal.main_arg9) = m ((c.tc : Thread Cert.RecIdeal.nD Cert.RecIdeal.τ).loc Cert.RecIdeal.main_arg9)
      ∧ m' ((c.tc : Thread Cert.RecRefIdeal.nD Cert.RecRefIdeal.τ).loc Cert.RecRefIdeal.main_arg10) = m ((c.tc : Thread Cert.RecIdeal.nD Cert.RecIdeal.τ).loc Cert.RecIdeal.main_arg10)
      ∧ m' ((c.tc : Thread Cert.RecRefIdeal.nD Cert.RecRefIdeal.τ).loc Cert.RecRefIdeal.main_arg11) = m ((c.tc : Thread Cert.RecIdeal.nD Cert.RecIdeal.τ).loc Cert.RecIdeal.main_arg11)) →
    ∃ (v0 : (c : Dev Cert.RecIdeal.nD) → Buf (Elt Ideal) ((c.tc : Thread Cert.RecIdeal.nD Cert.RecIdeal.τ).loc Cert.RecIdeal.main_v5_2)) (v1 : (c : Dev Cert.RecIdeal.nD) → Buf (Elt Ideal) ((c.tc : Thread Cert.RecIdeal.nD Cert.RecIdeal.τ).loc Cert.RecIdeal.main_v5_3)),
      θ_run (Cert.RecIdeal.defs (F := Ideal)) (onTc (τ := Cert.RecIdeal.τ) (Cert.RecIdeal.main (F := Ideal))) ⟨m, fun _ => 0, g⟩ (fun r => ∀ c : Dev Cert.RecIdeal.nD,
          r.2.mem ((c.tc : Thread Cert.RecIdeal.nD Cert.RecIdeal.τ).loc Cert.RecIdeal.main_v5_2) = v0 c
          ∧ r.2.mem ((c.tc : Thread Cert.RecIdeal.nD Cert.RecIdeal.τ).loc Cert.RecIdeal.main_v5_3) = v1 c
          ∧ r.2.mem ((c.tc : Thread Cert.RecIdeal.nD Cert.RecIdeal.τ).loc Cert.RecIdeal.main_arg0) = m ((c.tc : Thread Cert.RecIdeal.nD Cert.RecIdeal.τ).loc Cert.RecIdeal.main_arg0)
          ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
          ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
          ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
          ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
          ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
          ∧ r.2.mem ((c.tc : Thread Cert.RecIdeal.nD Cert.RecIdeal.τ).loc Cert.RecIdeal.main_arg6) = m ((c.tc : Thread Cert.RecIdeal.nD Cert.RecIdeal.τ).loc Cert.RecIdeal.main_arg6)
          ∧ r.2.mem ((c.tc : Thread Cert.RecIdeal.nD Cert.RecIdeal.τ).loc Cert.RecIdeal.main_arg7) = m ((c.tc : Thread Cert.RecIdeal.nD Cert.RecIdeal.τ).loc Cert.RecIdeal.main_arg7)
          ∧ r.2.mem ((c.tc : Thread Cert.RecIdeal.nD Cert.RecIdeal.τ).loc Cert.RecIdeal.main_arg8) = m ((c.tc : Thread Cert.RecIdeal.nD Cert.RecIdeal.τ).loc Cert.RecIdeal.main_arg8)
          ∧ r.2.mem ((c.tc : Thread Cert.RecIdeal.nD Cert.RecIdeal.τ).loc Cert.RecIdeal.main_arg9) = m ((c.tc : Thread Cert.RecIdeal.nD Cert.RecIdeal.τ).loc Cert.RecIdeal.main_arg9)
          ∧ r.2.mem ((c.tc : Thread Cert.RecIdeal.nD Cert.RecIdeal.τ).loc Cert.RecIdeal.main_arg10) = m ((c.tc : Thread Cert.RecIdeal.nD Cert.RecIdeal.τ).loc Cert.RecIdeal.main_arg10)
          ∧ r.2.mem ((c.tc : Thread Cert.RecIdeal.nD Cert.RecIdeal.τ).loc Cert.RecIdeal.main_arg11) = m ((c.tc : Thread Cert.RecIdeal.nD Cert.RecIdeal.τ).loc Cert.RecIdeal.main_arg11))
      ∧ θ_run (Cert.RecRefIdeal.defs (F := Ideal)) (onTc (τ := Cert.RecRefIdeal.τ) (Cert.RecRefIdeal.main (F := Ideal))) ⟨m', fun _ => 0, g'⟩ (fun r => ∀ c : Dev Cert.RecRefIdeal.nD,
          r.2.mem ((c.tc : Thread Cert.RecRefIdeal.nD Cert.RecRefIdeal.τ).loc Cert.RecRefIdeal.main_v111) = v0 c
          ∧ r.2.mem ((c.tc : Thread Cert.RecRefIdeal.nD Cert.RecRefIdeal.τ).loc Cert.RecRefIdeal.main_v113) = v1 c
          ∧ r.2.mem ((c.tc : Thread Cert.RecRefIdeal.nD Cert.RecRefIdeal.τ).loc Cert.RecRefIdeal.main_arg0) = m' ((c.tc : Thread Cert.RecRefIdeal.nD Cert.RecRefIdeal.τ).loc Cert.RecRefIdeal.main_arg0)
          ∧ r.2.mem ((c.tc : Thread Cert.RecRefIdeal.nD Cert.RecRefIdeal.τ).loc Cert.RecRefIdeal.main_arg1) = m' ((c.tc : Thread Cert.RecRefIdeal.nD Cert.RecRefIdeal.τ).loc Cert.RecRefIdeal.main_arg1)
          ∧ r.2.mem ((c.tc : Thread Cert.RecRefIdeal.nD Cert.RecRefIdeal.τ).loc Cert.RecRefIdeal.main_arg2) = m' ((c.tc : Thread Cert.RecRefIdeal.nD Cert.RecRefIdeal.τ).loc Cert.RecRefIdeal.main_arg2)
          ∧ r.2.mem ((c.tc : Thread Cert.RecRefIdeal.nD Cert.RecRefIdeal.τ).loc Cert.RecRefIdeal.main_arg3) = m' ((c.tc : Thread Cert.RecRefIdeal.nD Cert.RecRefIdeal.τ).loc Cert.RecRefIdeal.main_arg3)
          ∧ r.2.mem ((c.tc : Thread Cert.RecRefIdeal.nD Cert.RecRefIdeal.τ).loc Cert.RecRefIdeal.main_arg4) = m' ((c.tc : Thread Cert.RecRefIdeal.nD Cert.RecRefIdeal.τ).loc Cert.RecRefIdeal.main_arg4)
          ∧ r.2.mem ((c.tc : Thread Cert.RecRefIdeal.nD Cert.RecRefIdeal.τ).loc Cert.RecRefIdeal.main_arg5) = m' ((c.tc : Thread Cert.RecRefIdeal.nD Cert.RecRefIdeal.τ).loc Cert.RecRefIdeal.main_arg5)
          ∧ r.2.mem ((c.tc : Thread Cert.RecRefIdeal.nD Cert.RecRefIdeal.τ).loc Cert.RecRefIdeal.main_arg6) = m' ((c.tc : Thread Cert.RecRefIdeal.nD Cert.RecRefIdeal.τ).loc Cert.RecRefIdeal.main_arg6)
          ∧ r.2.mem ((c.tc : Thread Cert.RecRefIdeal.nD Cert.RecRefIdeal.τ).loc Cert.RecRefIdeal.main_arg7) = m' ((c.tc : Thread Cert.RecRefIdeal.nD Cert.RecRefIdeal.τ).loc Cert.RecRefIdeal.main_arg7)
          ∧ r.2.mem ((c.tc : Thread Cert.RecRefIdeal.nD Cert.RecRefIdeal.τ).loc Cert.RecRefIdeal.main_arg8) = m' ((c.tc : Thread Cert.RecRefIdeal.nD Cert.RecRefIdeal.τ).loc Cert.RecRefIdeal.main_arg8)
          ∧ r.2.mem ((c.tc : Thread Cert.RecRefIdeal.nD Cert.RecRefIdeal.τ).loc Cert.RecRefIdeal.main_arg9) = m' ((c.tc : Thread Cert.RecRefIdeal.nD Cert.RecRefIdeal.τ).loc Cert.RecRefIdeal.main_arg9)
          ∧ r.2.mem ((c.tc : Thread Cert.RecRefIdeal.nD Cert.RecRefIdeal.τ).loc Cert.RecRefIdeal.main_arg10) = m' ((c.tc : Thread Cert.RecRefIdeal.nD Cert.RecRefIdeal.τ).loc Cert.RecRefIdeal.main_arg10)
          ∧ r.2.mem ((c.tc : Thread Cert.RecRefIdeal.nD Cert.RecRefIdeal.τ).loc Cert.RecRefIdeal.main_arg11) = m' ((c.tc : Thread Cert.RecRefIdeal.nD Cert.RecRefIdeal.τ).loc Cert.RecRefIdeal.main_arg11))

def Claim : Prop :=
  ∃ (hGate : Cert.Gate.Facts) (hGateIdeal : Cert.GateIdeal.Facts) (hGateRefIdeal : Cert.GateRefIdeal.Facts) (hOut : Cert.Out.Facts) (hOutIdeal : Cert.OutIdeal.Facts) (hOutRefIdeal : Cert.OutRefIdeal.Facts) (hConvQk : Cert.ConvQk.Facts) (hConvQkIdeal : Cert.ConvQkIdeal.Facts) (hConvQkRefIdeal : Cert.ConvQkRefIdeal.Facts) (hConvV : Cert.ConvV.Facts) (hConvVIdeal : Cert.ConvVIdeal.Facts) (hConvVRefIdeal : Cert.ConvVRefIdeal.Facts) (hRec : Cert.Rec.Facts) (hRecIdeal : Cert.RecIdeal.Facts) (hRecRefIdeal : Cert.RecRefIdeal.Facts) (hPre_gate_scales_normal : Cert.Pre_gate_scales_normal.Facts) (hPre_out_scales_normal : Cert.Pre_out_scales_normal.Facts) (hPre_conv_qk_scales_normal : Cert.Pre_conv_qk_scales_normal.Facts) (hPre_conv_v_scales_normal : Cert.Pre_conv_v_scales_normal.Facts) (hPre_rec_scales_normal : Cert.Pre_rec_scales_normal.Facts),
    quiescent_Gate (hGate := hGate)
    ∧ quiescent_GateIdeal (hGateIdeal := hGateIdeal)
    ∧ quiescent_GateIdeal_pre_gate_scales_normal (hGateIdeal := hGateIdeal) (hPre_gate_scales_normal := hPre_gate_scales_normal)
    ∧ quiescent_GateRefIdeal (hGateRefIdeal := hGateRefIdeal)
    ∧ quiescent_GateRefIdeal_pre_gate_scales_normal (hGateRefIdeal := hGateRefIdeal) (hPre_gate_scales_normal := hPre_gate_scales_normal)
    ∧ quiescent_Out (hOut := hOut)
    ∧ quiescent_OutIdeal (hOutIdeal := hOutIdeal)
    ∧ quiescent_OutIdeal_pre_out_scales_normal (hOutIdeal := hOutIdeal) (hPre_out_scales_normal := hPre_out_scales_normal)
    ∧ quiescent_OutRefIdeal (hOutRefIdeal := hOutRefIdeal)
    ∧ quiescent_OutRefIdeal_pre_out_scales_normal (hOutRefIdeal := hOutRefIdeal) (hPre_out_scales_normal := hPre_out_scales_normal)
    ∧ quiescent_ConvQk (hConvQk := hConvQk)
    ∧ quiescent_ConvQkIdeal (hConvQkIdeal := hConvQkIdeal)
    ∧ quiescent_ConvQkIdeal_pre_conv_qk_scales_normal (hConvQkIdeal := hConvQkIdeal) (hPre_conv_qk_scales_normal := hPre_conv_qk_scales_normal)
    ∧ quiescent_ConvQkRefIdeal (hConvQkRefIdeal := hConvQkRefIdeal)
    ∧ quiescent_ConvQkRefIdeal_pre_conv_qk_scales_normal (hConvQkRefIdeal := hConvQkRefIdeal) (hPre_conv_qk_scales_normal := hPre_conv_qk_scales_normal)
    ∧ quiescent_ConvV (hConvV := hConvV)
    ∧ quiescent_ConvVIdeal (hConvVIdeal := hConvVIdeal)
    ∧ quiescent_ConvVIdeal_pre_conv_v_scales_normal (hConvVIdeal := hConvVIdeal) (hPre_conv_v_scales_normal := hPre_conv_v_scales_normal)
    ∧ quiescent_ConvVRefIdeal (hConvVRefIdeal := hConvVRefIdeal)
    ∧ quiescent_ConvVRefIdeal_pre_conv_v_scales_normal (hConvVRefIdeal := hConvVRefIdeal) (hPre_conv_v_scales_normal := hPre_conv_v_scales_normal)
    ∧ quiescent_Rec (hRec := hRec)
    ∧ quiescent_RecIdeal (hRecIdeal := hRecIdeal)
    ∧ quiescent_RecIdeal_pre_rec_scales_normal (hRecIdeal := hRecIdeal) (hPre_rec_scales_normal := hPre_rec_scales_normal)
    ∧ quiescent_RecRefIdeal (hRecRefIdeal := hRecRefIdeal)
    ∧ quiescent_RecRefIdeal_pre_rec_scales_normal (hRecRefIdeal := hRecRefIdeal) (hPre_rec_scales_normal := hPre_rec_scales_normal)
    ∧ preserves_Gate_GateIdeal
    ∧ algebraic_GateIdeal_GateRefIdeal_pre_gate_scales_normal (hGateIdeal := hGateIdeal) (hGateRefIdeal := hGateRefIdeal) (hPre_gate_scales_normal := hPre_gate_scales_normal)
    ∧ preserves_Out_OutIdeal
    ∧ algebraic_OutIdeal_OutRefIdeal_pre_out_scales_normal (hOutIdeal := hOutIdeal) (hOutRefIdeal := hOutRefIdeal) (hPre_out_scales_normal := hPre_out_scales_normal)
    ∧ preserves_ConvQk_ConvQkIdeal
    ∧ algebraic_ConvQkIdeal_ConvQkRefIdeal_pre_conv_qk_scales_normal (hConvQkIdeal := hConvQkIdeal) (hConvQkRefIdeal := hConvQkRefIdeal) (hPre_conv_qk_scales_normal := hPre_conv_qk_scales_normal)
    ∧ preserves_ConvV_ConvVIdeal
    ∧ algebraic_ConvVIdeal_ConvVRefIdeal_pre_conv_v_scales_normal (hConvVIdeal := hConvVIdeal) (hConvVRefIdeal := hConvVRefIdeal) (hPre_conv_v_scales_normal := hPre_conv_v_scales_normal)
    ∧ preserves_Rec_RecIdeal
    ∧ algebraic_RecIdeal_RecRefIdeal_pre_rec_scales_normal (hRecIdeal := hRecIdeal) (hRecRefIdeal := hRecRefIdeal) (hPre_rec_scales_normal := hPre_rec_scales_normal)
-- ==== Pre_conv_qk_scales_normal.lean ====
abbrev S2x1024x2304 : Shape := ⟨3, ![2, 1024, 2304]⟩
abbrev S1536x2304 : Shape := ⟨2, ![1536, 2304]⟩
abbrev S1536x72 : Shape := ⟨2, ![1536, 72]⟩
abbrev S1536x4 : Shape := ⟨2, ![1536, 4]⟩
abbrev S2x3x1536 : Shape := ⟨3, ![2, 3, 1536]⟩
abbrev S_ : Shape := ⟨0, ![]⟩

class Facts : Prop where
  bcast_S_S1536x72 : S_.BroadcastsInDim S1536x72 (![] : Fin 0 → Fin S1536x72.rank)

variable [Facts]

def fn {F : FTy → Type} [FloatOps F] (main_arg0 : FVec F S2x1024x2304 .bf16) (main_arg1 : FVec F S1536x2304 .fp8e4m3) (main_arg2 : IVec S1536x72 8) (main_arg3 : FVec F S1536x4 .f32) (main_arg4 : FVec F S2x3x1536 .bf16) : IVec S1536x72 1 :=
  let main_c : IVec S_ 8 := constantI S_ 8 0#8
  let main_v0 : IVec S1536x72 8 := broadcastInDim S1536x72 ![] bcast_S_S1536x72 main_c
  let main_v1 : IVec S1536x72 1 := cmpi .ne main_arg2 main_v0
  let main_c_0 : IVec S_ 8 := constantI S_ 8 255#8
  let main_v2 : IVec S1536x72 8 := broadcastInDim S1536x72 ![] bcast_S_S1536x72 main_c_0
  let main_v3 : IVec S1536x72 1 := cmpi .ne main_arg2 main_v2
  let main_v4 : IVec S1536x72 1 := andi main_v1 main_v3
  main_v4
-- ==== Pre_conv_v_scales_normal.lean ====
abbrev S2x1024x2304 : Shape := ⟨3, ![2, 1024, 2304]⟩
abbrev S3072x2304 : Shape := ⟨2, ![3072, 2304]⟩
abbrev S3072x72 : Shape := ⟨2, ![3072, 72]⟩
abbrev S3072x4 : Shape := ⟨2, ![3072, 4]⟩
abbrev S2x3x3072 : Shape := ⟨3, ![2, 3, 3072]⟩
abbrev S_ : Shape := ⟨0, ![]⟩

class Facts : Prop where
  bcast_S_S3072x72 : S_.BroadcastsInDim S3072x72 (![] : Fin 0 → Fin S3072x72.rank)

variable [Facts]

def fn {F : FTy → Type} [FloatOps F] (main_arg0 : FVec F S2x1024x2304 .bf16) (main_arg1 : FVec F S3072x2304 .fp8e4m3) (main_arg2 : IVec S3072x72 8) (main_arg3 : FVec F S3072x4 .f32) (main_arg4 : FVec F S2x3x3072 .bf16) : IVec S3072x72 1 :=
  let main_c : IVec S_ 8 := constantI S_ 8 0#8
  let main_v0 : IVec S3072x72 8 := broadcastInDim S3072x72 ![] bcast_S_S3072x72 main_c
  let main_v1 : IVec S3072x72 1 := cmpi .ne main_arg2 main_v0
  let main_c_0 : IVec S_ 8 := constantI S_ 8 255#8
  let main_v2 : IVec S3072x72 8 := broadcastInDim S3072x72 ![] bcast_S_S3072x72 main_c_0
  let main_v3 : IVec S3072x72 1 := cmpi .ne main_arg2 main_v2
  let main_v4 : IVec S3072x72 1 := andi main_v1 main_v3
  main_v4
-- ==== Pre_gate_scales_normal.lean ====
abbrev S2x1024x2304 : Shape := ⟨3, ![2, 1024, 2304]⟩
abbrev S3072x2304 : Shape := ⟨2, ![3072, 2304]⟩
abbrev S3072x72 : Shape := ⟨2, ![3072, 72]⟩
abbrev S_ : Shape := ⟨0, ![]⟩

class Facts : Prop where
  bcast_S_S3072x72 : S_.BroadcastsInDim S3072x72 (![] : Fin 0 → Fin S3072x72.rank)

variable [Facts]

def fn {F : FTy → Type} [FloatOps F] (main_arg0 : FVec F S2x1024x2304 .bf16) (main_arg1 : FVec F S3072x2304 .fp8e4m3) (main_arg2 : IVec S3072x72 8) : IVec S3072x72 1 :=
  let main_c : IVec S_ 8 := constantI S_ 8 0#8
  let main_v0 : IVec S3072x72 8 := broadcastInDim S3072x72 ![] bcast_S_S3072x72 main_c
  let main_v1 : IVec S3072x72 1 := cmpi .ne main_arg2 main_v0
  let main_c_0 : IVec S_ 8 := constantI S_ 8 255#8
  let main_v2 : IVec S3072x72 8 := broadcastInDim S3072x72 ![] bcast_S_S3072x72 main_c_0
  let main_v3 : IVec S3072x72 1 := cmpi .ne main_arg2 main_v2
  let main_v4 : IVec S3072x72 1 := andi main_v1 main_v3
  main_v4
-- ==== Pre_out_scales_normal.lean ====
abbrev S2x1024x3072 : Shape := ⟨3, ![2, 1024, 3072]⟩
abbrev S2304x3072 : Shape := ⟨2, ![2304, 3072]⟩
abbrev S2304x96 : Shape := ⟨2, ![2304, 96]⟩
abbrev S_ : Shape := ⟨0, ![]⟩

class Facts : Prop where
  bcast_S_S2304x96 : S_.BroadcastsInDim S2304x96 (![] : Fin 0 → Fin S2304x96.rank)

variable [Facts]

def fn {F : FTy → Type} [FloatOps F] (main_arg0 : FVec F S2x1024x3072 .bf16) (main_arg1 : FVec F S2304x3072 .fp8e4m3) (main_arg2 : IVec S2304x96 8) : IVec S2304x96 1 :=
  let main_c : IVec S_ 8 := constantI S_ 8 0#8
  let main_v0 : IVec S2304x96 8 := broadcastInDim S2304x96 ![] bcast_S_S2304x96 main_c
  let main_v1 : IVec S2304x96 1 := cmpi .ne main_arg2 main_v0
  let main_c_0 : IVec S_ 8 := constantI S_ 8 255#8
  let main_v2 : IVec S2304x96 8 := broadcastInDim S2304x96 ![] bcast_S_S2304x96 main_c_0
  let main_v3 : IVec S2304x96 1 := cmpi .ne main_arg2 main_v2
  let main_v4 : IVec S2304x96 1 := andi main_v1 main_v3
  main_v4
-- ==== Pre_rec_scales_normal.lean ====
abbrev S2x1024x2304 : Shape := ⟨3, ![2, 1024, 2304]⟩
abbrev S2x1024x1536 : Shape := ⟨3, ![2, 1024, 1536]⟩
abbrev S2x1024x3072 : Shape := ⟨3, ![2, 1024, 3072]⟩
abbrev S32x2304 : Shape := ⟨2, ![32, 2304]⟩
abbrev S32x72 : Shape := ⟨2, ![32, 72]⟩
abbrev S6 : Shape := ⟨1, ![6]⟩
abbrev S512 : Shape := ⟨1, ![512]⟩
abbrev S2x6x256x512 : Shape := ⟨4, ![2, 6, 256, 512]⟩
abbrev S2x6x256 : Shape := ⟨3, ![2, 6, 256]⟩
abbrev S_ : Shape := ⟨0, ![]⟩

class Facts : Prop where
  bcast_S_S32x72 : S_.BroadcastsInDim S32x72 (![] : Fin 0 → Fin S32x72.rank)

variable [Facts]

def fn {F : FTy → Type} [FloatOps F] (main_arg0 : FVec F S2x1024x2304 .bf16) (main_arg1 : FVec F S2x1024x1536 .bf16) (main_arg2 : FVec F S2x1024x1536 .bf16) (main_arg3 : FVec F S2x1024x3072 .bf16) (main_arg4 : FVec F S2x1024x3072 .bf16) (main_arg5 : FVec F S32x2304 .fp8e4m3) (main_arg6 : IVec S32x72 8) (main_arg7 : FVec F S6 .f32) (main_arg8 : FVec F S6 .f32) (main_arg9 : FVec F S512 .f32) (main_arg10 : FVec F S2x6x256x512 .fp8e4m3) (main_arg11 : FVec F S2x6x256 .f32) : IVec S32x72 1 :=
  let main_c : IVec S_ 8 := constantI S_ 8 0#8
  let main_v0 : IVec S32x72 8 := broadcastInDim S32x72 ![] bcast_S_S32x72 main_c
  let main_v1 : IVec S32x72 1 := cmpi .ne main_arg6 main_v0
  let main_c_0 : IVec S_ 8 := constantI S_ 8 255#8
  let main_v2 : IVec S32x72 8 := broadcastInDim S32x72 ![] bcast_S_S32x72 main_c_0
  let main_v3 : IVec S32x72 1 := cmpi .ne main_arg6 main_v2
  let main_v4 : IVec S32x72 1 := andi main_v1 main_v3
  main_v4
-- ==== Gate.lean ====
abbrev S2x1024x2304 : Shape := ⟨3, ![2, 1024, 2304]⟩
abbrev S3072x2304 : Shape := ⟨2, ![3072, 2304]⟩
abbrev S3072x72 : Shape := ⟨2, ![3072, 72]⟩
abbrev S2048x2304 : Shape := ⟨2, ![2048, 2304]⟩
abbrev S72x3072 : Shape := ⟨2, ![72, 3072]⟩
abbrev S2048x3072 : Shape := ⟨2, ![2048, 3072]⟩
abbrev S256x2304 : Shape := ⟨2, ![256, 2304]⟩
abbrev S72x256 : Shape := ⟨2, ![72, 256]⟩
abbrev S2048x256 : Shape := ⟨2, ![2048, 256]⟩
abbrev S256x72 : Shape := ⟨2, ![256, 72]⟩
abbrev S256x56 : Shape := ⟨2, ![256, 56]⟩
abbrev S256x128 : Shape := ⟨2, ![256, 128]⟩
abbrev S256x128x1 : Shape := ⟨3, ![256, 128, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x1024x2304, .bf16⟩
  | .hbm, ⟨1, _⟩ => ⟨S3072x2304, .fp8e4m3⟩
  | .hbm, ⟨2, _⟩ => ⟨S3072x72, .i8⟩
  | .hbm, ⟨3, _⟩ => ⟨S2048x2304, .bf16⟩
  | .hbm, ⟨4, _⟩ => ⟨S72x3072, .i8⟩
  | .hbm, ⟨5, _⟩ => ⟨S2048x3072, .bf16⟩
  | .local _ .vmem, ⟨0, _⟩ => ⟨S2048x2304, .bf16⟩
  | .local _ .vmem, ⟨1, _⟩ => ⟨S256x2304, .fp8e4m3⟩
  | .local _ .vmem, ⟨2, _⟩ => ⟨S256x2304, .fp8e4m3⟩
  | .local _ .vmem, ⟨3, _⟩ => ⟨S72x256, .i8⟩
  | .local _ .vmem, ⟨4, _⟩ => ⟨S72x256, .i8⟩
  | .local _ .vmem, ⟨5, _⟩ => ⟨S2048x256, .bf16⟩
  | .local _ .vmem, ⟨6, _⟩ => ⟨S2048x256, .bf16⟩
  | .local _ .vmem, ⟨7, _⟩ => ⟨S256x2304, .bf16⟩
  | _, _ => ⟨S2x1024x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2304 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S72x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateRefIdeal.lean ====
abbrev S2x1024x2304 : Shape := ⟨3, ![2, 1024, 2304]⟩
abbrev S3072x2304 : Shape := ⟨2, ![3072, 2304]⟩
abbrev S3072x72 : Shape := ⟨2, ![3072, 72]⟩
abbrev S_ : Shape := ⟨0, ![]⟩
abbrev S3072x72x32 : Shape := ⟨3, ![3072, 72, 32]⟩
abbrev S3072x72x1 : Shape := ⟨3, ![3072, 72, 1]⟩
abbrev S2x1024x3072 : Shape := ⟨3, ![2, 1024, 3072]⟩
abbrev S2048x3072 : Shape := ⟨2, ![2048, 3072]⟩

abbrev nBuf : Space → Nat
  | .hbm => 21
  | .vmem => 2
  | .smem => 0
  | _ => 0

abbrev bufTy : (tb : Table) → Fin (tcTables nBuf tb) → BufTy
  | .hbm, ⟨0, _⟩ => ⟨S2x1024x2304, .bf16⟩
  | .hbm, ⟨1, _⟩ => ⟨S3072x2304, .fp8e4m3⟩
  | .hbm, ⟨2, _⟩ => ⟨S3072x72, .i8⟩
  | .hbm, ⟨3, _⟩ => ⟨S3072x72, .i32⟩
  | .hbm, ⟨4, _⟩ => ⟨S_, .i32⟩
  | .hbm, ⟨5, _⟩ => ⟨S3072x72, .i32⟩
  | .hbm, ⟨6, _⟩ => ⟨S3072x72, .i32⟩
  | .hbm, ⟨7, _⟩ => ⟨S3072x72, .f32⟩
  | .hbm, ⟨8, _⟩ => ⟨S_, .f32⟩
  | .hbm, ⟨9, _⟩ => ⟨S3072x72, .f32⟩
  | .hbm, ⟨10, _⟩ => ⟨S3072x72, .f32⟩
  | .hbm, ⟨11, _⟩ => ⟨S3072x72, .bf16⟩
  | .hbm, ⟨12, _⟩ => ⟨S3072x2304, .bf16⟩
  | .hbm, ⟨13, _⟩ => ⟨S3072x72x32, .bf16⟩
  | .hbm, ⟨14, _⟩ => ⟨S3072x72x1, .bf16⟩
  | .hbm, ⟨15, _⟩ => ⟨S3072x72x32, .bf16⟩
  | .hbm, ⟨16, _⟩ => ⟨S3072x72x32, .bf16⟩
  | .hbm, ⟨17, _⟩ => ⟨S3072x2304, .bf16⟩
  | .hbm, ⟨18, _⟩ => ⟨S2x1024x3072, .f32⟩
  | .hbm, ⟨19, _⟩ => ⟨S2x1024x3072, .bf16⟩
  | .hbm, ⟨20, _⟩ => ⟨S2048x3072, .bf16⟩
  | .local _ .vmem, ⟨0, _⟩ => ⟨S3072x2304, .fp8e4m3⟩
  | .local _ .vmem, ⟨1, _⟩ => ⟨S3072x2304, .bf16⟩
  | _, _ => ⟨S2x1024x2304, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3072x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Out.lean ====
abbrev S2x1024x3072 : Shape := ⟨3, ![2, 1024, 3072]⟩
abbrev S2304x3072 : Shape := ⟨2, ![2304, 3072]⟩
abbrev S2304x96 : Shape := ⟨2, ![2304, 96]⟩
abbrev S2048x3072 : Shape := ⟨2, ![2048, 3072]⟩
abbrev S96x2304 : Shape := ⟨2, ![96, 2304]⟩
abbrev S2048x2304 : Shape := ⟨2, ![2048, 2304]⟩
abbrev S256x3072 : Shape := ⟨2, ![256, 3072]⟩
abbrev S96x256 : Shape := ⟨2, ![96, 256]⟩
abbrev S2048x256 : Shape := ⟨2, ![2048, 256]⟩
abbrev S256x96 : Shape := ⟨2, ![256, 96]⟩
abbrev S256x32 : Shape := ⟨2, ![256, 32]⟩
abbrev S256x128 : Shape := ⟨2, ![256, 128]⟩
abbrev S256x128x1 : Shape := ⟨3, ![256, 128, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x1024x3072, .bf16⟩
  | .hbm, ⟨1, _⟩ => ⟨S2304x3072, .fp8e4m3⟩
  | .hbm, ⟨2, _⟩ => ⟨S2304x96, .i8⟩
  | .hbm, ⟨3, _⟩ => ⟨S2048x3072, .bf16⟩
  | .hbm, ⟨4, _⟩ => ⟨S96x2304, .i8⟩
  | .hbm, ⟨5, _⟩ => ⟨S2048x2304, .bf16⟩
  | .local _ .vmem, ⟨0, _⟩ => ⟨S2048x3072, .bf16⟩
  | .local _ .vmem, ⟨1, _⟩ => ⟨S256x3072, .fp8e4m3⟩
  | .local _ .vmem, ⟨2, _⟩ => ⟨S256x3072, .fp8e4m3⟩
  | .local _ .vmem, ⟨3, _⟩ => ⟨S96x256, .i8⟩
  | .local _ .vmem, ⟨4, _⟩ => ⟨S96x256, .i8⟩
  | .local _ .vmem, ⟨5, _⟩ => ⟨S2048x256, .bf16⟩
  | .local _ .vmem, ⟨6, _⟩ => ⟨S2048x256, .bf16⟩
  | .local _ .vmem, ⟨7, _⟩ => ⟨S256x3072, .bf16⟩
  | _, _ => ⟨S2x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S2x1024x3072 : Shape := ⟨3, ![2, 1024, 3072]⟩
abbrev S2304x3072 : Shape := ⟨2, ![2304, 3072]⟩
abbrev S2304x96 : Shape := ⟨2, ![2304, 96]⟩
abbrev S_ : Shape := ⟨0, ![]⟩
abbrev S2304x96x32 : Shape := ⟨3, ![2304, 96, 32]⟩
abbrev S2304x96x1 : Shape := ⟨3, ![2304, 96, 1]⟩
abbrev S2x1024x2304 : Shape := ⟨3, ![2, 1024, 2304]⟩
abbrev S2048x2304 : Shape := ⟨2, ![2048, 2304]⟩

abbrev nBuf : Space → Nat
  | .hbm => 21
  | .vmem => 2
  | .smem => 0
  | _ => 0

abbrev bufTy : (tb : Table) → Fin (tcTables nBuf tb) → BufTy
  | .hbm, ⟨0, _⟩ => ⟨S2x1024x3072, .bf16⟩
  | .hbm, ⟨1, _⟩ => ⟨S2304x3072, .fp8e4m3⟩
  | .hbm, ⟨2, _⟩ => ⟨S2304x96, .i8⟩
  | .hbm, ⟨3, _⟩ => ⟨S2304x96, .i32⟩
  | .hbm, ⟨4, _⟩ => ⟨S_, .i32⟩
  | .hbm, ⟨5, _⟩ => ⟨S2304x96, .i32⟩
  | .hbm, ⟨6, _⟩ => ⟨S2304x96, .i32⟩
  | .hbm, ⟨7, _⟩ => ⟨S2304x96, .f32⟩
  | .hbm, ⟨8, _⟩ => ⟨S_, .f32⟩
  | .hbm, ⟨9, _⟩ => ⟨S2304x96, .f32⟩
  | .hbm, ⟨10, _⟩ => ⟨S2304x96, .f32⟩
  | .hbm, ⟨11, _⟩ => ⟨S2304x96, .bf16⟩
  | .hbm, ⟨12, _⟩ => ⟨S2304x3072, .bf16⟩
  | .hbm, ⟨13, _⟩ => ⟨S2304x96x32, .bf16⟩
  | .hbm, ⟨14, _⟩ => ⟨S2304x96x1, .bf16⟩
  | .hbm, ⟨15, _⟩ => ⟨S2304x96x32, .bf16⟩
  | .hbm, ⟨16, _⟩ => ⟨S2304x96x32, .bf16⟩
  | .hbm, ⟨17, _⟩ => ⟨S2304x3072, .bf16⟩
  | .hbm, ⟨18, _⟩ => ⟨S2x1024x2304, .f32⟩
  | .hbm, ⟨19, _⟩ => ⟨S2x1024x2304, .bf16⟩
  | .hbm, ⟨20, _⟩ => ⟨S2048x2304, .bf16⟩
  | .local _ .vmem, ⟨0, _⟩ => ⟨S2304x3072, .fp8e4m3⟩
  | .local _ .vmem, ⟨1, _⟩ => ⟨S2304x3072, .bf16⟩
  | _, _ => ⟨S2x1024x3072, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2304x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ConvQk.lean ====
abbrev S2x1024x2304 : Shape := ⟨3, ![2, 1024, 2304]⟩
abbrev S1536x2304 : Shape := ⟨2, ![1536, 2304]⟩
abbrev S1536x72 : Shape := ⟨2, ![1536, 72]⟩
abbrev S1536x4 : Shape := ⟨2, ![1536, 4]⟩
abbrev S2x3x1536 : Shape := ⟨3, ![2, 3, 1536]⟩
abbrev S2048x2304 : Shape := ⟨2, ![2048, 2304]⟩
abbrev S72x1536 : Shape := ⟨2, ![72, 1536]⟩
abbrev S4x1536 : Shape := ⟨2, ![4, 1536]⟩
abbrev S3x2x1536 : Shape := ⟨3, ![3, 2, 1536]⟩
abbrev S2048x1536 : Shape := ⟨2, ![2048, 1536]⟩
abbrev S256x2304 : Shape := ⟨2, ![256, 2304]⟩
abbrev S72x256 : Shape := ⟨2, ![72, 256]⟩
abbrev S4x256 : Shape := ⟨2, ![4, 256]⟩
abbrev S3x2x256 : Shape := ⟨3, ![3, 2, 256]⟩
abbrev S2048x256 : Shape := ⟨2, ![2048, 256]⟩
abbrev S1032x256 : Shape := ⟨2, ![1032, 256]⟩
abbrev S256x72 : Shape := ⟨2, ![256, 72]⟩
abbrev S256x56 : Shape := ⟨2, ![256, 56]⟩
abbrev S256x128 : Shape := ⟨2, ![256, 128]⟩
abbrev S256x128x1 : Shape := ⟨3, ![256, 128, 1]⟩
abbrev S3x1x256 : Shape := ⟨3, ![3, 1, 256]⟩
abbrev S3x256 : Shape := ⟨2, ![3, 256]⟩
abbrev S1024x256 : Shape := ⟨2, ![1024, 256]⟩
abbrev S1x256 : Shape := ⟨2, ![1, 256]⟩

abbrev nBuf : Space → Nat
  | .hbm => 12
  | .vmem => 15
  | .smem => 0
  | _ => 0

abbrev bufTy : (tb : Table) → Fin (tcTables nBuf tb) → BufTy
  | .hbm, ⟨0, _⟩ => ⟨S2x1024x2304, .bf16⟩
  | .hbm, ⟨1, _⟩ => ⟨S1536x2304, .fp8e4m3⟩
  | .hbm, ⟨2, _⟩ => ⟨S1536x72, .i8⟩
  | .hbm, ⟨3, _⟩ => ⟨S1536x4, .f32⟩
  | .hbm, ⟨4, _⟩ => ⟨S2x3x1536, .bf16⟩
  | .hbm, ⟨5, _⟩ => ⟨S2048x2304, .bf16⟩
  | .hbm, ⟨6, _⟩ => ⟨S72x1536, .i8⟩
  | .hbm, ⟨7, _⟩ => ⟨S4x1536, .f32⟩
  | .hbm, ⟨8, _⟩ => ⟨S3x2x1536, .bf16⟩
  | .hbm, ⟨9, _⟩ => ⟨S2048x1536, .bf16⟩
  | .hbm, ⟨10, _⟩ => ⟨S3x2x1536, .bf16⟩
  | .hbm, ⟨11, _⟩ => ⟨S2x3x1536, .bf16⟩
  | .local _ .vmem, ⟨0, _⟩ => ⟨S2048x2304, .bf16⟩
  | .local _ .vmem, ⟨1, _⟩ => ⟨S256x2304, .fp8e4m3⟩
  | .local _ .vmem, ⟨2, _⟩ => ⟨S256x2304, .fp8e4m3⟩
  | .local _ .vmem, ⟨3, _⟩ => ⟨S72x256, .i8⟩
  | .local _ .vmem, ⟨4, _⟩ => ⟨S72x256, .i8⟩
  | .local _ .vmem, ⟨5, _⟩ => ⟨S4x256, .f32⟩
  | .local _ .vmem, ⟨6, _⟩ => ⟨S4x256, .f32⟩
  | .local _ .vmem, ⟨7, _⟩ => ⟨S3x2x256, .bf16⟩
  | .local _ .vmem, ⟨8, _⟩ => ⟨S3x2x256, .bf16⟩
  | .local _ .vmem, ⟨9, _⟩ => ⟨S2048x256, .bf16⟩
  | .local _ .vmem, ⟨10, _⟩ => ⟨S2048x256, .bf16⟩
  | .local _ .vmem, ⟨11, _⟩ => ⟨S3x2x256, .bf16⟩
  | .local _ .vmem, ⟨12, _⟩ => ⟨S3x2x256, .bf16⟩
  | .local _ .vmem, ⟨13, _⟩ => ⟨S256x2304, .bf16⟩
  | .local _ .vmem, ⟨14, _⟩ => ⟨S1032x256, .f32⟩
  | _, _ => ⟨S2x1024x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2048x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2304 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S72x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x2x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x2x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvQkRefIdeal.lean ====
abbrev S2x1024x2304 : Shape := ⟨3, ![2, 1024, 2304]⟩
abbrev S1536x2304 : Shape := ⟨2, ![1536, 2304]⟩
abbrev S1536x72 : Shape := ⟨2, ![1536, 72]⟩
abbrev S1536x4 : Shape := ⟨2, ![1536, 4]⟩
abbrev S2x3x1536 : Shape := ⟨3, ![2, 3, 1536]⟩
abbrev S_ : Shape := ⟨0, ![]⟩
abbrev S1536x72x32 : Shape := ⟨3, ![1536, 72, 32]⟩
abbrev S1536x72x1 : Shape := ⟨3, ![1536, 72, 1]⟩
abbrev S2x1024x1536 : Shape := ⟨3, ![2, 1024, 1536]⟩
abbrev S2x1027x1536 : Shape := ⟨3, ![2, 1027, 1536]⟩
abbrev S1536x1 : Shape := ⟨2, ![1536, 1]⟩
abbrev S1536 : Shape := ⟨1, ![1536]⟩
abbrev S1x1x1536 : Shape := ⟨3, ![1, 1, 1536]⟩
abbrev S1x1024x1536 : Shape := ⟨3, ![1, 1024, 1536]⟩
abbrev S1024x1536 : Shape := ⟨2, ![1024, 1536]⟩
abbrev S2048x1536 : Shape := ⟨2, ![2048, 1536]⟩

abbrev nBuf : Space → Nat
  | .hbm => 67
  | .vmem => 2
  | .smem => 0
  | _ => 0

abbrev bufTy : (tb : Table) → Fin (tcTables nBuf tb) → BufTy
  | .hbm, ⟨0, _⟩ => ⟨S2x1024x2304, .bf16⟩
  | .hbm, ⟨1, _⟩ => ⟨S1536x2304, .fp8e4m3⟩
  | .hbm, ⟨2, _⟩ => ⟨S1536x72, .i8⟩
  | .hbm, ⟨3, _⟩ => ⟨S1536x4, .f32⟩
  | .hbm, ⟨4, _⟩ => ⟨S2x3x1536, .bf16⟩
  | .hbm, ⟨5, _⟩ => ⟨S1536x72, .i32⟩
  | .hbm, ⟨6, _⟩ => ⟨S_, .i32⟩
  | .hbm, ⟨7, _⟩ => ⟨S1536x72, .i32⟩
  | .hbm, ⟨8, _⟩ => ⟨S1536x72, .i32⟩
  | .hbm, ⟨9, _⟩ => ⟨S1536x72, .f32⟩
  | .hbm, ⟨10, _⟩ => ⟨S_, .f32⟩
  | .hbm, ⟨11, _⟩ => ⟨S1536x72, .f32⟩
  | .hbm, ⟨12, _⟩ => ⟨S1536x72, .f32⟩
  | .hbm, ⟨13, _⟩ => ⟨S1536x72, .bf16⟩
  | .hbm, ⟨14, _⟩ => ⟨S1536x2304, .bf16⟩
  | .hbm, ⟨15, _⟩ => ⟨S1536x72x32, .bf16⟩
  | .hbm, ⟨16, _⟩ => ⟨S1536x72x1, .bf16⟩
  | .hbm, ⟨17, _⟩ => ⟨S1536x72x32, .bf16⟩
  | .hbm, ⟨18, _⟩ => ⟨S1536x72x32, .bf16⟩
  | .hbm, ⟨19, _⟩ => ⟨S1536x2304, .bf16⟩
  | .hbm, ⟨20, _⟩ => ⟨S2x1024x1536, .f32⟩
  | .hbm, ⟨21, _⟩ => ⟨S2x1024x1536, .bf16⟩
  | .hbm, ⟨22, _⟩ => ⟨S2x1027x1536, .bf16⟩
  | .hbm, ⟨23, _⟩ => ⟨S2x1027x1536, .f32⟩
  | .hbm, ⟨24, _⟩ => ⟨S2x1024x1536, .f32⟩
  | .hbm, ⟨25, _⟩ => ⟨S1536x1, .f32⟩
  | .hbm, ⟨26, _⟩ => ⟨S1536, .f32⟩
  | .hbm, ⟨27, _⟩ => ⟨S1x1x1536, .f32⟩
  | .hbm, ⟨28, _⟩ => ⟨S2x1024x1536, .f32⟩
  | .hbm, ⟨29, _⟩ => ⟨S2x1024x1536, .f32⟩
  | .hbm, ⟨30, _⟩ => ⟨S2x1024x1536, .f32⟩
  | .hbm, ⟨31, _⟩ => ⟨S1536x1, .f32⟩
  | .hbm, ⟨32, _⟩ => ⟨S1536, .f32⟩
  | .hbm, ⟨33, _⟩ => ⟨S1x1x1536, .f32⟩
  | .hbm, ⟨34, _⟩ => ⟨S2x1024x1536, .f32⟩
  | .hbm, ⟨35, _⟩ => ⟨S2x1024x1536, .f32⟩
  | .hbm, ⟨36, _⟩ => ⟨S2x1024x1536, .f32⟩
  | .hbm, ⟨37, _⟩ => ⟨S2x1024x1536, .f32⟩
  | .hbm, ⟨38, _⟩ => ⟨S1536x1, .f32⟩
  | .hbm, ⟨39, _⟩ => ⟨S1536, .f32⟩
  | .hbm, ⟨40, _⟩ => ⟨S1x1x1536, .f32⟩
  | .hbm, ⟨41, _⟩ => ⟨S2x1024x1536, .f32⟩
  | .hbm, ⟨42, _⟩ => ⟨S2x1024x1536, .f32⟩
  | .hbm, ⟨43, _⟩ => ⟨S2x1024x1536, .f32⟩
  | .hbm, ⟨44, _⟩ => ⟨S2x1024x1536, .f32⟩
  | .hbm, ⟨45, _⟩ => ⟨S1536x1, .f32⟩
  | .hbm, ⟨46, _⟩ => ⟨S1536, .f32⟩
  | .hbm, ⟨47, _⟩ => ⟨S1x1x1536, .f32⟩
  | .hbm, ⟨48, _⟩ => ⟨S2x1024x1536, .f32⟩
  | .hbm, ⟨49, _⟩ => ⟨S2x1024x1536, .f32⟩
  | .hbm, ⟨50, _⟩ => ⟨S2x1024x1536, .f32⟩
  | .hbm, ⟨51, _⟩ => ⟨S2x1024x1536, .f32⟩
  | .hbm, ⟨52, _⟩ => ⟨S2x1024x1536, .f32⟩
  | .hbm, ⟨53, _⟩ => ⟨S_, .f32⟩
  | .hbm, ⟨54, _⟩ => ⟨S2x1024x1536, .f32⟩
  | .hbm, ⟨55, _⟩ => ⟨S2x1024x1536, .f32⟩
  | .hbm, ⟨56, _⟩ => ⟨S_, .f32⟩
  | .hbm, ⟨57, _⟩ => ⟨S2x1024x1536, .f32⟩
  | .hbm, ⟨58, _⟩ => ⟨S2x1024x1536, .f32⟩
  | .hbm, ⟨59, _⟩ => ⟨S2x1024x1536, .f32⟩
  | .hbm, ⟨60, _⟩ => ⟨S2x1024x1536, .bf16⟩
  | .hbm, ⟨61, _⟩ => ⟨S1x1024x1536, .bf16⟩
  | .hbm, ⟨62, _⟩ => ⟨S1024x1536, .bf16⟩
  | .hbm, ⟨63, _⟩ => ⟨S1x1024x1536, .bf16⟩
  | .hbm, ⟨64, _⟩ => ⟨S1024x1536, .bf16⟩
  | .hbm, ⟨65, _⟩ => ⟨S2048x1536, .bf16⟩
  | .hbm, ⟨66, _⟩ => ⟨S2x3x1536, .bf16⟩
  | .local _ .vmem, ⟨0, _⟩ => ⟨S1536x2304, .fp8e4m3⟩
  | .local _ .vmem, ⟨1, _⟩ => ⟨S1536x2304, .bf16⟩
  | _, _ => ⟨S2x1024x2304, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1536x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ConvV.lean ====
abbrev S2x1024x2304 : Shape := ⟨3, ![2, 1024, 2304]⟩
abbrev S3072x2304 : Shape := ⟨2, ![3072, 2304]⟩
abbrev S3072x72 : Shape := ⟨2, ![3072, 72]⟩
abbrev S3072x4 : Shape := ⟨2, ![3072, 4]⟩
abbrev S2x3x3072 : Shape := ⟨3, ![2, 3, 3072]⟩
abbrev S2048x2304 : Shape := ⟨2, ![2048, 2304]⟩
abbrev S72x3072 : Shape := ⟨2, ![72, 3072]⟩
abbrev S4x3072 : Shape := ⟨2, ![4, 3072]⟩
abbrev S3x2x3072 : Shape := ⟨3, ![3, 2, 3072]⟩
abbrev S2048x3072 : Shape := ⟨2, ![2048, 3072]⟩
abbrev S256x2304 : Shape := ⟨2, ![256, 2304]⟩
abbrev S72x256 : Shape := ⟨2, ![72, 256]⟩
abbrev S4x256 : Shape := ⟨2, ![4, 256]⟩
abbrev S3x2x256 : Shape := ⟨3, ![3, 2, 256]⟩
abbrev S2048x256 : Shape := ⟨2, ![2048, 256]⟩
abbrev S1032x256 : Shape := ⟨2, ![1032, 256]⟩
abbrev S256x72 : Shape := ⟨2, ![256, 72]⟩
abbrev S256x56 : Shape := ⟨2, ![256, 56]⟩
abbrev S256x128 : Shape := ⟨2, ![256, 128]⟩
abbrev S256x128x1 : Shape := ⟨3, ![256, 128, 1]⟩
abbrev S3x1x256 : Shape := ⟨3, ![3, 1, 256]⟩
abbrev S3x256 : Shape := ⟨2, ![3, 256]⟩
abbrev S1024x256 : Shape := ⟨2, ![1024, 256]⟩
abbrev S1x256 : Shape := ⟨2, ![1, 256]⟩

abbrev nBuf : Space → Nat
  | .hbm => 12
  | .vmem => 15
  | .smem => 0
  | _ => 0

abbrev bufTy : (tb : Table) → Fin (tcTables nBuf tb) → BufTy
  | .hbm, ⟨0, _⟩ => ⟨S2x1024x2304, .bf16⟩
  | .hbm, ⟨1, _⟩ => ⟨S3072x2304, .fp8e4m3⟩
  | .hbm, ⟨2, _⟩ => ⟨S3072x72, .i8⟩
  | .hbm, ⟨3, _⟩ => ⟨S3072x4, .f32⟩
  | .hbm, ⟨4, _⟩ => ⟨S2x3x3072, .bf16⟩
  | .hbm, ⟨5, _⟩ => ⟨S2048x2304, .bf16⟩
  | .hbm, ⟨6, _⟩ => ⟨S72x3072, .i8⟩
  | .hbm, ⟨7, _⟩ => ⟨S4x3072, .f32⟩
  | .hbm, ⟨8, _⟩ => ⟨S3x2x3072, .bf16⟩
  | .hbm, ⟨9, _⟩ => ⟨S2048x3072, .bf16⟩
  | .hbm, ⟨10, _⟩ => ⟨S3x2x3072, .bf16⟩
  | .hbm, ⟨11, _⟩ => ⟨S2x3x3072, .bf16⟩
  | .local _ .vmem, ⟨0, _⟩ => ⟨S2048x2304, .bf16⟩
  | .local _ .vmem, ⟨1, _⟩ => ⟨S256x2304, .fp8e4m3⟩
  | .local _ .vmem, ⟨2, _⟩ => ⟨S256x2304, .fp8e4m3⟩
  | .local _ .vmem, ⟨3, _⟩ => ⟨S72x256, .i8⟩
  | .local _ .vmem, ⟨4, _⟩ => ⟨S72x256, .i8⟩
  | .local _ .vmem, ⟨5, _⟩ => ⟨S4x256, .f32⟩
  | .local _ .vmem, ⟨6, _⟩ => ⟨S4x256, .f32⟩
  | .local _ .vmem, ⟨7, _⟩ => ⟨S3x2x256, .bf16⟩
  | .local _ .vmem, ⟨8, _⟩ => ⟨S3x2x256, .bf16⟩
  | .local _ .vmem, ⟨9, _⟩ => ⟨S2048x256, .bf16⟩
  | .local _ .vmem, ⟨10, _⟩ => ⟨S2048x256, .bf16⟩
  | .local _ .vmem, ⟨11, _⟩ => ⟨S3x2x256, .bf16⟩
  | .local _ .vmem, ⟨12, _⟩ => ⟨S3x2x256, .bf16⟩
  | .local _ .vmem, ⟨13, _⟩ => ⟨S256x2304, .bf16⟩
  | .local _ .vmem, ⟨14, _⟩ => ⟨S1032x256, .f32⟩
  | _, _ => ⟨S2x1024x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2048x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2304 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S72x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x2x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x2x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvVRefIdeal.lean ====
abbrev S2x1024x2304 : Shape := ⟨3, ![2, 1024, 2304]⟩
abbrev S3072x2304 : Shape := ⟨2, ![3072, 2304]⟩
abbrev S3072x72 : Shape := ⟨2, ![3072, 72]⟩
abbrev S3072x4 : Shape := ⟨2, ![3072, 4]⟩
abbrev S2x3x3072 : Shape := ⟨3, ![2, 3, 3072]⟩
abbrev S_ : Shape := ⟨0, ![]⟩
abbrev S3072x72x32 : Shape := ⟨3, ![3072, 72, 32]⟩
abbrev S3072x72x1 : Shape := ⟨3, ![3072, 72, 1]⟩
abbrev S2x1024x3072 : Shape := ⟨3, ![2, 1024, 3072]⟩
abbrev S2x1027x3072 : Shape := ⟨3, ![2, 1027, 3072]⟩
abbrev S3072x1 : Shape := ⟨2, ![3072, 1]⟩
abbrev S3072 : Shape := ⟨1, ![3072]⟩
abbrev S1x1x3072 : Shape := ⟨3, ![1, 1, 3072]⟩
abbrev S1x1024x3072 : Shape := ⟨3, ![1, 1024, 3072]⟩
abbrev S1024x3072 : Shape := ⟨2, ![1024, 3072]⟩
abbrev S2048x3072 : Shape := ⟨2, ![2048, 3072]⟩

abbrev nBuf : Space → Nat
  | .hbm => 67
  | .vmem => 2
  | .smem => 0
  | _ => 0

abbrev bufTy : (tb : Table) → Fin (tcTables nBuf tb) → BufTy
  | .hbm, ⟨0, _⟩ => ⟨S2x1024x2304, .bf16⟩
  | .hbm, ⟨1, _⟩ => ⟨S3072x2304, .fp8e4m3⟩
  | .hbm, ⟨2, _⟩ => ⟨S3072x72, .i8⟩
  | .hbm, ⟨3, _⟩ => ⟨S3072x4, .f32⟩
  | .hbm, ⟨4, _⟩ => ⟨S2x3x3072, .bf16⟩
  | .hbm, ⟨5, _⟩ => ⟨S3072x72, .i32⟩
  | .hbm, ⟨6, _⟩ => ⟨S_, .i32⟩
  | .hbm, ⟨7, _⟩ => ⟨S3072x72, .i32⟩
  | .hbm, ⟨8, _⟩ => ⟨S3072x72, .i32⟩
  | .hbm, ⟨9, _⟩ => ⟨S3072x72, .f32⟩
  | .hbm, ⟨10, _⟩ => ⟨S_, .f32⟩
  | .hbm, ⟨11, _⟩ => ⟨S3072x72, .f32⟩
  | .hbm, ⟨12, _⟩ => ⟨S3072x72, .f32⟩
  | .hbm, ⟨13, _⟩ => ⟨S3072x72, .bf16⟩
  | .hbm, ⟨14, _⟩ => ⟨S3072x2304, .bf16⟩
  | .hbm, ⟨15, _⟩ => ⟨S3072x72x32, .bf16⟩
  | .hbm, ⟨16, _⟩ => ⟨S3072x72x1, .bf16⟩
  | .hbm, ⟨17, _⟩ => ⟨S3072x72x32, .bf16⟩
  | .hbm, ⟨18, _⟩ => ⟨S3072x72x32, .bf16⟩
  | .hbm, ⟨19, _⟩ => ⟨S3072x2304, .bf16⟩
  | .hbm, ⟨20, _⟩ => ⟨S2x1024x3072, .f32⟩
  | .hbm, ⟨21, _⟩ => ⟨S2x1024x3072, .bf16⟩
  | .hbm, ⟨22, _⟩ => ⟨S2x1027x3072, .bf16⟩
  | .hbm, ⟨23, _⟩ => ⟨S2x1027x3072, .f32⟩
  | .hbm, ⟨24, _⟩ => ⟨S2x1024x3072, .f32⟩
  | .hbm, ⟨25, _⟩ => ⟨S3072x1, .f32⟩
  | .hbm, ⟨26, _⟩ => ⟨S3072, .f32⟩
  | .hbm, ⟨27, _⟩ => ⟨S1x1x3072, .f32⟩
  | .hbm, ⟨28, _⟩ => ⟨S2x1024x3072, .f32⟩
  | .hbm, ⟨29, _⟩ => ⟨S2x1024x3072, .f32⟩
  | .hbm, ⟨30, _⟩ => ⟨S2x1024x3072, .f32⟩
  | .hbm, ⟨31, _⟩ => ⟨S3072x1, .f32⟩
  | .hbm, ⟨32, _⟩ => ⟨S3072, .f32⟩
  | .hbm, ⟨33, _⟩ => ⟨S1x1x3072, .f32⟩
  | .hbm, ⟨34, _⟩ => ⟨S2x1024x3072, .f32⟩
  | .hbm, ⟨35, _⟩ => ⟨S2x1024x3072, .f32⟩
  | .hbm, ⟨36, _⟩ => ⟨S2x1024x3072, .f32⟩
  | .hbm, ⟨37, _⟩ => ⟨S2x1024x3072, .f32⟩
  | .hbm, ⟨38, _⟩ => ⟨S3072x1, .f32⟩
  | .hbm, ⟨39, _⟩ => ⟨S3072, .f32⟩
  | .hbm, ⟨40, _⟩ => ⟨S1x1x3072, .f32⟩
  | .hbm, ⟨41, _⟩ => ⟨S2x1024x3072, .f32⟩
  | .hbm, ⟨42, _⟩ => ⟨S2x1024x3072, .f32⟩
  | .hbm, ⟨43, _⟩ => ⟨S2x1024x3072, .f32⟩
  | .hbm, ⟨44, _⟩ => ⟨S2x1024x3072, .f32⟩
  | .hbm, ⟨45, _⟩ => ⟨S3072x1, .f32⟩
  | .hbm, ⟨46, _⟩ => ⟨S3072, .f32⟩
  | .hbm, ⟨47, _⟩ => ⟨S1x1x3072, .f32⟩
  | .hbm, ⟨48, _⟩ => ⟨S2x1024x3072, .f32⟩
  | .hbm, ⟨49, _⟩ => ⟨S2x1024x3072, .f32⟩
  | .hbm, ⟨50, _⟩ => ⟨S2x1024x3072, .f32⟩
  | .hbm, ⟨51, _⟩ => ⟨S2x1024x3072, .f32⟩
  | .hbm, ⟨52, _⟩ => ⟨S2x1024x3072, .f32⟩
  | .hbm, ⟨53, _⟩ => ⟨S_, .f32⟩
  | .hbm, ⟨54, _⟩ => ⟨S2x1024x3072, .f32⟩
  | .hbm, ⟨55, _⟩ => ⟨S2x1024x3072, .f32⟩
  | .hbm, ⟨56, _⟩ => ⟨S_, .f32⟩
  | .hbm, ⟨57, _⟩ => ⟨S2x1024x3072, .f32⟩
  | .hbm, ⟨58, _⟩ => ⟨S2x1024x3072, .f32⟩
  | .hbm, ⟨59, _⟩ => ⟨S2x1024x3072, .f32⟩
  | .hbm, ⟨60, _⟩ => ⟨S2x1024x3072, .bf16⟩
  | .hbm, ⟨61, _⟩ => ⟨S1x1024x3072, .bf16⟩
  | .hbm, ⟨62, _⟩ => ⟨S1024x3072, .bf16⟩
  | .hbm, ⟨63, _⟩ => ⟨S1x1024x3072, .bf16⟩
  | .hbm, ⟨64, _⟩ => ⟨S1024x3072, .bf16⟩
  | .hbm, ⟨65, _⟩ => ⟨S2048x3072, .bf16⟩
  | .hbm, ⟨66, _⟩ => ⟨S2x3x3072, .bf16⟩
  | .local _ .vmem, ⟨0, _⟩ => ⟨S3072x2304, .fp8e4m3⟩
  | .local _ .vmem, ⟨1, _⟩ => ⟨S3072x2304, .bf16⟩
  | _, _ => ⟨S2x1024x2304, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3072x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Rec.lean ====
abbrev S2x1024x2304 : Shape := ⟨3, ![2, 1024, 2304]⟩
abbrev S2x1024x1536 : Shape := ⟨3, ![2, 1024, 1536]⟩
abbrev S2x1024x3072 : Shape := ⟨3, ![2, 1024, 3072]⟩
abbrev S32x2304 : Shape := ⟨2, ![32, 2304]⟩
abbrev S32x72 : Shape := ⟨2, ![32, 72]⟩
abbrev S6 : Shape := ⟨1, ![6]⟩
abbrev S512 : Shape := ⟨1, ![512]⟩
abbrev S2x6x256x512 : Shape := ⟨4, ![2, 6, 256, 512]⟩
abbrev S2x6x256 : Shape := ⟨3, ![2, 6, 256]⟩
abbrev S72x32 : Shape := ⟨2, ![72, 32]⟩
abbrev S1x6 : Shape := ⟨2, ![1, 6]⟩
abbrev S1x512 : Shape := ⟨2, ![1, 512]⟩
abbrev S6x2x256 : Shape := ⟨3, ![6, 2, 256]⟩
abbrev S2x6x1024x512 : Shape := ⟨4, ![2, 6, 1024, 512]⟩
abbrev S2x6x1024x256 : Shape := ⟨4, ![2, 6, 1024, 256]⟩
abbrev S2x64x2304 : Shape := ⟨3, ![2, 64, 2304]⟩
abbrev S2x64x1536 : Shape := ⟨3, ![2, 64, 1536]⟩
abbrev S2x64x3072 : Shape := ⟨3, ![2, 64, 3072]⟩
abbrev S2x6x64x512 : Shape := ⟨4, ![2, 6, 64, 512]⟩
abbrev S2x6x64x256 : Shape := ⟨4, ![2, 6, 64, 256]⟩
abbrev S32x56 : Shape := ⟨2, ![32, 56]⟩
abbrev S32x128 : Shape := ⟨2, ![32, 128]⟩
abbrev S32x128x1 : Shape := ⟨3, ![32, 128, 1]⟩
abbrev S1x1x256 : Shape := ⟨3, ![1, 1, 256]⟩
abbrev S1x256 : Shape := ⟨2, ![1, 256]⟩
abbrev S256x1 : Shape := ⟨2, ![256, 1]⟩
abbrev S1x1x256x512 : Shape := ⟨4, ![1, 1, 256, 512]⟩
abbrev S256x512 : Shape := ⟨2, ![256, 512]⟩
abbrev S64x64 : Shape := ⟨2, ![64, 64]⟩
abbrev S1x64x2304 : Shape := ⟨3, ![1, 64, 2304]⟩
abbrev S64x2304 : Shape := ⟨2, ![64, 2304]⟩
abbrev S64x32 : Shape := ⟨2, ![64, 32]⟩
abbrev S64x6 : Shape := ⟨2, ![64, 6]⟩
abbrev S6x64 : Shape := ⟨2, ![6, 64]⟩
abbrev S1x64x256 : Shape := ⟨3, ![1, 64, 256]⟩
abbrev S64x256 : Shape := ⟨2, ![64, 256]⟩
abbrev S1x64x512 : Shape := ⟨3, ![1, 64, 512]⟩
abbrev S64x512 : Shape := ⟨2, ![64, 512]⟩
abbrev S64 : Shape := ⟨1, ![64]⟩
abbrev S64x1 : Shape := ⟨2, ![64, 1]⟩
abbrev S1x64 : Shape := ⟨2, ![1, 64]⟩
abbrev S1x1 : Shape := ⟨2, ![1, 1]⟩
abbrev S64x192 : Shape := ⟨2, ![64, 192]⟩
abbrev S192x256 : Shape := ⟨2, ![192, 256]⟩
abbrev S192x512 : Shape := ⟨2, ![192, 512]⟩
abbrev S1x1x64x256 : Shape := ⟨4, ![1, 1, 64, 256]⟩
abbrev S1x1x64x512 : Shape := ⟨4, ![1, 1, 64, 512]⟩
abbrev S128x256 : Shape := ⟨2, ![128, 256]⟩
abbrev S128x512 : Shape := ⟨2, ![128, 512]⟩
abbrev S256 : Shape := ⟨1, ![256]⟩

abbrev nBuf : Space → Nat
  | .hbm => 23
  | .vmem => 29
  | .smem => 0
  | _ => 0

abbrev bufTy : (tb : Table) → Fin (tcTables nBuf tb) → BufTy
  | .hbm, ⟨0, _⟩ => ⟨S2x1024x2304, .bf16⟩
  | .hbm, ⟨1, _⟩ => ⟨S2x1024x1536, .bf16⟩
  | .hbm, ⟨2, _⟩ => ⟨S2x1024x1536, .bf16⟩
  | .hbm, ⟨3, _⟩ => ⟨S2x1024x3072, .bf16⟩
  | .hbm, ⟨4, _⟩ => ⟨S2x1024x3072, .bf16⟩
  | .hbm, ⟨5, _⟩ => ⟨S32x2304, .fp8e4m3⟩
  | .hbm, ⟨6, _⟩ => ⟨S32x72, .i8⟩
  | .hbm, ⟨7, _⟩ => ⟨S6, .f32⟩
  | .hbm, ⟨8, _⟩ => ⟨S6, .f32⟩
  | .hbm, ⟨9, _⟩ => ⟨S512, .f32⟩
  | .hbm, ⟨10, _⟩ => ⟨S2x6x256x512, .fp8e4m3⟩
  | .hbm, ⟨11, _⟩ => ⟨S2x6x256, .f32⟩
  | .hbm, ⟨12, _⟩ => ⟨S72x32, .i8⟩
  | .hbm, ⟨13, _⟩ => ⟨S1x6, .f32⟩
  | .hbm, ⟨14, _⟩ => ⟨S1x6, .f32⟩
  | .hbm, ⟨15, _⟩ => ⟨S1x512, .f32⟩
  | .hbm, ⟨16, _⟩ => ⟨S6x2x256, .f32⟩
  | .hbm, ⟨17, _⟩ => ⟨S2x1024x3072, .bf16⟩
  | .hbm, ⟨18, _⟩ => ⟨S2x1024x3072, .bf16⟩
  | .hbm, ⟨19, _⟩ => ⟨S2x6x1024x512, .bf16⟩
  | .hbm, ⟨20, _⟩ => ⟨S2x6x1024x256, .bf16⟩
  | .hbm, ⟨21, _⟩ => ⟨S2x6x256x512, .fp8e4m3⟩
  | .hbm, ⟨22, _⟩ => ⟨S6x2x256, .f32⟩
  | .local _ .vmem, ⟨0, _⟩ => ⟨S2x64x2304, .bf16⟩
  | .local _ .vmem, ⟨1, _⟩ => ⟨S2x64x2304, .bf16⟩
  | .local _ .vmem, ⟨2, _⟩ => ⟨S2x64x1536, .bf16⟩
  | .local _ .vmem, ⟨3, _⟩ => ⟨S2x64x1536, .bf16⟩
  | .local _ .vmem, ⟨4, _⟩ => ⟨S2x64x1536, .bf16⟩
  | .local _ .vmem, ⟨5, _⟩ => ⟨S2x64x1536, .bf16⟩
  | .local _ .vmem, ⟨6, _⟩ => ⟨S2x64x3072, .bf16⟩
  | .local _ .vmem, ⟨7, _⟩ => ⟨S2x64x3072, .bf16⟩
  | .local _ .vmem, ⟨8, _⟩ => ⟨S2x64x3072, .bf16⟩
  | .local _ .vmem, ⟨9, _⟩ => ⟨S2x64x3072, .bf16⟩
  | .local _ .vmem, ⟨10, _⟩ => ⟨S32x2304, .fp8e4m3⟩
  | .local _ .vmem, ⟨11, _⟩ => ⟨S72x32, .i8⟩
  | .local _ .vmem, ⟨12, _⟩ => ⟨S1x6, .f32⟩
  | .local _ .vmem, ⟨13, _⟩ => ⟨S1x6, .f32⟩
  | .local _ .vmem, ⟨14, _⟩ => ⟨S1x512, .f32⟩
  | .local _ .vmem, ⟨15, _⟩ => ⟨S2x6x256x512, .fp8e4m3⟩
  | .local _ .vmem, ⟨16, _⟩ => ⟨S6x2x256, .f32⟩
  | .local _ .vmem, ⟨17, _⟩ => ⟨S2x64x3072, .bf16⟩
  | .local _ .vmem, ⟨18, _⟩ => ⟨S2x64x3072, .bf16⟩
  | .local _ .vmem, ⟨19, _⟩ => ⟨S2x64x3072, .bf16⟩
  | .local _ .vmem, ⟨20, _⟩ => ⟨S2x64x3072, .bf16⟩
  | .local _ .vmem, ⟨21, _⟩ => ⟨S2x6x64x512, .bf16⟩
  | .local _ .vmem, ⟨22, _⟩ => ⟨S2x6x64x512, .bf16⟩
  | .local _ .vmem, ⟨23, _⟩ => ⟨S2x6x64x256, .bf16⟩
  | .local _ .vmem, ⟨24, _⟩ => ⟨S2x6x64x256, .bf16⟩
  | .local _ .vmem, ⟨25, _⟩ => ⟨S2x6x256x512, .fp8e4m3⟩
  | .local _ .vmem, ⟨26, _⟩ => ⟨S6x2x256, .f32⟩
  | .local _ .vmem, ⟨27, _⟩ => ⟨S2x6x256x512, .f32⟩
  | .local _ .vmem, ⟨28, _⟩ => ⟨S32x2304, .bf16⟩
  | _, _ => ⟨S2x1024x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v8799 : BitVec 1 := Scalar.cmpi .eq arg0 c15_i32
  let v8800 : BitVec 32 := Scalar.extui v8799
  let c0_i32_2945 : BitVec 32 := 0#32
  let v8801 : BitVec 1 := Scalar.cmpi .ne v8800 c0_i32_2945
  v8801

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x64x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x2304 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S72x32 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x6x256x512 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x2x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x64x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x64x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x6x64x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x6x64x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S2x6x256x512 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S6x2x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== RecRefIdeal.lean ====
abbrev S2x1024x2304 : Shape := ⟨3, ![2, 1024, 2304]⟩
abbrev S2x1024x1536 : Shape := ⟨3, ![2, 1024, 1536]⟩
abbrev S2x1024x3072 : Shape := ⟨3, ![2, 1024, 3072]⟩
abbrev S32x2304 : Shape := ⟨2, ![32, 2304]⟩
abbrev S32x72 : Shape := ⟨2, ![32, 72]⟩
abbrev S6 : Shape := ⟨1, ![6]⟩
abbrev S512 : Shape := ⟨1, ![512]⟩
abbrev S2x6x256x512 : Shape := ⟨4, ![2, 6, 256, 512]⟩
abbrev S2x6x256 : Shape := ⟨3, ![2, 6, 256]⟩
abbrev S_ : Shape := ⟨0, ![]⟩
abbrev S32x72x32 : Shape := ⟨3, ![32, 72, 32]⟩
abbrev S32x72x1 : Shape := ⟨3, ![32, 72, 1]⟩
abbrev S2x1024x32 : Shape := ⟨3, ![2, 1024, 32]⟩
abbrev S2x1024x6 : Shape := ⟨3, ![2, 1024, 6]⟩
abbrev S2x1024x6x256 : Shape := ⟨4, ![2, 1024, 6, 256]⟩
abbrev S2x1024x6x1 : Shape := ⟨4, ![2, 1024, 6, 1]⟩
abbrev S2x1024x6x512 : Shape := ⟨4, ![2, 1024, 6, 512]⟩
abbrev S1x1x6 : Shape := ⟨3, ![1, 1, 6]⟩
abbrev S2x16x64x6x256 : Shape := ⟨5, ![2, 16, 64, 6, 256]⟩
abbrev S16x2x6x64x256 : Shape := ⟨5, ![16, 2, 6, 64, 256]⟩
abbrev S2x16x64x6x512 : Shape := ⟨5, ![2, 16, 64, 6, 512]⟩
abbrev S16x2x6x64x512 : Shape := ⟨5, ![16, 2, 6, 64, 512]⟩
abbrev S2x16x64x6 : Shape := ⟨4, ![2, 16, 64, 6]⟩
abbrev S16x2x6x64 : Shape := ⟨4, ![16, 2, 6, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S16x2x6x64x1 : Shape := ⟨5, ![16, 2, 6, 64, 1]⟩
abbrev S16x2x6x1x64 : Shape := ⟨5, ![16, 2, 6, 1, 64]⟩
abbrev S16x2x6x64x64 : Shape := ⟨5, ![16, 2, 6, 64, 64]⟩
abbrev S1x1x1x64x64 : Shape := ⟨5, ![1, 1, 1, 64, 64]⟩
abbrev S2x6x16x64x512 : Shape := ⟨5, ![2, 6, 16, 64, 512]⟩
abbrev S2x6x1024x512 : Shape := ⟨4, ![2, 6, 1024, 512]⟩
abbrev S2x6x16x64x256 : Shape := ⟨5, ![2, 6, 16, 64, 256]⟩
abbrev S2x6x1024x256 : Shape := ⟨4, ![2, 6, 1024, 256]⟩

abbrev nBuf : Space → Nat
  | .hbm => 156
  | .vmem => 2
  | .smem => 0
  | _ => 0

abbrev hbmTy0_0 (i : Nat) : BufTy := match i % 128 with
  | 0 => ⟨S2x1024x2304, .bf16⟩
  | 1 => ⟨S2x1024x1536, .bf16⟩
  | 2 => ⟨S2x1024x1536, .bf16⟩
  | 3 => ⟨S2x1024x3072, .bf16⟩
  | 4 => ⟨S2x1024x3072, .bf16⟩
  | 5 => ⟨S32x2304, .fp8e4m3⟩
  | 6 => ⟨S32x72, .i8⟩
  | 7 => ⟨S6, .f32⟩
  | 8 => ⟨S6, .f32⟩
  | 9 => ⟨S512, .f32⟩
  | 10 => ⟨S2x6x256x512, .fp8e4m3⟩
  | 11 => ⟨S2x6x256, .f32⟩
  | 12 => ⟨S32x72, .i32⟩
  | 13 => ⟨S_, .i32⟩
  | 14 => ⟨S32x72, .i32⟩
  | 15 => ⟨S32x72, .i32⟩
  | 16 => ⟨S32x72, .f32⟩
  | 17 => ⟨S_, .f32⟩
  | 18 => ⟨S32x72, .f32⟩
  | 19 => ⟨S32x72, .f32⟩
  | 20 => ⟨S32x72, .bf16⟩
  | 21 => ⟨S32x2304, .bf16⟩
  | 22 => ⟨S32x72x32, .bf16⟩
  | 23 => ⟨S32x72x1, .bf16⟩
  | 24 => ⟨S32x72x32, .bf16⟩
  | 25 => ⟨S32x72x32, .bf16⟩
  | 26 => ⟨S32x2304, .bf16⟩
  | 27 => ⟨S2x1024x32, .f32⟩
  | 28 => ⟨S2x1024x32, .bf16⟩
  | 29 => ⟨S2x1024x6, .bf16⟩
  | 30 => ⟨S2x1024x6, .bf16⟩
  | 31 => ⟨S2x1024x1536, .f32⟩
  | 32 => ⟨S2x1024x6x256, .f32⟩
  | 33 => ⟨S2x1024x6x256, .f32⟩
  | 34 => ⟨S_, .f32⟩
  | 35 => ⟨S2x1024x6, .f32⟩
  | 36 => ⟨S2x1024x6x1, .f32⟩
  | 37 => ⟨S_, .f32⟩
  | 38 => ⟨S2x1024x6x1, .f32⟩
  | 39 => ⟨S2x1024x6x1, .f32⟩
  | 40 => ⟨S2x1024x6x1, .f32⟩
  | 41 => ⟨S2x1024x6x256, .f32⟩
  | 42 => ⟨S2x1024x6x256, .f32⟩
  | 43 => ⟨S2x1024x3072, .f32⟩
  | 44 => ⟨S2x1024x6x512, .f32⟩
  | 45 => ⟨S6, .f32⟩
  | 46 => ⟨S6, .f32⟩
  | 47 => ⟨S2x1024x6, .f32⟩
  | 48 => ⟨S1x1x6, .f32⟩
  | 49 => ⟨S2x1024x6, .f32⟩
  | 50 => ⟨S2x1024x6, .f32⟩
  | 51 => ⟨S_, .f32⟩
  | 52 => ⟨S2x1024x6, .f32⟩
  | 53 => ⟨S2x1024x6, .f32⟩
  | 54 => ⟨S2x1024x6, .f32⟩
  | 55 => ⟨S2x1024x6, .f32⟩
  | 56 => ⟨S2x1024x6, .i1⟩
  | 57 => ⟨S2x1024x6, .f32⟩
  | 58 => ⟨S2x1024x6, .f32⟩
  | 59 => ⟨S2x1024x6, .f32⟩
  | 60 => ⟨S2x1024x6, .f32⟩
  | 61 => ⟨S2x1024x6, .f32⟩
  | 62 => ⟨S2x1024x6, .f32⟩
  | 63 => ⟨S2x1024x6, .f32⟩
  | 64 => ⟨S2x1024x6, .f32⟩
  | 65 => ⟨S1x1x6, .f32⟩
  | 66 => ⟨S2x1024x6, .f32⟩
  | 67 => ⟨S2x1024x6, .f32⟩
  | 68 => ⟨S2x1024x6, .f32⟩
  | 69 => ⟨S2x1024x6, .f32⟩
  | 70 => ⟨S2x1024x6, .f32⟩
  | 71 => ⟨S_, .f32⟩
  | 72 => ⟨S2x1024x6, .f32⟩
  | 73 => ⟨S2x1024x6, .f32⟩
  | 74 => ⟨S_, .f32⟩
  | 75 => ⟨S2x1024x6, .f32⟩
  | 76 => ⟨S2x1024x6, .f32⟩
  | 77 => ⟨S2x16x64x6x256, .f32⟩
  | 78 => ⟨S16x2x6x64x256, .f32⟩
  | 79 => ⟨S2x16x64x6x512, .f32⟩
  | 80 => ⟨S16x2x6x64x512, .f32⟩
  | 81 => ⟨S2x16x64x6, .f32⟩
  | 82 => ⟨S16x2x6x64, .f32⟩
  | 83 => ⟨S2x16x64x6, .f32⟩
  | 84 => ⟨S16x2x6x64, .f32⟩
  | 85 => ⟨S_, .f32⟩
  | 86 => ⟨S_, .f32⟩
  | 87 => ⟨S16x2x6x64, .f32⟩
  | 88 => ⟨S16x2x6x64, .f32⟩
  | 89 => ⟨S64, .i32⟩
  | 90 => ⟨S64x1, .i32⟩
  | 91 => ⟨S1x64, .i32⟩
  | 92 => ⟨S64x64, .i32⟩
  | 93 => ⟨S64x64, .i32⟩
  | 94 => ⟨S64x64, .i1⟩
  | 95 => ⟨S16x2x6x64x1, .f32⟩
  | 96 => ⟨S16x2x6x1x64, .f32⟩
  | 97 => ⟨S16x2x6x64x64, .f32⟩
  | 98 => ⟨S16x2x6x64x64, .f32⟩
  | 99 => ⟨S16x2x6x64x64, .f32⟩
  | 100 => ⟨S_, .f32⟩
  | 101 => ⟨S_, .f32⟩
  | 102 => ⟨S16x2x6x64x64, .i1⟩
  | 103 => ⟨S16x2x6x64x64, .f32⟩
  | 104 => ⟨S16x2x6x64x64, .f32⟩
  | 105 => ⟨S16x2x6x64x64, .f32⟩
  | 106 => ⟨S_, .f32⟩
  | 107 => ⟨S_, .f32⟩
  | 108 => ⟨S16x2x6x64x64, .i1⟩
  | 109 => ⟨S16x2x6x64x64, .f32⟩
  | 110 => ⟨S16x2x6x64x64, .f32⟩
  | 111 => ⟨S16x2x6x64x64, .f32⟩
  | 112 => ⟨S16x2x6x64x1, .f32⟩
  | 113 => ⟨S16x2x6x64x64, .f32⟩
  | 114 => ⟨S16x2x6x64x64, .f32⟩
  | 115 => ⟨S16x2x6x64x64, .f32⟩
  | 116 => ⟨S64x64, .i32⟩
  | 117 => ⟨S64x64, .i32⟩
  | 118 => ⟨S_, .i32⟩
  | 119 => ⟨S64x64, .i32⟩
  | 120 => ⟨S64x64, .i32⟩
  | 121 => ⟨S64x64, .i1⟩
  | 122 => ⟨S64x64, .f32⟩
  | 123 => ⟨S1x1x1x64x64, .f32⟩
  | 124 => ⟨S16x2x6x64x64, .f32⟩
  | 125 => ⟨S16x2x6x64x64, .f32⟩
  | 126 => ⟨S16x2x6x64x64, .f32⟩
  | 127 => ⟨S16x2x6x64x64, .f32⟩
  | _ => ⟨S2x1024x2304, .bf16⟩

abbrev hbmTy0_1 (i : Nat) : BufTy := match i % 128 with
  | 0 => ⟨S16x2x6x64x64, .f32⟩
  | 1 => ⟨S16x2x6x64x64, .f32⟩
  | 2 => ⟨S16x2x6x64x64, .f32⟩
  | 3 => ⟨S16x2x6x64x64, .f32⟩
  | 4 => ⟨S16x2x6x64x64, .f32⟩
  | 5 => ⟨S16x2x6x64x64, .f32⟩
  | 6 => ⟨S16x2x6x64x64, .f32⟩
  | 7 => ⟨S16x2x6x64x64, .f32⟩
  | 8 => ⟨S16x2x6x64x64, .f32⟩
  | 9 => ⟨S16x2x6x64x64, .f32⟩
  | 10 => ⟨S16x2x6x64x64, .f32⟩
  | 11 => ⟨S16x2x6x64x64, .f32⟩
  | 12 => ⟨S16x2x6x64x64, .f32⟩
  | 13 => ⟨S16x2x6x64, .f32⟩
  | 14 => ⟨S16x2x6x64x1, .f32⟩
  | 15 => ⟨S16x2x6x64x256, .f32⟩
  | 16 => ⟨S16x2x6x64x256, .f32⟩
  | 17 => ⟨S16x2x6x64x256, .f32⟩
  | 18 => ⟨S16x2x6x64x256, .bf16⟩
  | 19 => ⟨S16x2x6x64x1, .f32⟩
  | 20 => ⟨S16x2x6x64x512, .f32⟩
  | 21 => ⟨S16x2x6x64x512, .f32⟩
  | 22 => ⟨S16x2x6x64x512, .f32⟩
  | 23 => ⟨S16x2x6x64x512, .bf16⟩
  | 24 => ⟨S2x6x16x64x512, .bf16⟩
  | 25 => ⟨S2x6x1024x512, .bf16⟩
  | 26 => ⟨S2x6x16x64x256, .bf16⟩
  | 27 => ⟨S2x6x1024x256, .bf16⟩
  | _ => ⟨S2x1024x2304, .bf16⟩

abbrev hbmTy (i : Nat) : BufTy := match i / 128 with
  | 0 => hbmTy0_0 i
  | 1 => hbmTy0_1 i
  | _ => ⟨S2x1024x2304, .bf16⟩

abbrev bufTy : (tb : Table) → Fin (tcTables nBuf tb) → BufTy
  | .hbm, ⟨i, _⟩ => hbmTy i
  | .local _ .vmem, ⟨0, _⟩ => ⟨S32x2304, .fp8e4m3⟩
  | .local _ .vmem, ⟨1, _⟩ => ⟨S32x2304, .bf16⟩
  | _, _ => ⟨S2x1024x2304, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_2 : Ref sig .tc := ⟨.hbm, 71, rfl⟩
abbrev main_v42 : Ref sig .tc := ⟨.hbm, 72, rfl⟩
abbrev main_v43 : Ref sig .tc := ⟨.hbm, 73, rfl⟩
abbrev main_cst_3 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call1_call0_cst : Ref sig .tc := ⟨.hbm, 85, rfl⟩
abbrev main_call1_call0_v0 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_4 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v67 : Ref sig .tc := ⟨.hbm, 104, rfl⟩
abbrev main_v68 : Ref sig .tc := ⟨.hbm, 105, rfl⟩
abbrev main_cst_5 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_6 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S32x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Dequant.lean ====
/-
  The mxfp8 weights as the kernel unpacks them, read at one element, for every call that multiplies by such weights. A block of the weights
  holds some output rows; along a row, 32 neighbouring codes share one scale byte `s`, which stands for the factor 2 ^ (s - 127). The kernel
  makes a row's factors by shifting the bytes into the exponent field of an f32, lays them in the first lanes of a register, and for every
  128 codes gathers each lane's factor from there.
-/
module

public import Idealize.ShloMosaic.PureOps
public import Idealize.ShloMosaic.PureOps.Ideal.Laws
public import Idealize.ShloMosaic.Lib.ValueIdx
public import Idealize.ShloMosaic.Lib.MatmulPlain
public import Idealize.ShloMosaic.Lib.ValueLayout
public import Idealize.ShloMosaic.Lib.Pipeline.Value

@[expose] public section

set_option maxRecDepth 16384

noncomputable section

open Idealize.ShloMosaic Idealize.ShloMosaic.ValueIdx

namespace Cert.Dequant

/-- A matrix of `m` rows and `n` columns. -/
abbrev Mat (m n : Nat) : Shape := ⟨2, ![m, n]⟩

/-- The same with a trailing axis of extent one. -/
abbrev Mat1 (m n : Nat) : Shape := ⟨3, ![m, n, 1]⟩

/-! ## One scale byte's factor -/

/-- The byte's factor as the kernel makes it: the byte in the exponent field of an f32 pattern. -/
def kfac (s : BitVec 8) : EReal := Ideal.ofBits .f32 (IntOp.shli .vector (s.setWidth 32) 23#32)

/-- The byte's factor as the reference writes it: two to the power of the byte less 127. -/
def rfac (s : BitVec 8) : EReal :=
  Ideal.pow (Ideal.ofBits .f32 0x40000000#32) (((IntOp.subi (s.setWidth 32) 127#32).toInt : ℝ) : EReal)

/-- The exponent field of the shifted byte is the byte, the sign is plus and the fraction zero. -/
theorem fields : ∀ s : BitVec 8,
    ((IntOp.shli .vector (s.setWidth 32) 23#32).extractLsb' (8 + 23) 1 == 1#1) = false
    ∧ ((IntOp.shli .vector (s.setWidth 32) 23#32).extractLsb' 23 8).toNat = s.toNat
    ∧ ((IntOp.shli .vector (s.setWidth 32) 23#32).extractLsb' 0 23).toNat = 0
    ∧ (IntOp.subi (s.setWidth 32) 127#32).toInt = (s.toNat : Int) - 127 := by decide +kernel

/-- The pattern `0x40000000` is two. -/
theorem ofBits_two : Ideal.ofBits .f32 0x40000000#32 = ((2 : ℝ) : EReal) := by
  simp [Ideal.ofBits, Ideal.ieee, -EReal.coe_mul]; norm_num

/-- A significand of one with exponent `n - 127`, as the f32 pattern is read, is two to the power `n - 127`. -/
theorem two_rpow (n : ℕ) :
    (if false = true then (-1 : ℝ) else 1) * ((2 ^ 23 + 0 : ℕ) : ℝ) * 2 ^ ((n : ℤ) - (2 ^ (8 - 1) - 1) - ((23 : ℕ) : ℤ))
      = Real.rpow 2 (((n : ℤ) - 127 : ℤ) : ℝ) := by
  have h : Real.rpow 2 (((n : ℤ) - 127 : ℤ) : ℝ) = (2 : ℝ) ^ ((n : ℤ) - 127) := Real.rpow_intCast 2 _
  rw [h, show ((n : ℤ) - 127) = 23 + ((n : ℤ) - 127 - 23) by ring, zpow_add₀ (by norm_num)]
  norm_num

/-- For every byte but 0 and 255 the two factors are the same number. -/
theorem kfac_eq_rfac (s : BitVec 8) (h0 : s ≠ 0#8) (h1 : s ≠ 255#8) : kfac s = rfac s := by
  obtain ⟨hn, he, hf, hi⟩ := fields s
  have e0 : s.toNat ≠ 0 := fun h => h0 (BitVec.eq_of_toNat_eq h)
  have e1 : s.toNat ≠ 255 := fun h => h1 (BitVec.eq_of_toNat_eq h)
  unfold kfac rfac
  rw [ofBits_two, hi]
  show Ideal.ieee 8 23 _ = _
  unfold Ideal.ieee
  dsimp only
  rw [hn, he, hf]
  rw [if_neg (by simpa using e1), if_neg e0]
  exact congrArg Real.toEReal (two_rpow s.toNat)

/-! ## The lane's group -/

/-- `l // 32` as the kernel computes it on a lane number: the quotient rounded toward zero, corrected where the signs differ. -/
def groupWord (b : BitVec 32) : BitVec 32 :=
  Scalar.select
    (IntOp.andi
      (IntOp.cmpi .ne (IntOp.subi ((IntOp.cmpi .sgt b 0#32).setWidth 32) ((IntOp.cmpi .slt b 0#32).setWidth 32))
        (Scalar.subi (Scalar.extui (Scalar.cmpi .sgt 32#32 0#32)) (Scalar.extui (Scalar.cmpi .slt 32#32 0#32))))
      (IntOp.cmpi .ne (IntOp.remsi .vector b 32#32) 0#32))
    (IntOp.subi (IntOp.divsi .vector b 32#32) 1#32) (IntOp.divsi .vector b 32#32)

theorem groupWord_eq : ∀ l : Fin 128, groupWord (BitVec.ofNat 32 l.val) = BitVec.ofNat 32 (l.val / 32) := by decide +kernel

/-- The group's place among the factors of slab `j`, as the kernel wraps it: a negative index would be taken from the end. -/
def wrapWord (g c : BitVec 32) : BitVec 32 :=
  Scalar.select (IntOp.cmpi .slt (IntOp.addi g c) 0#32) (IntOp.addi (IntOp.addi g c) 128#32) (IntOp.addi g c)

theorem wrapWord_eq : ∀ (g : Fin 4) (j : Fin 24),
    (wrapWord (BitVec.ofNat 32 g.val) (BitVec.ofNat 32 (4 * j.val))).toNat % 128 = 4 * j.val + g.val := by decide +kernel

section Payloads

variable {F : FTy → Type} [FloatOps F]

/-- Every lane's group of 32. -/
def group {R : Nat} (h : (Mat R 128).Iotas .tc 32 [1]) : IVec (Mat R 128) 32 := fun i => groupWord (iota .tc (Mat R 128) 32 [1] h i)

/-- One slab of 128 unpacked codes: the codes times the factors gathered at each lane's group, counted from `c`. -/
def slab {R : Nat} (h1 : (Mat R 128).ShapeCasts (Mat1 R 128)) (h2 : (Mat1 R 128).ShapeCasts (Mat R 128))
    (h3 : (Mat R 128).ShapeCasts (Mat R 128)) (hb : FTy.bits .bf16 < FTy.bits .f32) (h8 : FTy.bits .fp8e4m3 < FTy.bits .bf16)
    (fac : FVec F (Mat R 128) .f32) (g : IVec (Mat R 128) 32) (c : BitVec 32) (codes : FVec F (Mat R 128) .fp8e4m3) :
    FVec F (Mat R 128) .bf16 :=
  shapeCast (Mat R 128)
    (mulf (extf .bf16 codes h8)
      (truncf .bf16
        (dynamicGather 1 fac
          (shapeCast (Mat R 128) (shapeCast (Mat1 R 128) (fun i => wrapWord (g i) c : IVec (Mat R 128) 32) h1) h2)) hb)) h3

/-- A row's factors in the first lanes of a register, zeros after them. -/
def factors {R nb np : Nat} (ht : (Mat nb R).Transposes [1, 0] (Mat R nb)) (hs : (Mat nb R).ShapeCasts (Mat nb R))
    (hc : Shape.Concatenates [Mat R nb, Mat R np] (Mat R 128) 1)
    (hb : FTy.bits .bf16 < FTy.bits .f32) (scales : IVec (Mat nb R) 8) : FVec F (Mat R 128) .f32 :=
  extf .f32 (concatenate (Mat R 128) 1
    [⟨Mat R nb, truncf .bf16 (bitcastToFloat .f32 (shli (transpose (Mat R nb) [1, 0] (extui 32 (shapeCast (Mat nb R) scales hs) (by decide)) ht)
        (broadcast (Mat R nb) 23#32))) hb⟩,
     ⟨Mat R np, broadcast (Mat R np) (Scalar.ofBits .bf16 0x0000#16 : F .bf16)⟩] hc) hb

end Payloads

/-- A slab read at one element, over the reals: the code times the factor of its group. -/
theorem slab_apply {R : Nat} (h1 h2 h3 hb h8) (hi : (Mat R 128).Iotas .tc 32 [1]) (fac : FVec Ideal (Mat R 128) .f32) (j : Fin 24)
    (codes : FVec Ideal (Mat R 128) .fp8e4m3) (r : Fin R) (l : Fin 128) :
    slab h1 h2 h3 hb h8 fac (group hi) (BitVec.ofNat 32 (4 * j.val)) codes (ix2 r l)
      = codes (ix2 r l) * fac (ix2 r ⟨4 * j.val + l.val / 32, by omega⟩) := by
  unfold slab
  rw [shapeCast_self, shapeCast_shapeCast]
  show codes (ix2 r l) * fac _ = _
  congr 2
  funext b
  match b with
  | ⟨0, _⟩ => rfl
  | ⟨1, _⟩ =>
    apply Fin.ext
    show (wrapWord (group hi (ix2 r l)) _).toNat % 128 = _
    unfold group
    rw [iota_single_apply]
    show (wrapWord (groupWord (BitVec.ofNat 32 l.val)) _).toNat % 128 = _
    rw [groupWord_eq, wrapWord_eq ⟨l.val / 32, by omega⟩ j]

/-- The factors read at one element, over the reals: lane `b` of row `r` holds the factor of scale byte `(b, r)` of the block. -/
theorem factors_apply {R nb np : Nat} (ht hs hc hb) (scales : IVec (Mat nb R) 8) (r : Fin R) (b : Fin 128) (hlt : b.val < nb) :
    factors (F := Ideal) (nb := nb) (np := np) ht hs hc hb scales (ix2 r b) = kfac (scales (ix2 ⟨b.val, hlt⟩ r)) := by
  unfold factors
  show concatenate (Mat R 128) 1 [⟨Mat R nb, _⟩, ⟨Mat R np, _⟩] hc (ix2 r b) = _
  rw [concatenate_pair_apply_left (t := Mat R 128) (s₁ := Mat R nb) (s₂ := Mat R np) 1 _ _ hc (ix2 r b) rfl (ix2 r ⟨b.val, hlt⟩)
    (fun a => match a with | ⟨0, _⟩ => rfl | ⟨1, _⟩ => rfl)]
  show Ideal.ofBits .f32 (IntOp.shli .vector (transpose (Mat R nb) [1, 0] _ ht (ix2 r ⟨b.val, hlt⟩)) 23#32) = _
  rw [transpose_ix2_apply, shapeCast_self]
  rfl

/-! ## The unpacked weights and the product with them -/

/-- The unpacked weight `(n, k)`: its code times the factor of its group of 32 along the row; `scales` holds the groups' bytes, groups first. -/
def weight {N K nb : Nat} (hK : K ≤ 32 * nb) (codes : FVec Ideal (Mat N K) .fp8e4m3) (scales : IVec (Mat nb N) 8) (n : Fin N) (k : Fin K) : EReal :=
  codes (ix2 n k) * kfac (scales (ix2 ⟨k.val / 32, by omega⟩ n))

/-- Slab `j` of a block of `R` rows holds the unpacked weights of the rows' codes `128 j … 128 j + 127`. -/
theorem slab_weight {R K nb np : Nat} (hK : K ≤ 32 * nb) (h1 h2 h3 hb h8) (hi : (Mat R 128).Iotas .tc 32 [1]) (ht hs hc) (j : Fin 24)
    (hj : 128 * j.val + 128 ≤ K) (codes : FVec Ideal (Mat R K) .fp8e4m3) (scales : IVec (Mat nb R) 8)
    (sl : FVec Ideal (Mat R 128) .fp8e4m3) (r : Fin R) (l : Fin 128) (hsl : sl (ix2 r l) = codes (ix2 r ⟨128 * j.val + l.val, by omega⟩)) :
    slab (F := Ideal) h1 h2 h3 hb h8 (factors (nb := nb) (np := np) ht hs hc hb scales) (group hi) (BitVec.ofNat 32 (4 * j.val)) sl (ix2 r l)
      = weight hK codes scales r ⟨128 * j.val + l.val, by omega⟩ := by
  rw [slab_apply, factors_apply ht hs hc hb scales r ⟨4 * j.val + l.val / 32, by omega⟩ (by simp only; omega), hsl]
  unfold weight
  have e : 4 * j.val + l.val / 32 = (128 * j.val + l.val) / 32 := by omega
  simp only [e]

/-- A block of `R` rows of unpacked weights. -/
def weights {R K nb : Nat} (hK : K ≤ 32 * nb) (codes : FVec Ideal (Mat R K) .fp8e4m3) (scales : IVec (Mat nb R) 8) :
    FVec Ideal (Mat R K) .bf16 := fun i => weight hK codes scales (i 0) (i 1)

/-- The same, of the slab as the kernel stores it: through the rectangle it is stored to, from the codes loaded through the same rectangle. -/
theorem slab_piece {R K nb np : Nat} (hK : K ≤ 32 * nb) (h1 h2 h3 hb h8) (hi : (Mat R 128).Iotas .tc 32 [1]) (ht hs hc) (j : Fin 24)
    (codes : FVec Ideal (Mat R K) .fp8e4m3) (scales : IVec (Mat nb R) 8)
    (inb : ∀ a, (![0, 128 * j.val] : Fin 2 → Nat) a + (![R, 128] : Fin 2 → Nat) a ≤ (Mat R K).size a) :
    ∀ x : (Mat R 128).Idx,
    slab (F := Ideal) h1 h2 h3 hb h8 (factors (nb := nb) (np := np) ht hs hc hb scales) (group hi) (BitVec.ofNat 32 (4 * j.val))
        (View.ld (Val := Elt Ideal) (e' := .fp8e4m3) codes (Rect.unit (s := Mat R K) ![0, 128 * j.val] ![R, 128] inb)) x
      = weights hK codes scales ((Rect.unit (s := Mat R K) ![0, 128 * j.val] ![R, 128] inb).emb x) := by
  intro x
  have hk : 128 * j.val + 128 ≤ K := inb 1
  have e : (Rect.unit (s := Mat R K) ![0, 128 * j.val] ![R, 128] inb).emb x = ix2 (x 0) (⟨128 * j.val + (x 1).val, by have := (x 1).isLt; change _ < 128 at this; omega⟩ : Fin K) := by
    funext a
    apply Fin.ext
    match a with
    | ⟨0, _⟩ => show 0 + 1 * (x 0).val = (x 0).val; omega
    | ⟨1, _⟩ => show 128 * j.val + 1 * (x 1).val = 128 * j.val + (x 1).val; omega
  rw [e]
  refine (congrArg (slab (F := Ideal) h1 h2 h3 hb h8 _ _ _ _) (eq_ix2 x)).trans ?_
  refine slab_weight hK h1 h2 h3 hb h8 hi ht hs hc j hk codes scales _ (x 0) (x 1) ?_
  exact (congrArg (fun y => codes ((Rect.unit (s := Mat R K) ![0, 128 * j.val] ![R, 128] inb).idx y)) (eq_ix2 x).symm).trans (congrArg codes e)

/-- The product of `x`'s rows with the unpacked weights' rows. -/
def proj {M N K nb : Nat} (hK : K ≤ 32 * nb) (x : FVec Ideal (Mat M K) .bf16) (codes : FVec Ideal (Mat N K) .fp8e4m3)
    (scales : IVec (Mat nb N) 8) (m : Fin M) (n : Fin N) : EReal :=
  ∑ k : Fin K, x (ix2 m k) * weight hK codes scales n k

/-- A stack of two matrices of 1024 rows and `K` columns. -/
abbrev Stack (K : Nat) : Shape := ⟨3, ![2, 1024, K]⟩

/-- The whole product, at row `i 0` of the 2048 and column `i 1`: the rows of `x`, 1024 to a sequence, against the rows of the weights, each
    code times the factor `fac` gives its group's scale byte. -/
def full (fac : BitVec 8 → EReal) {N K nb : Nat} (hK : K ≤ 32 * nb) (x : FVec Ideal (Stack K) .bf16) (codes : FVec Ideal (Mat N K) .fp8e4m3)
    (scales : IVec (Mat N nb) 8) : FVec Ideal (Mat 2048 N) .bf16 := fun i =>
  ∑ k : Fin K, x (ix3 ⟨(i 0).val / 1024, Nat.div_lt_of_lt_mul (i 0).isLt⟩ ⟨(i 0).val % 1024, Nat.mod_lt _ (by decide)⟩ k)
    * (codes (ix2 (i 1) k) * fac (scales (ix2 (i 1) ⟨k.val / 32, by omega⟩)))

/-- Where no scale byte is 0 or 255, the kernel's factors and the reference's give the same product. -/
theorem full_congr {N K nb : Nat} (hK : K ≤ 32 * nb) (x : FVec Ideal (Stack K) .bf16) (codes : FVec Ideal (Mat N K) .fp8e4m3)
    (scales : IVec (Mat N nb) 8) (h : ∀ i, scales i ≠ 0#8 ∧ scales i ≠ 255#8) :
    full kfac hK x codes scales = full rfac hK x codes scales := by
  funext i
  unfold full
  refine Finset.sum_congr rfl fun k _ => ?_
  rw [kfac_eq_rfac _ (h _).1 (h _).2]

/-- The precondition at one byte: both comparisons hold where their conjunction does. -/
theorem normal_of_pre : ∀ s : BitVec 8, IntOp.andi (IntOp.cmpi .ne s 0#8) (IntOp.cmpi .ne s 255#8) = 1#1 → s ≠ 0#8 ∧ s ≠ 255#8 := by decide +kernel

end Cert.Dequant

end
-- ==== Proof.GateValue.lean ====
/-
  The gate projection: what the kernel leaves in its result array, over the reals. Each of its 12 grid points unpacks 256 rows of weights
  slab by slab into a scratch block and multiplies all 2048 rows of the activations with it, so the array ends at the whole product
  (`Dequant.full`) with the factors the kernel makes; the reference's result is the same product with the factors written as powers of two.
-/
module

public import proofs.«01_k».proof.Defs
public import proofs.«01_k».proof.Proof.Gen.GateIdeal.Value
public import proofs.«01_k».proof.Proof.Gen.GateRefIdeal.Read
public import proofs.«01_k».proof.Proof.Gen.Pre_gate_scales_normal
public import proofs.«01_k».proof.Proof.Dequant

@[expose] public section

set_option maxRecDepth 16384

noncomputable section

open Idealize.ShloMosaic Idealize.ShloMosaic.TcCoe Idealize.SL.Sem Idealize.ShloMosaic.ValueIdx
open Idealize.ShloMosaic.Pipeline (Dat)

/-! ## The kernel -/

namespace Cert.GateIdeal.RefValue

open Cert.GateIdeal Cert.GateIdeal.Gen Cert.Dequant

theorem hz : (![0, 0] : Fin 2 → Nat) = fun _ => 0 := funext fun a => by fin_cases a <;> rfl

/-- Slab `j` of the block as this kernel stores it: the slab's unpacked weights. -/
theorem piece (j : Fin 24) (codes : FVec Ideal (Mat 256 2304) .fp8e4m3) (scales : IVec (Mat 72 256) 8)
    (inb : ∀ a, (![0, 128 * j.val] : Fin 2 → Nat) a + (![256, 128] : Fin 2 → Nat) a ≤ (Mat 256 2304).size a) (x : (Mat 256 128).Idx) :
    slab (F := Ideal) shapeCasts_S256x128_S256x128x1 shapeCasts_S256x128x1_S256x128 shapeCasts_S256x128_S256x128 bitsLt_bf16_f32 bitsLt_fp8e4m3_bf16
        (factors (nb := 72) (np := 56) transposes_S72x256_p1_0_S256x72 shapeCasts_S72x256_S72x256 concatenates_S256x72_S256x56_S256x128_d1
          bitsLt_bf16_f32 scales) (group iota_S256x128_d1_w32) (BitVec.ofNat 32 (4 * j.val))
        (View.ld (Val := Elt Ideal) (e' := .fp8e4m3) codes (Rect.unit (s := Mat 256 2304) ![0, 128 * j.val] ![256, 128] inb)) x
      = weights (nb := 72) (by decide) codes scales ((Rect.unit (s := Mat 256 2304) ![0, 128 * j.val] ![256, 128] inb).emb x) :=
  slab_piece (K := 2304) (nb := 72) (np := 56) (by decide) _ _ _ _ _ _ _ _ _ j codes scales inb x

/-- One grid point's block of the result, at one element: row `a` of the activations against row `b` of the point's unpacked weights. -/
theorem block_apply (c : Dev nD) (i : grid0.Coords) (arg1 : Memref sig .tc .vmem S2048x2304 .bf16) (harg1 : arg1.IsWhole)
    (arg2 : Memref sig .tc .vmem S256x2304 .fp8e4m3) (harg2 : arg2.IsWhole) (arg3 : Memref sig .tc .vmem S72x256 .i8) (harg3 : arg3.IsWhole)
    (arg4 : Memref sig .tc .vmem S2048x256 .bf16) (harg4 : arg4.IsWhole) (arg5 : Memref sig .tc .vmem S256x2304 .bf16) (harg5 : arg5.IsWhole)
    (x0 : Vec Ideal S2048x2304 .bf16) (x1 : Vec Ideal S256x2304 .fp8e4m3) (x2 : Vec Ideal S72x256 .i8) (a : Fin 2048) (b : Fin 256) :
    out0_A_3 c i arg1 harg1 arg2 harg2 arg3 harg3 arg4 harg4 arg5 harg5 x0 x1 x2 (ix2 a b) = proj (nb := 72) (by decide) x0 x1 x2 a b := by
  unfold out0_A_3
  rw [View.read_writes_junk_eq_canon]
  unfold kernelRun0_A
  dsimp only
  sl_unfold_words
  rw [View.canon_unit_zero (S := S2048x256) hz]
  simp only [View.readCov_eq_canon']
  simp only [View.readAt_eq_ld, harg1.read_unread, harg2.read_unread, harg3.read_unread, View.ld_unit_zero (S := S72x256) hz,
    View.ld_unit_zero (S := S2048x2304) hz]
  refine (congrArg (fun W => k0_pay2 x0 W (ix2 a b)) (funext fun j => ?_ : _ = weights (nb := 72) (by decide) x1 x2)).trans ?_
  · refine (View.canon_apply_of_pieces (weights (nb := 72) (by decide) x1 x2) _ ?_ _ (View.cover_of_tiledL _ ![256, 128] (by sl_kernel_rfl) _)).trans ?_
    · refine List.forall_mem_cons.2 ⟨piece 17 x1 x2 _, ?_⟩
      refine List.forall_mem_cons.2 ⟨piece 16 x1 x2 _, ?_⟩
      refine List.forall_mem_cons.2 ⟨piece 15 x1 x2 _, ?_⟩
      refine List.forall_mem_cons.2 ⟨piece 14 x1 x2 _, ?_⟩
      refine List.forall_mem_cons.2 ⟨piece 13 x1 x2 _, ?_⟩
      refine List.forall_mem_cons.2 ⟨piece 12 x1 x2 _, ?_⟩
      refine List.forall_mem_cons.2 ⟨piece 11 x1 x2 _, ?_⟩
      refine List.forall_mem_cons.2 ⟨piece 10 x1 x2 _, ?_⟩
      refine List.forall_mem_cons.2 ⟨piece 9 x1 x2 _, ?_⟩
      refine List.forall_mem_cons.2 ⟨piece 8 x1 x2 _, ?_⟩
      refine List.forall_mem_cons.2 ⟨piece 7 x1 x2 _, ?_⟩
      refine List.forall_mem_cons.2 ⟨piece 6 x1 x2 _, ?_⟩
      refine List.forall_mem_cons.2 ⟨piece 5 x1 x2 _, ?_⟩
      refine List.forall_mem_cons.2 ⟨piece 4 x1 x2 _, ?_⟩
      refine List.forall_mem_cons.2 ⟨piece 3 x1 x2 _, ?_⟩
      refine List.forall_mem_cons.2 ⟨piece 2 x1 x2 _, ?_⟩
      refine List.forall_mem_cons.2 ⟨piece 1 x1 x2 _, ?_⟩
      refine List.forall_mem_cons.2 ⟨piece 0 x1 x2 _, ?_⟩
      exact fun _ h => absurd h List.not_mem_nil
    · refine congrArg _ ?_
      funext t
      apply Fin.ext
      match t with
      | ⟨0, _⟩ => show 0 + 1 * (j 0).val = (j 0).val; omega
      | ⟨1, _⟩ => show 0 + 1 * (j 1).val = (j 1).val; omega
  · unfold k0_pay2
    rw [shapeCast_self]
    refine (Ideal.matmul_transposedRhs_apply (M := 2048) (K := 2304) (N := 256) (φ₁ := .bf16) (φ₂ := .bf16) none x0
      (weights (nb := 72) (by decide) x1 x2) _ a b).trans ?_
    show Ideal.ofBits .f32 0x00000000#32 + _ = _
    rw [Ideal.ofBits_zero_f32, zero_add]
    rfl

variable (m : (ℓ : Loc nD τ sig) → Buf (Elt Ideal) ℓ)

/-- The activations as the region finds them: the argument's two sequences one after the other. -/
theorem V_main_v0 (c : Dev nD) : V m c main_v0 = shapeCast S2048x2304 (m ((c : Thread nD τ).loc main_arg0)) shapeCasts_S2x1024x2304_S2048x2304 := by
  show StableHlo.after hostOps0 _ (Proc.devRef .tc main_v0) = _
  simp only [hostOps0]
  after_results <;> rfl

/-- The scale bytes as the region finds them: the argument transposed. -/
theorem V_main_v1 (c : Dev nD) :
    V m c main_v1 = transpose S72x3072 [1, 0] (m ((c : Thread nD τ).loc main_arg2)) transposes_S3072x72_S72x3072_1_0 := by
  show StableHlo.after hostOps0 _ (Proc.devRef .tc main_v1) = _
  simp only [hostOps0]
  after_results <;> rfl

/-- Which blocks grid point `t` works on: all of the activations, row block `t` of the codes, column block `t` of the scales and the result. -/
theorem index_eq : ∀ t : Fin cfg0.N, win0_0.index t 0 = 0 ∧ win0_0.index t 1 = 0 ∧ win0_1.index t 0 = t.val ∧ win0_1.index t 1 = 0
    ∧ win0_2.index t 0 = 0 ∧ win0_2.index t 1 = t.val ∧ win0_3.index t 0 = 0 ∧ win0_3.index t 1 = t.val ∧ t.val < 12 :=
  (by decide +kernel : ∀ t : Fin grid0.N, win0_0.index t 0 = 0 ∧ win0_0.index t 1 = 0 ∧ win0_1.index t 0 = t.val ∧ win0_1.index t 1 = 0
    ∧ win0_2.index t 0 = 0 ∧ win0_2.index t 1 = t.val ∧ win0_3.index t 0 = 0 ∧ win0_3.index t 1 = t.val ∧ t.val < 12)

theorem iblk0_apply (c : Dev nD) (t : Fin cfg0.N) (a : Fin 2048) (k : Fin 2304) :
    iblk m c 0 t (ix2 a k) = m ((c : Thread nD τ).loc main_arg0)
      (ix3 ⟨a.val / 1024, Nat.div_lt_of_lt_mul a.isLt⟩ ⟨a.val % 1024, Nat.mod_lt _ (by decide)⟩ k) := by
  obtain ⟨e0, e1, -⟩ := index_eq t
  have e : (win0_0.rect t).emb (ix2 a k) = (ix2 a k : (Mat 2048 2304).Idx) := by
    funext d
    apply Fin.ext
    match d with
    | ⟨0, _⟩ => show win0_0.index t 0 * 2048 + 1 * a.val = a.val; rw [e0]; omega
    | ⟨1, _⟩ => show win0_0.index t 1 * 2304 + 1 * k.val = k.val; rw [e1]; omega
  show V m c main_v0 ((win0_0.rect t).emb (ix2 a k)) = _
  rw [V_main_v0]
  refine (congrArg _ e).trans ?_
  refine shapeCast_apply _ _ _ _ ?_
  show ((Stack 2304).rowMajor (ix3 _ _ _)).val = ((Mat 2048 2304).rowMajor (ix2 a k)).val
  rewrite [Shape.rowMajor_val_three, Shape.rowMajor_val_two]
  show (a.val / 1024 * 1024 + a.val % 1024) * 2304 + k.val = a.val * 2304 + k.val
  omega

theorem iblk1_apply (c : Dev nD) (t : Fin cfg0.N) (b : Fin 256) (k : Fin 2304) (n : Fin 3072) (hn : n.val = 256 * t.val + b.val) :
    iblk m c 1 t (ix2 b k) = m ((c : Thread nD τ).loc main_arg1) (ix2 n k) := by
  obtain ⟨-, -, e0, e1, -⟩ := index_eq t
  have e : (win0_1.rect t).emb (ix2 b k) = (ix2 n k : (Mat 3072 2304).Idx) := by
    funext d
    apply Fin.ext
    match d with
    | ⟨0, _⟩ => show win0_1.index t 0 * 256 + 1 * b.val = n.val; rw [e0]; omega
    | ⟨1, _⟩ => show win0_1.index t 1 * 2304 + 1 * k.val = k.val; rw [e1]; omega
  show V m c main_arg1 ((win0_1.rect t).emb (ix2 b k)) = _
  rw [V_main_arg1]
  exact congrArg _ e

theorem iblk2_apply (c : Dev nD) (t : Fin cfg0.N) (g : Fin 72) (b : Fin 256) (n : Fin 3072) (hn : n.val = 256 * t.val + b.val) :
    iblk m c 2 t (ix2 g b) = m ((c : Thread nD τ).loc main_arg2) (ix2 n g) := by
  obtain ⟨-, -, -, -, e0, e1, -⟩ := index_eq t
  have e : (win0_2.rect t).emb (ix2 g b) = (ix2 g n : (Mat 72 3072).Idx) := by
    funext d
    apply Fin.ext
    match d with
    | ⟨0, _⟩ => show win0_2.index t 0 * 72 + 1 * g.val = g.val; rw [e0]; omega
    | ⟨1, _⟩ => show win0_2.index t 1 * 256 + 1 * b.val = n.val; rw [e1]; omega
  show V m c main_v1 ((win0_2.rect t).emb (ix2 g b)) = _
  rw [V_main_v1]
  refine (congrArg _ e).trans ?_
  exact transpose_ix2_apply _ _ _ _

/-- The whole product of device `c`'s arguments, with the factors the kernel makes. -/
abbrev whole (c : Dev nD) : FVec Ideal (Mat 2048 3072) .bf16 :=
  full kfac (N := 3072) (K := 2304) (nb := 72) (by decide) (m ((c : Thread nD τ).loc main_arg0)) (m ((c : Thread nD τ).loc main_arg1))
    (m ((c : Thread nD τ).loc main_arg2))

/-- What grid point `t` writes back is its block of the whole product. -/
theorem flushed_eq (c : Dev nD) (t : Fin cfg0.N) :
    (dats m 0 c).flushed 3 t = (win0_3.blk t).view.read (Elt Ideal) (whole m c) := by
  rw [Value.flushed3_A]
  obtain ⟨-, -, -, -, -, -, e0, e1, ht⟩ := index_eq t
  funext y
  obtain ⟨a, b, rfl⟩ : ∃ (a : Fin 2048) (b : Fin 256), y = ix2 a b := ⟨y 0, y 1, eq_ix2 y⟩
  have hb : 256 * t.val + b.val < 3072 := by omega
  have e : (win0_3.rect t).emb (ix2 a b) = (ix2 a ⟨256 * t.val + b.val, hb⟩ : (Mat 2048 3072).Idx) := by
    funext d
    apply Fin.ext
    match d with
    | ⟨0, _⟩ => show win0_3.index t 0 * 2048 + 1 * a.val = a.val; rw [e0]; omega
    | ⟨1, _⟩ => show win0_3.index t 1 * 256 + 1 * b.val = 256 * t.val + b.val; rw [e1]; omega
  refine (block_apply c _ _ _ _ _ _ _ _ _ _ _ _ _ _ a b).trans ?_
  show _ = whole m c ((win0_3.rect t).emb (ix2 a b))
  refine Eq.trans ?_ (congrArg (whole m c) e).symm
  unfold whole proj full weight
  refine Finset.sum_congr rfl fun k _ => ?_
  rw [iblk0_apply, iblk1_apply m c t b k ⟨256 * t.val + b.val, hb⟩ rfl, iblk2_apply m c t _ b ⟨256 * t.val + b.val, hb⟩ rfl]

/-- An index of the result array whose column is among the 256 of block `t` is in that block. -/
theorem mem_blk (t : Fin cfg0.N) (i : S2048x3072.Idx) (h : 256 * t.val ≤ (i 1).val ∧ (i 1).val < 256 * t.val + 256) :
    i ∈ ((cfg0.win 3).blk t).view.set := by
  have h0 : (i 0).val < 2048 := (i 0).isLt
  obtain ⟨-, -, -, -, -, -, e0, e1, -⟩ := index_eq t
  show i ∈ ((View.whole main_v2).slice (win0_3.rect t)).set
  rw [View.set_slice_whole, Rect.mem_set_unit]
  intro a
  match a with
  | ⟨0, _⟩ => show win0_3.index t 0 * 2048 ≤ (i 0).val ∧ (i 0).val < win0_3.index t 0 * 2048 + 2048
              rw [e0]; omega
  | ⟨1, _⟩ => show win0_3.index t 1 * 256 ≤ (i 1).val ∧ (i 1).val < win0_3.index t 1 * 256 + 256
              rw [e1]; omega

/-- The blocks tile the result array: column `n` is in block `n / 256`. -/
theorem cover (i : S2048x3072.Idx) : ∃ t : Fin cfg0.N, (cfg0.win 3).flush t = true ∧ i ∈ ((cfg0.win 3).blk t).view.set := by
  have h1 : (i 1).val < 3072 := (i 1).isLt
  have hN : cfg0.N = 12 := N_0
  refine ⟨⟨(i 1).val / 256, by omega⟩, flush0_3 _, mem_blk _ i ?_⟩
  dsimp only
  omega

/-- So the result array ends at the whole product. -/
theorem final (c : Dev nD) : (dats m 0 c).arrAt 3 cfg0.N = whole m c :=
  (dats m 0 c).arrAt_eq_of_cover 3 (whole m c) (fun t _ => flushed_eq m c t) cover

end Cert.GateIdeal.RefValue

/-! ## The reference -/

namespace Cert.GateRefIdeal.RefValue

open Cert.GateRefIdeal Cert.GateRefIdeal.Gen Cert.Dequant

variable (m : (ℓ : Loc nD τ sig) → Buf (Elt Ideal) ℓ)

theorem hz : (![0, 0] : Fin 2 → Nat) = fun _ => 0 := funext fun a => by fin_cases a <;> rfl

/-- The codes, which the reference's one region widens: over the reals the codes themselves. -/
abbrev codes (c : Dev nD) : FVec Ideal (Mat 3072 2304) .bf16 := extf .bf16 (m ((c : Thread nD τ).loc main_arg1)) bitsLt_fp8e4m3_bf16

theorem widen_flushed (c : Dev nD) (t : Fin cfg0.N) :
    (dats m 0 c).flushed 1 t = (win0_1.blk t).view.read (Elt Ideal) (codes m c) := by
  show (cfg0.win 1).cut (grid0.coords t) ((dats m 0 c).after 1 t) = _
  rw [after0_1]
  unfold out0_1
  rw [View.canon_unit_zero hz, View.ld_unit_zero hz]
  unfold iblk codes
  rw [show V m c (Pipeline.arrRef spec0 0) = m ((c : Thread nD τ).loc main_arg1) from V_main_arg1 m c]
  rfl

theorem widen_mem (t : Fin cfg0.N) (i : S3072x2304.Idx) : i ∈ ((cfg0.win 1).blk t).view.set := by
  have h0 : (i 0).val < 3072 := (i 0).isLt
  have h1 : (i 1).val < 2304 := (i 1).isLt
  show i ∈ ((View.whole main_v7).slice (win0_1.rect t)).set
  rw [View.set_slice_whole, Rect.mem_set_unit]
  have e : ∀ t : Fin cfg0.N, win0_1.index t 0 = 0 ∧ win0_1.index t 1 = 0 :=
    (by decide +kernel : ∀ t : Fin grid0.N, win0_1.index t 0 = 0 ∧ win0_1.index t 1 = 0)
  intro a
  match a with
  | ⟨0, _⟩ => show win0_1.index t 0 * 3072 ≤ (i 0).val ∧ (i 0).val < win0_1.index t 0 * 3072 + 3072
              rw [(e t).1]; omega
  | ⟨1, _⟩ => show win0_1.index t 1 * 2304 ≤ (i 1).val ∧ (i 1).val < win0_1.index t 1 * 2304 + 2304
              rw [(e t).2]; omega

theorem widen_cover (i : S3072x2304.Idx) : ∃ t : Fin cfg0.N, (cfg0.win 1).flush t = true ∧ i ∈ ((cfg0.win 1).blk t).view.set :=
  have hN : cfg0.N = 1 := N_0
  ⟨⟨0, by omega⟩, flush0_1 _, widen_mem _ i⟩

theorem widen (c : Dev nD) : Value.reg_main_v7 m c = codes m c :=
  (dats m 0 c).arrAt_eq_of_cover 1 (codes m c) (fun t _ => widen_flushed m c t) widen_cover

/-- The factors the reference broadcasts over each group, before the region. -/
abbrev facs (scales : IVec (Mat 3072 72) 8) : FVec Ideal (Mat 3072 72) .bf16 :=
  truncf .bf16 (Host.powf (broadcastInDim S3072x72 ![] bcast_S_S3072x72 (constant S_ .f32 0x40000000#32))
    (sitofp .f32 (subi (extui 32 scales natLt_8_32) (broadcastInDim S3072x72 ![] bcast_S_S3072x72 (constantI S_ 32 127#32))))) bitsLt_bf16_f32

theorem facs_apply (scales : IVec (Mat 3072 72) 8) (i : (Mat 3072 72).Idx) : facs scales i = rfac (scales i) := rfl

/-- The reference's result is the whole product with the factors written as powers of two. -/
theorem result_eq (x : FVec Ideal (Stack 2304) .bf16) (w : FVec Ideal (Mat 3072 2304) .fp8e4m3) (scales : IVec (Mat 3072 72) 8) :
    Read.val_main_v15 (F := Ideal) x (extf .bf16 w bitsLt_fp8e4m3_bf16) (facs scales) = full rfac (nb := 72) (by decide) x w scales := by
  funext i
  rw [Read.val_main_v15_apply, Read.val_main_v14_apply, Read.val_main_v13_apply]
  show (∑ k : Fin 2304, _) = _
  unfold full
  refine Finset.sum_congr rfl fun k _ => ?_
  have h0 : (i 0).val < 2048 := (i 0).isLt
  have h1 : (i 1).val < 3072 := (i 1).isLt
  have hk : k.val < 2304 := k.isLt
  congr 1
  · refine congrArg x ?_
    funext a
    apply Fin.ext
    match a with
    | ⟨0, _⟩ => show ((i 0).val * 3072 + (i 1).val) / 3145728 = (i 0).val / 1024; omega
    | ⟨1, _⟩ => show ((i 0).val * 3072 + (i 1).val) / 3072 % 1024 = (i 0).val % 1024; omega
    | ⟨2, _⟩ => rfl
  · rw [Read.val_main_v12_apply, Read.val_main_v11_apply, Read.val_main_v8_apply, Read.val_main_v10_apply, Read.val_main_v9_apply, facs_apply]
    show w _ * rfac _ = _
    congr 1
    · refine congrArg w ?_
      funext a
      apply Fin.ext
      match a with
      | ⟨0, _⟩ =>
        show ((((((i 0).val * 3072 + (i 1).val) % 3072) * 2304 + k.val) / 2304 * 72 + ((((i 0).val * 3072 + (i 1).val) % 3072) * 2304 + k.val) / 32 % 72) * 32
          + ((((i 0).val * 3072 + (i 1).val) % 3072) * 2304 + k.val) % 32) / 2304 = (i 1).val
        omega
      | ⟨1, _⟩ =>
        show ((((((i 0).val * 3072 + (i 1).val) % 3072) * 2304 + k.val) / 2304 * 72 + ((((i 0).val * 3072 + (i 1).val) % 3072) * 2304 + k.val) / 32 % 72) * 32
          + ((((i 0).val * 3072 + (i 1).val) % 3072) * 2304 + k.val) % 32) % 2304 = k.val
        omega
    · refine congrArg (fun j => rfac (scales j)) ?_
      funext a
      apply Fin.ext
      match a with
      | ⟨0, _⟩ => show ((((i 0).val * 3072 + (i 1).val) % 3072) * 2304 + k.val) / 2304 = (i 1).val; omega
      | ⟨1, _⟩ => show ((((i 0).val * 3072 + (i 1).val) % 3072) * 2304 + k.val) / 32 % 72 = k.val / 32; omega

end Cert.GateRefIdeal.RefValue

/-! ## The claims -/

namespace Cert.Proof.GateClaims

open Cert.Dequant

/-- Over the reals, where no scale byte is 0 or 255, the kernel and the reference end with equal results and unchanged arguments. -/
theorem algebraic : Cert.algebraic_GateIdeal_GateRefIdeal_pre_gate_scales_normal := fun m g m' g' hpre hag => by
  refine ⟨fun c => Cert.GateIdeal.RefValue.whole m c, ?_, ?_⟩
  · exact (θ_run Cert.GateIdeal.defs _ _).mono (fun _ h c => ⟨(h c).1.trans (Cert.GateIdeal.RefValue.final m c), (h c).2⟩)
      (Cert.GateIdeal.Value.run_blocks m g)
  · refine (θ_run Cert.GateRefIdeal.defs _ _).mono (fun _ h c => ⟨(h c).1.trans ?_, (h c).2⟩) (Cert.GateRefIdeal.Value.run m' g')
    rw [Cert.GateRefIdeal.RefValue.widen]
    refine (Cert.GateRefIdeal.RefValue.result_eq _ _ _).trans ?_
    rw [(hag c).1, (hag c).2.1, (hag c).2.2]
    exact (full_congr _ _ _ _ fun i => normal_of_pre _ (congrFun (hpre c) i)).symm

end Cert.Proof.GateClaims

end
-- ==== Proof.OutValue.lean ====
/-
  The out projection: what the kernel leaves in its result array, over the reals. Each of its 9 grid points unpacks 256 rows of weights
  slab by slab into a scratch block and multiplies all 2048 rows of the activations with it, so the array ends at the whole product
  (`Dequant.full`) with the factors the kernel makes; the reference's result is the same product with the factors written as powers of two.
-/
module

public import proofs.«01_k».proof.Defs
public import proofs.«01_k».proof.Proof.Gen.OutIdeal.Value
public import proofs.«01_k».proof.Proof.Gen.OutRefIdeal.Read
public import proofs.«01_k».proof.Proof.Gen.Pre_out_scales_normal
public import proofs.«01_k».proof.Proof.Dequant

@[expose] public section

set_option maxRecDepth 16384

noncomputable section

open Idealize.ShloMosaic Idealize.ShloMosaic.TcCoe Idealize.SL.Sem Idealize.ShloMosaic.ValueIdx
open Idealize.ShloMosaic.Pipeline (Dat)

/-! ## The kernel -/

namespace Cert.OutIdeal.RefValue

open Cert.OutIdeal Cert.OutIdeal.Gen Cert.Dequant

theorem hz : (![0, 0] : Fin 2 → Nat) = fun _ => 0 := funext fun a => by fin_cases a <;> rfl

/-- Slab `j` of the block as this kernel stores it: the slab's unpacked weights. -/
theorem piece (j : Fin 24) (codes : FVec Ideal (Mat 256 3072) .fp8e4m3) (scales : IVec (Mat 96 256) 8)
    (inb : ∀ a, (![0, 128 * j.val] : Fin 2 → Nat) a + (![256, 128] : Fin 2 → Nat) a ≤ (Mat 256 3072).size a) (x : (Mat 256 128).Idx) :
    slab (F := Ideal) shapeCasts_S256x128_S256x128x1 shapeCasts_S256x128x1_S256x128 shapeCasts_S256x128_S256x128 bitsLt_bf16_f32 bitsLt_fp8e4m3_bf16
        (factors (nb := 96) (np := 32) transposes_S96x256_p1_0_S256x96 shapeCasts_S96x256_S96x256 concatenates_S256x96_S256x32_S256x128_d1
          bitsLt_bf16_f32 scales) (group iota_S256x128_d1_w32) (BitVec.ofNat 32 (4 * j.val))
        (View.ld (Val := Elt Ideal) (e' := .fp8e4m3) codes (Rect.unit (s := Mat 256 3072) ![0, 128 * j.val] ![256, 128] inb)) x
      = weights (nb := 96) (by decide) codes scales ((Rect.unit (s := Mat 256 3072) ![0, 128 * j.val] ![256, 128] inb).emb x) :=
  slab_piece (K := 3072) (nb := 96) (np := 32) (by decide) _ _ _ _ _ _ _ _ _ j codes scales inb x

/-- One grid point's block of the result, at one element: row `a` of the activations against row `b` of the point's unpacked weights. -/
theorem block_apply (c : Dev nD) (i : grid0.Coords) (arg1 : Memref sig .tc .vmem S2048x3072 .bf16) (harg1 : arg1.IsWhole)
    (arg2 : Memref sig .tc .vmem S256x3072 .fp8e4m3) (harg2 : arg2.IsWhole) (arg3 : Memref sig .tc .vmem S96x256 .i8) (harg3 : arg3.IsWhole)
    (arg4 : Memref sig .tc .vmem S2048x256 .bf16) (harg4 : arg4.IsWhole) (arg5 : Memref sig .tc .vmem S256x3072 .bf16) (harg5 : arg5.IsWhole)
    (x0 : Vec Ideal S2048x3072 .bf16) (x1 : Vec Ideal S256x3072 .fp8e4m3) (x2 : Vec Ideal S96x256 .i8) (a : Fin 2048) (b : Fin 256) :
    out0_A_3 c i arg1 harg1 arg2 harg2 arg3 harg3 arg4 harg4 arg5 harg5 x0 x1 x2 (ix2 a b) = proj (nb := 96) (by decide) x0 x1 x2 a b := by
  unfold out0_A_3
  rw [View.read_writes_junk_eq_canon]
  unfold kernelRun0_A
  dsimp only
  sl_unfold_words
  rw [View.canon_unit_zero (S := S2048x256) hz]
  simp only [View.readCov_eq_canon']
  simp only [View.readAt_eq_ld, harg1.read_unread, harg2.read_unread, harg3.read_unread, View.ld_unit_zero (S := S96x256) hz,
    View.ld_unit_zero (S := S2048x3072) hz]
  refine (congrArg (fun W => k0_pay39 x0 W (ix2 a b)) (funext fun j => ?_ : _ = weights (nb := 96) (by decide) x1 x2)).trans ?_
  · refine (View.canon_apply_of_pieces (weights (nb := 96) (by decide) x1 x2) _ ?_ _ (View.cover_of_tiledL _ ![256, 128] (by sl_kernel_rfl) _)).trans ?_
    · refine List.forall_mem_cons.2 ⟨piece 23 x1 x2 _, ?_⟩
      refine List.forall_mem_cons.2 ⟨piece 22 x1 x2 _, ?_⟩
      refine List.forall_mem_cons.2 ⟨piece 21 x1 x2 _, ?_⟩
      refine List.forall_mem_cons.2 ⟨piece 20 x1 x2 _, ?_⟩
      refine List.forall_mem_cons.2 ⟨piece 19 x1 x2 _, ?_⟩
      refine List.forall_mem_cons.2 ⟨piece 18 x1 x2 _, ?_⟩
      refine List.forall_mem_cons.2 ⟨piece 17 x1 x2 _, ?_⟩
      refine List.forall_mem_cons.2 ⟨piece 16 x1 x2 _, ?_⟩
      refine List.forall_mem_cons.2 ⟨piece 15 x1 x2 _, ?_⟩
      refine List.forall_mem_cons.2 ⟨piece 14 x1 x2 _, ?_⟩
      refine List.forall_mem_cons.2 ⟨piece 13 x1 x2 _, ?_⟩
      refine List.forall_mem_cons.2 ⟨piece 12 x1 x2 _, ?_⟩
      refine List.forall_mem_cons.2 ⟨piece 11 x1 x2 _, ?_⟩
      refine List.forall_mem_cons.2 ⟨piece 10 x1 x2 _, ?_⟩
      refine List.forall_mem_cons.2 ⟨piece 9 x1 x2 _, ?_⟩
      refine List.forall_mem_cons.2 ⟨piece 8 x1 x2 _, ?_⟩
      refine List.forall_mem_cons.2 ⟨piece 7 x1 x2 _, ?_⟩
      refine List.forall_mem_cons.2 ⟨piece 6 x1 x2 _, ?_⟩
      refine List.forall_mem_cons.2 ⟨piece 5 x1 x2 _, ?_⟩
      refine List.forall_mem_cons.2 ⟨piece 4 x1 x2 _, ?_⟩
      refine List.forall_mem_cons.2 ⟨piece 3 x1 x2 _, ?_⟩
      refine List.forall_mem_cons.2 ⟨piece 2 x1 x2 _, ?_⟩
      refine List.forall_mem_cons.2 ⟨piece 1 x1 x2 _, ?_⟩
      refine List.forall_mem_cons.2 ⟨piece 0 x1 x2 _, ?_⟩
      exact fun _ h => absurd h List.not_mem_nil
    · refine congrArg _ ?_
      funext t
      apply Fin.ext
      match t with
      | ⟨0, _⟩ => show 0 + 1 * (j 0).val = (j 0).val; omega
      | ⟨1, _⟩ => show 0 + 1 * (j 1).val = (j 1).val; omega
  · unfold k0_pay39
    rw [shapeCast_self]
    refine (Ideal.matmul_transposedRhs_apply (M := 2048) (K := 3072) (N := 256) (φ₁ := .bf16) (φ₂ := .bf16) none x0
      (weights (nb := 96) (by decide) x1 x2) _ a b).trans ?_
    show Ideal.ofBits .f32 0x00000000#32 + _ = _
    rw [Ideal.ofBits_zero_f32, zero_add]
    rfl

variable (m : (ℓ : Loc nD τ sig) → Buf (Elt Ideal) ℓ)

/-- The activations as the region finds them: the argument's two sequences one after the other. -/
theorem V_main_v0 (c : Dev nD) : V m c main_v0 = shapeCast S2048x3072 (m ((c : Thread nD τ).loc main_arg0)) shapeCasts_S2x1024x3072_S2048x3072 := by
  show StableHlo.after hostOps0 _ (Proc.devRef .tc main_v0) = _
  simp only [hostOps0]
  after_results <;> rfl

/-- The scale bytes as the region finds them: the argument transposed. -/
theorem V_main_v1 (c : Dev nD) :
    V m c main_v1 = transpose S96x2304 [1, 0] (m ((c : Thread nD τ).loc main_arg2)) transposes_S2304x96_S96x2304_1_0 := by
  show StableHlo.after hostOps0 _ (Proc.devRef .tc main_v1) = _
  simp only [hostOps0]
  after_results <;> rfl

/-- Which blocks grid point `t` works on: all of the activations, row block `t` of the codes, column block `t` of the scales and the result. -/
theorem index_eq : ∀ t : Fin cfg0.N, win0_0.index t 0 = 0 ∧ win0_0.index t 1 = 0 ∧ win0_1.index t 0 = t.val ∧ win0_1.index t 1 = 0
    ∧ win0_2.index t 0 = 0 ∧ win0_2.index t 1 = t.val ∧ win0_3.index t 0 = 0 ∧ win0_3.index t 1 = t.val ∧ t.val < 9 :=
  (by decide +kernel : ∀ t : Fin grid0.N, win0_0.index t 0 = 0 ∧ win0_0.index t 1 = 0 ∧ win0_1.index t 0 = t.val ∧ win0_1.index t 1 = 0
    ∧ win0_2.index t 0 = 0 ∧ win0_2.index t 1 = t.val ∧ win0_3.index t 0 = 0 ∧ win0_3.index t 1 = t.val ∧ t.val < 9)

theorem iblk0_apply (c : Dev nD) (t : Fin cfg0.N) (a : Fin 2048) (k : Fin 3072) :
    iblk m c 0 t (ix2 a k) = m ((c : Thread nD τ).loc main_arg0)
      (ix3 ⟨a.val / 1024, Nat.div_lt_of_lt_mul a.isLt⟩ ⟨a.val % 1024, Nat.mod_lt _ (by decide)⟩ k) := by
  obtain ⟨e0, e1, -⟩ := index_eq t
  have e : (win0_0.rect t).emb (ix2 a k) = (ix2 a k : (Mat 2048 3072).Idx) := by
    funext d
    apply Fin.ext
    match d with
    | ⟨0, _⟩ => show win0_0.index t 0 * 2048 + 1 * a.val = a.val; rw [e0]; omega
    | ⟨1, _⟩ => show win0_0.index t 1 * 3072 + 1 * k.val = k.val; rw [e1]; omega
  show V m c main_v0 ((win0_0.rect t).emb (ix2 a k)) = _
  rw [V_main_v0]
  refine (congrArg _ e).trans ?_
  refine shapeCast_apply _ _ _ _ ?_
  show ((Stack 3072).rowMajor (ix3 _ _ _)).val = ((Mat 2048 3072).rowMajor (ix2 a k)).val
  rewrite [Shape.rowMajor_val_three, Shape.rowMajor_val_two]
  show (a.val / 1024 * 1024 + a.val % 1024) * 3072 + k.val = a.val * 3072 + k.val
  omega

theorem iblk1_apply (c : Dev nD) (t : Fin cfg0.N) (b : Fin 256) (k : Fin 3072) (n : Fin 2304) (hn : n.val = 256 * t.val + b.val) :
    iblk m c 1 t (ix2 b k) = m ((c : Thread nD τ).loc main_arg1) (ix2 n k) := by
  obtain ⟨-, -, e0, e1, -⟩ := index_eq t
  have e : (win0_1.rect t).emb (ix2 b k) = (ix2 n k : (Mat 2304 3072).Idx) := by
    funext d
    apply Fin.ext
    match d with
    | ⟨0, _⟩ => show win0_1.index t 0 * 256 + 1 * b.val = n.val; rw [e0]; omega
    | ⟨1, _⟩ => show win0_1.index t 1 * 3072 + 1 * k.val = k.val; rw [e1]; omega
  show V m c main_arg1 ((win0_1.rect t).emb (ix2 b k)) = _
  rw [V_main_arg1]
  exact congrArg _ e

theorem iblk2_apply (c : Dev nD) (t : Fin cfg0.N) (g : Fin 96) (b : Fin 256) (n : Fin 2304) (hn : n.val = 256 * t.val + b.val) :
    iblk m c 2 t (ix2 g b) = m ((c : Thread nD τ).loc main_arg2) (ix2 n g) := by
  obtain ⟨-, -, -, -, e0, e1, -⟩ := index_eq t
  have e : (win0_2.rect t).emb (ix2 g b) = (ix2 g n : (Mat 96 2304).Idx) := by
    funext d
    apply Fin.ext
    match d with
    | ⟨0, _⟩ => show win0_2.index t 0 * 96 + 1 * g.val = g.val; rw [e0]; omega
    | ⟨1, _⟩ => show win0_2.index t 1 * 256 + 1 * b.val = n.val; rw [e1]; omega
  show V m c main_v1 ((win0_2.rect t).emb (ix2 g b)) = _
  rw [V_main_v1]
  refine (congrArg _ e).trans ?_
  exact transpose_ix2_apply _ _ _ _

/-- The whole product of device `c`'s arguments, with the factors the kernel makes. -/
abbrev whole (c : Dev nD) : FVec Ideal (Mat 2048 2304) .bf16 :=
  full kfac (N := 2304) (K := 3072) (nb := 96) (by decide) (m ((c : Thread nD τ).loc main_arg0)) (m ((c : Thread nD τ).loc main_arg1))
    (m ((c : Thread nD τ).loc main_arg2))

/-- What grid point `t` writes back is its block of the whole product. -/
theorem flushed_eq (c : Dev nD) (t : Fin cfg0.N) :
    (dats m 0 c).flushed 3 t = (win0_3.blk t).view.read (Elt Ideal) (whole m c) := by
  rw [Value.flushed3_A]
  obtain ⟨-, -, -, -, -, -, e0, e1, ht⟩ := index_eq t
  funext y
  obtain ⟨a, b, rfl⟩ : ∃ (a : Fin 2048) (b : Fin 256), y = ix2 a b := ⟨y 0, y 1, eq_ix2 y⟩
  have hb : 256 * t.val + b.val < 2304 := by omega
  have e : (win0_3.rect t).emb (ix2 a b) = (ix2 a ⟨256 * t.val + b.val, hb⟩ : (Mat 2048 2304).Idx) := by
    funext d
    apply Fin.ext
    match d with
    | ⟨0, _⟩ => show win0_3.index t 0 * 2048 + 1 * a.val = a.val; rw [e0]; omega
    | ⟨1, _⟩ => show win0_3.index t 1 * 256 + 1 * b.val = 256 * t.val + b.val; rw [e1]; omega
  refine (block_apply c _ _ _ _ _ _ _ _ _ _ _ _ _ _ a b).trans ?_
  show _ = whole m c ((win0_3.rect t).emb (ix2 a b))
  refine Eq.trans ?_ (congrArg (whole m c) e).symm
  unfold whole proj full weight
  refine Finset.sum_congr rfl fun k _ => ?_
  rw [iblk0_apply, iblk1_apply m c t b k ⟨256 * t.val + b.val, hb⟩ rfl, iblk2_apply m c t _ b ⟨256 * t.val + b.val, hb⟩ rfl]

/-- An index of the result array whose column is among the 256 of block `t` is in that block. -/
theorem mem_blk (t : Fin cfg0.N) (i : S2048x2304.Idx) (h : 256 * t.val ≤ (i 1).val ∧ (i 1).val < 256 * t.val + 256) :
    i ∈ ((cfg0.win 3).blk t).view.set := by
  have h0 : (i 0).val < 2048 := (i 0).isLt
  obtain ⟨-, -, -, -, -, -, e0, e1, -⟩ := index_eq t
  show i ∈ ((View.whole main_v2).slice (win0_3.rect t)).set
  rw [View.set_slice_whole, Rect.mem_set_unit]
  intro a
  match a with
  | ⟨0, _⟩ => show win0_3.index t 0 * 2048 ≤ (i 0).val ∧ (i 0).val < win0_3.index t 0 * 2048 + 2048
              rw [e0]; omega
  | ⟨1, _⟩ => show win0_3.index t 1 * 256 ≤ (i 1).val ∧ (i 1).val < win0_3.index t 1 * 256 + 256
              rw [e1]; omega

/-- The blocks tile the result array: column `n` is in block `n / 256`. -/
theorem cover (i : S2048x2304.Idx) : ∃ t : Fin cfg0.N, (cfg0.win 3).flush t = true ∧ i ∈ ((cfg0.win 3).blk t).view.set := by
  have h1 : (i 1).val < 2304 := (i 1).isLt
  have hN : cfg0.N = 9 := N_0
  refine ⟨⟨(i 1).val / 256, by omega⟩, flush0_3 _, mem_blk _ i ?_⟩
  dsimp only
  omega

/-- So the result array ends at the whole product. -/
theorem final (c : Dev nD) : (dats m 0 c).arrAt 3 cfg0.N = whole m c :=
  (dats m 0 c).arrAt_eq_of_cover 3 (whole m c) (fun t _ => flushed_eq m c t) cover

end Cert.OutIdeal.RefValue

/-! ## The reference -/

namespace Cert.OutRefIdeal.RefValue

open Cert.OutRefIdeal Cert.OutRefIdeal.Gen Cert.Dequant

variable (m : (ℓ : Loc nD τ sig) → Buf (Elt Ideal) ℓ)

theorem hz : (![0, 0] : Fin 2 → Nat) = fun _ => 0 := funext fun a => by fin_cases a <;> rfl

/-- The codes, which the reference's one region widens: over the reals the codes themselves. -/
abbrev codes (c : Dev nD) : FVec Ideal (Mat 2304 3072) .bf16 := extf .bf16 (m ((c : Thread nD τ).loc main_arg1)) bitsLt_fp8e4m3_bf16

theorem widen_flushed (c : Dev nD) (t : Fin cfg0.N) :
    (dats m 0 c).flushed 1 t = (win0_1.blk t).view.read (Elt Ideal) (codes m c) := by
  show (cfg0.win 1).cut (grid0.coords t) ((dats m 0 c).after 1 t) = _
  rw [after0_1]
  unfold out0_1
  rw [View.canon_unit_zero hz, View.ld_unit_zero hz]
  unfold iblk codes
  rw [show V m c (Pipeline.arrRef spec0 0) = m ((c : Thread nD τ).loc main_arg1) from V_main_arg1 m c]
  rfl

theorem widen_mem (t : Fin cfg0.N) (i : S2304x3072.Idx) : i ∈ ((cfg0.win 1).blk t).view.set := by
  have h0 : (i 0).val < 2304 := (i 0).isLt
  have h1 : (i 1).val < 3072 := (i 1).isLt
  show i ∈ ((View.whole main_v7).slice (win0_1.rect t)).set
  rw [View.set_slice_whole, Rect.mem_set_unit]
  have e : ∀ t : Fin cfg0.N, win0_1.index t 0 = 0 ∧ win0_1.index t 1 = 0 :=
    (by decide +kernel : ∀ t : Fin grid0.N, win0_1.index t 0 = 0 ∧ win0_1.index t 1 = 0)
  intro a
  match a with
  | ⟨0, _⟩ => show win0_1.index t 0 * 2304 ≤ (i 0).val ∧ (i 0).val < win0_1.index t 0 * 2304 + 2304
              rw [(e t).1]; omega
  | ⟨1, _⟩ => show win0_1.index t 1 * 3072 ≤ (i 1).val ∧ (i 1).val < win0_1.index t 1 * 3072 + 3072
              rw [(e t).2]; omega

theorem widen_cover (i : S2304x3072.Idx) : ∃ t : Fin cfg0.N, (cfg0.win 1).flush t = true ∧ i ∈ ((cfg0.win 1).blk t).view.set :=
  have hN : cfg0.N = 1 := N_0
  ⟨⟨0, by omega⟩, flush0_1 _, widen_mem _ i⟩

theorem widen (c : Dev nD) : Value.reg_main_v7 m c = codes m c :=
  (dats m 0 c).arrAt_eq_of_cover 1 (codes m c) (fun t _ => widen_flushed m c t) widen_cover

/-- The factors the reference broadcasts over each group, before the region. -/
abbrev facs (scales : IVec (Mat 2304 96) 8) : FVec Ideal (Mat 2304 96) .bf16 :=
  truncf .bf16 (Host.powf (broadcastInDim S2304x96 ![] bcast_S_S2304x96 (constant S_ .f32 0x40000000#32))
    (sitofp .f32 (subi (extui 32 scales natLt_8_32) (broadcastInDim S2304x96 ![] bcast_S_S2304x96 (constantI S_ 32 127#32))))) bitsLt_bf16_f32

theorem facs_apply (scales : IVec (Mat 2304 96) 8) (i : (Mat 2304 96).Idx) : facs scales i = rfac (scales i) := rfl

/-- The reference's result is the whole product with the factors written as powers of two. -/
theorem result_eq (x : FVec Ideal (Stack 3072) .bf16) (w : FVec Ideal (Mat 2304 3072) .fp8e4m3) (scales : IVec (Mat 2304 96) 8) :
    Read.val_main_v15 (F := Ideal) x (extf .bf16 w bitsLt_fp8e4m3_bf16) (facs scales) = full rfac (nb := 96) (by decide) x w scales := by
  funext i
  rw [Read.val_main_v15_apply, Read.val_main_v14_apply, Read.val_main_v13_apply]
  show (∑ k : Fin 3072, _) = _
  unfold full
  refine Finset.sum_congr rfl fun k _ => ?_
  have h0 : (i 0).val < 2048 := (i 0).isLt
  have h1 : (i 1).val < 2304 := (i 1).isLt
  have hk : k.val < 3072 := k.isLt
  congr 1
  · refine congrArg x ?_
    funext a
    apply Fin.ext
    match a with
    | ⟨0, _⟩ => show ((i 0).val * 2304 + (i 1).val) / 2359296 = (i 0).val / 1024; omega
    | ⟨1, _⟩ => show ((i 0).val * 2304 + (i 1).val) / 2304 % 1024 = (i 0).val % 1024; omega
    | ⟨2, _⟩ => rfl
  · rw [Read.val_main_v12_apply, Read.val_main_v11_apply, Read.val_main_v8_apply, Read.val_main_v10_apply, Read.val_main_v9_apply, facs_apply]
    show w _ * rfac _ = _
    congr 1
    · refine congrArg w ?_
      funext a
      apply Fin.ext
      match a with
      | ⟨0, _⟩ =>
        show ((((((i 0).val * 2304 + (i 1).val) % 2304) * 3072 + k.val) / 3072 * 96 + ((((i 0).val * 2304 + (i 1).val) % 2304) * 3072 + k.val) / 32 % 96) * 32
          + ((((i 0).val * 2304 + (i 1).val) % 2304) * 3072 + k.val) % 32) / 3072 = (i 1).val
        omega
      | ⟨1, _⟩ =>
        show ((((((i 0).val * 2304 + (i 1).val) % 2304) * 3072 + k.val) / 3072 * 96 + ((((i 0).val * 2304 + (i 1).val) % 2304) * 3072 + k.val) / 32 % 96) * 32
          + ((((i 0).val * 2304 + (i 1).val) % 2304) * 3072 + k.val) % 32) % 3072 = k.val
        omega
    · refine congrArg (fun j => rfac (scales j)) ?_
      funext a
      apply Fin.ext
      match a with
      | ⟨0, _⟩ => show ((((i 0).val * 2304 + (i 1).val) % 2304) * 3072 + k.val) / 3072 = (i 1).val; omega
      | ⟨1, _⟩ => show ((((i 0).val * 2304 + (i 1).val) % 2304) * 3072 + k.val) / 32 % 96 = k.val / 32; omega

end Cert.OutRefIdeal.RefValue

/-! ## The claims -/

namespace Cert.Proof.OutClaims

open Cert.Dequant

/-- Over the reals, where no scale byte is 0 or 255, the kernel and the reference end with equal results and unchanged arguments. -/
theorem algebraic : Cert.algebraic_OutIdeal_OutRefIdeal_pre_out_scales_normal := fun m g m' g' hpre hag => by
  refine ⟨fun c => Cert.OutIdeal.RefValue.whole m c, ?_, ?_⟩
  · exact (θ_run Cert.OutIdeal.defs _ _).mono (fun _ h c => ⟨(h c).1.trans (Cert.OutIdeal.RefValue.final m c), (h c).2⟩)
      (Cert.OutIdeal.Value.run_blocks m g)
  · refine (θ_run Cert.OutRefIdeal.defs _ _).mono (fun _ h c => ⟨(h c).1.trans ?_, (h c).2⟩) (Cert.OutRefIdeal.Value.run m' g')
    rw [Cert.OutRefIdeal.RefValue.widen]
    refine (Cert.OutRefIdeal.RefValue.result_eq _ _ _).trans ?_
    rw [(hag c).1, (hag c).2.1, (hag c).2.2]
    exact (full_congr _ _ _ _ fun i => normal_of_pre _ (congrFun (hpre c) i)).symm

end Cert.Proof.OutClaims

end
-- ==== Proof.ConvShared.lean ====
module

public import Idealize.ShloMosaic.Lib.Pipeline.Value
public import Idealize.ShloMosaic.Lib.Pipeline.FrameBody
public import Idealize.ShloMosaic.Lib.ValueIdx

/-! Facts about the convolution projections that do not depend on which of them it is: the tail's block
    of three rows by two sequences, stored one sequence at a time through a load and a store of the whole block. -/

@[expose] public section

set_option maxRecDepth 16384

noncomputable section

namespace Cert.Conv

open Idealize.ShloMosaic Idealize.ShloMosaic.ValueIdx

/-- A block of three rows, two sequences and 256 channels, and one sequence's part of it. -/
abbrev Tail : Shape := ⟨3, ![3, 2, 256]⟩
abbrev Plane : Shape := ⟨3, ![3, 1, 256]⟩

/-- The block whose first sequence is `p0` and whose second is `p1`. -/
def planes {α : Type} (p0 p1 : Plane.Idx → α) : Tail.Idx → α :=
  fun i => if (i 1).val = 0 then p0 (ix3 (i 0) 0 (i 2)) else p1 (ix3 (i 0) 0 (i 2))

/-- Replacing both sequences of a block leaves nothing of what it held. -/
theorem updates_eq {α : Type} (x : Tail.Idx → α) (p0 p1 : Plane.Idx → α)
    (h0 : Tail.Slices ![0, 0, 0] Plane) (h1 : Tail.Slices ![0, 1, 0] Plane) :
    updateSlice (updateSlice x p0 ![0, 0, 0] h0) p1 ![0, 1, 0] h1 = planes p0 p1 := by
  funext i
  have b0 : (i 0).val < 3 := (i 0).isLt
  have b1 : (i 1).val < 2 := (i 1).isLt
  have b2 : (i 2).val < 256 := (i 2).isLt
  unfold planes updateSlice
  by_cases hi : (i 1).val = 0
  · rw [dif_neg, dif_pos, if_pos hi]
    · congr 1; funext a; fin_cases a <;> apply Fin.ext
      · rfl
      · exact hi
      · rfl
    · intro a; fin_cases a
      · exact ⟨Nat.zero_le _, by simpa using b0⟩
      · exact ⟨Nat.zero_le _, by show (i 1).val < 0 + 1; omega⟩
      · exact ⟨Nat.zero_le _, by show (i 2).val < 0 + 256; omega⟩
    · intro h; have := (h 1).1; change 1 ≤ (i 1).val at this; omega
  · rw [dif_pos, if_neg hi]
    · congr 1; funext a; fin_cases a <;> apply Fin.ext
      · rfl
      · show (i 1).val - 1 = 0; omega
      · rfl
    · intro a; fin_cases a
      · exact ⟨Nat.zero_le _, by show (i 0).val < 0 + 3; omega⟩
      · exact ⟨by show 1 ≤ (i 1).val; omega, by show (i 1).val < 1 + 1; omega⟩
      · exact ⟨Nat.zero_le _, by show (i 2).val < 0 + 256; omega⟩

theorem zero3 : (![0, 0, 0] : Fin Tail.rank → Nat) = fun _ => 0 := by
  funext a; fin_cases a <;> rfl

variable {F : FTy → Type} [FloatOps F] {sig : RefSig} {κ : Kind} {sp : Space}

/-- Two stores of a whole block, the second of a function of what the first left: that function of the first's
    payload, whatever the buffer held. -/
theorem read_whole_twice {S : Shape} {e : EltTy} (v : View sig κ sp S e) (f : v.ty.Contents (Elt F))
    {off : Fin S.rank → Nat} (h : off = fun _ => 0) (inb inb' : ∀ a, off a + S.size a ≤ S.size a)
    (w : S.Idx → Elt F e) (g : (S.Idx → Elt F e) → (S.Idx → Elt F e)) (q : View.Piece (Elt F) S e) :
    v.read (Elt F) (v.writes (Elt F) f
      [(⟨Rect.unit off S.size inb, g (v.readCov (Val := Elt F) [⟨Rect.unit off S.size inb', w⟩]
          (Rect.unit off S.size inb).toLoadRect)⟩ : View.Piece (Elt F) S e), q]) = g w := by
  rw [View.read_writes_of_cover_last v f v v.junk _ _ [] (fun y => View.mem_set_unit_zero h inb y),
    View.read_writes_junk_eq_canon, View.canon_unit_zero h, View.readCov_unit_zero _ h]

/-- The tail's block after two stores, each of the whole block with one sequence replaced, the second of what the
    first left: the two sequences stored, whatever the buffer held. -/
theorem read_two_stores (v : View sig κ sp Tail .bf16) (f : v.ty.Contents (Elt F))
    (inb inb' : ∀ a, (![0, 0, 0] : Fin Tail.rank → Nat) a + Tail.size a ≤ Tail.size a)
    (old : Tail.Idx → Elt F .bf16) (p0 p1 : Plane.Idx → Elt F .bf16)
    (h0 : Tail.Slices ![0, 0, 0] Plane) (h1 : Tail.Slices ![0, 1, 0] Plane) (q : View.Piece (Elt F) Tail .bf16) :
    v.read (Elt F) (v.writes (Elt F) f
      [(⟨Rect.unit ![0, 0, 0] Tail.size inb, updateSlice (s := Tail)
        (v.readCov (Val := Elt F) [⟨Rect.unit ![0, 0, 0] Tail.size inb', updateSlice (s := Tail) old p0 ![0, 0, 0] h0⟩]
          (Rect.unit ![0, 0, 0] Tail.size inb).toLoadRect) p1 ![0, 1, 0] h1⟩ : View.Piece (Elt F) Tail .bf16), q])
      = planes p0 p1 :=
  (read_whole_twice v f zero3 inb inb' _ (fun x => updateSlice (s := Tail) x p1 ![0, 1, 0] h1) q).trans
    (updates_eq _ _ _ _ _)

end Cert.Conv
end
-- ==== Proof.ConvQkRun.lean ====
module

public import proofs.«01_k».proof.Proof.Gen.ConvQk.Frame
public import proofs.«01_k».proof.Proof.Gen.ConvQk.Skeleton
public import Idealize.ShloMosaic.Lib.Claim
public import proofs.«01_k».proof.Proof.ConvShared

@[expose] public section

set_option maxRecDepth 16384

noncomputable section

namespace Cert.ConvQk.Hand

open Cert.ConvQk Cert.ConvQk.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A view for stating what the run leaves in the result's block. -/
abbrev VO0_5 : View sig .tc .vmem S2048x256 .bf16 := (Memref.whole cc0_stg5_0).view

/-- Each window's current staging memref at point `t`, spelled as the pipeline passes it (`bodyAt0`), and its wholeness. -/
abbrev ms0_0 (t : Fin cfg0.N) : Memref sig .tc .vmem S2048x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2304 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S72x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x2x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x2x256 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x2304 .bf16 := Memref.whole cc0_scratch0
abbrev scM0_1 : Memref sig .tc .vmem S1032x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) :
    Σ' (L5 : List (View.Piece (Elt F) S2048x256 .bf16)), Σ' (L6 : Buf (Elt F) (arg7.view.loc (c : Thread nD τ)) → List (View.Piece (Elt F) S3x2x256 .bf16)), Σ' (LT0 : List (View.Piece (Elt F) S256x2304 .bf16)), { LT1 : List (View.Piece (Elt F) S1032x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f (L6 f)) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1)) -∗ K ⟨⟩))
          ⊢ wp frame (wpE (defs₀ (F := F)) Variants.none c none) E (cc0_conv_proj i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_conv_proj_eq_skeleton]; unfold cc0_conv_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

/-- The run's pieces for output 5 tile its block (2 stores of `S1024x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) (y : S2048x256.Idx) :
    ∃ pc ∈ (kernelRun0_A c i arg1 harg1 arg2 harg2 arg3 harg3 arg4 harg4 arg5 harg5 arg6 harg6 arg7 harg7 arg8 harg8 arg9 harg9 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4).1 S1024x256.size (by sl_kernel_rfl) y

/-- What the run leaves in output 5's staging buffer: its pieces read back over junk. -/
def out0_A_5 (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) : Vec F S2048x256 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 x0 x1 x2 x3 x4).1)

/-- What the run leaves in the tail's staging buffer, from what was in it. -/
def tailOf (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16)
    (f : Buf (Elt F) (arg7.view.loc (c : Thread nD τ))) : Vec F S3x2x256 .bf16 :=
  arg7.view.read (Elt F) (arg7.view.writes (Elt F) f ((kernelRun0_A c i arg1 harg1 arg2 harg2 arg3 harg3 arg4 harg4 arg5 harg5 arg6 harg6 arg7 harg7 arg8 harg8 arg9 harg9 x0 x1 x2 x3 x4).2.1 f))

/-- What it leaves there is the two sequences it stores, whatever was in it: the same from any two contents. -/
theorem tailOf_eq (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16)
    (f g : Buf (Elt F) (arg7.view.loc (c : Thread nD τ))) : tailOf c i arg1 harg1 arg2 harg2 arg3 harg3 arg4 harg4 arg5 harg5 arg6 harg6 arg7 harg7 arg8 harg8 arg9 harg9 x0 x1 x2 x3 x4 f = tailOf c i arg1 harg1 arg2 harg2 arg3 harg3 arg4 harg4 arg5 harg5 arg6 harg6 arg7 harg7 arg8 harg8 arg9 harg9 x0 x1 x2 x3 x4 g := by
  unfold tailOf kernelRun0_A
  dsimp only
  exact (Cert.Conv.read_two_stores arg7.view f _ _ _ _ _ _ _ _).trans (Cert.Conv.read_two_stores arg7.view g _ _ _ _ _ _ _ _).symm

/-- What the run leaves in the tail's staging buffer. -/
def out0_A_6 (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) : Vec F S3x2x256 .bf16 :=
  tailOf c i arg1 harg1 arg2 harg2 arg3 harg3 arg4 harg4 arg5 harg5 arg6 harg6 arg7 harg7 arg8 harg8 arg9 harg9 x0 x1 x2 x3 x4 arg7.view.junk

/-! ## What the outputs hold after each point -/

/-- What the outputs' staging buffers hold after the body at point `t` (as a tuple, in window order): the run's contents at
    the point's memrefs and input blocks. -/
def outsAt0 (c : Dev nD) (t : Fin cfg0.N) : Vec F S2048x256 .bf16 × Vec F S3x2x256 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m c 0 t) (iblk m c 1 t) (iblk m c 2 t) (iblk m c 3 t) (iblk m c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, ⟨%e5, H5⟩, ⟨%e6, H6⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _)
  unfold owns; iexists _; isplitr
  swap; · iexact H6
  ipureintro; exact tailOf_eq c _ _ _ _ _ _ _ _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the implicit arguments of `θ_run_frame_around` are found by unifying its conclusion with this one, which takes
-- unfolding plain definitions in a metavariable's type
set_option backward.isDefEq.respectTransparency.types false in
/-- The launch: every array of the pipeline ends at what the proof data say, every other unscoped buffer at what the
    host operation after the region leaves there, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the launch ends, the argument arrays are unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.ConvQk.Hand

end
-- ==== Proof.ConvVRun.lean ====
module

public import proofs.«01_k».proof.Proof.Gen.ConvV.Frame
public import proofs.«01_k».proof.Proof.Gen.ConvV.Skeleton
public import Idealize.ShloMosaic.Lib.Claim
public import proofs.«01_k».proof.Proof.ConvShared

@[expose] public section

set_option maxRecDepth 16384

noncomputable section

namespace Cert.ConvV.Hand

open Cert.ConvV Cert.ConvV.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A view for stating what the run leaves in the result's block. -/
abbrev VO0_5 : View sig .tc .vmem S2048x256 .bf16 := (Memref.whole cc0_stg5_0).view

/-- Each window's current staging memref at point `t`, spelled as the pipeline passes it (`bodyAt0`), and its wholeness. -/
abbrev ms0_0 (t : Fin cfg0.N) : Memref sig .tc .vmem S2048x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2304 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S72x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x2x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x2x256 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x2304 .bf16 := Memref.whole cc0_scratch0
abbrev scM0_1 : Memref sig .tc .vmem S1032x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) :
    Σ' (L5 : List (View.Piece (Elt F) S2048x256 .bf16)), Σ' (L6 : Buf (Elt F) (arg7.view.loc (c : Thread nD τ)) → List (View.Piece (Elt F) S3x2x256 .bf16)), Σ' (LT0 : List (View.Piece (Elt F) S256x2304 .bf16)), { LT1 : List (View.Piece (Elt F) S1032x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f (L6 f)) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1)) -∗ K ⟨⟩))
          ⊢ wp frame (wpE (defs₀ (F := F)) Variants.none c none) E (cc0_conv_proj i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_conv_proj_eq_skeleton]; unfold cc0_conv_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

/-- The run's pieces for output 5 tile its block (2 stores of `S1024x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) (y : S2048x256.Idx) :
    ∃ pc ∈ (kernelRun0_A c i arg1 harg1 arg2 harg2 arg3 harg3 arg4 harg4 arg5 harg5 arg6 harg6 arg7 harg7 arg8 harg8 arg9 harg9 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4).1 S1024x256.size (by sl_kernel_rfl) y

/-- What the run leaves in output 5's staging buffer: its pieces read back over junk. -/
def out0_A_5 (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) : Vec F S2048x256 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 x0 x1 x2 x3 x4).1)

/-- What the run leaves in the tail's staging buffer, from what was in it. -/
def tailOf (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16)
    (f : Buf (Elt F) (arg7.view.loc (c : Thread nD τ))) : Vec F S3x2x256 .bf16 :=
  arg7.view.read (Elt F) (arg7.view.writes (Elt F) f ((kernelRun0_A c i arg1 harg1 arg2 harg2 arg3 harg3 arg4 harg4 arg5 harg5 arg6 harg6 arg7 harg7 arg8 harg8 arg9 harg9 x0 x1 x2 x3 x4).2.1 f))

/-- What it leaves there is the two sequences it stores, whatever was in it: the same from any two contents. -/
theorem tailOf_eq (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16)
    (f g : Buf (Elt F) (arg7.view.loc (c : Thread nD τ))) : tailOf c i arg1 harg1 arg2 harg2 arg3 harg3 arg4 harg4 arg5 harg5 arg6 harg6 arg7 harg7 arg8 harg8 arg9 harg9 x0 x1 x2 x3 x4 f = tailOf c i arg1 harg1 arg2 harg2 arg3 harg3 arg4 harg4 arg5 harg5 arg6 harg6 arg7 harg7 arg8 harg8 arg9 harg9 x0 x1 x2 x3 x4 g := by
  unfold tailOf kernelRun0_A
  dsimp only
  exact (Cert.Conv.read_two_stores arg7.view f _ _ _ _ _ _ _ _).trans (Cert.Conv.read_two_stores arg7.view g _ _ _ _ _ _ _ _).symm

/-- What the run leaves in the tail's staging buffer. -/
def out0_A_6 (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) : Vec F S3x2x256 .bf16 :=
  tailOf c i arg1 harg1 arg2 harg2 arg3 harg3 arg4 harg4 arg5 harg5 arg6 harg6 arg7 harg7 arg8 harg8 arg9 harg9 x0 x1 x2 x3 x4 arg7.view.junk

/-! ## What the outputs hold after each point -/

/-- What the outputs' staging buffers hold after the body at point `t` (as a tuple, in window order): the run's contents at
    the point's memrefs and input blocks. -/
def outsAt0 (c : Dev nD) (t : Fin cfg0.N) : Vec F S2048x256 .bf16 × Vec F S3x2x256 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m c 0 t) (iblk m c 1 t) (iblk m c 2 t) (iblk m c 3 t) (iblk m c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, ⟨%e5, H5⟩, ⟨%e6, H6⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _)
  unfold owns; iexists _; isplitr
  swap; · iexact H6
  ipureintro; exact tailOf_eq c _ _ _ _ _ _ _ _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the implicit arguments of `θ_run_frame_around` are found by unifying its conclusion with this one, which takes
-- unfolding plain definitions in a metavariable's type
set_option backward.isDefEq.respectTransparency.types false in
/-- The launch: every array of the pipeline ends at what the proof data say, every other unscoped buffer at what the
    host operation after the region leaves there, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the launch ends, the argument arrays are unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.ConvV.Hand

end
-- ==== Proof.ConvQkIdealRun.lean ====
module

public import proofs.«01_k».proof.Proof.Gen.ConvQkIdeal.Frame
public import proofs.«01_k».proof.Proof.Gen.ConvQkIdeal.Skeleton
public import Idealize.ShloMosaic.Lib.Claim
public import proofs.«01_k».proof.Proof.ConvShared

@[expose] public section

set_option maxRecDepth 16384

noncomputable section

namespace Cert.ConvQkIdeal.Hand

open Cert.ConvQkIdeal Cert.ConvQkIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A view for stating what the run leaves in the result's block. -/
abbrev VO0_5 : View sig .tc .vmem S2048x256 .bf16 := (Memref.whole cc0_stg5_0).view

/-- Each window's current staging memref at point `t`, spelled as the pipeline passes it (`bodyAt0`), and its wholeness. -/
abbrev ms0_0 (t : Fin cfg0.N) : Memref sig .tc .vmem S2048x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2304 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S72x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x2x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x2x256 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x2304 .bf16 := Memref.whole cc0_scratch0
abbrev scM0_1 : Memref sig .tc .vmem S1032x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) :
    Σ' (L5 : List (View.Piece (Elt F) S2048x256 .bf16)), Σ' (L6 : Buf (Elt F) (arg7.view.loc (c : Thread nD τ)) → List (View.Piece (Elt F) S3x2x256 .bf16)), Σ' (LT0 : List (View.Piece (Elt F) S256x2304 .bf16)), { LT1 : List (View.Piece (Elt F) S1032x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f (L6 f)) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1)) -∗ K ⟨⟩))
          ⊢ wp frame (wpE (defs₀ (F := F)) Variants.none c none) E (cc0_conv_proj i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_conv_proj_eq_skeleton]; unfold cc0_conv_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

/-- The run's pieces for output 5 tile its block (2 stores of `S1024x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) (y : S2048x256.Idx) :
    ∃ pc ∈ (kernelRun0_A c i arg1 harg1 arg2 harg2 arg3 harg3 arg4 harg4 arg5 harg5 arg6 harg6 arg7 harg7 arg8 harg8 arg9 harg9 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4).1 S1024x256.size (by sl_kernel_rfl) y

/-- What the run leaves in output 5's staging buffer: its pieces read back over junk. -/
def out0_A_5 (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) : Vec F S2048x256 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 x0 x1 x2 x3 x4).1)

/-- What the run leaves in the tail's staging buffer, from what was in it. -/
def tailOf (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16)
    (f : Buf (Elt F) (arg7.view.loc (c : Thread nD τ))) : Vec F S3x2x256 .bf16 :=
  arg7.view.read (Elt F) (arg7.view.writes (Elt F) f ((kernelRun0_A c i arg1 harg1 arg2 harg2 arg3 harg3 arg4 harg4 arg5 harg5 arg6 harg6 arg7 harg7 arg8 harg8 arg9 harg9 x0 x1 x2 x3 x4).2.1 f))

/-- What it leaves there is the two sequences it stores, whatever was in it: the same from any two contents. -/
theorem tailOf_eq (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16)
    (f g : Buf (Elt F) (arg7.view.loc (c : Thread nD τ))) : tailOf c i arg1 harg1 arg2 harg2 arg3 harg3 arg4 harg4 arg5 harg5 arg6 harg6 arg7 harg7 arg8 harg8 arg9 harg9 x0 x1 x2 x3 x4 f = tailOf c i arg1 harg1 arg2 harg2 arg3 harg3 arg4 harg4 arg5 harg5 arg6 harg6 arg7 harg7 arg8 harg8 arg9 harg9 x0 x1 x2 x3 x4 g := by
  unfold tailOf kernelRun0_A
  dsimp only
  exact (Cert.Conv.read_two_stores arg7.view f _ _ _ _ _ _ _ _).trans (Cert.Conv.read_two_stores arg7.view g _ _ _ _ _ _ _ _).symm

/-- What the run leaves in the tail's staging buffer. -/
def out0_A_6 (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) : Vec F S3x2x256 .bf16 :=
  tailOf c i arg1 harg1 arg2 harg2 arg3 harg3 arg4 harg4 arg5 harg5 arg6 harg6 arg7 harg7 arg8 harg8 arg9 harg9 x0 x1 x2 x3 x4 arg7.view.junk

/-! ## What the outputs hold after each point -/

/-- What the outputs' staging buffers hold after the body at point `t` (as a tuple, in window order): the run's contents at
    the point's memrefs and input blocks. -/
def outsAt0 (c : Dev nD) (t : Fin cfg0.N) : Vec F S2048x256 .bf16 × Vec F S3x2x256 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m c 0 t) (iblk m c 1 t) (iblk m c 2 t) (iblk m c 3 t) (iblk m c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, ⟨%e5, H5⟩, ⟨%e6, H6⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _)
  unfold owns; iexists _; isplitr
  swap; · iexact H6
  ipureintro; exact tailOf_eq c _ _ _ _ _ _ _ _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the implicit arguments of `θ_run_frame_around` are found by unifying its conclusion with this one, which takes
-- unfolding plain definitions in a metavariable's type
set_option backward.isDefEq.respectTransparency.types false in
/-- The launch: every array of the pipeline ends at what the proof data say, every other unscoped buffer at what the
    host operation after the region leaves there, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the launch ends, the argument arrays are unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.ConvQkIdeal.Hand

end
-- ==== Proof.ConvBlock.lean ====
/-
  One block of a convolution projection, over the reals: what the kernel's body makes of 256 channels, read at one element, and the plain
  description it is compared with. A channel's projected values, one sequence at a time, follow the three values the state carries; four
  neighbouring ones are weighted and summed, and the sum goes through x * sigmoid x.
-/
module

public import proofs.«01_k».proof.Proof.ConvShared
public import proofs.«01_k».proof.Proof.Dequant

@[expose] public section

set_option maxRecDepth 16384

noncomputable section

namespace Cert.Conv

open Idealize.ShloMosaic Idealize.ShloMosaic.ValueIdx Cert.Dequant

/-! ## The description, one channel at a time -/

/-- Row `r` of a sequence's history: the state's three values, then the projected ones `p`. -/
def history (s : Fin 3 → EReal) (p : Fin 1024 → EReal) (r : Nat) : EReal :=
  if h : r < 3 then s ⟨r, h⟩ else if h' : r - 3 < 1024 then p ⟨r - 3, h'⟩ else 0

/-- `x * sigmoid x`. -/
def silu (x : EReal) : EReal :=
  x * Ideal.div (Ideal.ofBits .f32 0x3F800000#32) (Ideal.ofBits .f32 0x3F800000#32 + Ideal.exp (-x))

/-- The convolution at time `t`, through `silu`: rows `t … t + 3` of the history against the four weights. -/
def conv (s : Fin 3 → EReal) (p : Fin 1024 → EReal) (w : Fin 4 → EReal) (t : Nat) : EReal :=
  silu (((history s p t * w 0 + history s p (1 + t) * w 1) + history s p (2 + t) * w 2) + history s p (3 + t) * w 3)

/-- Sequence `b`'s part of 2048 rows. -/
def part {α : Type} (p : Fin 2048 → α) (b : Fin 2) : Fin 1024 → α := fun t => p ⟨1024 * b.val + t.val, by omega⟩

/-! ## The scratch block the shifted rows are read from -/

variable {sig : RefSig} {κ : Kind} {sp : Space}

/-- Rows from `5 + j` on of the scratch block, after the state is stored at rows 5 … 7 and the projected values from row 8 on: rows from `j`
    on of the history. -/
theorem window_apply (v : View sig κ sp (Mat 1032 256) .f32)
    (inb8 : ∀ a, (![8, 0] : Fin 2 → Nat) a + (![1024, 256] : Fin 2 → Nat) a ≤ (Mat 1032 256).size a)
    (inb5 : ∀ a, (![5, 0] : Fin 2 → Nat) a + (![3, 256] : Fin 2 → Nat) a ≤ (Mat 1032 256).size a)
    (w8 : (Mat 1024 256).Idx → Elt Ideal .f32) (w5 : (Mat 3 256).Idx → Elt Ideal .f32) (L : List (View.Piece (Elt Ideal) (Mat 1032 256) .f32))
    {n : Nat} (off j : Nat) (ho : off = 5 + j) (hn : j + n ≤ 1027)
    (inb : ∀ a, (![off, 0] : Fin 2 → Nat) a + (![n, 256] : Fin 2 → Nat) a ≤ (Mat 1032 256).size a) (t : Fin n) (c : Fin 256) :
    v.readCov (Val := Elt Ideal) ((⟨Rect.unit (s := Mat 1032 256) ![8, 0] ![1024, 256] inb8, w8⟩ : View.Piece (Elt Ideal) (Mat 1032 256) .f32)
        :: (⟨Rect.unit (s := Mat 1032 256) ![5, 0] ![3, 256] inb5, w5⟩ : View.Piece (Elt Ideal) (Mat 1032 256) .f32) :: L)
        (Rect.unit (s := Mat 1032 256) ![off, 0] ![n, 256] inb).toLoadRect (ix2 t c)
      = history (fun r => w5 (ix2 r c)) (fun r => w8 (ix2 r c)) (j + t.val) := by
  subst ho
  rw [View.readCov_eq_canon']
  show View.canon _ ((Rect.unit (s := Mat 1032 256) ![5 + j, 0] ![n, 256] inb).emb (ix2 t c)) = _
  have ht := t.isLt
  have e0 : (((Rect.unit (s := Mat 1032 256) ![5 + j, 0] ![n, 256] inb).emb (ix2 t c) : (Mat 1032 256).Idx) 0).val = 5 + j + 1 * t.val := rfl
  unfold history
  by_cases h : j + t.val < 3
  · rw [dif_pos h, View.canon_cons_of_not_mem]
    · have e : (Rect.unit (s := Mat 1032 256) ![5 + j, 0] ![n, 256] inb).emb (ix2 t c)
          = (Rect.unit (s := Mat 1032 256) ![5, 0] ![3, 256] inb5).emb (ix2 ⟨j + t.val, h⟩ c) := by
        funext a
        apply Fin.ext
        match a with
        | ⟨0, _⟩ => show 5 + j + 1 * t.val = 5 + 1 * (j + t.val); omega
        | ⟨1, _⟩ => rfl
      rw [e, View.canon_cons_emb]
    · intro hm
      have := ((Rect.mem_set_unit (inb := inb8)).1 hm 0).1
      rw [e0] at this
      change 8 ≤ _ at this
      omega
  · have h' : j + t.val - 3 < 1024 := by omega
    rw [dif_neg h, dif_pos h']
    have e : (Rect.unit (s := Mat 1032 256) ![5 + j, 0] ![n, 256] inb).emb (ix2 t c)
        = (Rect.unit (s := Mat 1032 256) ![8, 0] ![1024, 256] inb8).emb (ix2 ⟨j + t.val - 3, h'⟩ c) := by
      funext a
      apply Fin.ext
      match a with
      | ⟨0, _⟩ => show 5 + j + 1 * t.val = 8 + 1 * (j + t.val - 3); omega
      | ⟨1, _⟩ => rfl
    rw [e, View.canon_cons_emb]

/-! ## The body's vector operations -/

/-- Four shifted blocks of rows, each times its weight's row, summed from the left. -/
def mixed (hs : (Mat 1 256).ShapeCasts (Mat 1 256)) (hb : (Mat 1 256).Broadcasts (Mat 1024 256))
    (a0 : FVec Ideal (Mat 1024 256) .f32) (c0 : FVec Ideal (Mat 1 256) .f32) (a1 : FVec Ideal (Mat 1024 256) .f32) (c1 : FVec Ideal (Mat 1 256) .f32)
    (a2 : FVec Ideal (Mat 1024 256) .f32) (c2 : FVec Ideal (Mat 1 256) .f32) (a3 : FVec Ideal (Mat 1024 256) .f32) (c3 : FVec Ideal (Mat 1 256) .f32) :
    FVec Ideal (Mat 1024 256) .f32 :=
  addf (addf (addf (mulf a0 (broadcastTo (Mat 1024 256) (shapeCast (Mat 1 256) c0 hs) hb))
    (mulf a1 (broadcastTo (Mat 1024 256) (shapeCast (Mat 1 256) c1 hs) hb)))
    (mulf a2 (broadcastTo (Mat 1024 256) (shapeCast (Mat 1 256) c2 hs) hb)))
    (mulf a3 (broadcastTo (Mat 1024 256) (shapeCast (Mat 1 256) c3 hs) hb))

theorem mixed_apply (hs hb a0 c0 a1 c1 a2 c2 a3 c3) (t : Fin 1024) (c : Fin 256) :
    mixed hs hb a0 c0 a1 c1 a2 c2 a3 c3 (ix2 t c)
      = ((a0 (ix2 t c) * c0 (ix2 0 c) + a1 (ix2 t c) * c1 (ix2 0 c)) + a2 (ix2 t c) * c2 (ix2 0 c)) + a3 (ix2 t c) * c3 (ix2 0 c) := by
  unfold mixed
  rw [shapeCast_self, shapeCast_self, shapeCast_self, shapeCast_self]
  show ((a0 _ * broadcastTo (Mat 1024 256) c0 hb _ + a1 _ * broadcastTo (Mat 1024 256) c1 hb _) + a2 _ * broadcastTo (Mat 1024 256) c2 hb _)
    + a3 _ * broadcastTo (Mat 1024 256) c3 hb _ = _
  rw [broadcastTo_1b_ab_apply, broadcastTo_1b_ab_apply, broadcastTo_1b_ab_apply, broadcastTo_1b_ab_apply]

/-- A block through `x * sigmoid x`, as the body writes it. -/
def act (hlt : FTy.bits .bf16 < FTy.bits .f32) (x : FVec Ideal (Mat 1024 256) .f32) : FVec Ideal (Mat 1024 256) .bf16 :=
  truncf .bf16 (mulf x (divf (broadcast (Mat 1024 256) (Scalar.ofBits .f32 0x3F800000#32 : Ideal .f32))
    (addf (broadcast (Mat 1024 256) (Scalar.ofBits .f32 0x3F800000#32 : Ideal .f32))
      (exp (subf (broadcast (Mat 1024 256) (Scalar.ofBits .f32 0x00000000#32 : Ideal .f32)) x))))) hlt

theorem act_apply (hlt x) (i : (Mat 1024 256).Idx) : act hlt x i = silu (x i) := by
  show x i * Ideal.div _ (_ + Ideal.exp (Ideal.ofBits .f32 0x00000000#32 - x i)) = _
  rw [Ideal.ofBits_zero_f32, zero_sub]
  rfl

/-- The projected block, rounded to bf16 and widened. -/
def linear (hs : (Mat 2048 2304).ShapeCasts (Mat 2048 2304)) (hlt : FTy.bits .bf16 < FTy.bits .f32)
    (x : FVec Ideal (Mat 2048 2304) .bf16) (w : FVec Ideal (Mat 256 2304) .bf16) : FVec Ideal (Mat 2048 256) .f32 :=
  extf .f32 (truncf .bf16 (matmul (DotDims.transposedRhs 2048 2304 256) none (shapeCast (Mat 2048 2304) x hs) w
    (constant (Mat 2048 256) .f32 0x00000000#32)) hlt) hlt

theorem linear_apply (hs hlt) (x : FVec Ideal (Mat 2048 2304) .bf16) (codes : FVec Ideal (Mat 256 2304) .fp8e4m3) (scales : IVec (Mat 72 256) 8)
    (a : Fin 2048) (c : Fin 256) :
    linear hs hlt x (weights (nb := 72) (by decide) codes scales) (ix2 a c) = proj (nb := 72) (by decide) x codes scales a c := by
  unfold linear
  rw [shapeCast_self]
  show FloatOps.matmul (DotDims.transposedRhs 2048 2304 256) none x (weights (nb := 72) (by decide) codes scales)
    (constant (Mat 2048 256) .f32 0x00000000#32) (ix2 a c) = _
  refine (Ideal.matmul_transposedRhs_apply (M := 2048) (K := 2304) (N := 256) (φ₁ := .bf16) (φ₂ := .bf16) none x
    (weights (nb := 72) (by decide) codes scales) _ a c).trans ?_
  show Ideal.ofBits .f32 0x00000000#32 + _ = _
  rw [Ideal.ofBits_zero_f32, zero_add]
  rfl

/-- One sequence's 1024 rows of a block of 2048. -/
def half (o : Nat) (h : (Mat 2048 256).Slices ![o, 0] (Mat 1024 256)) (hs : (Mat 1024 256).ShapeCasts (Mat 1024 256))
    (y : FVec Ideal (Mat 2048 256) .f32) : FVec Ideal (Mat 1024 256) .f32 :=
  shapeCast (Mat 1024 256) (extractStridedSlice (Mat 1024 256) ![o, 0] y h) hs

theorem half_apply (b : Fin 2) (h hs y) (t : Fin 1024) (c : Fin 256) :
    half (1024 * b.val) h hs y (ix2 t c) = part (fun a => y (ix2 a c)) b t := by
  unfold half part
  rw [shapeCast_self]
  refine extractStridedSlice_apply _ _ _ _ _ fun a => ?_
  match a with
  | ⟨0, _⟩ => rfl
  | ⟨1, _⟩ => show c.val = 0 + c.val; omega

/-- One sequence's three rows of the state, widened. -/
def carried (h : Plane.ShapeCasts (Mat 3 256)) (hs : (Mat 3 256).ShapeCasts (Mat 3 256)) (hlt : FTy.bits .bf16 < FTy.bits .f32)
    (s : FVec Ideal Plane .bf16) : FVec Ideal (Mat 3 256) .f32 :=
  shapeCast (Mat 3 256) (extf .f32 (shapeCast (Mat 3 256) s h) hlt) hs

theorem carried_apply (b : Fin 2) (h hs hlt) (st : FVec Ideal Tail .bf16)
    (inb : ∀ a, (![0, b.val, 0] : Fin 3 → Nat) a + (![3, 1, 256] : Fin 3 → Nat) a ≤ Tail.size a) (r : Fin 3) (c : Fin 256) :
    carried h hs hlt (View.ld (Val := Elt Ideal) (e' := .bf16) st (Rect.unit (s := Tail) ![0, b.val, 0] ![3, 1, 256] inb)) (ix2 r c)
      = st (ix3 r b c) := by
  unfold carried
  rw [shapeCast_self]
  show shapeCast (Mat 3 256) (View.ld (Val := Elt Ideal) (e' := .bf16) st (Rect.unit (s := Tail) ![0, b.val, 0] ![3, 1, 256] inb)) h (ix2 r c) = _
  refine (shapeCast_apply _ h (ix2 r c) (ix3 r 0 c : Plane.Idx) ?_).trans ?_
  · show (Plane.rowMajor (ix3 r 0 c)).val = ((Mat 3 256).rowMajor (ix2 r c)).val
    rewrite [Shape.rowMajor_val_three, Shape.rowMajor_val_two]
    show (r.val * 1 + 0) * 256 + c.val = r.val * 256 + c.val
    omega
  · refine congrArg st (funext fun a => Fin.ext ?_)
    match a with
    | ⟨0, _⟩ => show 0 + 1 * r.val = r.val; omega
    | ⟨1, _⟩ => show b.val + 1 * 0 = b.val; omega
    | ⟨2, _⟩ => show 0 + 1 * c.val = c.val; omega

/-- Row `j` of the block of four weights. -/
theorem weightRow_apply (o : Nat) (j : Fin 4) (ho : o = j.val) (w : FVec Ideal (Mat 4 256) .f32)
    (inb : ∀ a, (![o, 0] : Fin 2 → Nat) a + (![1, 256] : Fin 2 → Nat) a ≤ (Mat 4 256).size a) (c : Fin 256) :
    View.ld (Val := Elt Ideal) (e' := .f32) w (Rect.unit (s := Mat 4 256) ![o, 0] ![1, 256] inb) (ix2 (0 : Fin 1) c) = w (ix2 j c) := by
  subst ho
  refine congrArg w (funext fun a => Fin.ext ?_)
  match a with
  | ⟨0, _⟩ => show j.val + 1 * 0 = j.val; omega
  | ⟨1, _⟩ => show 0 + 1 * c.val = c.val; omega

/-! ## One sequence's part of a block -/

/-- The scratch block's last stores, before it is read: the sequence's projected rows over its state's. -/
abbrev stored (v : View sig κ sp (Mat 1032 256) .f32) (b : Fin 2)
    (inb8 : ∀ a, (![8, 0] : Fin 2 → Nat) a + (![1024, 256] : Fin 2 → Nat) a ≤ (Mat 1032 256).size a)
    (inb5 : ∀ a, (![5, 0] : Fin 2 → Nat) a + (![3, 256] : Fin 2 → Nat) a ≤ (Mat 1032 256).size a)
    (inbS : ∀ a, (![0, b.val, 0] : Fin 3 → Nat) a + (![3, 1, 256] : Fin 3 → Nat) a ≤ Tail.size a)
    (hx : (Mat 2048 2304).ShapeCasts (Mat 2048 2304)) (hlt : FTy.bits .bf16 < FTy.bits .f32)
    (hh : (Mat 2048 256).Slices ![1024 * b.val, 0] (Mat 1024 256)) (hs8 : (Mat 1024 256).ShapeCasts (Mat 1024 256))
    (hp : Plane.ShapeCasts (Mat 3 256)) (hs5 : (Mat 3 256).ShapeCasts (Mat 3 256)) (x : FVec Ideal (Mat 2048 2304) .bf16) (w : FVec Ideal (Mat 256 2304) .bf16) (st : FVec Ideal Tail .bf16)
    (L : List (View.Piece (Elt Ideal) (Mat 1032 256) .f32)) : List (View.Piece (Elt Ideal) (Mat 1032 256) .f32) :=
  (⟨Rect.unit (s := Mat 1032 256) ![8, 0] ![1024, 256] inb8, half (1024 * b.val) hh hs8 (linear hx hlt x w)⟩ :
      View.Piece (Elt Ideal) (Mat 1032 256) .f32)
    :: (⟨Rect.unit (s := Mat 1032 256) ![5, 0] ![3, 256] inb5, carried hp hs5 hlt
          (View.ld (Val := Elt Ideal) (e' := .bf16) st (Rect.unit (s := Tail) ![0, b.val, 0] ![3, 1, 256] inbS))⟩ :
      View.Piece (Elt Ideal) (Mat 1032 256) .f32) :: L

/-- Rows from `5 + j` on of the scratch block: rows from `j` on of the sequence's history. -/
theorem stored_apply (v : View sig κ sp (Mat 1032 256) .f32) (b : Fin 2) (inb8 inb5 inbS hx hlt hh hs8 hp hs5) (x : FVec Ideal (Mat 2048 2304) .bf16)
    (codes : FVec Ideal (Mat 256 2304) .fp8e4m3) (scales : IVec (Mat 72 256) 8) (w : FVec Ideal (Mat 256 2304) .bf16)
    (hw : w = weights (nb := 72) (by decide) codes scales) (st : FVec Ideal Tail .bf16) (L : List (View.Piece (Elt Ideal) (Mat 1032 256) .f32))
    {n : Nat} (off j : Nat) (ho : off = 5 + j) (hn : j + n ≤ 1027)
    (inb : ∀ a, (![off, 0] : Fin 2 → Nat) a + (![n, 256] : Fin 2 → Nat) a ≤ (Mat 1032 256).size a) (t : Fin n) (c : Fin 256) :
    v.readCov (Val := Elt Ideal) (stored v b inb8 inb5 inbS hx hlt hh hs8 hp hs5 x w st L)
        (Rect.unit (s := Mat 1032 256) ![off, 0] ![n, 256] inb).toLoadRect (ix2 t c)
      = history (fun r => st (ix3 r b c)) (part (fun a => proj (nb := 72) (by decide) x codes scales a c) b) (j + t.val) := by
  subst hw
  refine (window_apply v inb8 inb5 _ _ L off j ho hn inb t c).trans ?_
  congr 1
  · funext r
    exact carried_apply b hp hs5 hlt st inbS r c
  · funext r
    refine (half_apply b hh hs8 _ r c).trans ?_
    unfold part
    exact linear_apply hx hlt x codes scales _ c

/-- A block of the result, element by element. -/
def block (x : FVec Ideal (Mat 2048 2304) .bf16) (codes : FVec Ideal (Mat 256 2304) .fp8e4m3) (scales : IVec (Mat 72 256) 8)
    (w : FVec Ideal (Mat 4 256) .f32) (st : FVec Ideal Tail .bf16) : FVec Ideal (Mat 2048 256) .bf16 := fun i =>
  conv (fun r => st (ix3 r ⟨(i 0).val / 1024, Nat.div_lt_of_lt_mul (i 0).isLt⟩ (i 1)))
    (part (fun a => proj (nb := 72) (by decide) x codes scales a (i 1)) ⟨(i 0).val / 1024, Nat.div_lt_of_lt_mul (i 0).isLt⟩)
    (fun j => w (ix2 j (i 1))) ((i 0).val % 1024)

/-- One sequence's rows of the block, as the body computes and stores them. -/
theorem act_piece (v : View sig κ sp (Mat 1032 256) .f32) (b : Fin 2) (inb8 inb5 inbS hx hlt hh hs8 hp hs5) (x : FVec Ideal (Mat 2048 2304) .bf16)
    (codes : FVec Ideal (Mat 256 2304) .fp8e4m3) (scales : IVec (Mat 72 256) 8) (W : FVec Ideal (Mat 256 2304) .bf16)
    (hw : W = weights (nb := 72) (by decide) codes scales) (w : FVec Ideal (Mat 4 256) .f32) (st : FVec Ideal Tail .bf16)
    (L : List (View.Piece (Elt Ideal) (Mat 1032 256) .f32)) (h1 hb)
    (inb0 : ∀ a, (![5, 0] : Fin 2 → Nat) a + (![1024, 256] : Fin 2 → Nat) a ≤ (Mat 1032 256).size a)
    (inb1 : ∀ a, (![6, 0] : Fin 2 → Nat) a + (![1024, 256] : Fin 2 → Nat) a ≤ (Mat 1032 256).size a)
    (inb2 : ∀ a, (![7, 0] : Fin 2 → Nat) a + (![1024, 256] : Fin 2 → Nat) a ≤ (Mat 1032 256).size a)
    (inb3 : ∀ a, (![8, 0] : Fin 2 → Nat) a + (![1024, 256] : Fin 2 → Nat) a ≤ (Mat 1032 256).size a)
    (k0 : ∀ a, (![0, 0] : Fin 2 → Nat) a + (![1, 256] : Fin 2 → Nat) a ≤ (Mat 4 256).size a)
    (k1 : ∀ a, (![1, 0] : Fin 2 → Nat) a + (![1, 256] : Fin 2 → Nat) a ≤ (Mat 4 256).size a)
    (k2 : ∀ a, (![2, 0] : Fin 2 → Nat) a + (![1, 256] : Fin 2 → Nat) a ≤ (Mat 4 256).size a)
    (k3 : ∀ a, (![3, 0] : Fin 2 → Nat) a + (![1, 256] : Fin 2 → Nat) a ≤ (Mat 4 256).size a)
    (inb : ∀ a, (![1024 * b.val, 0] : Fin 2 → Nat) a + (![1024, 256] : Fin 2 → Nat) a ≤ (Mat 2048 256).size a) :
    ∀ i : (Mat 1024 256).Idx,
    act hlt (mixed h1 hb
        (v.readCov (Val := Elt Ideal) (stored v b inb8 inb5 inbS hx hlt hh hs8 hp hs5 x W st L)
          (Rect.unit (s := Mat 1032 256) ![5, 0] ![1024, 256] inb0).toLoadRect)
        (View.ld (Val := Elt Ideal) (e' := .f32) w (Rect.unit (s := Mat 4 256) ![0, 0] ![1, 256] k0))
        (v.readCov (Val := Elt Ideal) (stored v b inb8 inb5 inbS hx hlt hh hs8 hp hs5 x W st L)
          (Rect.unit (s := Mat 1032 256) ![6, 0] ![1024, 256] inb1).toLoadRect)
        (View.ld (Val := Elt Ideal) (e' := .f32) w (Rect.unit (s := Mat 4 256) ![1, 0] ![1, 256] k1))
        (v.readCov (Val := Elt Ideal) (stored v b inb8 inb5 inbS hx hlt hh hs8 hp hs5 x W st L)
          (Rect.unit (s := Mat 1032 256) ![7, 0] ![1024, 256] inb2).toLoadRect)
        (View.ld (Val := Elt Ideal) (e' := .f32) w (Rect.unit (s := Mat 4 256) ![2, 0] ![1, 256] k2))
        (v.readCov (Val := Elt Ideal) (stored v b inb8 inb5 inbS hx hlt hh hs8 hp hs5 x W st L)
          (Rect.unit (s := Mat 1032 256) ![8, 0] ![1024, 256] inb3).toLoadRect)
        (View.ld (Val := Elt Ideal) (e' := .f32) w (Rect.unit (s := Mat 4 256) ![3, 0] ![1, 256] k3))) i
      = block x codes scales w st ((Rect.unit (s := Mat 2048 256) ![1024 * b.val, 0] ![1024, 256] inb).emb i) := by
  intro i
  obtain ⟨t, c, rfl⟩ : ∃ (t : Fin 1024) (c : Fin 256), i = ix2 t c := ⟨i 0, i 1, eq_ix2 i⟩
  have ht := t.isLt
  have e : (Rect.unit (s := Mat 2048 256) ![1024 * b.val, 0] ![1024, 256] inb).emb (ix2 t c)
      = (ix2 ⟨1024 * b.val + t.val, by omega⟩ c : (Mat 2048 256).Idx) := by
    funext a
    apply Fin.ext
    match a with
    | ⟨0, _⟩ => show 1024 * b.val + 1 * t.val = 1024 * b.val + t.val; omega
    | ⟨1, _⟩ => show 0 + 1 * c.val = c.val; omega
  have eb : (⟨(1024 * b.val + t.val) / 1024, by omega⟩ : Fin 2) = b := Fin.ext (by show (1024 * b.val + t.val) / 1024 = b.val; omega)
  have et : (1024 * b.val + t.val) % 1024 = t.val := by omega
  refine Eq.trans ?_ (congrArg (block x codes scales w st) e).symm
  rw [act_apply, mixed_apply,
    stored_apply v b inb8 inb5 inbS hx hlt hh hs8 hp hs5 x codes scales W hw st L 5 0 rfl (by omega) inb0 t c,
    stored_apply v b inb8 inb5 inbS hx hlt hh hs8 hp hs5 x codes scales W hw st L 6 1 rfl (by omega) inb1 t c,
    stored_apply v b inb8 inb5 inbS hx hlt hh hs8 hp hs5 x codes scales W hw st L 7 2 rfl (by omega) inb2 t c,
    stored_apply v b inb8 inb5 inbS hx hlt hh hs8 hp hs5 x codes scales W hw st L 8 3 rfl (by omega) inb3 t c,
    weightRow_apply 0 0 rfl w k0 c, weightRow_apply 1 1 rfl w k1 c, weightRow_apply 2 2 rfl w k2 c, weightRow_apply 3 3 rfl w k3 c, Nat.zero_add]
  show _ = conv (fun r => st (ix3 r ⟨(1024 * b.val + t.val) / 1024, _⟩ c)) (part _ ⟨(1024 * b.val + t.val) / 1024, _⟩) _ ((1024 * b.val + t.val) % 1024)
  rw [eb, et]
  rfl

/-- A block of the projection's last three rows of each sequence. -/
def lastRows (x : FVec Ideal (Mat 2048 2304) .bf16) (codes : FVec Ideal (Mat 256 2304) .fp8e4m3) (scales : IVec (Mat 72 256) 8) :
    FVec Ideal Tail .bf16 := fun i => part (fun a => proj (nb := 72) (by decide) x codes scales a (i 2)) (i 1) ⟨1021 + (i 0).val, by
      have := (i 0).isLt; change _ < 3 at this; omega⟩

/-- One sequence's three last rows, as the body reads them back from the scratch block and rounds them. -/
def tailRows (hlt : FTy.bits .bf16 < FTy.bits .f32) (h : (Mat 3 256).ShapeCasts Plane) (y : FVec Ideal (Mat 3 256) .f32) : FVec Ideal Plane .bf16 :=
  shapeCast Plane (truncf .bf16 y hlt) h

theorem tail_piece (v : View sig κ sp (Mat 1032 256) .f32) (b : Fin 2) (inb8 inb5 inbS hx hlt hh hs8 hp hs5 hc) (x : FVec Ideal (Mat 2048 2304) .bf16)
    (codes : FVec Ideal (Mat 256 2304) .fp8e4m3) (scales : IVec (Mat 72 256) 8) (W : FVec Ideal (Mat 256 2304) .bf16)
    (hw : W = weights (nb := 72) (by decide) codes scales) (st : FVec Ideal Tail .bf16)
    (L : List (View.Piece (Elt Ideal) (Mat 1032 256) .f32))
    (inb : ∀ a, (![1029, 0] : Fin 2 → Nat) a + (![3, 256] : Fin 2 → Nat) a ≤ (Mat 1032 256).size a) (r : Fin 3) (c : Fin 256) :
    tailRows hlt hc (v.readCov (Val := Elt Ideal) (stored v b inb8 inb5 inbS hx hlt hh hs8 hp hs5 x W st L)
          (Rect.unit (s := Mat 1032 256) ![1029, 0] ![3, 256] inb).toLoadRect) (ix3 r 0 c)
      = lastRows x codes scales (ix3 r b c) := by
  unfold tailRows
  refine (shapeCast_apply _ hc (ix3 r 0 c : Plane.Idx) (ix2 r c) ?_).trans ?_
  · show ((Mat 3 256).rowMajor (ix2 r c)).val = (Plane.rowMajor (ix3 r 0 c)).val
    rewrite [Shape.rowMajor_val_three, Shape.rowMajor_val_two]
    show r.val * 256 + c.val = (r.val * 1 + 0) * 256 + c.val
    omega
  · have hr := r.isLt
    refine (stored_apply v b inb8 inb5 inbS hx hlt hh hs8 hp hs5 x codes scales W hw st L 1029 1024 rfl (by omega) inb r c).trans ?_
    unfold history
    rw [dif_neg (by omega), dif_pos (by omega)]
    show part _ b ⟨1024 + r.val - 3, _⟩ = part _ b ⟨1021 + r.val, _⟩
    congr 2
    omega

/-! ## The block of unpacked weights, stored slab by slab -/

theorem slabInb (j : Fin 18) (a : Fin 2) : (![0, 128 * j.val] : Fin 2 → Nat) a + (![256, 128] : Fin 2 → Nat) a ≤ (Mat 256 2304).size a := by
  have := j.isLt
  match a with
  | ⟨0, _⟩ => show 0 + 256 ≤ 256; omega
  | ⟨1, _⟩ => show 128 * j.val + 128 ≤ 2304; omega

/-- The store of slab `j`. -/
abbrev slabStore (h1 : (Mat 256 128).ShapeCasts (Mat1 256 128)) (h2 : (Mat1 256 128).ShapeCasts (Mat 256 128))
    (h3 : (Mat 256 128).ShapeCasts (Mat 256 128)) (hb : FTy.bits .bf16 < FTy.bits .f32) (h8 : FTy.bits .fp8e4m3 < FTy.bits .bf16)
    (hi : (Mat 256 128).Iotas .tc 32 [1]) (ht : (Mat 72 256).Transposes [1, 0] (Mat 256 72)) (hs : (Mat 72 256).ShapeCasts (Mat 72 256))
    (hc : Shape.Concatenates [Mat 256 72, Mat 256 56] (Mat 256 128) 1) (codes : FVec Ideal (Mat 256 2304) .fp8e4m3)
    (scales : IVec (Mat 72 256) 8) (j : Fin 18) : View.Piece (Elt Ideal) (Mat 256 2304) .bf16 :=
  ⟨Rect.unit (s := Mat 256 2304) ![0, 128 * j.val] ![256, 128] (slabInb j),
    slab (F := Ideal) h1 h2 h3 hb h8 (factors (nb := 72) (np := 56) ht hs hc hb scales) (group hi) (BitVec.ofNat 32 (4 * j.val))
      (View.ld (Val := Elt Ideal) (e' := .fp8e4m3) codes (Rect.unit (s := Mat 256 2304) ![0, 128 * j.val] ![256, 128] (slabInb j)))⟩

theorem slabs_eq {κ : Kind} {sp : Space} (v : View sig κ sp (Mat 256 2304) .bf16) (h1 h2 h3 hb h8) (hi : (Mat 256 128).Iotas .tc 32 [1]) (ht hs hc)
    (codes : FVec Ideal (Mat 256 2304) .fp8e4m3) (scales : IVec (Mat 72 256) 8)
    (inb : ∀ a, (![0, 0] : Fin 2 → Nat) a + (![256, 2304] : Fin 2 → Nat) a ≤ (Mat 256 2304).size a)
    (P : Fin 18 → View.Piece (Elt Ideal) (Mat 256 2304) .bf16) (hP : P = slabStore h1 h2 h3 hb h8 hi ht hs hc codes scales) :
    v.readCov (Val := Elt Ideal) [P 17, P 16, P 15, P 14, P 13, P 12, P 11, P 10, P 9, P 8, P 7, P 6, P 5, P 4, P 3, P 2, P 1, P 0]
        (Rect.unit (s := Mat 256 2304) ![0, 0] ![256, 2304] inb).toLoadRect = weights (nb := 72) (by decide) codes scales := by
  have hL : ∀ p, p ∈ [P 17, P 16, P 15, P 14, P 13, P 12, P 11, P 10, P 9, P 8, P 7, P 6, P 5, P 4, P 3, P 2, P 1, P 0] ↔ ∃ j, p = P j := by
    intro p
    constructor
    · intro h
      simp only [List.mem_cons, List.not_mem_nil, or_false] at h
      rcases h with h | h | h | h | h | h | h | h | h | h | h | h | h | h | h | h | h | h <;> exact ⟨_, h⟩
    · rintro ⟨j, rfl⟩
      fin_cases j <;> simp
  generalize [P 17, P 16, P 15, P 14, P 13, P 12, P 11, P 10, P 9, P 8, P 7, P 6, P 5, P 4, P 3, P 2, P 1, P 0] = L at hL
  rw [View.readCov_eq_canon']
  funext i
  refine (View.canon_apply_of_pieces (weights (nb := 72) (by decide) codes scales) L ?_ _ ?_).trans ?_
  · intro p hp
    obtain ⟨j, rfl⟩ := (hL p).1 hp
    subst hP
    exact slab_piece (K := 2304) (nb := 72) (np := 56) (by decide) h1 h2 h3 hb h8 hi ht hs hc ⟨j.val, by omega⟩ codes scales (slabInb j)
  · have i0 : (i 0).val < 256 := (i 0).isLt
    have i1 : (i 1).val < 2304 := (i 1).isLt
    refine ⟨P ⟨(i 1).val / 128, by omega⟩, (hL _).2 ⟨_, rfl⟩, ?_⟩
    subst hP
    refine (Rect.mem_set_unit (inb := slabInb _)).2 fun a => ?_
    match a with
    | ⟨0, _⟩ => show 0 ≤ 0 + 1 * (i 0).val ∧ 0 + 1 * (i 0).val < 0 + 256; omega
    | ⟨1, _⟩ =>
      show 128 * ((i 1).val / 128) ≤ 0 + 1 * (i 1).val ∧ 0 + 1 * (i 1).val < 128 * ((i 1).val / 128) + 128
      omega
  · refine congrArg _ (funext fun t => Fin.ext ?_)
    match t with
    | ⟨0, _⟩ => show 0 + 1 * (i 0).val = (i 0).val; omega
    | ⟨1, _⟩ => show 0 + 1 * (i 1).val = (i 1).val; omega

/-! ## The whole results -/

/-- The convolution of the whole product with the factors `fac`: row `i 0` of the 2048, channel `i 1`. -/
def result (fac : BitVec 8 → EReal) {N : Nat} (x : FVec Ideal (Stack 2304) .bf16) (codes : FVec Ideal (Mat N 2304) .fp8e4m3)
    (scales : IVec (Mat N 72) 8) (w : FVec Ideal (Mat N 4) .f32) (st : FVec Ideal ⟨3, ![2, 3, N]⟩ .bf16) : FVec Ideal (Mat 2048 N) .bf16 := fun i =>
  conv (fun r => st (ix3 ⟨(i 0).val / 1024, Nat.div_lt_of_lt_mul (i 0).isLt⟩ r (i 1)))
    (part (fun a => full fac (nb := 72) (by decide) x codes scales (ix2 a (i 1))) ⟨(i 0).val / 1024, Nat.div_lt_of_lt_mul (i 0).isLt⟩)
    (fun j => w (ix2 (i 1) j)) ((i 0).val % 1024)

/-- The product's last three rows of each sequence. -/
def resultTail (fac : BitVec 8 → EReal) {N : Nat} (x : FVec Ideal (Stack 2304) .bf16) (codes : FVec Ideal (Mat N 2304) .fp8e4m3)
    (scales : IVec (Mat N 72) 8) : FVec Ideal ⟨3, ![2, 3, N]⟩ .bf16 := fun i =>
  part (fun a => full fac (nb := 72) (by decide) x codes scales (ix2 a (i 2))) (i 0) ⟨1021 + (i 1).val, by
    have := (i 1).isLt; change _ < 3 at this; omega⟩

/-- Where no scale byte is 0 or 255, the kernel's factors and the reference's give the same results. -/
theorem result_congr {N : Nat} (x : FVec Ideal (Stack 2304) .bf16) (codes : FVec Ideal (Mat N 2304) .fp8e4m3) (scales : IVec (Mat N 72) 8)
    (w : FVec Ideal (Mat N 4) .f32) (st : FVec Ideal ⟨3, ![2, 3, N]⟩ .bf16) (h : ∀ i, scales i ≠ 0#8 ∧ scales i ≠ 255#8) :
    result kfac x codes scales w st = result rfac x codes scales w st := by
  unfold result
  rw [full_congr _ _ _ _ h]

theorem resultTail_congr {N : Nat} (x : FVec Ideal (Stack 2304) .bf16) (codes : FVec Ideal (Mat N 2304) .fp8e4m3) (scales : IVec (Mat N 72) 8)
    (h : ∀ i, scales i ≠ 0#8 ∧ scales i ≠ 255#8) : resultTail kfac x codes scales = resultTail rfac x codes scales := by
  unfold resultTail
  rw [full_congr _ _ _ _ h]

end Cert.Conv

end
-- ==== Proof.ConvQkValue.lean ====
/-
  The convolution projection of the queries and keys: what the kernel leaves in its two result arrays, over the reals. Each of its 6 grid
  points unpacks 256 rows of weights, multiplies the activations with them and convolves the product's channels, so the arrays end at
  `Conv.result` and the rearranged `Conv.resultTail` with the factors the kernel makes; the reference's results are the same with the
  factors written as powers of two.
-/
module

public import proofs.«01_k».proof.Defs
public import proofs.«01_k».proof.Proof.ConvQkIdealRun
public import proofs.«01_k».proof.Proof.Gen.ConvQkRefIdeal.Read
public import proofs.«01_k».proof.Proof.Gen.Pre_conv_qk_scales_normal
public import proofs.«01_k».proof.Proof.ConvBlock

@[expose] public section

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

/-! ## The kernel -/

namespace Cert.ConvQkIdeal.RefValue

open Cert.ConvQkIdeal Cert.ConvQkIdeal.Gen Cert.ConvQkIdeal.Hand Cert.Dequant Cert.Conv

theorem hz : (![0, 0] : Fin 2 → Nat) = fun _ => 0 := funext fun a => by fin_cases a <;> rfl

section Block

variable (c : Dev nD) (i : grid0.Coords) (arg1 : Memref sig .tc .vmem S2048x2304 .bf16) (harg1 : arg1.IsWhole)
    (arg2 : Memref sig .tc .vmem S256x2304 .fp8e4m3) (harg2 : arg2.IsWhole) (arg3 : Memref sig .tc .vmem S72x256 .i8) (harg3 : arg3.IsWhole)
    (arg4 : Memref sig .tc .vmem S4x256 .f32) (harg4 : arg4.IsWhole) (arg5 : Memref sig .tc .vmem S3x2x256 .bf16) (harg5 : arg5.IsWhole)
    (arg6 : Memref sig .tc .vmem S2048x256 .bf16) (harg6 : arg6.IsWhole) (arg7 : Memref sig .tc .vmem S3x2x256 .bf16) (harg7 : arg7.IsWhole)
    (arg8 : Memref sig .tc .vmem S256x2304 .bf16) (harg8 : arg8.IsWhole) (arg9 : Memref sig .tc .vmem S1032x256 .f32) (harg9 : arg9.IsWhole)
    (x0 : Vec Ideal S2048x2304 .bf16) (x1 : Vec Ideal S256x2304 .fp8e4m3) (x2 : Vec Ideal S72x256 .i8) (x3 : Vec Ideal S4x256 .f32)
    (x4 : Vec Ideal S3x2x256 .bf16)

/-- One grid point's block of the result. -/
theorem block_eq :
    out0_A_5 c i arg1 harg1 arg2 harg2 arg3 harg3 arg4 harg4 arg5 harg5 arg6 harg6 arg7 harg7 arg8 harg8 arg9 harg9 x0 x1 x2 x3 x4
      = block x0 x1 x2 x3 x4 := by
  funext y
  unfold out0_A_5
  rw [View.read_writes_junk_eq_canon]
  unfold kernelRun0_A
  dsimp only
  sl_unfold_words
  simp only [View.readAt_eq_ld, harg1.read_unread, harg2.read_unread, harg3.read_unread, harg4.read_unread, harg5.read_unread,
    View.ld_unit_zero (S := S72x256) hz, View.ld_unit_zero (S := S2048x2304) hz]
  refine View.canon_apply_of_pieces (Val := Elt Ideal) (S := S2048x256) (e := .bf16) (block x0 x1 x2 x3 x4) _ ?_ _ (View.cover_of_tiledL _ ![1024, 256] (by sl_kernel_rfl) _)
  refine List.forall_mem_cons.2 ⟨?_, List.forall_mem_cons.2 ⟨?_, fun _ h => absurd h List.not_mem_nil⟩⟩
  · exact act_piece arg9.view 1 _ _ _ shapeCasts_S2048x2304_S2048x2304 bitsLt_bf16_f32 slices_S2048x256_o1024_0_S1024x256 shapeCasts_S1024x256_S1024x256
      shapeCasts_S3x1x256_S3x256 shapeCasts_S3x256_S3x256 x0 x1 x2 _
      (slabs_eq arg8.view shapeCasts_S256x128_S256x128x1 shapeCasts_S256x128x1_S256x128 shapeCasts_S256x128_S256x128 bitsLt_bf16_f32
        bitsLt_fp8e4m3_bf16 iota_S256x128_d1_w32 transposes_S72x256_p1_0_S256x72 shapeCasts_S72x256_S72x256 concatenates_S256x72_S256x56_S256x128_d1
        x1 x2 _ _ rfl) x3 x4 _ shapeCasts_S1x256_S1x256 broadcasts_S1x256_S1024x256 _ _ _ _ _ _ _ _ inb_S2048x256_S1024x256_1024_0
  · exact act_piece arg9.view 0 _ _ _ shapeCasts_S2048x2304_S2048x2304 bitsLt_bf16_f32 slices_S2048x256_o0_0_S1024x256 shapeCasts_S1024x256_S1024x256
      shapeCasts_S3x1x256_S3x256 shapeCasts_S3x256_S3x256 x0 x1 x2 _
      (slabs_eq arg8.view shapeCasts_S256x128_S256x128x1 shapeCasts_S256x128x1_S256x128 shapeCasts_S256x128_S256x128 bitsLt_bf16_f32
        bitsLt_fp8e4m3_bf16 iota_S256x128_d1_w32 transposes_S72x256_p1_0_S256x72 shapeCasts_S72x256_S72x256 concatenates_S256x72_S256x56_S256x128_d1
        x1 x2 _ _ rfl) x3 x4 _ shapeCasts_S1x256_S1x256 broadcasts_S1x256_S1024x256 _ _ _ _ _ _ _ _ inb_S2048x256_S1024x256_0_0

/-- One grid point's block of the tail. -/
theorem tail_eq :
    out0_A_6 c i arg1 harg1 arg2 harg2 arg3 harg3 arg4 harg4 arg5 harg5 arg6 harg6 arg7 harg7 arg8 harg8 arg9 harg9 x0 x1 x2 x3 x4
      = lastRows x0 x1 x2 := by
  unfold out0_A_6 tailOf
  unfold kernelRun0_A
  dsimp only
  sl_unfold_words
  simp only [View.readAt_eq_ld, harg1.read_unread, harg2.read_unread, harg3.read_unread, harg4.read_unread, harg5.read_unread,
    View.ld_unit_zero (S := S72x256) hz, View.ld_unit_zero (S := S2048x2304) hz]
  refine (read_two_stores (F := Ideal) arg7.view arg7.view.junk _ _ _ _ _ _ _ _).trans ?_
  funext y
  obtain ⟨r, b, k, rfl⟩ : ∃ (r : Fin 3) (b : Fin 2) (k : Fin 256), y = ix3 r b k := ⟨y 0, y 1, y 2, eq_ix3 y⟩
  match b with
  | ⟨0, _⟩ =>
    exact tail_piece arg9.view 0 _ _ _ shapeCasts_S2048x2304_S2048x2304 bitsLt_bf16_f32 slices_S2048x256_o0_0_S1024x256 shapeCasts_S1024x256_S1024x256
      shapeCasts_S3x1x256_S3x256 shapeCasts_S3x256_S3x256 shapeCasts_S3x256_S3x1x256 x0 x1 x2 _
      (slabs_eq arg8.view shapeCasts_S256x128_S256x128x1 shapeCasts_S256x128x1_S256x128 shapeCasts_S256x128_S256x128 bitsLt_bf16_f32
        bitsLt_fp8e4m3_bf16 iota_S256x128_d1_w32 transposes_S72x256_p1_0_S256x72 shapeCasts_S72x256_S72x256 concatenates_S256x72_S256x56_S256x128_d1
        x1 x2 _ _ rfl) x4 _ _ r k
  | ⟨1, _⟩ =>
    exact tail_piece arg9.view 1 _ _ _ shapeCasts_S2048x2304_S2048x2304 bitsLt_bf16_f32 slices_S2048x256_o1024_0_S1024x256 shapeCasts_S1024x256_S1024x256
      shapeCasts_S3x1x256_S3x256 shapeCasts_S3x256_S3x256 shapeCasts_S3x256_S3x1x256 x0 x1 x2 _
      (slabs_eq arg8.view shapeCasts_S256x128_S256x128x1 shapeCasts_S256x128x1_S256x128 shapeCasts_S256x128_S256x128 bitsLt_bf16_f32
        bitsLt_fp8e4m3_bf16 iota_S256x128_d1_w32 transposes_S72x256_p1_0_S256x72 shapeCasts_S72x256_S72x256 concatenates_S256x72_S256x56_S256x128_d1
        x1 x2 _ _ rfl) x4 _ _ r k

end Block

variable (m : (ℓ : Loc nD τ sig) → Buf (Elt Ideal) ℓ)

/-- The activations as the region finds them: the argument's two sequences one after the other. -/
theorem V_main_v0 (c : Dev nD) : V m c main_v0 = shapeCast S2048x2304 (m ((c : Thread nD τ).loc main_arg0)) shapeCasts_S2x1024x2304_S2048x2304 := by
  show StableHlo.after hostOps0 _ (Proc.devRef .tc main_v0) = _
  simp only [hostOps0]
  after_results <;> rfl

/-- The scale bytes as the region finds them: the argument transposed. -/
theorem V_main_v1 (c : Dev nD) :
    V m c main_v1 = transpose S72x1536 [1, 0] (m ((c : Thread nD τ).loc main_arg2)) transposes_S1536x72_S72x1536_1_0 := by
  show StableHlo.after hostOps0 _ (Proc.devRef .tc main_v1) = _
  simp only [hostOps0]
  after_results <;> rfl

/-- The convolution's weights as the region finds them: the argument transposed. -/
theorem V_main_v2 (c : Dev nD) :
    V m c main_v2 = transpose S4x1536 [1, 0] (m ((c : Thread nD τ).loc main_arg3)) transposes_S1536x4_S4x1536_1_0 := by
  show StableHlo.after hostOps0 _ (Proc.devRef .tc main_v2) = _
  simp only [hostOps0]
  after_results <;> rfl

/-- The state as the region finds it: the argument with its rows before its sequences. -/
theorem V_main_v3 (c : Dev nD) :
    V m c main_v3 = transpose S3x2x1536 [1, 0, 2] (m ((c : Thread nD τ).loc main_arg4)) transposes_S2x3x1536_S3x2x1536_1_0_2 := by
  show StableHlo.after hostOps0 _ (Proc.devRef .tc main_v3) = _
  simp only [hostOps0]
  after_results <;> rfl

/-- Which blocks grid point `t` works on: all of the activations and block `t` of everything else. -/
theorem index_eq : ∀ t : Fin cfg0.N, win0_0.index t 0 = 0 ∧ win0_0.index t 1 = 0 ∧ win0_1.index t 0 = t.val ∧ win0_1.index t 1 = 0
    ∧ win0_2.index t 0 = 0 ∧ win0_2.index t 1 = t.val ∧ win0_3.index t 0 = 0 ∧ win0_3.index t 1 = t.val
    ∧ win0_4.index t 0 = 0 ∧ win0_4.index t 1 = 0 ∧ win0_4.index t 2 = t.val ∧ win0_5.index t 0 = 0 ∧ win0_5.index t 1 = t.val
    ∧ win0_6.index t 0 = 0 ∧ win0_6.index t 1 = 0 ∧ win0_6.index t 2 = t.val ∧ t.val < 6 :=
  (by decide +kernel : ∀ t : Fin grid0.N, win0_0.index t 0 = 0 ∧ win0_0.index t 1 = 0 ∧ win0_1.index t 0 = t.val ∧ win0_1.index t 1 = 0
    ∧ win0_2.index t 0 = 0 ∧ win0_2.index t 1 = t.val ∧ win0_3.index t 0 = 0 ∧ win0_3.index t 1 = t.val
    ∧ win0_4.index t 0 = 0 ∧ win0_4.index t 1 = 0 ∧ win0_4.index t 2 = t.val ∧ win0_5.index t 0 = 0 ∧ win0_5.index t 1 = t.val
    ∧ win0_6.index t 0 = 0 ∧ win0_6.index t 1 = 0 ∧ win0_6.index t 2 = t.val ∧ t.val < 6)

theorem iblk0_apply (c : Dev nD) (t : Fin cfg0.N) (a : Fin 2048) (k : Fin 2304) :
    iblk m c 0 t (ix2 a k) = m ((c : Thread nD τ).loc main_arg0)
      (ix3 ⟨a.val / 1024, Nat.div_lt_of_lt_mul a.isLt⟩ ⟨a.val % 1024, Nat.mod_lt _ (by decide)⟩ k) := by
  obtain ⟨e0, e1, -⟩ := index_eq t
  have e : (win0_0.rect t).emb (ix2 a k) = (ix2 a k : (Mat 2048 2304).Idx) := by
    funext d
    apply Fin.ext
    match d with
    | ⟨0, _⟩ => show win0_0.index t 0 * 2048 + 1 * a.val = a.val; rw [e0]; omega
    | ⟨1, _⟩ => show win0_0.index t 1 * 2304 + 1 * k.val = k.val; rw [e1]; omega
  show V m c main_v0 ((win0_0.rect t).emb (ix2 a k)) = _
  rw [V_main_v0]
  refine (congrArg _ e).trans ?_
  refine shapeCast_apply _ _ _ _ ?_
  show ((Stack 2304).rowMajor (ix3 _ _ _)).val = ((Mat 2048 2304).rowMajor (ix2 a k)).val
  rewrite [Shape.rowMajor_val_three, Shape.rowMajor_val_two]
  show (a.val / 1024 * 1024 + a.val % 1024) * 2304 + k.val = a.val * 2304 + k.val
  omega

theorem iblk1_apply (c : Dev nD) (t : Fin cfg0.N) (b : Fin 256) (k : Fin 2304) (n : Fin 1536) (hn : n.val = 256 * t.val + b.val) :
    iblk m c 1 t (ix2 b k) = m ((c : Thread nD τ).loc main_arg1) (ix2 n k) := by
  obtain ⟨-, -, e0, e1, -⟩ := index_eq t
  have e : (win0_1.rect t).emb (ix2 b k) = (ix2 n k : (Mat 1536 2304).Idx) := by
    funext d
    apply Fin.ext
    match d with
    | ⟨0, _⟩ => show win0_1.index t 0 * 256 + 1 * b.val = n.val; rw [e0]; omega
    | ⟨1, _⟩ => show win0_1.index t 1 * 2304 + 1 * k.val = k.val; rw [e1]; omega
  show V m c main_arg1 ((win0_1.rect t).emb (ix2 b k)) = _
  rw [V_main_arg1]
  exact congrArg _ e

theorem iblk2_apply (c : Dev nD) (t : Fin cfg0.N) (g : Fin 72) (b : Fin 256) (n : Fin 1536) (hn : n.val = 256 * t.val + b.val) :
    iblk m c 2 t (ix2 g b) = m ((c : Thread nD τ).loc main_arg2) (ix2 n g) := by
  obtain ⟨-, -, -, -, e0, e1, -⟩ := index_eq t
  have e : (win0_2.rect t).emb (ix2 g b) = (ix2 g n : (Mat 72 1536).Idx) := by
    funext d
    apply Fin.ext
    match d with
    | ⟨0, _⟩ => show win0_2.index t 0 * 72 + 1 * g.val = g.val; rw [e0]; omega
    | ⟨1, _⟩ => show win0_2.index t 1 * 256 + 1 * b.val = n.val; rw [e1]; omega
  show V m c main_v1 ((win0_2.rect t).emb (ix2 g b)) = _
  rw [V_main_v1]
  refine (congrArg _ e).trans ?_
  exact transpose_ix2_apply _ _ _ _

theorem iblk3_apply (c : Dev nD) (t : Fin cfg0.N) (j : Fin 4) (b : Fin 256) (n : Fin 1536) (hn : n.val = 256 * t.val + b.val) :
    iblk m c 3 t (ix2 j b) = m ((c : Thread nD τ).loc main_arg3) (ix2 n j) := by
  obtain ⟨-, -, -, -, -, -, e0, e1, -⟩ := index_eq t
  have e : (win0_3.rect t).emb (ix2 j b) = (ix2 j n : (Mat 4 1536).Idx) := by
    funext d
    apply Fin.ext
    match d with
    | ⟨0, _⟩ => show win0_3.index t 0 * 4 + 1 * j.val = j.val; rw [e0]; omega
    | ⟨1, _⟩ => show win0_3.index t 1 * 256 + 1 * b.val = n.val; rw [e1]; omega
  show V m c main_v2 ((win0_3.rect t).emb (ix2 j b)) = _
  rw [V_main_v2]
  refine (congrArg _ e).trans ?_
  exact transpose_ix2_apply _ _ _ _

theorem iblk4_apply (c : Dev nD) (t : Fin cfg0.N) (r : Fin 3) (s : Fin 2) (b : Fin 256) (n : Fin 1536) (hn : n.val = 256 * t.val + b.val) :
    iblk m c 4 t (ix3 r s b) = m ((c : Thread nD τ).loc main_arg4) (ix3 s r n) := by
  obtain ⟨-, -, -, -, -, -, -, -, e0, e1, e2, -⟩ := index_eq t
  have e : (win0_4.rect t).emb (ix3 r s b) = (ix3 r s n : S3x2x1536.Idx) := by
    funext d
    apply Fin.ext
    match d with
    | ⟨0, _⟩ => show win0_4.index t 0 * 3 + 1 * r.val = r.val; rw [e0]; omega
    | ⟨1, _⟩ => show win0_4.index t 1 * 2 + 1 * s.val = s.val; rw [e1]; omega
    | ⟨2, _⟩ => show win0_4.index t 2 * 256 + 1 * b.val = n.val; rw [e2]; omega
  show V m c main_v3 ((win0_4.rect t).emb (ix3 r s b)) = _
  rw [V_main_v3]
  refine (congrArg _ e).trans ?_
  exact transpose_apply _ _ _ _ _ fun d => match d with | ⟨0, _⟩ => rfl | ⟨1, _⟩ => rfl | ⟨2, _⟩ => rfl

/-- The convolution of device `c`'s arguments, with the factors the kernel makes. -/
abbrev whole (c : Dev nD) : FVec Ideal (Mat 2048 1536) .bf16 :=
  result kfac (m ((c : Thread nD τ).loc main_arg0)) (m ((c : Thread nD τ).loc main_arg1))
    (m ((c : Thread nD τ).loc main_arg2)) (m ((c : Thread nD τ).loc main_arg3)) (m ((c : Thread nD τ).loc main_arg4))

/-- The product's last three rows of each sequence. -/
abbrev wholeTail (c : Dev nD) : FVec Ideal S2x3x1536 .bf16 :=
  resultTail kfac (m ((c : Thread nD τ).loc main_arg0)) (m ((c : Thread nD τ).loc main_arg1)) (m ((c : Thread nD τ).loc main_arg2))

/-- The same with the rows before the sequences, as the kernel writes them. -/
def rowsFirst (c : Dev nD) : FVec Ideal S3x2x1536 .bf16 := fun i => wholeTail m c (ix3 (i 1) (i 0) (i 2))

/-- Grid point `t`'s block of the product. -/
theorem proj_eq (c : Dev nD) (t : Fin cfg0.N) (b : Fin 256) (n : Fin 1536) (hn : n.val = 256 * t.val + b.val) (a : Fin 2048) :
    proj (nb := 72) (by decide) (iblk m c 0 t) (iblk m c 1 t) (iblk m c 2 t) a b
      = full kfac (nb := 72) (by decide) (m ((c : Thread nD τ).loc main_arg0)) (m ((c : Thread nD τ).loc main_arg1))
        (m ((c : Thread nD τ).loc main_arg2)) (ix2 a n) := by
  unfold proj full weight
  refine Finset.sum_congr rfl fun k _ => ?_
  rw [iblk0_apply, iblk1_apply m c t b k n hn, iblk2_apply m c t _ b n hn]

/-- What grid point `t` writes back is its block of the convolution. -/
theorem flushed5_eq (c : Dev nD) (t : Fin cfg0.N) :
    (dats m 0 c).flushed 5 t = (win0_5.blk t).view.read (Elt Ideal) (whole m c) := by
  show (cfg0.win 5).cut (grid0.coords t) ((dats m 0 c).after 5 t) = _
  rw [after0_5]
  unfold outsAt0
  dsimp only
  rw [block_eq]
  obtain ⟨-, -, -, -, -, -, -, -, -, -, -, e0, e1, -, -, -, ht⟩ := index_eq t
  funext y
  obtain ⟨a, b, rfl⟩ : ∃ (a : Fin 2048) (b : Fin 256), y = ix2 a b := ⟨y 0, y 1, eq_ix2 y⟩
  have hb : 256 * t.val + b.val < 1536 := by omega
  have e : (win0_5.rect t).emb (ix2 a b) = (ix2 a ⟨256 * t.val + b.val, hb⟩ : (Mat 2048 1536).Idx) := by
    funext d
    apply Fin.ext
    match d with
    | ⟨0, _⟩ => show win0_5.index t 0 * 2048 + 1 * a.val = a.val; rw [e0]; omega
    | ⟨1, _⟩ => show win0_5.index t 1 * 256 + 1 * b.val = 256 * t.val + b.val; rw [e1]; omega
  show block _ _ _ _ _ (ix2 a b) = whole m c ((win0_5.rect t).emb (ix2 a b))
  refine Eq.trans ?_ (congrArg (whole m c) e).symm
  unfold whole block result
  congr 1
  · funext r
    exact iblk4_apply m c t r _ b _ rfl
  · congr 1
    funext a'
    exact proj_eq m c t b ⟨256 * t.val + b.val, hb⟩ rfl a'
  · funext j
    exact iblk3_apply m c t j b _ rfl

/-- What grid point `t` writes back of the tail is its block of it. -/
theorem flushed6_eq (c : Dev nD) (t : Fin cfg0.N) :
    (dats m 0 c).flushed 6 t = (win0_6.blk t).view.read (Elt Ideal) (rowsFirst m c) := by
  show (cfg0.win 6).cut (grid0.coords t) ((dats m 0 c).after 6 t) = _
  rw [after0_6]
  unfold outsAt0
  dsimp only
  rw [tail_eq]
  obtain ⟨-, -, -, -, -, -, -, -, -, -, -, -, -, e0, e1, e2, ht⟩ := index_eq t
  funext y
  obtain ⟨r, s, b, rfl⟩ : ∃ (r : Fin 3) (s : Fin 2) (b : Fin 256), y = ix3 r s b := ⟨y 0, y 1, y 2, eq_ix3 y⟩
  have hb : 256 * t.val + b.val < 1536 := by omega
  have e : (win0_6.rect t).emb (ix3 r s b) = (ix3 r s ⟨256 * t.val + b.val, hb⟩ : S3x2x1536.Idx) := by
    funext d
    apply Fin.ext
    match d with
    | ⟨0, _⟩ => show win0_6.index t 0 * 3 + 1 * r.val = r.val; rw [e0]; omega
    | ⟨1, _⟩ => show win0_6.index t 1 * 2 + 1 * s.val = s.val; rw [e1]; omega
    | ⟨2, _⟩ => show win0_6.index t 2 * 256 + 1 * b.val = 256 * t.val + b.val; rw [e2]; omega
  show lastRows _ _ _ (ix3 r s b) = rowsFirst m c ((win0_6.rect t).emb (ix3 r s b))
  refine Eq.trans ?_ (congrArg (rowsFirst m c) e).symm
  unfold rowsFirst wholeTail lastRows resultTail part
  exact proj_eq m c t b ⟨256 * t.val + b.val, hb⟩ rfl _

/-- An index of the result array whose column is among the 256 of block `t` is in that block. -/
theorem mem_blk5 (t : Fin cfg0.N) (i : S2048x1536.Idx) (h : 256 * t.val ≤ (i 1).val ∧ (i 1).val < 256 * t.val + 256) :
    i ∈ ((cfg0.win 5).blk t).view.set := by
  have h0 : (i 0).val < 2048 := (i 0).isLt
  obtain ⟨-, -, -, -, -, -, -, -, -, -, -, e0, e1, -⟩ := index_eq t
  show i ∈ ((View.whole main_v4_0).slice (win0_5.rect t)).set
  rw [View.set_slice_whole, Rect.mem_set_unit]
  intro a
  match a with
  | ⟨0, _⟩ => show win0_5.index t 0 * 2048 ≤ (i 0).val ∧ (i 0).val < win0_5.index t 0 * 2048 + 2048
              rw [e0]; omega
  | ⟨1, _⟩ => show win0_5.index t 1 * 256 ≤ (i 1).val ∧ (i 1).val < win0_5.index t 1 * 256 + 256
              rw [e1]; omega

/-- The same of the tail's array. -/
theorem mem_blk6 (t : Fin cfg0.N) (i : S3x2x1536.Idx) (h : 256 * t.val ≤ (i 2).val ∧ (i 2).val < 256 * t.val + 256) :
    i ∈ ((cfg0.win 6).blk t).view.set := by
  have h0 : (i 0).val < 3 := (i 0).isLt
  have h1 : (i 1).val < 2 := (i 1).isLt
  obtain ⟨-, -, -, -, -, -, -, -, -, -, -, -, -, e0, e1, e2, -⟩ := index_eq t
  show i ∈ ((View.whole main_v4_1).slice (win0_6.rect t)).set
  rw [View.set_slice_whole, Rect.mem_set_unit]
  intro a
  match a with
  | ⟨0, _⟩ => show win0_6.index t 0 * 3 ≤ (i 0).val ∧ (i 0).val < win0_6.index t 0 * 3 + 3
              rw [e0]; omega
  | ⟨1, _⟩ => show win0_6.index t 1 * 2 ≤ (i 1).val ∧ (i 1).val < win0_6.index t 1 * 2 + 2
              rw [e1]; omega
  | ⟨2, _⟩ => show win0_6.index t 2 * 256 ≤ (i 2).val ∧ (i 2).val < win0_6.index t 2 * 256 + 256
              rw [e2]; omega

/-- The blocks tile both arrays: column `n` is in block `n / 256`. -/
theorem cover5 (i : S2048x1536.Idx) : ∃ t : Fin cfg0.N, (cfg0.win 5).flush t = true ∧ i ∈ ((cfg0.win 5).blk t).view.set := by
  have h1 : (i 1).val < 1536 := (i 1).isLt
  have hN : cfg0.N = 6 := N_0
  refine ⟨⟨(i 1).val / 256, by omega⟩, flush0_5 _, mem_blk5 _ i ?_⟩
  dsimp only
  omega

theorem cover6 (i : S3x2x1536.Idx) : ∃ t : Fin cfg0.N, (cfg0.win 6).flush t = true ∧ i ∈ ((cfg0.win 6).blk t).view.set := by
  have h2 : (i 2).val < 1536 := (i 2).isLt
  have hN : cfg0.N = 6 := N_0
  refine ⟨⟨(i 2).val / 256, by omega⟩, flush0_6 _, mem_blk6 _ i ?_⟩
  dsimp only
  omega

/-- So the kernel's arrays end at the convolution and the tail. -/
theorem final5 (c : Dev nD) : (dats m 0 c).arrAt 5 cfg0.N = whole m c :=
  (dats m 0 c).arrAt_eq_of_cover 5 (whole m c) (fun t _ => flushed5_eq m c t) cover5

theorem final6 (c : Dev nD) : (dats m 0 c).arrAt 6 cfg0.N = rowsFirst m c :=
  (dats m 0 c).arrAt_eq_of_cover 6 (rowsFirst m c) (fun t _ => flushed6_eq m c t) cover6

/-- The host's transpose after the region puts the tail's sequences first. -/
theorem tail_main_v5 (W : Valuation τ sig (Elt Ideal)) :
    after (List.flatten [hostOps1]) W (Proc.devRef .tc main_v5)
      = transpose S2x3x1536 [1, 0, 2] (W (Proc.devRef .tc main_v4_1)) transposes_S3x2x1536_S2x3x1536_1_0_2 := by
  simp only [hostOps1, List.flatten_cons, List.flatten_nil, List.append_nil]
  after_results <;> rfl

theorem final_main_v5 (c : Dev nD) : Pipeline.afterTail₀ cfgs (dats m) 0 (V0 m) [hostOps1] c main_v5 = wholeTail m c := by
  refine (tail_main_v5 (Pipeline.withArrays spec0 c (V0 m c) fun w => (dats m 0 c).arrAt w cfg0.N)).trans ?_
  rw [show Pipeline.withArrays spec0 c (V0 m c) (fun w => (dats m 0 c).arrAt w cfg0.N) (Proc.devRef .tc main_v4_1) = rowsFirst m c from
    (Pipeline.withArrays_arr spec0 launch0.win.arr_inj c (V0 m c) _ 6).trans (final6 m c)]
  funext i
  obtain ⟨s, r, n, rfl⟩ : ∃ (s : Fin 2) (r : Fin 3) (n : Fin 1536), i = ix3 s r n := ⟨i 0, i 1, i 2, eq_ix3 i⟩
  exact transpose_apply _ _ _ _ (ix3 r s n) fun d => match d with | ⟨0, _⟩ => rfl | ⟨1, _⟩ => rfl | ⟨2, _⟩ => rfl

/-- The kernel ends with both results and its arguments unchanged. -/
theorem run_values (g : Dev nD → PrngReg) : θ_run (defs (F := Ideal)) (onTc (τ := τ) (main (F := Ideal))) ⟨m, fun _ => 0, g⟩ fun r => ∀ c : Dev nD,
    r.2.mem ((c.tc : Thread nD τ).loc main_v4_0) = whole m c
    ∧ r.2.mem ((c.tc : Thread nD τ).loc main_v5) = wholeTail m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨((h.1 c).1 5).trans (final5 m c),
      ((h.1 c).2 main_v5 (Pipeline.mem_restRefs_of main_v5 (by decide) (by decide))).trans (final_main_v5 m c), h.2.1 c⟩)
    (θ_run_and (run_main m g) (frame m g))

end Cert.ConvQkIdeal.RefValue

/-! ## The reference -/

namespace Cert.ConvQkRefIdeal.RefValue

open Cert.ConvQkRefIdeal Cert.ConvQkRefIdeal.Gen Cert.Dequant Cert.Conv

variable (m : (ℓ : Loc nD τ sig) → Buf (Elt Ideal) ℓ)

theorem hz : (![0, 0] : Fin 2 → Nat) = fun _ => 0 := funext fun a => by fin_cases a <;> rfl

/-- The codes, which the reference's one region widens: over the reals the codes themselves. -/
abbrev codes (c : Dev nD) : FVec Ideal (Mat 1536 2304) .bf16 := extf .bf16 (m ((c : Thread nD τ).loc main_arg1)) bitsLt_fp8e4m3_bf16

theorem widen_flushed (c : Dev nD) (t : Fin cfg0.N) :
    (dats m 0 c).flushed 1 t = (win0_1.blk t).view.read (Elt Ideal) (codes m c) := by
  show (cfg0.win 1).cut (grid0.coords t) ((dats m 0 c).after 1 t) = _
  rw [after0_1]
  unfold out0_1
  rw [View.canon_unit_zero hz, View.ld_unit_zero hz]
  unfold iblk codes
  rw [show V m c (Pipeline.arrRef spec0 0) = m ((c : Thread nD τ).loc main_arg1) from V_main_arg1 m c]
  rfl

theorem widen_mem (t : Fin cfg0.N) (i : S1536x2304.Idx) : i ∈ ((cfg0.win 1).blk t).view.set := by
  have h0 : (i 0).val < 1536 := (i 0).isLt
  have h1 : (i 1).val < 2304 := (i 1).isLt
  show i ∈ ((View.whole main_v7).slice (win0_1.rect t)).set
  rw [View.set_slice_whole, Rect.mem_set_unit]
  have e : ∀ t : Fin cfg0.N, win0_1.index t 0 = 0 ∧ win0_1.index t 1 = 0 :=
    (by decide +kernel : ∀ t : Fin grid0.N, win0_1.index t 0 = 0 ∧ win0_1.index t 1 = 0)
  intro a
  match a with
  | ⟨0, _⟩ => show win0_1.index t 0 * 1536 ≤ (i 0).val ∧ (i 0).val < win0_1.index t 0 * 1536 + 1536
              rw [(e t).1]; omega
  | ⟨1, _⟩ => show win0_1.index t 1 * 2304 ≤ (i 1).val ∧ (i 1).val < win0_1.index t 1 * 2304 + 2304
              rw [(e t).2]; omega

theorem widen_cover (i : S1536x2304.Idx) : ∃ t : Fin cfg0.N, (cfg0.win 1).flush t = true ∧ i ∈ ((cfg0.win 1).blk t).view.set :=
  have hN : cfg0.N = 1 := N_0
  ⟨⟨0, by omega⟩, flush0_1 _, widen_mem _ i⟩

theorem widen (c : Dev nD) : Value.reg_main_v7 m c = codes m c :=
  (dats m 0 c).arrAt_eq_of_cover 1 (codes m c) (fun t _ => widen_flushed m c t) widen_cover

/-- The factors the reference broadcasts over each group, before the region. -/
abbrev facs (scales : IVec (Mat 1536 72) 8) : FVec Ideal (Mat 1536 72) .bf16 :=
  truncf .bf16 (Host.powf (broadcastInDim S1536x72 ![] bcast_S_S1536x72 (constant S_ .f32 0x40000000#32))
    (sitofp .f32 (subi (extui 32 scales natLt_8_32) (broadcastInDim S1536x72 ![] bcast_S_S1536x72 (constantI S_ 32 127#32))))) bitsLt_bf16_f32

theorem facs_apply (scales : IVec (Mat 1536 72) 8) (i : (Mat 1536 72).Idx) : facs scales i = rfac (scales i) := rfl

section Operations

variable (x : FVec Ideal (Stack 2304) .bf16) (w : FVec Ideal (Mat 1536 2304) .fp8e4m3) (scales : IVec (Mat 1536 72) 8)
    (cw : FVec Ideal (Mat 1536 4) .f32) (st : FVec Ideal ⟨3, ![2, 3, 1536]⟩ .bf16)

/-- The whole product's columns, one sequence's part of one of them. -/
abbrev chan (n : Fin 1536) (b : Fin 2) : Fin 1024 → EReal := part (fun a => full rfac (nb := 72) (by decide) x w scales (ix2 a n)) b

/-- The product, at time `t` of sequence `b`. -/
theorem product_apply (b : Fin 2) (t : Fin 1024) (n : Fin 1536) :
    Read.val_main_v14 (F := Ideal) x (extf .bf16 w bitsLt_fp8e4m3_bf16) (facs scales) (ix3 b t n) = chan x w scales n b t := by
  rw [Read.val_main_v14_apply, Read.val_main_v13_apply]
  show (∑ k : Fin 2304, _) = _
  unfold chan part full
  refine Finset.sum_congr rfl fun k _ => ?_
  have h0 : b.val < 2 := b.isLt
  have h1 : t.val < 1024 := t.isLt
  have hn : n.val < 1536 := n.isLt
  have hk : k.val < 2304 := k.isLt
  congr 1
  · refine congrArg x ?_
    funext a
    apply Fin.ext
    match a with
    | ⟨0, _⟩ => show b.val = (1024 * b.val + t.val) / 1024; omega
    | ⟨1, _⟩ => show t.val = (1024 * b.val + t.val) % 1024; omega
    | ⟨2, _⟩ => rfl
  · rw [Read.val_main_v12_apply, Read.val_main_v11_apply, Read.val_main_v8_apply, Read.val_main_v10_apply, Read.val_main_v9_apply, facs_apply]
    show w _ * rfac _ = _
    congr 1
    · refine congrArg w ?_
      funext a
      apply Fin.ext
      match a with
      | ⟨0, _⟩ => show (((n.val * 2304 + k.val) / 2304 * 72 + (n.val * 2304 + k.val) / 32 % 72) * 32 + (n.val * 2304 + k.val) % 32) / 2304 = n.val; omega
      | ⟨1, _⟩ => show (((n.val * 2304 + k.val) / 2304 * 72 + (n.val * 2304 + k.val) / 32 % 72) * 32 + (n.val * 2304 + k.val) % 32) % 2304 = k.val; omega
    · refine congrArg (fun j => rfac (scales j)) ?_
      funext a
      apply Fin.ext
      match a with
      | ⟨0, _⟩ => show (n.val * 2304 + k.val) / 2304 = n.val; omega
      | ⟨1, _⟩ => show (n.val * 2304 + k.val) / 32 % 72 = k.val / 32; omega

/-- The state followed by the product: a sequence's history. -/
theorem joined_apply (b : Fin 2) (r : Fin 1027) (n : Fin 1536) :
    Read.val_main_v16 (F := Ideal) x st (extf .bf16 w bitsLt_fp8e4m3_bf16) (facs scales) (ix3 b r n)
      = history (fun r => st (ix3 b r n)) (chan x w scales n b) r.val := by
  rw [Read.val_main_v16_apply]
  show Read.val_main_v15 (F := Ideal) x st (extf .bf16 w bitsLt_fp8e4m3_bf16) (facs scales) (ix3 b r n) = _
  unfold Read.val_main_v15 history
  have hr : r.val < 1027 := r.isLt
  by_cases h : r.val < 3
  · rw [dif_pos h]
    exact concatenate_pair_apply_left (t := S2x1027x1536) (s₁ := S2x3x1536) (s₂ := S2x1024x1536) 1 _ _
      concatenates_S2x3x1536_S2x1024x1536_S2x1027x1536_d1 (ix3 b r n) rfl (ix3 b ⟨r.val, h⟩ n)
      (fun a => match a with | ⟨0, _⟩ => rfl | ⟨1, _⟩ => rfl | ⟨2, _⟩ => rfl)
  · rw [dif_neg h, dif_pos (by omega : r.val - 3 < 1024)]
    refine (concatenate_pair_apply_right (t := S2x1027x1536) (s₁ := S2x3x1536) (s₂ := S2x1024x1536) 1 _ _
      concatenates_S2x3x1536_S2x1024x1536_S2x1027x1536_d1 (ix3 b r n) rfl rfl (ix3 b ⟨r.val - 3, by omega⟩ n)
      (fun a ha => match a, ha with | ⟨0, _⟩, _ => rfl | ⟨1, _⟩, ha => absurd rfl ha | ⟨2, _⟩, _ => rfl)
      (by show r.val - 3 + 3 = r.val; omega)).trans ?_
    exact product_apply x w scales b ⟨r.val - 3, by omega⟩ n

/-- Column 0 of the convolution's weights, broadcast over the rows. -/
theorem col0_apply (b : Fin 2) (t : Fin 1024) (n : Fin 1536) : Read.val_main_v21 (F := Ideal) cw (ix3 b t n) = cw (ix2 n 0) := by
  rw [Read.val_main_v21_apply, Read.val_main_v20_apply, Read.val_main_v19_apply, Read.val_main_v18_apply]
  refine congrArg cw (funext fun a => Fin.ext ?_)
  match a with
  | ⟨0, _⟩ => show n.val / 1 = n.val; omega
  | ⟨1, _⟩ => rfl

/-- Column 1. -/
theorem col1_apply (b : Fin 2) (t : Fin 1024) (n : Fin 1536) : Read.val_main_v27 (F := Ideal) cw (ix3 b t n) = cw (ix2 n 1) := by
  rw [Read.val_main_v27_apply, Read.val_main_v26_apply, Read.val_main_v25_apply, Read.val_main_v24_apply]
  refine congrArg cw (funext fun a => Fin.ext ?_)
  match a with
  | ⟨0, _⟩ => show n.val / 1 = n.val; omega
  | ⟨1, _⟩ => rfl

/-- Column 2. -/
theorem col2_apply (b : Fin 2) (t : Fin 1024) (n : Fin 1536) : Read.val_main_v34 (F := Ideal) cw (ix3 b t n) = cw (ix2 n 2) := by
  rw [Read.val_main_v34_apply, Read.val_main_v33_apply, Read.val_main_v32_apply, Read.val_main_v31_apply]
  refine congrArg cw (funext fun a => Fin.ext ?_)
  match a with
  | ⟨0, _⟩ => show n.val / 1 = n.val; omega
  | ⟨1, _⟩ => rfl

/-- Column 3. -/
theorem col3_apply (b : Fin 2) (t : Fin 1024) (n : Fin 1536) : Read.val_main_v41 (F := Ideal) cw (ix3 b t n) = cw (ix2 n 3) := by
  rw [Read.val_main_v41_apply, Read.val_main_v40_apply, Read.val_main_v39_apply, Read.val_main_v38_apply]
  refine congrArg cw (funext fun a => Fin.ext ?_)
  match a with
  | ⟨0, _⟩ => show n.val / 1 = n.val; omega
  | ⟨1, _⟩ => rfl

/-- The weighted sum of four neighbouring rows of the history. -/
theorem sum_apply (b : Fin 2) (t : Fin 1024) (n : Fin 1536) :
    Read.val_main_v43 (F := Ideal) x cw st (extf .bf16 w bitsLt_fp8e4m3_bf16) (facs scales) (ix3 b t n)
      = ((history (fun r => st (ix3 b r n)) (chan x w scales n b) t.val * cw (ix2 n 0)
        + history (fun r => st (ix3 b r n)) (chan x w scales n b) (1 + t.val) * cw (ix2 n 1))
        + history (fun r => st (ix3 b r n)) (chan x w scales n b) (2 + t.val) * cw (ix2 n 2))
        + history (fun r => st (ix3 b r n)) (chan x w scales n b) (3 + t.val) * cw (ix2 n 3) := by
  have ht : t.val < 1024 := t.isLt
  rw [Read.val_main_v43_apply, Read.val_main_v36_apply, Read.val_main_v29_apply, Read.val_main_v22_apply, Read.val_main_v28_apply,
    Read.val_main_v35_apply, Read.val_main_v42_apply, col0_apply, col1_apply, col2_apply, col3_apply,
    Read.val_main_v17_apply, Read.val_main_v23_apply, Read.val_main_v30_apply, Read.val_main_v37_apply]
  have e (j : Nat) (hj : j + t.val < 1027) (i : S2x1027x1536.Idx) (h0 : (i 0).val = b.val) (h1 : (i 1).val = j + t.val) (h2 : (i 2).val = n.val) :
      Read.val_main_v16 (F := Ideal) x st (extf .bf16 w bitsLt_fp8e4m3_bf16) (facs scales) i
        = history (fun r => st (ix3 b r n)) (chan x w scales n b) (j + t.val) := by
    refine (congrArg _ (?_ : i = ix3 b ⟨j + t.val, hj⟩ n)).trans (joined_apply x w scales st b ⟨j + t.val, hj⟩ n)
    funext a
    apply Fin.ext
    match a with
    | ⟨0, _⟩ => exact h0
    | ⟨1, _⟩ => exact h1
    | ⟨2, _⟩ => exact h2
  rw [e 0 (by omega) (Read.idx_main_v17 (ix3 b t n)) rfl (by show t.val = 0 + t.val; omega) rfl,
    e 1 (by omega) (Read.idx_main_v23 (ix3 b t n)) rfl rfl rfl, e 2 (by omega) (Read.idx_main_v30 (ix3 b t n)) rfl rfl rfl,
    e 3 (by omega) (Read.idx_main_v37 (ix3 b t n)) rfl rfl rfl, Nat.zero_add]
  rfl

/-- The convolution, at time `t` of sequence `b`. -/
theorem act_apply (b : Fin 2) (t : Fin 1024) (n : Fin 1536) :
    Read.val_main_v45 (F := Ideal) x cw st (extf .bf16 w bitsLt_fp8e4m3_bf16) (facs scales) (ix3 b t n)
      = conv (fun r => st (ix3 b r n)) (chan x w scales n b) (fun j => cw (ix2 n j)) t.val := by
  rw [Read.val_main_v45_apply, Read.val_main_v44_apply, Read.val_main_call0_v5_apply, Read.val_main_call0_v4_apply,
    Read.val_main_call0_v3_apply, Read.val_main_call0_v2_apply, Read.val_main_call0_v1_apply, Read.val_main_call0_v0_apply, sum_apply]
  rfl

/-- The rows of the first sequence. -/
theorem rows0_apply (t : Fin 1024) (n : Fin 1536) :
    Read.val_main_v47 (F := Ideal) x cw st (extf .bf16 w bitsLt_fp8e4m3_bf16) (facs scales) (ix2 t n)
      = conv (fun r => st (ix3 0 r n)) (chan x w scales n 0) (fun j => cw (ix2 n j)) t.val := by
  have ht : t.val < 1024 := t.isLt
  have hn : n.val < 1536 := n.isLt
  rw [Read.val_main_v47_apply, Read.val_main_v46_apply]
  refine (congrArg _ (?_ : _ = ix3 (0 : Fin 2) t n)).trans (act_apply x w scales cw st 0 t n)
  funext a
  apply Fin.ext
  match a with
  | ⟨0, _⟩ => rfl
  | ⟨1, _⟩ => show (t.val * 1536 + n.val) / 1536 % 1024 = t.val; omega
  | ⟨2, _⟩ => show (t.val * 1536 + n.val) % 1536 = n.val; omega

/-- The rows of the second. -/
theorem rows1_apply (t : Fin 1024) (n : Fin 1536) :
    Read.val_main_v49 (F := Ideal) x cw st (extf .bf16 w bitsLt_fp8e4m3_bf16) (facs scales) (ix2 t n)
      = conv (fun r => st (ix3 1 r n)) (chan x w scales n 1) (fun j => cw (ix2 n j)) t.val := by
  have ht : t.val < 1024 := t.isLt
  have hn : n.val < 1536 := n.isLt
  rw [Read.val_main_v49_apply, Read.val_main_v48_apply]
  refine (congrArg _ (?_ : _ = ix3 (1 : Fin 2) t n)).trans (act_apply x w scales cw st 1 t n)
  funext a
  apply Fin.ext
  match a with
  | ⟨0, _⟩ => rfl
  | ⟨1, _⟩ => show (t.val * 1536 + n.val) / 1536 % 1024 = t.val; omega
  | ⟨2, _⟩ => show (t.val * 1536 + n.val) % 1536 = n.val; omega

/-- The reference's first result is the convolution with the factors written as powers of two. -/
theorem result_eq : Read.val_main_v50 (F := Ideal) x cw st (extf .bf16 w bitsLt_fp8e4m3_bf16) (facs scales) = result rfac x w scales cw st := by
  funext i
  obtain ⟨a, n, rfl⟩ : ∃ (a : Fin 2048) (n : Fin 1536), i = ix2 a n := ⟨i 0, i 1, eq_ix2 i⟩
  have ha : a.val < 2048 := a.isLt
  unfold Read.val_main_v50
  show _ = conv (fun r => st (ix3 (⟨a.val / 1024, _⟩ : Fin 2) r n)) (chan x w scales n ⟨a.val / 1024, _⟩) (fun j => cw (ix2 n j)) (a.val % 1024)
  by_cases h : a.val < 1024
  · refine (concatenate_pair_apply_left (t := S2048x1536) (s₁ := S1024x1536) (s₂ := S1024x1536) 0 _ _
      concatenates_S1024x1536_S1024x1536_S2048x1536_d0 (ix2 a n) rfl (ix2 ⟨a.val, h⟩ n)
      (fun d => match d with | ⟨0, _⟩ => rfl | ⟨1, _⟩ => rfl)).trans ?_
    rw [rows0_apply]
    have e : (⟨a.val / 1024, by omega⟩ : Fin 2) = 0 := Fin.ext (by show a.val / 1024 = 0; omega)
    have e' : a.val % 1024 = a.val := by omega
    rw [e, e']
  · refine (concatenate_pair_apply_right (t := S2048x1536) (s₁ := S1024x1536) (s₂ := S1024x1536) 0 _ _
      concatenates_S1024x1536_S1024x1536_S2048x1536_d0 (ix2 a n) rfl rfl (ix2 ⟨a.val - 1024, by omega⟩ n)
      (fun d hd => match d, hd with | ⟨0, _⟩, hd => absurd rfl hd | ⟨1, _⟩, _ => rfl)
      (by show a.val - 1024 + 1024 = a.val; omega)).trans ?_
    rw [rows1_apply]
    have e : (⟨a.val / 1024, by omega⟩ : Fin 2) = 1 := Fin.ext (by show a.val / 1024 = 1; omega)
    have e' : a.val % 1024 = a.val - 1024 := by omega
    rw [e, e']

/-- Its second is the product's last three rows of each sequence. -/
theorem tail_eq : Read.val_main_v51 (F := Ideal) x (extf .bf16 w bitsLt_fp8e4m3_bf16) (facs scales) = resultTail rfac x w scales := by
  funext i
  have h1 : (i 1).val < 3 := (i 1).isLt
  rw [Read.val_main_v51_apply]
  refine (congrArg _ (?_ : Read.idx_main_v51 i = ix3 (i 0) (⟨1021 + (i 1).val, by omega⟩ : Fin 1024) (i 2))).trans
    (product_apply x w scales (i 0) ⟨1021 + (i 1).val, by omega⟩ (i 2))
  funext a
  match a with
  | ⟨0, _⟩ => rfl
  | ⟨1, _⟩ => rfl
  | ⟨2, _⟩ => rfl

end Operations

end Cert.ConvQkRefIdeal.RefValue

/-! ## The claim -/

namespace Cert.Proof.ConvQkClaims

open Cert.Dequant Cert.Conv

/-- Over the reals, where no scale byte is 0 or 255, the kernel and the reference end with equal results and unchanged arguments. -/
theorem algebraic : Cert.algebraic_ConvQkIdeal_ConvQkRefIdeal_pre_conv_qk_scales_normal := fun m g m' g' hpre hag => by
  refine ⟨fun c => Cert.ConvQkIdeal.RefValue.whole m c, fun c => Cert.ConvQkIdeal.RefValue.wholeTail m c,
    Cert.ConvQkIdeal.RefValue.run_values m g, ?_⟩
  refine (θ_run Cert.ConvQkRefIdeal.defs _ _).mono (fun _ h c => ⟨(h c).1.trans ?_, (h c).2.1.trans ?_, (h c).2.2⟩)
    (Cert.ConvQkRefIdeal.Value.run m' g')
  · unfold Cert.ConvQkRefIdeal.Value.res_main_v50
    rw [Cert.ConvQkRefIdeal.RefValue.widen]
    refine (Cert.ConvQkRefIdeal.RefValue.result_eq _ _ _ _ _).trans ?_
    rw [(hag c).1, (hag c).2.1, (hag c).2.2.1, (hag c).2.2.2.1, (hag c).2.2.2.2]
    exact (result_congr _ _ _ _ _ fun i => normal_of_pre _ (congrFun (hpre c) i)).symm
  · rw [Cert.ConvQkRefIdeal.RefValue.widen]
    refine (Cert.ConvQkRefIdeal.RefValue.tail_eq _ _ _).trans ?_
    rw [(hag c).1, (hag c).2.1, (hag c).2.2.1]
    exact (resultTail_congr _ _ _ fun i => normal_of_pre _ (congrFun (hpre c) i)).symm

end Cert.Proof.ConvQkClaims

end
-- ==== Proof.ConvVIdealRun.lean ====
module

public import proofs.«01_k».proof.Proof.Gen.ConvVIdeal.Frame
public import proofs.«01_k».proof.Proof.Gen.ConvVIdeal.Skeleton
public import Idealize.ShloMosaic.Lib.Claim
public import proofs.«01_k».proof.Proof.ConvShared

@[expose] public section

set_option maxRecDepth 16384

noncomputable section

namespace Cert.ConvVIdeal.Hand

open Cert.ConvVIdeal Cert.ConvVIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A view for stating what the run leaves in the result's block. -/
abbrev VO0_5 : View sig .tc .vmem S2048x256 .bf16 := (Memref.whole cc0_stg5_0).view

/-- Each window's current staging memref at point `t`, spelled as the pipeline passes it (`bodyAt0`), and its wholeness. -/
abbrev ms0_0 (t : Fin cfg0.N) : Memref sig .tc .vmem S2048x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2304 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S72x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x2x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x2x256 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x2304 .bf16 := Memref.whole cc0_scratch0
abbrev scM0_1 : Memref sig .tc .vmem S1032x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) :
    Σ' (L5 : List (View.Piece (Elt F) S2048x256 .bf16)), Σ' (L6 : Buf (Elt F) (arg7.view.loc (c : Thread nD τ)) → List (View.Piece (Elt F) S3x2x256 .bf16)), Σ' (LT0 : List (View.Piece (Elt F) S256x2304 .bf16)), { LT1 : List (View.Piece (Elt F) S1032x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f (L6 f)) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1)) -∗ K ⟨⟩))
          ⊢ wp frame (wpE (defs₀ (F := F)) Variants.none c none) E (cc0_conv_proj i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_conv_proj_eq_skeleton]; unfold cc0_conv_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

/-- The run's pieces for output 5 tile its block (2 stores of `S1024x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) (y : S2048x256.Idx) :
    ∃ pc ∈ (kernelRun0_A c i arg1 harg1 arg2 harg2 arg3 harg3 arg4 harg4 arg5 harg5 arg6 harg6 arg7 harg7 arg8 harg8 arg9 harg9 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4).1 S1024x256.size (by sl_kernel_rfl) y

/-- What the run leaves in output 5's staging buffer: its pieces read back over junk. -/
def out0_A_5 (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) : Vec F S2048x256 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 x0 x1 x2 x3 x4).1)

/-- What the run leaves in the tail's staging buffer, from what was in it. -/
def tailOf (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16)
    (f : Buf (Elt F) (arg7.view.loc (c : Thread nD τ))) : Vec F S3x2x256 .bf16 :=
  arg7.view.read (Elt F) (arg7.view.writes (Elt F) f ((kernelRun0_A c i arg1 harg1 arg2 harg2 arg3 harg3 arg4 harg4 arg5 harg5 arg6 harg6 arg7 harg7 arg8 harg8 arg9 harg9 x0 x1 x2 x3 x4).2.1 f))

/-- What it leaves there is the two sequences it stores, whatever was in it: the same from any two contents. -/
theorem tailOf_eq (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16)
    (f g : Buf (Elt F) (arg7.view.loc (c : Thread nD τ))) : tailOf c i arg1 harg1 arg2 harg2 arg3 harg3 arg4 harg4 arg5 harg5 arg6 harg6 arg7 harg7 arg8 harg8 arg9 harg9 x0 x1 x2 x3 x4 f = tailOf c i arg1 harg1 arg2 harg2 arg3 harg3 arg4 harg4 arg5 harg5 arg6 harg6 arg7 harg7 arg8 harg8 arg9 harg9 x0 x1 x2 x3 x4 g := by
  unfold tailOf kernelRun0_A
  dsimp only
  exact (Cert.Conv.read_two_stores arg7.view f _ _ _ _ _ _ _ _).trans (Cert.Conv.read_two_stores arg7.view g _ _ _ _ _ _ _ _).symm

/-- What the run leaves in the tail's staging buffer. -/
def out0_A_6 (c : Dev nD) (i : grid0.Coords) (arg1 : Memref sig .tc .vmem S2048x2304 .bf16) (harg1 : arg1.IsWhole) (arg2 : Memref sig .tc .vmem S256x2304 .fp8e4m3) (harg2 : arg2.IsWhole) (arg3 : Memref sig .tc .vmem S72x256 .i8) (harg3 : arg3.IsWhole) (arg4 : Memref sig .tc .vmem S4x256 .f32) (harg4 : arg4.IsWhole) (arg5 : Memref sig .tc .vmem S3x2x256 .bf16) (harg5 : arg5.IsWhole) (arg6 : Memref sig .tc .vmem S2048x256 .bf16) (harg6 : arg6.IsWhole) (arg7 : Memref sig .tc .vmem S3x2x256 .bf16) (harg7 : arg7.IsWhole) (arg8 : Memref sig .tc .vmem S256x2304 .bf16) (harg8 : arg8.IsWhole) (arg9 : Memref sig .tc .vmem S1032x256 .f32) (harg9 : arg9.IsWhole)
    (x0 : Vec F S2048x2304 .bf16) (x1 : Vec F S256x2304 .fp8e4m3) (x2 : Vec F S72x256 .i8) (x3 : Vec F S4x256 .f32) (x4 : Vec F S3x2x256 .bf16) : Vec F S3x2x256 .bf16 :=
  tailOf c i arg1 harg1 arg2 harg2 arg3 harg3 arg4 harg4 arg5 harg5 arg6 harg6 arg7 harg7 arg8 harg8 arg9 harg9 x0 x1 x2 x3 x4 arg7.view.junk

/-! ## What the outputs hold after each point -/

/-- What the outputs' staging buffers hold after the body at point `t` (as a tuple, in window order): the run's contents at
    the point's memrefs and input blocks. -/
def outsAt0 (c : Dev nD) (t : Fin cfg0.N) : Vec F S2048x256 .bf16 × Vec F S3x2x256 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m c 0 t) (iblk m c 1 t) (iblk m c 2 t) (iblk m c 3 t) (iblk m c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, ⟨%e5, H5⟩, ⟨%e6, H6⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _)
  unfold owns; iexists _; isplitr
  swap; · iexact H6
  ipureintro; exact tailOf_eq c _ _ _ _ _ _ _ _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the implicit arguments of `θ_run_frame_around` are found by unifying its conclusion with this one, which takes
-- unfolding plain definitions in a metavariable's type
set_option backward.isDefEq.respectTransparency.types false in
/-- The launch: every array of the pipeline ends at what the proof data say, every other unscoped buffer at what the
    host operation after the region leaves there, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the launch ends, the argument arrays are unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.ConvVIdeal.Hand

end
-- ==== Proof.ConvVValue.lean ====
/-
  The convolution projection of the values: what the kernel leaves in its two result arrays, over the reals. Each of its 12 grid
  points unpacks 256 rows of weights, multiplies the activations with them and convolves the product's channels, so the arrays end at
  `Conv.result` and the rearranged `Conv.resultTail` with the factors the kernel makes; the reference's results are the same with the
  factors written as powers of two.
-/
module

public import proofs.«01_k».proof.Defs
public import proofs.«01_k».proof.Proof.ConvVIdealRun
public import proofs.«01_k».proof.Proof.Gen.ConvVRefIdeal.Read
public import proofs.«01_k».proof.Proof.Gen.Pre_conv_v_scales_normal
public import proofs.«01_k».proof.Proof.ConvBlock

@[expose] public section

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

/-! ## The kernel -/

namespace Cert.ConvVIdeal.RefValue

open Cert.ConvVIdeal Cert.ConvVIdeal.Gen Cert.ConvVIdeal.Hand Cert.Dequant Cert.Conv

theorem hz : (![0, 0] : Fin 2 → Nat) = fun _ => 0 := funext fun a => by fin_cases a <;> rfl

section Block

variable (c : Dev nD) (i : grid0.Coords) (arg1 : Memref sig .tc .vmem S2048x2304 .bf16) (harg1 : arg1.IsWhole)
    (arg2 : Memref sig .tc .vmem S256x2304 .fp8e4m3) (harg2 : arg2.IsWhole) (arg3 : Memref sig .tc .vmem S72x256 .i8) (harg3 : arg3.IsWhole)
    (arg4 : Memref sig .tc .vmem S4x256 .f32) (harg4 : arg4.IsWhole) (arg5 : Memref sig .tc .vmem S3x2x256 .bf16) (harg5 : arg5.IsWhole)
    (arg6 : Memref sig .tc .vmem S2048x256 .bf16) (harg6 : arg6.IsWhole) (arg7 : Memref sig .tc .vmem S3x2x256 .bf16) (harg7 : arg7.IsWhole)
    (arg8 : Memref sig .tc .vmem S256x2304 .bf16) (harg8 : arg8.IsWhole) (arg9 : Memref sig .tc .vmem S1032x256 .f32) (harg9 : arg9.IsWhole)
    (x0 : Vec Ideal S2048x2304 .bf16) (x1 : Vec Ideal S256x2304 .fp8e4m3) (x2 : Vec Ideal S72x256 .i8) (x3 : Vec Ideal S4x256 .f32)
    (x4 : Vec Ideal S3x2x256 .bf16)

/-- One grid point's block of the result. -/
theorem block_eq :
    out0_A_5 c i arg1 harg1 arg2 harg2 arg3 harg3 arg4 harg4 arg5 harg5 arg6 harg6 arg7 harg7 arg8 harg8 arg9 harg9 x0 x1 x2 x3 x4
      = block x0 x1 x2 x3 x4 := by
  funext y
  unfold out0_A_5
  rw [View.read_writes_junk_eq_canon]
  unfold kernelRun0_A
  dsimp only
  sl_unfold_words
  simp only [View.readAt_eq_ld, harg1.read_unread, harg2.read_unread, harg3.read_unread, harg4.read_unread, harg5.read_unread,
    View.ld_unit_zero (S := S72x256) hz, View.ld_unit_zero (S := S2048x2304) hz]
  refine View.canon_apply_of_pieces (Val := Elt Ideal) (S := S2048x256) (e := .bf16) (block x0 x1 x2 x3 x4) _ ?_ _ (View.cover_of_tiledL _ ![1024, 256] (by sl_kernel_rfl) _)
  refine List.forall_mem_cons.2 ⟨?_, List.forall_mem_cons.2 ⟨?_, fun _ h => absurd h List.not_mem_nil⟩⟩
  · exact act_piece arg9.view 1 _ _ _ shapeCasts_S2048x2304_S2048x2304 bitsLt_bf16_f32 slices_S2048x256_o1024_0_S1024x256 shapeCasts_S1024x256_S1024x256
      shapeCasts_S3x1x256_S3x256 shapeCasts_S3x256_S3x256 x0 x1 x2 _
      (slabs_eq arg8.view shapeCasts_S256x128_S256x128x1 shapeCasts_S256x128x1_S256x128 shapeCasts_S256x128_S256x128 bitsLt_bf16_f32
        bitsLt_fp8e4m3_bf16 iota_S256x128_d1_w32 transposes_S72x256_p1_0_S256x72 shapeCasts_S72x256_S72x256 concatenates_S256x72_S256x56_S256x128_d1
        x1 x2 _ _ rfl) x3 x4 _ shapeCasts_S1x256_S1x256 broadcasts_S1x256_S1024x256 _ _ _ _ _ _ _ _ inb_S2048x256_S1024x256_1024_0
  · exact act_piece arg9.view 0 _ _ _ shapeCasts_S2048x2304_S2048x2304 bitsLt_bf16_f32 slices_S2048x256_o0_0_S1024x256 shapeCasts_S1024x256_S1024x256
      shapeCasts_S3x1x256_S3x256 shapeCasts_S3x256_S3x256 x0 x1 x2 _
      (slabs_eq arg8.view shapeCasts_S256x128_S256x128x1 shapeCasts_S256x128x1_S256x128 shapeCasts_S256x128_S256x128 bitsLt_bf16_f32
        bitsLt_fp8e4m3_bf16 iota_S256x128_d1_w32 transposes_S72x256_p1_0_S256x72 shapeCasts_S72x256_S72x256 concatenates_S256x72_S256x56_S256x128_d1
        x1 x2 _ _ rfl) x3 x4 _ shapeCasts_S1x256_S1x256 broadcasts_S1x256_S1024x256 _ _ _ _ _ _ _ _ inb_S2048x256_S1024x256_0_0

/-- One grid point's block of the tail. -/
theorem tail_eq :
    out0_A_6 c i arg1 harg1 arg2 harg2 arg3 harg3 arg4 harg4 arg5 harg5 arg6 harg6 arg7 harg7 arg8 harg8 arg9 harg9 x0 x1 x2 x3 x4
      = lastRows x0 x1 x2 := by
  unfold out0_A_6 tailOf
  unfold kernelRun0_A
  dsimp only
  sl_unfold_words
  simp only [View.readAt_eq_ld, harg1.read_unread, harg2.read_unread, harg3.read_unread, harg4.read_unread, harg5.read_unread,
    View.ld_unit_zero (S := S72x256) hz, View.ld_unit_zero (S := S2048x2304) hz]
  refine (read_two_stores (F := Ideal) arg7.view arg7.view.junk _ _ _ _ _ _ _ _).trans ?_
  funext y
  obtain ⟨r, b, k, rfl⟩ : ∃ (r : Fin 3) (b : Fin 2) (k : Fin 256), y = ix3 r b k := ⟨y 0, y 1, y 2, eq_ix3 y⟩
  match b with
  | ⟨0, _⟩ =>
    exact tail_piece arg9.view 0 _ _ _ shapeCasts_S2048x2304_S2048x2304 bitsLt_bf16_f32 slices_S2048x256_o0_0_S1024x256 shapeCasts_S1024x256_S1024x256
      shapeCasts_S3x1x256_S3x256 shapeCasts_S3x256_S3x256 shapeCasts_S3x256_S3x1x256 x0 x1 x2 _
      (slabs_eq arg8.view shapeCasts_S256x128_S256x128x1 shapeCasts_S256x128x1_S256x128 shapeCasts_S256x128_S256x128 bitsLt_bf16_f32
        bitsLt_fp8e4m3_bf16 iota_S256x128_d1_w32 transposes_S72x256_p1_0_S256x72 shapeCasts_S72x256_S72x256 concatenates_S256x72_S256x56_S256x128_d1
        x1 x2 _ _ rfl) x4 _ _ r k
  | ⟨1, _⟩ =>
    exact tail_piece arg9.view 1 _ _ _ shapeCasts_S2048x2304_S2048x2304 bitsLt_bf16_f32 slices_S2048x256_o1024_0_S1024x256 shapeCasts_S1024x256_S1024x256
      shapeCasts_S3x1x256_S3x256 shapeCasts_S3x256_S3x256 shapeCasts_S3x256_S3x1x256 x0 x1 x2 _
      (slabs_eq arg8.view shapeCasts_S256x128_S256x128x1 shapeCasts_S256x128x1_S256x128 shapeCasts_S256x128_S256x128 bitsLt_bf16_f32
        bitsLt_fp8e4m3_bf16 iota_S256x128_d1_w32 transposes_S72x256_p1_0_S256x72 shapeCasts_S72x256_S72x256 concatenates_S256x72_S256x56_S256x128_d1
        x1 x2 _ _ rfl) x4 _ _ r k

end Block

variable (m : (ℓ : Loc nD τ sig) → Buf (Elt Ideal) ℓ)

/-- The activations as the region finds them: the argument's two sequences one after the other. -/
theorem V_main_v0 (c : Dev nD) : V m c main_v0 = shapeCast S2048x2304 (m ((c : Thread nD τ).loc main_arg0)) shapeCasts_S2x1024x2304_S2048x2304 := by
  show StableHlo.after hostOps0 _ (Proc.devRef .tc main_v0) = _
  simp only [hostOps0]
  after_results <;> rfl

/-- The scale bytes as the region finds them: the argument transposed. -/
theorem V_main_v1 (c : Dev nD) :
    V m c main_v1 = transpose S72x3072 [1, 0] (m ((c : Thread nD τ).loc main_arg2)) transposes_S3072x72_S72x3072_1_0 := by
  show StableHlo.after hostOps0 _ (Proc.devRef .tc main_v1) = _
  simp only [hostOps0]
  after_results <;> rfl

/-- The convolution's weights as the region finds them: the argument transposed. -/
theorem V_main_v2 (c : Dev nD) :
    V m c main_v2 = transpose S4x3072 [1, 0] (m ((c : Thread nD τ).loc main_arg3)) transposes_S3072x4_S4x3072_1_0 := by
  show StableHlo.after hostOps0 _ (Proc.devRef .tc main_v2) = _
  simp only [hostOps0]
  after_results <;> rfl

/-- The state as the region finds it: the argument with its rows before its sequences. -/
theorem V_main_v3 (c : Dev nD) :
    V m c main_v3 = transpose S3x2x3072 [1, 0, 2] (m ((c : Thread nD τ).loc main_arg4)) transposes_S2x3x3072_S3x2x3072_1_0_2 := by
  show StableHlo.after hostOps0 _ (Proc.devRef .tc main_v3) = _
  simp only [hostOps0]
  after_results <;> rfl

/-- Which blocks grid point `t` works on: all of the activations and block `t` of everything else. -/
theorem index_eq : ∀ t : Fin cfg0.N, win0_0.index t 0 = 0 ∧ win0_0.index t 1 = 0 ∧ win0_1.index t 0 = t.val ∧ win0_1.index t 1 = 0
    ∧ win0_2.index t 0 = 0 ∧ win0_2.index t 1 = t.val ∧ win0_3.index t 0 = 0 ∧ win0_3.index t 1 = t.val
    ∧ win0_4.index t 0 = 0 ∧ win0_4.index t 1 = 0 ∧ win0_4.index t 2 = t.val ∧ win0_5.index t 0 = 0 ∧ win0_5.index t 1 = t.val
    ∧ win0_6.index t 0 = 0 ∧ win0_6.index t 1 = 0 ∧ win0_6.index t 2 = t.val ∧ t.val < 12 :=
  (by decide +kernel : ∀ t : Fin grid0.N, win0_0.index t 0 = 0 ∧ win0_0.index t 1 = 0 ∧ win0_1.index t 0 = t.val ∧ win0_1.index t 1 = 0
    ∧ win0_2.index t 0 = 0 ∧ win0_2.index t 1 = t.val ∧ win0_3.index t 0 = 0 ∧ win0_3.index t 1 = t.val
    ∧ win0_4.index t 0 = 0 ∧ win0_4.index t 1 = 0 ∧ win0_4.index t 2 = t.val ∧ win0_5.index t 0 = 0 ∧ win0_5.index t 1 = t.val
    ∧ win0_6.index t 0 = 0 ∧ win0_6.index t 1 = 0 ∧ win0_6.index t 2 = t.val ∧ t.val < 12)

theorem iblk0_apply (c : Dev nD) (t : Fin cfg0.N) (a : Fin 2048) (k : Fin 2304) :
    iblk m c 0 t (ix2 a k) = m ((c : Thread nD τ).loc main_arg0)
      (ix3 ⟨a.val / 1024, Nat.div_lt_of_lt_mul a.isLt⟩ ⟨a.val % 1024, Nat.mod_lt _ (by decide)⟩ k) := by
  obtain ⟨e0, e1, -⟩ := index_eq t
  have e : (win0_0.rect t).emb (ix2 a k) = (ix2 a k : (Mat 2048 2304).Idx) := by
    funext d
    apply Fin.ext
    match d with
    | ⟨0, _⟩ => show win0_0.index t 0 * 2048 + 1 * a.val = a.val; rw [e0]; omega
    | ⟨1, _⟩ => show win0_0.index t 1 * 2304 + 1 * k.val = k.val; rw [e1]; omega
  show V m c main_v0 ((win0_0.rect t).emb (ix2 a k)) = _
  rw [V_main_v0]
  refine (congrArg _ e).trans ?_
  refine shapeCast_apply _ _ _ _ ?_
  show ((Stack 2304).rowMajor (ix3 _ _ _)).val = ((Mat 2048 2304).rowMajor (ix2 a k)).val
  rewrite [Shape.rowMajor_val_three, Shape.rowMajor_val_two]
  show (a.val / 1024 * 1024 + a.val % 1024) * 2304 + k.val = a.val * 2304 + k.val
  omega

theorem iblk1_apply (c : Dev nD) (t : Fin cfg0.N) (b : Fin 256) (k : Fin 2304) (n : Fin 3072) (hn : n.val = 256 * t.val + b.val) :
    iblk m c 1 t (ix2 b k) = m ((c : Thread nD τ).loc main_arg1) (ix2 n k) := by
  obtain ⟨-, -, e0, e1, -⟩ := index_eq t
  have e : (win0_1.rect t).emb (ix2 b k) = (ix2 n k : (Mat 3072 2304).Idx) := by
    funext d
    apply Fin.ext
    match d with
    | ⟨0, _⟩ => show win0_1.index t 0 * 256 + 1 * b.val = n.val; rw [e0]; omega
    | ⟨1, _⟩ => show win0_1.index t 1 * 2304 + 1 * k.val = k.val; rw [e1]; omega
  show V m c main_arg1 ((win0_1.rect t).emb (ix2 b k)) = _
  rw [V_main_arg1]
  exact congrArg _ e

theorem iblk2_apply (c : Dev nD) (t : Fin cfg0.N) (g : Fin 72) (b : Fin 256) (n : Fin 3072) (hn : n.val = 256 * t.val + b.val) :
    iblk m c 2 t (ix2 g b) = m ((c : Thread nD τ).loc main_arg2) (ix2 n g) := by
  obtain ⟨-, -, -, -, e0, e1, -⟩ := index_eq t
  have e : (win0_2.rect t).emb (ix2 g b) = (ix2 g n : (Mat 72 3072).Idx) := by
    funext d
    apply Fin.ext
    match d with
    | ⟨0, _⟩ => show win0_2.index t 0 * 72 + 1 * g.val = g.val; rw [e0]; omega
    | ⟨1, _⟩ => show win0_2.index t 1 * 256 + 1 * b.val = n.val; rw [e1]; omega
  show V m c main_v1 ((win0_2.rect t).emb (ix2 g b)) = _
  rw [V_main_v1]
  refine (congrArg _ e).trans ?_
  exact transpose_ix2_apply _ _ _ _

theorem iblk3_apply (c : Dev nD) (t : Fin cfg0.N) (j : Fin 4) (b : Fin 256) (n : Fin 3072) (hn : n.val = 256 * t.val + b.val) :
    iblk m c 3 t (ix2 j b) = m ((c : Thread nD τ).loc main_arg3) (ix2 n j) := by
  obtain ⟨-, -, -, -, -, -, e0, e1, -⟩ := index_eq t
  have e : (win0_3.rect t).emb (ix2 j b) = (ix2 j n : (Mat 4 3072).Idx) := by
    funext d
    apply Fin.ext
    match d with
    | ⟨0, _⟩ => show win0_3.index t 0 * 4 + 1 * j.val = j.val; rw [e0]; omega
    | ⟨1, _⟩ => show win0_3.index t 1 * 256 + 1 * b.val = n.val; rw [e1]; omega
  show V m c main_v2 ((win0_3.rect t).emb (ix2 j b)) = _
  rw [V_main_v2]
  refine (congrArg _ e).trans ?_
  exact transpose_ix2_apply _ _ _ _

theorem iblk4_apply (c : Dev nD) (t : Fin cfg0.N) (r : Fin 3) (s : Fin 2) (b : Fin 256) (n : Fin 3072) (hn : n.val = 256 * t.val + b.val) :
    iblk m c 4 t (ix3 r s b) = m ((c : Thread nD τ).loc main_arg4) (ix3 s r n) := by
  obtain ⟨-, -, -, -, -, -, -, -, e0, e1, e2, -⟩ := index_eq t
  have e : (win0_4.rect t).emb (ix3 r s b) = (ix3 r s n : S3x2x3072.Idx) := by
    funext d
    apply Fin.ext
    match d with
    | ⟨0, _⟩ => show win0_4.index t 0 * 3 + 1 * r.val = r.val; rw [e0]; omega
    | ⟨1, _⟩ => show win0_4.index t 1 * 2 + 1 * s.val = s.val; rw [e1]; omega
    | ⟨2, _⟩ => show win0_4.index t 2 * 256 + 1 * b.val = n.val; rw [e2]; omega
  show V m c main_v3 ((win0_4.rect t).emb (ix3 r s b)) = _
  rw [V_main_v3]
  refine (congrArg _ e).trans ?_
  exact transpose_apply _ _ _ _ _ fun d => match d with | ⟨0, _⟩ => rfl | ⟨1, _⟩ => rfl | ⟨2, _⟩ => rfl

/-- The convolution of device `c`'s arguments, with the factors the kernel makes. -/
abbrev whole (c : Dev nD) : FVec Ideal (Mat 2048 3072) .bf16 :=
  result kfac (m ((c : Thread nD τ).loc main_arg0)) (m ((c : Thread nD τ).loc main_arg1))
    (m ((c : Thread nD τ).loc main_arg2)) (m ((c : Thread nD τ).loc main_arg3)) (m ((c : Thread nD τ).loc main_arg4))

/-- The product's last three rows of each sequence. -/
abbrev wholeTail (c : Dev nD) : FVec Ideal S2x3x3072 .bf16 :=
  resultTail kfac (m ((c : Thread nD τ).loc main_arg0)) (m ((c : Thread nD τ).loc main_arg1)) (m ((c : Thread nD τ).loc main_arg2))

/-- The same with the rows before the sequences, as the kernel writes them. -/
def rowsFirst (c : Dev nD) : FVec Ideal S3x2x3072 .bf16 := fun i => wholeTail m c (ix3 (i 1) (i 0) (i 2))

/-- Grid point `t`'s block of the product. -/
theorem proj_eq (c : Dev nD) (t : Fin cfg0.N) (b : Fin 256) (n : Fin 3072) (hn : n.val = 256 * t.val + b.val) (a : Fin 2048) :
    proj (nb := 72) (by decide) (iblk m c 0 t) (iblk m c 1 t) (iblk m c 2 t) a b
      = full kfac (nb := 72) (by decide) (m ((c : Thread nD τ).loc main_arg0)) (m ((c : Thread nD τ).loc main_arg1))
        (m ((c : Thread nD τ).loc main_arg2)) (ix2 a n) := by
  unfold proj full weight
  refine Finset.sum_congr rfl fun k _ => ?_
  rw [iblk0_apply, iblk1_apply m c t b k n hn, iblk2_apply m c t _ b n hn]

/-- What grid point `t` writes back is its block of the convolution. -/
theorem flushed5_eq (c : Dev nD) (t : Fin cfg0.N) :
    (dats m 0 c).flushed 5 t = (win0_5.blk t).view.read (Elt Ideal) (whole m c) := by
  show (cfg0.win 5).cut (grid0.coords t) ((dats m 0 c).after 5 t) = _
  rw [after0_5]
  unfold outsAt0
  dsimp only
  rw [block_eq]
  obtain ⟨-, -, -, -, -, -, -, -, -, -, -, e0, e1, -, -, -, ht⟩ := index_eq t
  funext y
  obtain ⟨a, b, rfl⟩ : ∃ (a : Fin 2048) (b : Fin 256), y = ix2 a b := ⟨y 0, y 1, eq_ix2 y⟩
  have hb : 256 * t.val + b.val < 3072 := by omega
  have e : (win0_5.rect t).emb (ix2 a b) = (ix2 a ⟨256 * t.val + b.val, hb⟩ : (Mat 2048 3072).Idx) := by
    funext d
    apply Fin.ext
    match d with
    | ⟨0, _⟩ => show win0_5.index t 0 * 2048 + 1 * a.val = a.val; rw [e0]; omega
    | ⟨1, _⟩ => show win0_5.index t 1 * 256 + 1 * b.val = 256 * t.val + b.val; rw [e1]; omega
  show block _ _ _ _ _ (ix2 a b) = whole m c ((win0_5.rect t).emb (ix2 a b))
  refine Eq.trans ?_ (congrArg (whole m c) e).symm
  unfold whole block result
  congr 1
  · funext r
    exact iblk4_apply m c t r _ b _ rfl
  · congr 1
    funext a'
    exact proj_eq m c t b ⟨256 * t.val + b.val, hb⟩ rfl a'
  · funext j
    exact iblk3_apply m c t j b _ rfl

/-- What grid point `t` writes back of the tail is its block of it. -/
theorem flushed6_eq (c : Dev nD) (t : Fin cfg0.N) :
    (dats m 0 c).flushed 6 t = (win0_6.blk t).view.read (Elt Ideal) (rowsFirst m c) := by
  show (cfg0.win 6).cut (grid0.coords t) ((dats m 0 c).after 6 t) = _
  rw [after0_6]
  unfold outsAt0
  dsimp only
  rw [tail_eq]
  obtain ⟨-, -, -, -, -, -, -, -, -, -, -, -, -, e0, e1, e2, ht⟩ := index_eq t
  funext y
  obtain ⟨r, s, b, rfl⟩ : ∃ (r : Fin 3) (s : Fin 2) (b : Fin 256), y = ix3 r s b := ⟨y 0, y 1, y 2, eq_ix3 y⟩
  have hb : 256 * t.val + b.val < 3072 := by omega
  have e : (win0_6.rect t).emb (ix3 r s b) = (ix3 r s ⟨256 * t.val + b.val, hb⟩ : S3x2x3072.Idx) := by
    funext d
    apply Fin.ext
    match d with
    | ⟨0, _⟩ => show win0_6.index t 0 * 3 + 1 * r.val = r.val; rw [e0]; omega
    | ⟨1, _⟩ => show win0_6.index t 1 * 2 + 1 * s.val = s.val; rw [e1]; omega
    | ⟨2, _⟩ => show win0_6.index t 2 * 256 + 1 * b.val = 256 * t.val + b.val; rw [e2]; omega
  show lastRows _ _ _ (ix3 r s b) = rowsFirst m c ((win0_6.rect t).emb (ix3 r s b))
  refine Eq.trans ?_ (congrArg (rowsFirst m c) e).symm
  unfold rowsFirst wholeTail lastRows resultTail part
  exact proj_eq m c t b ⟨256 * t.val + b.val, hb⟩ rfl _

/-- An index of the result array whose column is among the 256 of block `t` is in that block. -/
theorem mem_blk5 (t : Fin cfg0.N) (i : S2048x3072.Idx) (h : 256 * t.val ≤ (i 1).val ∧ (i 1).val < 256 * t.val + 256) :
    i ∈ ((cfg0.win 5).blk t).view.set := by
  have h0 : (i 0).val < 2048 := (i 0).isLt
  obtain ⟨-, -, -, -, -, -, -, -, -, -, -, e0, e1, -⟩ := index_eq t
  show i ∈ ((View.whole main_v4_0).slice (win0_5.rect t)).set
  rw [View.set_slice_whole, Rect.mem_set_unit]
  intro a
  match a with
  | ⟨0, _⟩ => show win0_5.index t 0 * 2048 ≤ (i 0).val ∧ (i 0).val < win0_5.index t 0 * 2048 + 2048
              rw [e0]; omega
  | ⟨1, _⟩ => show win0_5.index t 1 * 256 ≤ (i 1).val ∧ (i 1).val < win0_5.index t 1 * 256 + 256
              rw [e1]; omega

/-- The same of the tail's array. -/
theorem mem_blk6 (t : Fin cfg0.N) (i : S3x2x3072.Idx) (h : 256 * t.val ≤ (i 2).val ∧ (i 2).val < 256 * t.val + 256) :
    i ∈ ((cfg0.win 6).blk t).view.set := by
  have h0 : (i 0).val < 3 := (i 0).isLt
  have h1 : (i 1).val < 2 := (i 1).isLt
  obtain ⟨-, -, -, -, -, -, -, -, -, -, -, -, -, e0, e1, e2, -⟩ := index_eq t
  show i ∈ ((View.whole main_v4_1).slice (win0_6.rect t)).set
  rw [View.set_slice_whole, Rect.mem_set_unit]
  intro a
  match a with
  | ⟨0, _⟩ => show win0_6.index t 0 * 3 ≤ (i 0).val ∧ (i 0).val < win0_6.index t 0 * 3 + 3
              rw [e0]; omega
  | ⟨1, _⟩ => show win0_6.index t 1 * 2 ≤ (i 1).val ∧ (i 1).val < win0_6.index t 1 * 2 + 2
              rw [e1]; omega
  | ⟨2, _⟩ => show win0_6.index t 2 * 256 ≤ (i 2).val ∧ (i 2).val < win0_6.index t 2 * 256 + 256
              rw [e2]; omega

/-- The blocks tile both arrays: column `n` is in block `n / 256`. -/
theorem cover5 (i : S2048x3072.Idx) : ∃ t : Fin cfg0.N, (cfg0.win 5).flush t = true ∧ i ∈ ((cfg0.win 5).blk t).view.set := by
  have h1 : (i 1).val < 3072 := (i 1).isLt
  have hN : cfg0.N = 12 := N_0
  refine ⟨⟨(i 1).val / 256, by omega⟩, flush0_5 _, mem_blk5 _ i ?_⟩
  dsimp only
  omega

theorem cover6 (i : S3x2x3072.Idx) : ∃ t : Fin cfg0.N, (cfg0.win 6).flush t = true ∧ i ∈ ((cfg0.win 6).blk t).view.set := by
  have h2 : (i 2).val < 3072 := (i 2).isLt
  have hN : cfg0.N = 12 := N_0
  refine ⟨⟨(i 2).val / 256, by omega⟩, flush0_6 _, mem_blk6 _ i ?_⟩
  dsimp only
  omega

/-- So the kernel's arrays end at the convolution and the tail. -/
theorem final5 (c : Dev nD) : (dats m 0 c).arrAt 5 cfg0.N = whole m c :=
  (dats m 0 c).arrAt_eq_of_cover 5 (whole m c) (fun t _ => flushed5_eq m c t) cover5

theorem final6 (c : Dev nD) : (dats m 0 c).arrAt 6 cfg0.N = rowsFirst m c :=
  (dats m 0 c).arrAt_eq_of_cover 6 (rowsFirst m c) (fun t _ => flushed6_eq m c t) cover6

/-- The host's transpose after the region puts the tail's sequences first. -/
theorem tail_main_v5 (W : Valuation τ sig (Elt Ideal)) :
    after (List.flatten [hostOps1]) W (Proc.devRef .tc main_v5)
      = transpose S2x3x3072 [1, 0, 2] (W (Proc.devRef .tc main_v4_1)) transposes_S3x2x3072_S2x3x3072_1_0_2 := by
  simp only [hostOps1, List.flatten_cons, List.flatten_nil, List.append_nil]
  after_results <;> rfl

theorem final_main_v5 (c : Dev nD) : Pipeline.afterTail₀ cfgs (dats m) 0 (V0 m) [hostOps1] c main_v5 = wholeTail m c := by
  refine (tail_main_v5 (Pipeline.withArrays spec0 c (V0 m c) fun w => (dats m 0 c).arrAt w cfg0.N)).trans ?_
  rw [show Pipeline.withArrays spec0 c (V0 m c) (fun w => (dats m 0 c).arrAt w cfg0.N) (Proc.devRef .tc main_v4_1) = rowsFirst m c from
    (Pipeline.withArrays_arr spec0 launch0.win.arr_inj c (V0 m c) _ 6).trans (final6 m c)]
  funext i
  obtain ⟨s, r, n, rfl⟩ : ∃ (s : Fin 2) (r : Fin 3) (n : Fin 3072), i = ix3 s r n := ⟨i 0, i 1, i 2, eq_ix3 i⟩
  exact transpose_apply _ _ _ _ (ix3 r s n) fun d => match d with | ⟨0, _⟩ => rfl | ⟨1, _⟩ => rfl | ⟨2, _⟩ => rfl

/-- The kernel ends with both results and its arguments unchanged. -/
theorem run_values (g : Dev nD → PrngReg) : θ_run (defs (F := Ideal)) (onTc (τ := τ) (main (F := Ideal))) ⟨m, fun _ => 0, g⟩ fun r => ∀ c : Dev nD,
    r.2.mem ((c.tc : Thread nD τ).loc main_v4_0) = whole m c
    ∧ r.2.mem ((c.tc : Thread nD τ).loc main_v5) = wholeTail m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨((h.1 c).1 5).trans (final5 m c),
      ((h.1 c).2 main_v5 (Pipeline.mem_restRefs_of main_v5 (by decide) (by decide))).trans (final_main_v5 m c), h.2.1 c⟩)
    (θ_run_and (run_main m g) (frame m g))

end Cert.ConvVIdeal.RefValue

/-! ## The reference -/

namespace Cert.ConvVRefIdeal.RefValue

open Cert.ConvVRefIdeal Cert.ConvVRefIdeal.Gen Cert.Dequant Cert.Conv

variable (m : (ℓ : Loc nD τ sig) → Buf (Elt Ideal) ℓ)

theorem hz : (![0, 0] : Fin 2 → Nat) = fun _ => 0 := funext fun a => by fin_cases a <;> rfl

/-- The codes, which the reference's one region widens: over the reals the codes themselves. -/
abbrev codes (c : Dev nD) : FVec Ideal (Mat 3072 2304) .bf16 := extf .bf16 (m ((c : Thread nD τ).loc main_arg1)) bitsLt_fp8e4m3_bf16

theorem widen_flushed (c : Dev nD) (t : Fin cfg0.N) :
    (dats m 0 c).flushed 1 t = (win0_1.blk t).view.read (Elt Ideal) (codes m c) := by
  show (cfg0.win 1).cut (grid0.coords t) ((dats m 0 c).after 1 t) = _
  rw [after0_1]
  unfold out0_1
  rw [View.canon_unit_zero hz, View.ld_unit_zero hz]
  unfold iblk codes
  rw [show V m c (Pipeline.arrRef spec0 0) = m ((c : Thread nD τ).loc main_arg1) from V_main_arg1 m c]
  rfl

theorem widen_mem (t : Fin cfg0.N) (i : S3072x2304.Idx) : i ∈ ((cfg0.win 1).blk t).view.set := by
  have h0 : (i 0).val < 3072 := (i 0).isLt
  have h1 : (i 1).val < 2304 := (i 1).isLt
  show i ∈ ((View.whole main_v7).slice (win0_1.rect t)).set
  rw [View.set_slice_whole, Rect.mem_set_unit]
  have e : ∀ t : Fin cfg0.N, win0_1.index t 0 = 0 ∧ win0_1.index t 1 = 0 :=
    (by decide +kernel : ∀ t : Fin grid0.N, win0_1.index t 0 = 0 ∧ win0_1.index t 1 = 0)
  intro a
  match a with
  | ⟨0, _⟩ => show win0_1.index t 0 * 3072 ≤ (i 0).val ∧ (i 0).val < win0_1.index t 0 * 3072 + 3072
              rw [(e t).1]; omega
  | ⟨1, _⟩ => show win0_1.index t 1 * 2304 ≤ (i 1).val ∧ (i 1).val < win0_1.index t 1 * 2304 + 2304
              rw [(e t).2]; omega

theorem widen_cover (i : S3072x2304.Idx) : ∃ t : Fin cfg0.N, (cfg0.win 1).flush t = true ∧ i ∈ ((cfg0.win 1).blk t).view.set :=
  have hN : cfg0.N = 1 := N_0
  ⟨⟨0, by omega⟩, flush0_1 _, widen_mem _ i⟩

theorem widen (c : Dev nD) : Value.reg_main_v7 m c = codes m c :=
  (dats m 0 c).arrAt_eq_of_cover 1 (codes m c) (fun t _ => widen_flushed m c t) widen_cover

/-- The factors the reference broadcasts over each group, before the region. -/
abbrev facs (scales : IVec (Mat 3072 72) 8) : FVec Ideal (Mat 3072 72) .bf16 :=
  truncf .bf16 (Host.powf (broadcastInDim S3072x72 ![] bcast_S_S3072x72 (constant S_ .f32 0x40000000#32))
    (sitofp .f32 (subi (extui 32 scales natLt_8_32) (broadcastInDim S3072x72 ![] bcast_S_S3072x72 (constantI S_ 32 127#32))))) bitsLt_bf16_f32

theorem facs_apply (scales : IVec (Mat 3072 72) 8) (i : (Mat 3072 72).Idx) : facs scales i = rfac (scales i) := rfl

section Operations

variable (x : FVec Ideal (Stack 2304) .bf16) (w : FVec Ideal (Mat 3072 2304) .fp8e4m3) (scales : IVec (Mat 3072 72) 8)
    (cw : FVec Ideal (Mat 3072 4) .f32) (st : FVec Ideal ⟨3, ![2, 3, 3072]⟩ .bf16)

/-- The whole product's columns, one sequence's part of one of them. -/
abbrev chan (n : Fin 3072) (b : Fin 2) : Fin 1024 → EReal := part (fun a => full rfac (nb := 72) (by decide) x w scales (ix2 a n)) b

/-- The product, at time `t` of sequence `b`. -/
theorem product_apply (b : Fin 2) (t : Fin 1024) (n : Fin 3072) :
    Read.val_main_v14 (F := Ideal) x (extf .bf16 w bitsLt_fp8e4m3_bf16) (facs scales) (ix3 b t n) = chan x w scales n b t := by
  rw [Read.val_main_v14_apply, Read.val_main_v13_apply]
  show (∑ k : Fin 2304, _) = _
  unfold chan part full
  refine Finset.sum_congr rfl fun k _ => ?_
  have h0 : b.val < 2 := b.isLt
  have h1 : t.val < 1024 := t.isLt
  have hn : n.val < 3072 := n.isLt
  have hk : k.val < 2304 := k.isLt
  congr 1
  · refine congrArg x ?_
    funext a
    apply Fin.ext
    match a with
    | ⟨0, _⟩ => show b.val = (1024 * b.val + t.val) / 1024; omega
    | ⟨1, _⟩ => show t.val = (1024 * b.val + t.val) % 1024; omega
    | ⟨2, _⟩ => rfl
  · rw [Read.val_main_v12_apply, Read.val_main_v11_apply, Read.val_main_v8_apply, Read.val_main_v10_apply, Read.val_main_v9_apply, facs_apply]
    show w _ * rfac _ = _
    congr 1
    · refine congrArg w ?_
      funext a
      apply Fin.ext
      match a with
      | ⟨0, _⟩ => show (((n.val * 2304 + k.val) / 2304 * 72 + (n.val * 2304 + k.val) / 32 % 72) * 32 + (n.val * 2304 + k.val) % 32) / 2304 = n.val; omega
      | ⟨1, _⟩ => show (((n.val * 2304 + k.val) / 2304 * 72 + (n.val * 2304 + k.val) / 32 % 72) * 32 + (n.val * 2304 + k.val) % 32) % 2304 = k.val; omega
    · refine congrArg (fun j => rfac (scales j)) ?_
      funext a
      apply Fin.ext
      match a with
      | ⟨0, _⟩ => show (n.val * 2304 + k.val) / 2304 = n.val; omega
      | ⟨1, _⟩ => show (n.val * 2304 + k.val) / 32 % 72 = k.val / 32; omega

/-- The state followed by the product: a sequence's history. -/
theorem joined_apply (b : Fin 2) (r : Fin 1027) (n : Fin 3072) :
    Read.val_main_v16 (F := Ideal) x st (extf .bf16 w bitsLt_fp8e4m3_bf16) (facs scales) (ix3 b r n)
      = history (fun r => st (ix3 b r n)) (chan x w scales n b) r.val := by
  rw [Read.val_main_v16_apply]
  show Read.val_main_v15 (F := Ideal) x st (extf .bf16 w bitsLt_fp8e4m3_bf16) (facs scales) (ix3 b r n) = _
  unfold Read.val_main_v15 history
  have hr : r.val < 1027 := r.isLt
  by_cases h : r.val < 3
  · rw [dif_pos h]
    exact concatenate_pair_apply_left (t := S2x1027x3072) (s₁ := S2x3x3072) (s₂ := S2x1024x3072) 1 _ _
      concatenates_S2x3x3072_S2x1024x3072_S2x1027x3072_d1 (ix3 b r n) rfl (ix3 b ⟨r.val, h⟩ n)
      (fun a => match a with | ⟨0, _⟩ => rfl | ⟨1, _⟩ => rfl | ⟨2, _⟩ => rfl)
  · rw [dif_neg h, dif_pos (by omega : r.val - 3 < 1024)]
    refine (concatenate_pair_apply_right (t := S2x1027x3072) (s₁ := S2x3x3072) (s₂ := S2x1024x3072) 1 _ _
      concatenates_S2x3x3072_S2x1024x3072_S2x1027x3072_d1 (ix3 b r n) rfl rfl (ix3 b ⟨r.val - 3, by omega⟩ n)
      (fun a ha => match a, ha with | ⟨0, _⟩, _ => rfl | ⟨1, _⟩, ha => absurd rfl ha | ⟨2, _⟩, _ => rfl)
      (by show r.val - 3 + 3 = r.val; omega)).trans ?_
    exact product_apply x w scales b ⟨r.val - 3, by omega⟩ n

/-- Column 0 of the convolution's weights, broadcast over the rows. -/
theorem col0_apply (b : Fin 2) (t : Fin 1024) (n : Fin 3072) : Read.val_main_v21 (F := Ideal) cw (ix3 b t n) = cw (ix2 n 0) := by
  rw [Read.val_main_v21_apply, Read.val_main_v20_apply, Read.val_main_v19_apply, Read.val_main_v18_apply]
  refine congrArg cw (funext fun a => Fin.ext ?_)
  match a with
  | ⟨0, _⟩ => show n.val / 1 = n.val; omega
  | ⟨1, _⟩ => rfl

/-- Column 1. -/
theorem col1_apply (b : Fin 2) (t : Fin 1024) (n : Fin 3072) : Read.val_main_v27 (F := Ideal) cw (ix3 b t n) = cw (ix2 n 1) := by
  rw [Read.val_main_v27_apply, Read.val_main_v26_apply, Read.val_main_v25_apply, Read.val_main_v24_apply]
  refine congrArg cw (funext fun a => Fin.ext ?_)
  match a with
  | ⟨0, _⟩ => show n.val / 1 = n.val; omega
  | ⟨1, _⟩ => rfl

/-- Column 2. -/
theorem col2_apply (b : Fin 2) (t : Fin 1024) (n : Fin 3072) : Read.val_main_v34 (F := Ideal) cw (ix3 b t n) = cw (ix2 n 2) := by
  rw [Read.val_main_v34_apply, Read.val_main_v33_apply, Read.val_main_v32_apply, Read.val_main_v31_apply]
  refine congrArg cw (funext fun a => Fin.ext ?_)
  match a with
  | ⟨0, _⟩ => show n.val / 1 = n.val; omega
  | ⟨1, _⟩ => rfl

/-- Column 3. -/
theorem col3_apply (b : Fin 2) (t : Fin 1024) (n : Fin 3072) : Read.val_main_v41 (F := Ideal) cw (ix3 b t n) = cw (ix2 n 3) := by
  rw [Read.val_main_v41_apply, Read.val_main_v40_apply, Read.val_main_v39_apply, Read.val_main_v38_apply]
  refine congrArg cw (funext fun a => Fin.ext ?_)
  match a with
  | ⟨0, _⟩ => show n.val / 1 = n.val; omega
  | ⟨1, _⟩ => rfl

/-- The weighted sum of four neighbouring rows of the history. -/
theorem sum_apply (b : Fin 2) (t : Fin 1024) (n : Fin 3072) :
    Read.val_main_v43 (F := Ideal) x cw st (extf .bf16 w bitsLt_fp8e4m3_bf16) (facs scales) (ix3 b t n)
      = ((history (fun r => st (ix3 b r n)) (chan x w scales n b) t.val * cw (ix2 n 0)
        + history (fun r => st (ix3 b r n)) (chan x w scales n b) (1 + t.val) * cw (ix2 n 1))
        + history (fun r => st (ix3 b r n)) (chan x w scales n b) (2 + t.val) * cw (ix2 n 2))
        + history (fun r => st (ix3 b r n)) (chan x w scales n b) (3 + t.val) * cw (ix2 n 3) := by
  have ht : t.val < 1024 := t.isLt
  rw [Read.val_main_v43_apply, Read.val_main_v36_apply, Read.val_main_v29_apply, Read.val_main_v22_apply, Read.val_main_v28_apply,
    Read.val_main_v35_apply, Read.val_main_v42_apply, col0_apply, col1_apply, col2_apply, col3_apply,
    Read.val_main_v17_apply, Read.val_main_v23_apply, Read.val_main_v30_apply, Read.val_main_v37_apply]
  have e (j : Nat) (hj : j + t.val < 1027) (i : S2x1027x3072.Idx) (h0 : (i 0).val = b.val) (h1 : (i 1).val = j + t.val) (h2 : (i 2).val = n.val) :
      Read.val_main_v16 (F := Ideal) x st (extf .bf16 w bitsLt_fp8e4m3_bf16) (facs scales) i
        = history (fun r => st (ix3 b r n)) (chan x w scales n b) (j + t.val) := by
    refine (congrArg _ (?_ : i = ix3 b ⟨j + t.val, hj⟩ n)).trans (joined_apply x w scales st b ⟨j + t.val, hj⟩ n)
    funext a
    apply Fin.ext
    match a with
    | ⟨0, _⟩ => exact h0
    | ⟨1, _⟩ => exact h1
    | ⟨2, _⟩ => exact h2
  rw [e 0 (by omega) (Read.idx_main_v17 (ix3 b t n)) rfl (by show t.val = 0 + t.val; omega) rfl,
    e 1 (by omega) (Read.idx_main_v23 (ix3 b t n)) rfl rfl rfl, e 2 (by omega) (Read.idx_main_v30 (ix3 b t n)) rfl rfl rfl,
    e 3 (by omega) (Read.idx_main_v37 (ix3 b t n)) rfl rfl rfl, Nat.zero_add]
  rfl

/-- The convolution, at time `t` of sequence `b`. -/
theorem act_apply (b : Fin 2) (t : Fin 1024) (n : Fin 3072) :
    Read.val_main_v45 (F := Ideal) x cw st (extf .bf16 w bitsLt_fp8e4m3_bf16) (facs scales) (ix3 b t n)
      = conv (fun r => st (ix3 b r n)) (chan x w scales n b) (fun j => cw (ix2 n j)) t.val := by
  rw [Read.val_main_v45_apply, Read.val_main_v44_apply, Read.val_main_call0_v5_apply, Read.val_main_call0_v4_apply,
    Read.val_main_call0_v3_apply, Read.val_main_call0_v2_apply, Read.val_main_call0_v1_apply, Read.val_main_call0_v0_apply, sum_apply]
  rfl

/-- The rows of the first sequence. -/
theorem rows0_apply (t : Fin 1024) (n : Fin 3072) :
    Read.val_main_v47 (F := Ideal) x cw st (extf .bf16 w bitsLt_fp8e4m3_bf16) (facs scales) (ix2 t n)
      = conv (fun r => st (ix3 0 r n)) (chan x w scales n 0) (fun j => cw (ix2 n j)) t.val := by
  have ht : t.val < 1024 := t.isLt
  have hn : n.val < 3072 := n.isLt
  rw [Read.val_main_v47_apply, Read.val_main_v46_apply]
  refine (congrArg _ (?_ : _ = ix3 (0 : Fin 2) t n)).trans (act_apply x w scales cw st 0 t n)
  funext a
  apply Fin.ext
  match a with
  | ⟨0, _⟩ => rfl
  | ⟨1, _⟩ => show (t.val * 3072 + n.val) / 3072 % 1024 = t.val; omega
  | ⟨2, _⟩ => show (t.val * 3072 + n.val) % 3072 = n.val; omega

/-- The rows of the second. -/
theorem rows1_apply (t : Fin 1024) (n : Fin 3072) :
    Read.val_main_v49 (F := Ideal) x cw st (extf .bf16 w bitsLt_fp8e4m3_bf16) (facs scales) (ix2 t n)
      = conv (fun r => st (ix3 1 r n)) (chan x w scales n 1) (fun j => cw (ix2 n j)) t.val := by
  have ht : t.val < 1024 := t.isLt
  have hn : n.val < 3072 := n.isLt
  rw [Read.val_main_v49_apply, Read.val_main_v48_apply]
  refine (congrArg _ (?_ : _ = ix3 (1 : Fin 2) t n)).trans (act_apply x w scales cw st 1 t n)
  funext a
  apply Fin.ext
  match a with
  | ⟨0, _⟩ => rfl
  | ⟨1, _⟩ => show (t.val * 3072 + n.val) / 3072 % 1024 = t.val; omega
  | ⟨2, _⟩ => show (t.val * 3072 + n.val) % 3072 = n.val; omega

/-- The reference's first result is the convolution with the factors written as powers of two. -/
theorem result_eq : Read.val_main_v50 (F := Ideal) x cw st (extf .bf16 w bitsLt_fp8e4m3_bf16) (facs scales) = result rfac x w scales cw st := by
  funext i
  obtain ⟨a, n, rfl⟩ : ∃ (a : Fin 2048) (n : Fin 3072), i = ix2 a n := ⟨i 0, i 1, eq_ix2 i⟩
  have ha : a.val < 2048 := a.isLt
  unfold Read.val_main_v50
  show _ = conv (fun r => st (ix3 (⟨a.val / 1024, _⟩ : Fin 2) r n)) (chan x w scales n ⟨a.val / 1024, _⟩) (fun j => cw (ix2 n j)) (a.val % 1024)
  by_cases h : a.val < 1024
  · refine (concatenate_pair_apply_left (t := S2048x3072) (s₁ := S1024x3072) (s₂ := S1024x3072) 0 _ _
      concatenates_S1024x3072_S1024x3072_S2048x3072_d0 (ix2 a n) rfl (ix2 ⟨a.val, h⟩ n)
      (fun d => match d with | ⟨0, _⟩ => rfl | ⟨1, _⟩ => rfl)).trans ?_
    rw [rows0_apply]
    have e : (⟨a.val / 1024, by omega⟩ : Fin 2) = 0 := Fin.ext (by show a.val / 1024 = 0; omega)
    have e' : a.val % 1024 = a.val := by omega
    rw [e, e']
  · refine (concatenate_pair_apply_right (t := S2048x3072) (s₁ := S1024x3072) (s₂ := S1024x3072) 0 _ _
      concatenates_S1024x3072_S1024x3072_S2048x3072_d0 (ix2 a n) rfl rfl (ix2 ⟨a.val - 1024, by omega⟩ n)
      (fun d hd => match d, hd with | ⟨0, _⟩, hd => absurd rfl hd | ⟨1, _⟩, _ => rfl)
      (by show a.val - 1024 + 1024 = a.val; omega)).trans ?_
    rw [rows1_apply]
    have e : (⟨a.val / 1024, by omega⟩ : Fin 2) = 1 := Fin.ext (by show a.val / 1024 = 1; omega)
    have e' : a.val % 1024 = a.val - 1024 := by omega
    rw [e, e']

/-- Its second is the product's last three rows of each sequence. -/
theorem tail_eq : Read.val_main_v51 (F := Ideal) x (extf .bf16 w bitsLt_fp8e4m3_bf16) (facs scales) = resultTail rfac x w scales := by
  funext i
  have h1 : (i 1).val < 3 := (i 1).isLt
  rw [Read.val_main_v51_apply]
  refine (congrArg _ (?_ : Read.idx_main_v51 i = ix3 (i 0) (⟨1021 + (i 1).val, by omega⟩ : Fin 1024) (i 2))).trans
    (product_apply x w scales (i 0) ⟨1021 + (i 1).val, by omega⟩ (i 2))
  funext a
  match a with
  | ⟨0, _⟩ => rfl
  | ⟨1, _⟩ => rfl
  | ⟨2, _⟩ => rfl

end Operations

end Cert.ConvVRefIdeal.RefValue

/-! ## The claim -/

namespace Cert.Proof.ConvVClaims

open Cert.Dequant Cert.Conv

/-- Over the reals, where no scale byte is 0 or 255, the kernel and the reference end with equal results and unchanged arguments. -/
theorem algebraic : Cert.algebraic_ConvVIdeal_ConvVRefIdeal_pre_conv_v_scales_normal := fun m g m' g' hpre hag => by
  refine ⟨fun c => Cert.ConvVIdeal.RefValue.whole m c, fun c => Cert.ConvVIdeal.RefValue.wholeTail m c,
    Cert.ConvVIdeal.RefValue.run_values m g, ?_⟩
  refine (θ_run Cert.ConvVRefIdeal.defs _ _).mono (fun _ h c => ⟨(h c).1.trans ?_, (h c).2.1.trans ?_, (h c).2.2⟩)
    (Cert.ConvVRefIdeal.Value.run m' g')
  · unfold Cert.ConvVRefIdeal.Value.res_main_v50
    rw [Cert.ConvVRefIdeal.RefValue.widen]
    refine (Cert.ConvVRefIdeal.RefValue.result_eq _ _ _ _ _).trans ?_
    rw [(hag c).1, (hag c).2.1, (hag c).2.2.1, (hag c).2.2.2.1, (hag c).2.2.2.2]
    exact (result_congr _ _ _ _ _ fun i => normal_of_pre _ (congrFun (hpre c) i)).symm
  · rw [Cert.ConvVRefIdeal.RefValue.widen]
    refine (Cert.ConvVRefIdeal.RefValue.tail_eq _ _ _).trans ?_
    rw [(hag c).1, (hag c).2.1, (hag c).2.2.1]
    exact (resultTail_congr _ _ _ fun i => normal_of_pre _ (congrFun (hpre c) i)).symm

end Cert.Proof.ConvVClaims

end
-- ==== Proof.RecHead.lean ====
/-
  The operations the recurrence kernel spends on one head of one chunk, up to the keys it reads the state with and the values it writes into
  it, named once for all the heads: the kernel's body repeats them for both sequences and all six heads, with different slices.
-/
module

public import proofs.«01_k».proof.Proof.Gen.RecIdeal
public import Idealize.ShloMosaic.PureOps
public import Idealize.ShloMosaic.PureOps.Ideal.Laws
public import Idealize.ShloMosaic.Lib.ValueIdx
public import Idealize.ShloMosaic.Lib.MatmulPlain
public import Idealize.ShloMosaic.Lib.ValueLayout
public import Idealize.ShloMosaic.Lib.Pipeline.Value

@[expose] public section

set_option maxRecDepth 16384

noncomputable section

open Idealize.ShloMosaic Idealize.ShloMosaic.TcCoe Idealize.SL.Sem Idealize.ShloMosaic.ValueIdx

namespace Cert.RecIdeal.Head

open Cert.RecIdeal Cert.RecIdeal.Gen

variable {F : FTy → Type} [FloatOps F]

/-- Every element's row number. -/
def rowNo : IVec S64x64 32 := iota .tc S64x64 32 [0] iota_S64x64_d0_w32
/-- Every element's column number. -/
def colNo : IVec S64x64 32 := iota .tc S64x64 32 [1] iota_S64x64_d1_w32

/-- `x // b` as the kernel computes it: the quotient rounded toward zero, corrected where the signs differ. -/
def quo (b : BitVec 32) (x : IVec S64x64 32) : IVec S64x64 32 :=
  select
    (andi
      (cmpi .ne
        (subi (extui 32 (cmpi .sgt x (broadcast S64x64 0#32)) natLt_1_32) (extui 32 (cmpi .slt x (broadcast S64x64 0#32)) natLt_1_32))
        (broadcast S64x64 (Scalar.subi (Scalar.extui (Scalar.cmpi .sgt b 0#32) : BitVec 32) (Scalar.extui (Scalar.cmpi .slt b 0#32)))))
      (cmpi .ne (remsi x (broadcast S64x64 b)) (broadcast S64x64 0#32)))
    (subi (divsi x (broadcast S64x64 b)) (broadcast S64x64 1#32)) (divsi x (broadcast S64x64 b))

/-- The divisor of `x % b` as the kernel takes it: one for zero. -/
def modulus (b : BitVec 32) : BitVec 32 := Scalar.select (Scalar.cmpi .eq b 0#32) 1#32 b

/-- `x % b` as the kernel computes it: the remainder of the rounded quotient, moved into range where the signs differ. -/
def md (b : BitVec 32) (x : IVec S64x64 32) : IVec S64x64 32 :=
  select
    (andi
      (xori (cmpi .slt (remsi x (broadcast S64x64 (modulus b))) (broadcast S64x64 0#32))
        (broadcastTo S64x64 (broadcast S64x64 (Scalar.cmpi .slt (modulus b) 0#32)) broadcasts_S64x64_S64x64))
      (cmpi .ne (remsi x (broadcast S64x64 (modulus b))) (broadcast S64x64 0#32)))
    (addi (remsi x (broadcast S64x64 (modulus b))) (broadcast S64x64 (modulus b))) (remsi x (broadcast S64x64 (modulus b)))

/-- The elements below the diagonal that couple two neighbouring blocks of `size` rows within a block of `two` rows. -/
def cross (two size : BitVec 32) : IVec S64x64 1 :=
  andi (andi (cmpi .eq (quo two rowNo) (quo two colNo)) (cmpi .sge (md two rowNo) (broadcast S64x64 size)))
    (cmpi .slt (md two colNo) (broadcast S64x64 size))

/-- The f32 zero over a square. -/
def zeroSq : FVec F S64x64 .f32 := broadcast S64x64 (Scalar.ofBits .f32 0x00000000#32)

/-- The identity. -/
def eye : FVec F S64x64 .f32 := select (cmpi .eq rowNo colNo) (broadcast S64x64 (Scalar.ofBits .f32 0x3F800000#32)) zeroSq
/-- Ones on and below the diagonal. -/
def tri : FVec F S64x64 .f32 := select (cmpi .sge rowNo colNo) (broadcast S64x64 (Scalar.ofBits .f32 0x3F800000#32)) zeroSq

/-- A product of two squares. -/
def mulSq (x y : FVec F S64x64 .f32) : FVec F S64x64 .f32 :=
  matmul dot_S64x64_S64x64_S64x64_1_0_0_1_n_n (some .fp32) x y (constant S64x64 .f32 0x00000000#32)

/-- From the inverse of the diagonal blocks of `size` rows to that of the blocks of twice as many. -/
def double (two size : BitVec 32) (a x : FVec F S64x64 .f32) : FVec F S64x64 .f32 :=
  subf x (mulSq (mulSq x (select (cross two size) a zeroSq)) x)

/-- The inverse of one plus a strictly lower triangular square, by doubling. -/
def inverse (a : FVec F S64x64 .f32) : FVec F S64x64 .f32 :=
  double 64#32 32#32 a (double 32#32 16#32 a (double 16#32 8#32 a (double 8#32 4#32 a (double 4#32 2#32 a
    (subf eye (select (cross 2#32 1#32) a zeroSq))))))

/-- The projection of one chunk to the gates' raw values, rounded to bf16. -/
def raw (x : Vec F S1x64x2304 .bf16) (w : Vec F S32x2304 .bf16) : FVec F S64x32 .f32 :=
  extf .f32 (truncf .bf16 (matmul dot_S64x2304_S32x2304_S64x32_1_1_0_0_n_n none (shapeCast S64x2304 x shapeCasts_S1x64x2304_S64x2304) w
    (constant S64x32 .f32 0x00000000#32)) bitsLt_bf16_f32) bitsLt_bf16_f32

/-- The raw log decays with the bias added. -/
def biased (r : FVec F S64x32 .f32) (dt : Vec F S1x6 .f32) : FVec F S64x6 .f32 :=
  addf (extractStridedSlice S64x6 ![0, 0] r slices_S64x32_o0_0_S64x6)
    (broadcastTo S64x6 (shapeCast S1x6 dt shapeCasts_S1x6_S1x6) broadcasts_S1x6_S64x6)

/-- The log decay of every position and head. -/
def logDecay (r : FVec F S64x32 .f32) (dt al : Vec F S1x6 .f32) : FVec F S64x6 .f32 :=
  mulf (broadcastTo S64x6 (subf (broadcast S1x6 (Scalar.ofBits .f32 0x00000000#32)) (exp (shapeCast S1x6 al shapeCasts_S1x6_S1x6)))
      broadcasts_S1x6_S64x6)
    (addf (maximumf (biased r dt) (broadcast S64x6 (Scalar.ofBits .f32 0x00000000#32)))
      (log1p (exp (subf (broadcast S64x6 (Scalar.ofBits .f32 0x00000000#32)) (absf (biased r dt))))))

/-- The step size of every position and head. -/
def stepSize (r : FVec F S64x32 .f32) : FVec F S64x6 .f32 :=
  divf (broadcast S64x6 (Scalar.ofBits .f32 0x3F800000#32))
    (addf (broadcast S64x6 (Scalar.ofBits .f32 0x3F800000#32))
      (exp (subf (broadcast S64x6 (Scalar.ofBits .f32 0x00000000#32)) (extractStridedSlice S64x6 ![0, 16] r slices_S64x32_o0_16_S64x6))))

/-- The log decays summed up to every position. -/
def summed (g : FVec F S64x6 .f32) : FVec F S64x6 .f32 :=
  matmul dot_S64x64_S64x6_S64x6_1_0_0_1_n_n (some .fp32) tri g (constant S64x6 .f32 0x00000000#32)

/-- The keys of one head. -/
def keys (k : Vec F S1x64x256 .bf16) : FVec F S64x256 .bf16 := shapeCast S64x256 k shapeCasts_S1x64x256_S64x256

/-- One over the length of every key. -/
def keyScale (k : Vec F S1x64x256 .bf16) : FVec F S64x1 .f32 :=
  rsqrt (addf (shapeCast S64x1 (multiReduction .add [1] S64 (mulf (extf .f32 (keys k) bitsLt_bf16_f32) (extf .f32 (keys k) bitsLt_bf16_f32))
    0x00000000#32 reduces_S64x256_S64 (.inl rfl) rfl) shapeCasts_S64_S64x1) (broadcast S64x1 (Scalar.ofBits .f32 0x358637BD#32)))

/-- The same as a row. -/
def keyScaleT (k : Vec F S1x64x256 .bf16) : FVec F S1x64 .f32 := transpose S1x64 [1, 0] (keyScale k) transposes_S64x1_p1_0_S1x64

section Slices
variable {h : Nat} (hc : S64x6.Slices ![0, h] S64x1) (hr : S6x64.Slices ![h, 0] S1x64)

/-- The decay from one position of the chunk to a later one. -/
def decay (gc : FVec F S64x6 .f32) : FVec F S64x64 .f32 :=
  exp (select (cmpi .sge rowNo colNo)
    (subf (broadcastTo S64x64 (extractStridedSlice S64x1 ![0, h] gc hc) broadcasts_S64x1_S64x64)
      (broadcastTo S64x64 (extractStridedSlice S1x64 ![h, 0] (transpose S6x64 [1, 0] gc transposes_S64x6_p1_0_S6x64) hr) broadcasts_S1x64_S64x64))
    zeroSq)

/-- The coupling of every position of a chunk to the earlier ones. -/
def coupling (beta gc : FVec F S64x6 .f32) (k : Vec F S1x64x256 .bf16) : FVec F S64x64 .f32 :=
  select (cmpi .sgt rowNo colNo)
    (mulf
      (mulf (broadcastTo S64x64 (extractStridedSlice S64x1 ![0, h] beta hc) broadcasts_S64x1_S64x64)
        (mulf
          (mulf (matmul dot_S64x256_S64x256_S64x64_1_1_0_0_n_n none (keys k) (keys k) (constant S64x64 .f32 0x00000000#32))
            (broadcastTo S64x64 (keyScale k) broadcasts_S64x1_S64x64))
          (broadcastTo S64x64 (keyScaleT k) broadcasts_S1x64_S64x64)))
      (decay hc hr gc)) zeroSq

/-- A square as three bf16 squares side by side that add up to it. -/
def split (t : FVec F S64x64 .f32) : FVec F S64x192 .bf16 :=
  let r1 := subf t (extf .f32 (truncf .bf16 t bitsLt_bf16_f32) bitsLt_bf16_f32)
  let r2 := subf r1 (extf .f32 (truncf .bf16 r1 bitsLt_bf16_f32) bitsLt_bf16_f32)
  concatenate S64x192 1 [⟨S64x64, truncf .bf16 t bitsLt_bf16_f32⟩, ⟨S64x64, truncf .bf16 r1 bitsLt_bf16_f32⟩,
    ⟨S64x64, truncf .bf16 r2 bitsLt_bf16_f32⟩] concatenates_S64x64_S64x64_S64x64_S64x192_d1

/-- The step sizes of one head as a row. -/
def stepRow (beta : FVec F S64x6 .f32) : FVec F S1x64 .f32 :=
  extractStridedSlice S1x64 ![h, 0] (transpose S6x64 [1, 0] beta transposes_S64x6_p1_0_S6x64) hr

/-- The keys a chunk reads the state with. -/
def headW (beta gc : FVec F S64x6 .f32) (k : Vec F S1x64x256 .bf16) : FVec F S1x1x64x256 .bf16 :=
  shapeCast S1x1x64x256
    (truncf .bf16
      (matmul dot_S64x192_S192x256_S64x256_1_0_0_1_n_n none
        (split (mulf (inverse (coupling hc hr beta gc k))
          (broadcastTo S64x64
            (mulf (mulf (keyScaleT k) (stepRow hr beta))
              (exp (extractStridedSlice S1x64 ![h, 0] (transpose S6x64 [1, 0] gc transposes_S64x6_p1_0_S6x64) hr))) broadcasts_S1x64_S64x64)))
        (concatenate S192x256 0 [⟨S64x256, keys k⟩, ⟨S64x256, keys k⟩, ⟨S64x256, keys k⟩] concatenates_S64x256_S64x256_S64x256_S192x256_d0)
        (constant S64x256 .f32 0x00000000#32)) bitsLt_bf16_f32) shapeCasts_S64x256_S1x1x64x256

/-- The values a chunk writes into the state. -/
def headU (beta gc : FVec F S64x6 .f32) (k : Vec F S1x64x256 .bf16) (v : Vec F S1x64x512 .bf16) : FVec F S1x1x64x512 .bf16 :=
  let vs := shapeCast S64x512 v shapeCasts_S1x64x512_S64x512
  shapeCast S1x1x64x512
    (truncf .bf16
      (matmul dot_S64x192_S192x512_S64x512_1_0_0_1_n_n none
        (split (mulf (inverse (coupling hc hr beta gc k)) (broadcastTo S64x64 (stepRow hr beta) broadcasts_S1x64_S64x64)))
        (concatenate S192x512 0 [⟨S64x512, vs⟩, ⟨S64x512, vs⟩, ⟨S64x512, vs⟩] concatenates_S64x512_S64x512_S64x512_S192x512_d0)
        (constant S64x512 .f32 0x00000000#32)) bitsLt_bf16_f32) shapeCasts_S64x512_S1x1x64x512

end Slices

/-- One head's block of the read keys from the blocks a grid point loads. -/
def pieceW {h : Nat} (hc : S64x6.Slices ![0, h] S64x1) (hr : S6x64.Slices ![h, 0] S1x64) (x : Vec F S1x64x2304 .bf16) (w : Vec F S32x2304 .bf16)
    (dt al : Vec F S1x6 .f32) (k : Vec F S1x64x256 .bf16) : FVec F S1x1x64x256 .bf16 :=
  headW hc hr (stepSize (raw x w)) (summed (logDecay (raw x w) dt al)) k

/-- One head's block of the written values from the blocks a grid point loads. -/
def pieceU {h : Nat} (hc : S64x6.Slices ![0, h] S64x1) (hr : S6x64.Slices ![h, 0] S1x64) (x : Vec F S1x64x2304 .bf16) (w : Vec F S32x2304 .bf16)
    (dt al : Vec F S1x6 .f32) (k : Vec F S1x64x256 .bf16) (v : Vec F S1x64x512 .bf16) : FVec F S1x1x64x512 .bf16 :=
  headU hc hr (stepSize (raw x w)) (summed (logDecay (raw x w) dt al)) k v

end Cert.RecIdeal.Head

end
-- ==== Proof.RecMath.lean ====
/-
  The algebra of one chunk of the recurrence, over the reals. `A` is strictly lower triangular; the kernel inverts `I + A` by doubling the
  size of diagonal blocks, the reference by a product of `I + A ^ (2 ^ j)`; both are the inverse.
-/
module

public import Mathlib.Data.Matrix.Basic
public import Mathlib.LinearAlgebra.Matrix.NonsingularInverse
public import Mathlib.Data.Real.Basic
public import Mathlib.Tactic.IntervalCases
public import Mathlib.Tactic.NoncommRing

@[expose] public section

noncomputable section

namespace Cert.Rec

/-- A square of 64 rows. -/
abbrev Sq : Type := Matrix (Fin 64) (Fin 64) ℝ

/-- Nothing on or above the diagonal. -/
def Strict (A : Sq) : Prop := ∀ i j, i ≤ j → A i j = 0

/-- `A` within the diagonal blocks of extent `s`. -/
def inBlocks (s : Nat) (A : Sq) : Sq := Matrix.of fun i j => if i.val / s = j.val / s then A i j else 0

/-- The part of `A` that joins a block of extent `s` to the next within a block of extent `2 s`: rows of the second half, columns of the first. -/
def across (s : Nat) (A : Sq) : Sq := Matrix.of fun i j =>
  if i.val / (2 * s) = j.val / (2 * s) ∧ s ≤ i.val % (2 * s) ∧ j.val % (2 * s) < s then A i j else 0

theorem inBlocks_apply (s : Nat) (A : Sq) (i j : Fin 64) : inBlocks s A i j = if i.val / s = j.val / s then A i j else 0 := rfl

theorem across_apply (s : Nat) (A : Sq) (i j : Fin 64) : across s A i j =
    if i.val / (2 * s) = j.val / (2 * s) ∧ s ≤ i.val % (2 * s) ∧ j.val % (2 * s) < s then A i j else 0 := rfl

/-- One doubling. -/
def double (s : Nat) (A X : Sq) : Sq := X - X * across s A * X

theorem inBlocks_one (A : Sq) (h : Strict A) : inBlocks 1 A = 0 := by
  ext i j
  rw [inBlocks_apply]
  split
  · rename_i e
    exact h i j (le_of_eq (Fin.ext (by omega)))
  · rfl

theorem inBlocks_top (A : Sq) : inBlocks 64 A = A := by
  ext i j
  rw [inBlocks_apply]
  rw [if_pos (by omega)]

/-- A block of extent `2 s` is two of extent `s` and what joins them. -/
theorem inBlocks_double (s : Nat) (hs : 0 < s) (A : Sq) (h : Strict A) : inBlocks (2 * s) A = inBlocks s A + across s A := by
  ext i j
  rw [Matrix.add_apply, inBlocks_apply, inBlocks_apply, across_apply]
  have ei : i.val / s = 2 * (i.val / (2 * s)) + i.val % (2 * s) / s := by
    rw [Nat.mod_mul_left_div_self, mul_comm 2 s, ← Nat.div_div_eq_div_mul]; omega
  have ej : j.val / s = 2 * (j.val / (2 * s)) + j.val % (2 * s) / s := by
    rw [Nat.mod_mul_left_div_self, mul_comm 2 s, ← Nat.div_div_eq_div_mul]; omega
  have bi : i.val % (2 * s) / s < 2 := by rw [Nat.mod_mul_left_div_self]; omega
  have bj : j.val % (2 * s) / s < 2 := by rw [Nat.mod_mul_left_div_self]; omega
  have li : s ≤ i.val % (2 * s) ↔ i.val % (2 * s) / s = 1 := by
    rw [← Nat.one_le_div_iff hs]; omega
  have lj : j.val % (2 * s) < s ↔ j.val % (2 * s) / s = 0 := by
    rw [Nat.div_eq_zero_iff]; omega
  simp only [li, lj]
  by_cases hc : A i j = 0
  · simp [hc]
  have hlt : j.val < i.val := by
    by_contra hn
    exact hc (h i j (by omega))
  have hd : j.val / (2 * s) ≤ i.val / (2 * s) := Nat.div_le_div_right hlt.le
  have hd' : j.val / s ≤ i.val / s := Nat.div_le_div_right hlt.le
  generalize i.val / (2 * s) = a at *
  generalize j.val / (2 * s) = b at *
  generalize i.val % (2 * s) / s = c at *
  generalize j.val % (2 * s) / s = d at *
  rw [ei, ej]
  rw [ei, ej] at hd'
  by_cases hab : a = b
  · subst hab
    interval_cases c <;> interval_cases d <;> simp_all
  · rw [if_neg hab, if_neg (by omega), if_neg (by tauto)]
    simp

/-- The diagonal matrix of the rows in the second half of their block of extent `2 s`. -/
def upper (s : Nat) : Sq := Matrix.diagonal fun i => if s ≤ i.val % (2 * s) then 1 else 0

theorem upper_across (s : Nat) (A : Sq) : upper s * across s A = across s A := by
  ext i j
  unfold upper
  rw [Matrix.diagonal_mul, across_apply]
  split <;> split <;> simp_all

theorem across_upper (s : Nat) (A : Sq) : across s A * upper s = 0 := by
  ext i j
  unfold upper
  rw [Matrix.mul_diagonal, across_apply, Matrix.zero_apply]
  split <;> split <;> simp_all
  omega

theorem inBlocks_upper (s : Nat) (hs : 0 < s) (A : Sq) : inBlocks s A * upper s = upper s * inBlocks s A := by
  ext i j
  unfold upper
  rw [Matrix.mul_diagonal, Matrix.diagonal_mul, inBlocks_apply]
  by_cases h : i.val / s = j.val / s
  · have e : (s ≤ i.val % (2 * s)) ↔ (s ≤ j.val % (2 * s)) := by
      rw [← Nat.one_le_div_iff hs, ← Nat.one_le_div_iff hs, Nat.mod_mul_left_div_self, Nat.mod_mul_left_div_self, h]
    simp only [e]
    ring
  · simp [h]

/-- Doubling keeps the inverse of the blocks. -/
theorem double_inverse (s : Nat) (hs : 0 < s) (A X : Sq) (h : Strict A) (hX : X * (1 + inBlocks s A) = 1) :
    double s A X * (1 + inBlocks (2 * s) A) = 1 := by
  have hX' : (1 + inBlocks s A) * X = 1 := mul_eq_one_comm.1 hX
  have hc : X * upper s = upper s * X := by
    calc X * upper s = X * upper s * ((1 + inBlocks s A) * X) := by rw [hX', mul_one]
      _ = X * (upper s + upper s * inBlocks s A) * X := by noncomm_ring
      _ = X * (upper s + inBlocks s A * upper s) * X := by rw [inBlocks_upper s hs]
      _ = X * (1 + inBlocks s A) * upper s * X := by noncomm_ring
      _ = upper s * X := by rw [hX, one_mul]
  have hz : across s A * X * across s A = 0 := by
    calc across s A * X * across s A = across s A * (X * upper s) * across s A := by
          rw [mul_assoc, mul_assoc, mul_assoc X, upper_across, ← mul_assoc]
      _ = across s A * upper s * (X * across s A) := by rw [hc]; noncomm_ring
      _ = 0 := by rw [across_upper, zero_mul]
  rw [inBlocks_double s hs A h]
  unfold double
  calc (X - X * across s A * X) * (1 + (inBlocks s A + across s A))
      = X * (1 + inBlocks s A) + X * across s A - X * across s A * (X * (1 + inBlocks s A)) - X * (across s A * X * across s A) := by noncomm_ring
    _ = 1 := by rw [hX, hz]; noncomm_ring

/-- The kernel's inverse: six doublings from the identity, the first of which subtracts. -/
def blockInverse (A : Sq) : Sq :=
  double 32 A (double 16 A (double 8 A (double 4 A (double 2 A (1 - across 1 A)))))

theorem blockInverse_eq (A : Sq) (h : Strict A) : blockInverse A = (1 + A)⁻¹ := by
  have h1 : (1 : Sq) * (1 + inBlocks 1 A) = 1 := by rw [inBlocks_one A h]; noncomm_ring
  have h2 : (1 - across 1 A) * (1 + inBlocks 2 A) = 1 := by
    have := double_inverse 1 (by decide) A 1 h h1
    rwa [show double 1 A 1 = 1 - across 1 A from by unfold double; noncomm_ring] at this
  have h64 := double_inverse 32 (by decide) A _ h (double_inverse 16 (by decide) A _ h (double_inverse 8 (by decide) A _ h
    (double_inverse 4 (by decide) A _ h (double_inverse 2 (by decide) A _ h h2))))
  rw [show 2 * 32 = 64 from rfl, inBlocks_top] at h64
  exact (Matrix.inv_eq_left_inv h64).symm

/-! ## The reference's inverse -/

theorem pow_strict (A : Sq) (h : Strict A) (n : Nat) (i j : Fin 64) (hij : i.val < j.val + n) : (A ^ n) i j = 0 := by
  induction n generalizing i j with
  | zero =>
    rw [pow_zero, Matrix.one_apply_ne]
    intro e
    subst e
    omega
  | succ n ih =>
    rw [pow_succ, Matrix.mul_apply]
    refine Finset.sum_eq_zero fun k _ => ?_
    by_cases hk : k ≤ j
    · rw [h k j hk, mul_zero]
    · rw [ih i k (by have : j.val < k.val := by omega
                     omega), zero_mul]

theorem pow_top (A : Sq) (h : Strict A) : A ^ 64 = 0 := by
  ext i j
  exact pow_strict A h 64 i j (by omega)

/-- The reference's inverse: `(I - A) (I + A²) (I + A⁴) … (I + A³²)`, multiplied out from the left. -/
def powerInverse (A : Sq) : Sq :=
  let step := fun (p x : Sq) => x + x * p
  let p2 := A * A
  let p4 := p2 * p2
  let p8 := p4 * p4
  let p16 := p8 * p8
  let p32 := p16 * p16
  step p32 (step p16 (step p8 (step p4 (step p2 (1 - A)))))

theorem powerInverse_eq (A : Sq) (h : Strict A) : powerInverse A = (1 + A)⁻¹ := by
  refine (Matrix.inv_eq_left_inv ?_).symm
  have e2 : A * A = A ^ 2 := by rw [pow_two]
  have st : ∀ n x, x * (1 + A) = 1 - A ^ n → (x + x * A ^ n) * (1 + A) = 1 - A ^ (n + n) := by
    intro n x hx
    have hcomm : A ^ n * (1 + A) = (1 + A) * A ^ n := by
      rw [mul_add, add_mul, mul_one, one_mul, ← pow_succ, ← pow_succ']
    calc (x + x * A ^ n) * (1 + A) = x * (1 + A) + x * (A ^ n * (1 + A)) := by noncomm_ring
      _ = x * (1 + A) + x * (1 + A) * A ^ n := by rw [hcomm]; noncomm_ring
      _ = 1 - A ^ (n + n) := by rw [hx, pow_add]; noncomm_ring
  unfold powerInverse
  dsimp only
  simp only [← pow_two, ← pow_mul]
  have h1 : (1 - A) * (1 + A) = 1 - A ^ 2 := by noncomm_ring
  have := st 32 _ (st 16 _ (st 8 _ (st 4 _ (st 2 _ h1))))
  rw [show (32 + 32) = 64 from rfl, pow_top A h, sub_zero] at this
  exact this

end Cert.Rec

end
-- ==== Proof.RecSpec.lean ====
/-
  What one chunk of 64 positions of one head comes to, over the extended reals: the log decays and step sizes, which stay finite where it
  matters, and from the keys and values, which are real, the keys the chunk reads the state with and the values it writes into it.
-/
module

public import Idealize.ShloMosaic.PureOps
public import Idealize.ShloMosaic.PureOps.Ideal.Laws
public import Mathlib.Data.EReal.Operations
public import Mathlib.Data.EReal.Inv
public import proofs.«01_k».proof.Proof.RecMath

@[expose] public section

noncomputable section

open Idealize.ShloMosaic

namespace Cert.Rec

/-- A sum of reals is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Log decays and step sizes -/

/-- The logarithm of one plus the exponential. -/
def softplus (z : EReal) : EReal := max z 0 + Ideal.log1p (Ideal.exp (-(max z (-z))))

/-- The log decay at a position, from its raw value and the head's rate. -/
def logDecay (al z : EReal) : EReal := -Ideal.exp al * softplus z

/-- The step size at a position, from its raw value. -/
def stepSize (b : EReal) : EReal := Ideal.div 1 (1 + Ideal.exp (-b))

theorem exp_nonneg (x : EReal) : 0 ≤ Ideal.exp x := by
  induction x with
  | bot => exact le_refl _
  | top => exact le_top
  | coe r => exact EReal.coe_nonneg.2 (Real.exp_pos r).le

theorem exp_coe_toReal (x : EReal) (h : x ≠ ⊤) : Ideal.exp x = ((Ideal.exp x).toReal : EReal) := by
  induction x with
  | bot => show (0 : EReal) = ((0 : EReal).toReal : EReal); simp
  | top => exact absurd rfl h
  | coe r => rfl

theorem log1p_exp_nonneg (x : EReal) : 0 ≤ Ideal.log1p (Ideal.exp x) := by
  induction x with
  | bot =>
    show 0 ≤ Ideal.log (1 + 0)
    rw [add_zero]
    show 0 ≤ Ideal.log ((1 : ℝ) : EReal)
    show (0 : EReal) ≤ if (1 : ℝ) ≤ 0 then ⊥ else (Real.log 1 : EReal)
    rw [if_neg (by norm_num)]; simp
  | top =>
    show 0 ≤ Ideal.log (1 + ⊤)
    rw [show (1 : EReal) + ⊤ = ⊤ from by rfl]
    exact le_top
  | coe r =>
    show 0 ≤ Ideal.log (((1 : ℝ) : EReal) + ((Real.exp r : ℝ) : EReal))
    rw [← EReal.coe_add]
    show (0 : EReal) ≤ if (1 + Real.exp r : ℝ) ≤ 0 then ⊥ else (Real.log (1 + Real.exp r) : EReal)
    have := Real.exp_pos r
    rw [if_neg (by linarith)]
    exact EReal.coe_nonneg.2 (Real.log_nonneg (by linarith))

theorem softplus_nonneg (z : EReal) : 0 ≤ softplus z := add_nonneg (le_max_right _ _) (log1p_exp_nonneg _)

/-- A log decay is not positive. -/
theorem logDecay_nonpos (al z : EReal) : logDecay al z ≤ 0 := by
  unfold logDecay
  rw [EReal.neg_mul]
  rw [← neg_zero]
  exact EReal.neg_le_neg_iff.2 (EReal.mul_nonneg (exp_nonneg al) (softplus_nonneg z))

/-- A step size is a real number. -/
theorem stepSize_coe (b : EReal) : stepSize b = ((stepSize b).toReal : EReal) := by
  unfold stepSize
  generalize -b = x
  have key : ∀ r : ℝ, 0 < r → ∃ q : ℝ, Ideal.div 1 (r : EReal) = (q : EReal) := fun r hr => by
    refine ⟨1 * r⁻¹, ?_⟩
    unfold Ideal.div
    rw [if_neg (by simpa using hr.ne'), EReal.coe_mul, EReal.coe_one, EReal.coe_inv]
  have ex : ∃ q : ℝ, Ideal.div 1 (1 + Ideal.exp x) = (q : EReal) := by
    induction x with
    | bot => simpa using key 1 one_pos
    | top =>
      refine ⟨0, ?_⟩
      show Ideal.div 1 (1 + ⊤) = _
      rw [show (1 : EReal) + ⊤ = ⊤ from rfl]
      unfold Ideal.div
      simp
    | coe r =>
      have h := key (1 + Real.exp r) (by have := Real.exp_pos r; linarith)
      rwa [EReal.coe_add, EReal.coe_one] at h
  obtain ⟨q, hq⟩ := ex
  rw [hq, EReal.toReal_coe]

/-- The log decays summed up to position `i`. -/
def cum (g : Fin 64 → EReal) (i : Fin 64) : EReal := ∑ j : Fin 64, if j ≤ i then g j else 0

theorem cum_nonpos (g : Fin 64 → EReal) (hg : ∀ j, g j ≤ 0) (i : Fin 64) : cum g i ≤ 0 :=
  Finset.sum_nonpos fun j _ => by split; exacts [hg j, le_refl _]

theorem cum_anti (g : Fin 64 → EReal) (hg : ∀ j, g j ≤ 0) (i j : Fin 64) (h : j ≤ i) : cum g i ≤ cum g j :=
  Finset.sum_le_sum fun l _ => by
    by_cases h1 : l ≤ j
    · rw [if_pos h1, if_pos (h1.trans h)]
    · rw [if_neg h1]; split; exacts [hg l, le_refl _]

theorem cum_ne_top (g : Fin 64 → EReal) (hg : ∀ j, g j ≤ 0) (i : Fin 64) : cum g i ≠ ⊤ := fun h => by
  have := cum_nonpos g hg i
  rw [h] at this
  exact absurd this (by simp)

theorem cum_sub_ne_top (g : Fin 64 → EReal) (hg : ∀ j, g j ≤ 0) (i j : Fin 64) (h : j ≤ i) : cum g i - cum g j ≠ ⊤ := by
  have h1 := cum_anti g hg i j h
  have h2 := cum_ne_top g hg i
  revert h1 h2
  generalize cum g i = x
  generalize cum g j = y
  intro h1 h2
  induction x with
  | bot => simp
  | top => exact absurd rfl h2
  | coe r =>
    induction y with
    | bot => exact absurd h1 (by simp)
    | top => simp
    | coe s => rw [← EReal.coe_sub]; exact EReal.coe_ne_top _

/-- The decay from the start of the chunk to position `i`. -/
def fromStart (g : Fin 64 → EReal) (i : Fin 64) : ℝ := (Ideal.exp (cum g i)).toReal

theorem fromStart_coe (g : Fin 64 → EReal) (hg : ∀ j, g j ≤ 0) (i : Fin 64) : Ideal.exp (cum g i) = (fromStart g i : EReal) :=
  exp_coe_toReal _ (cum_ne_top g hg i)

/-- The decay from position `j` to position `i`. -/
def between (g : Fin 64 → EReal) (i j : Fin 64) : ℝ := (Ideal.exp (cum g i - cum g j)).toReal

theorem between_coe (g : Fin 64 → EReal) (hg : ∀ j, g j ≤ 0) (i j : Fin 64) (h : j ≤ i) :
    Ideal.exp (cum g i - cum g j) = (between g i j : EReal) := exp_coe_toReal _ (cum_sub_ne_top g hg i j h)

/-! ## The chunk -/

/-- The small number added to a key's squared length. -/
def epsR : ℝ := (Ideal.ofBits .f32 0x358637BD#32).toReal

theorem epsR_coe : Ideal.ofBits .f32 0x358637BD#32 = (epsR : EReal) := by
  unfold epsR
  simp [Ideal.ofBits, Ideal.ieee, -EReal.coe_mul]

theorem epsR_pos : 0 < epsR := by
  unfold epsR
  simp [Ideal.ofBits, Ideal.ieee, -EReal.coe_mul]

theorem mul_self_nonneg (x : EReal) : 0 ≤ x * x := by
  induction x with
  | bot => rw [EReal.bot_mul_bot]; exact le_top
  | top => rw [EReal.top_mul_top]; exact le_top
  | coe r => rw [← EReal.coe_mul]; exact EReal.coe_nonneg.2 (_root_.mul_self_nonneg r)

variable (k : Fin 64 → Fin 256 → EReal)

/-- One over the length of key `i`: zero where the key has an infinite entry. -/
def scaleOf (i : Fin 64) : ℝ := (Ideal.rsqrt ((∑ d, k i d * k i d) + Ideal.ofBits .f32 0x358637BD#32)).toReal

/-- A key's entries are real, or one over its length is zero. -/
theorem real_or_zero (i : Fin 64) : (∀ d, k i d = ((k i d).toReal : EReal))
    ∨ Ideal.rsqrt ((∑ d, k i d * k i d) + Ideal.ofBits .f32 0x358637BD#32) = 0 := by
  by_cases h : ∑ d, k i d * k i d = ⊤
  · right
    rw [h, epsR_coe, EReal.top_add_coe]
    rfl
  · left
    intro d
    have hd : k i d * k i d ≤ ∑ d, k i d * k i d :=
      Finset.single_le_sum (f := fun d => k i d * k i d) (fun d _ => mul_self_nonneg _) (Finset.mem_univ d)
    refine (EReal.coe_toReal ?_ ?_).symm
    · intro e
      rw [e, EReal.top_mul_top] at hd
      exact h (top_le_iff.1 hd)
    · intro e
      rw [e, EReal.bot_mul_bot] at hd
      exact h (top_le_iff.1 hd)

theorem rsqrt_coe (i : Fin 64) :
    Ideal.rsqrt ((∑ d, k i d * k i d) + Ideal.ofBits .f32 0x358637BD#32) = (scaleOf k i : EReal) := by
  unfold scaleOf
  rcases real_or_zero k i with hr | hz
  · have e : (∑ d, k i d * k i d) + Ideal.ofBits .f32 0x358637BD#32 = (((∑ d, (k i d).toReal * (k i d).toReal) + epsR : ℝ) : EReal) := by
      rw [epsR_coe, EReal.coe_add, coe_sum]
      refine congrArg (· + _) (Finset.sum_congr rfl fun d _ => ?_)
      rw [EReal.coe_mul, ← hr d]
    have h : 0 < (∑ d, (k i d).toReal * (k i d).toReal) + epsR :=
      add_pos_of_nonneg_of_pos (Finset.sum_nonneg fun d _ => _root_.mul_self_nonneg _) epsR_pos
    have e2 : Ideal.rsqrt (((∑ d, (k i d).toReal * (k i d).toReal) + epsR : ℝ) : EReal)
        = (((Real.sqrt ((∑ d, (k i d).toReal * (k i d).toReal) + epsR))⁻¹ : ℝ) : EReal) := by
      show (if _ then _ else if _ then _ else _) = _
      rw [if_neg (not_lt.2 h.le), if_neg h.ne']
    rw [e, e2, EReal.toReal_coe]
  · rw [hz, EReal.toReal_zero, EReal.coe_zero]

/-- Key `i` brought to length one. -/
def unitKey (i : Fin 64) (d : Fin 256) : ℝ := (k i d * (scaleOf k i : EReal)).toReal

theorem unitKey_coe (i : Fin 64) (d : Fin 256) : k i d * (scaleOf k i : EReal) = (unitKey k i d : EReal) := by
  unfold unitKey
  rcases real_or_zero k i with hr | hz
  · rw [hr d, ← EReal.coe_mul, EReal.toReal_coe]
  · rw [← rsqrt_coe, hz, mul_zero, EReal.toReal_zero, EReal.coe_zero]

/-- Where one over a key's length is zero, so is the key brought to length one. -/
theorem unitKey_zero (i : Fin 64) (hz : scaleOf k i = 0) (d : Fin 256) : unitKey k i d = 0 := by
  unfold unitKey
  rw [hz, EReal.coe_zero, mul_zero, EReal.toReal_zero]

/-- Scaling the product of two keys is the product of the two keys brought to length one. -/
theorem dot_unitKey (i j : Fin 64) : (∑ d, k i d * k j d) * (scaleOf k i : EReal) * (scaleOf k j : EReal)
    = ((∑ d, unitKey k i d * unitKey k j d : ℝ) : EReal) := by
  by_cases hi : scaleOf k i = 0
  · rw [hi, EReal.coe_zero, mul_zero, zero_mul, Finset.sum_eq_zero fun d _ => by rw [unitKey_zero k i hi d, zero_mul], EReal.coe_zero]
  by_cases hj : scaleOf k j = 0
  · rw [hj, EReal.coe_zero, mul_zero, Finset.sum_eq_zero fun d _ => by rw [unitKey_zero k j hj d, mul_zero], EReal.coe_zero]
  have real (l : Fin 64) (hl : scaleOf k l ≠ 0) : ∀ d, k l d = ((k l d).toReal : EReal) :=
    (real_or_zero k l).resolve_right fun hz => hl (by rw [← EReal.coe_eq_zero, ← rsqrt_coe, hz])
  have e : (∑ d, k i d * k j d) = ((∑ d, (k i d).toReal * (k j d).toReal : ℝ) : EReal) := by
    rw [coe_sum]
    refine Finset.sum_congr rfl fun d _ => ?_
    rw [EReal.coe_mul, ← real i hi d, ← real j hj d]
  have u (l : Fin 64) (hl : scaleOf k l ≠ 0) (d : Fin 256) : unitKey k l d = (k l d).toReal * scaleOf k l := by
    rw [← EReal.coe_eq_coe_iff, ← unitKey_coe, EReal.coe_mul, ← real l hl d]
  rw [e, ← EReal.coe_mul, ← EReal.coe_mul, Finset.sum_mul, Finset.sum_mul]
  refine congrArg _ (Finset.sum_congr rfl fun d _ => ?_)
  rw [u i hi, u j hj]
  ring

/-- The coupling of position `i` to the earlier position `j`. -/
def coupling (b g : Fin 64 → EReal) (k : Fin 64 → Fin 256 → EReal) : Sq := Matrix.of fun i j =>
  if j < i then (stepSize (b i)).toReal * (∑ d, unitKey k i d * unitKey k j d) * between g i j else 0

theorem coupling_apply (b g : Fin 64 → EReal) (k : Fin 64 → Fin 256 → EReal) (i j : Fin 64) : coupling b g k i j =
    if j < i then (stepSize (b i)).toReal * (∑ d, unitKey k i d * unitKey k j d) * between g i j else 0 := rfl

theorem coupling_strict (b g : Fin 64 → EReal) (k : Fin 64 → Fin 256 → EReal) : Strict (coupling b g k) := fun i j h => by
  rw [coupling_apply, if_neg (not_lt.2 h)]

/-- The keys the chunk reads the state with. -/
def readKeys (b g : Fin 64 → EReal) (k : Fin 64 → Fin 256 → EReal) (i : Fin 64) (d : Fin 256) : ℝ :=
  ∑ j, (1 + coupling b g k)⁻¹ i j * (unitKey k j d * ((stepSize (b j)).toReal * fromStart g j))

/-- The values the chunk writes into the state. -/
def writtenValues (b g : Fin 64 → EReal) (k : Fin 64 → Fin 256 → EReal) (v : Fin 64 → Fin 512 → EReal) (i : Fin 64) (d : Fin 512) : EReal :=
  ∑ j, (((1 + coupling b g k)⁻¹ i j : ℝ) : EReal) * (v j d * stepSize (b j))

end Cert.Rec

end
-- ==== Proof.RecHeadValue.lean ====
/-
  One head of one chunk as the kernel computes it, over the reals: its operations, read at one element, give the keys and values of RecSpec.
-/
module

public import proofs.«01_k».proof.Proof.RecHead
public import proofs.«01_k».proof.Proof.RecSpec
public import proofs.«01_k».proof.Proof.Dequant
public import Idealize.ShloMosaic.Lib.ValueLayoutCasts

@[expose] public section

set_option maxRecDepth 16384

noncomputable section

open Idealize.ShloMosaic Idealize.ShloMosaic.ValueIdx

namespace Cert.RecIdeal.Head

open Cert.RecIdeal Cert.RecIdeal.Gen Cert.Dequant

/-- A real matrix as an array. -/
def lift {a b : Nat} (M : Matrix (Fin a) (Fin b) ℝ) : (Mat a b).Idx → EReal := fun i => ((M (i 0) (i 1) : ℝ) : EReal)

theorem lift_apply {a b : Nat} (M : Matrix (Fin a) (Fin b) ℝ) (i : Fin a) (j : Fin b) : lift M (ix2 i j) = ((M i j : ℝ) : EReal) := rfl

theorem ext2 {a b : Nat} {f g : (Mat a b).Idx → EReal} (h : ∀ i j, f (ix2 i j) = g (ix2 i j)) : f = g := funext fun i => by
  rw [eq_ix2 i]; exact h _ _

theorem zero_f32 : (FloatOps.ofBits (F := Ideal) .f32 0x00000000#32) = (0 : EReal) := Ideal.ofBits_zero_f32

theorem one_f32 : Ideal.ofBits .f32 0x3F800000#32 = (1 : EReal) := by
  simp [Ideal.ofBits, Ideal.ieee, -EReal.coe_mul]; norm_num

/-- The product of two real matrices. -/
theorem mulSq_lift (X Y : Cert.Rec.Sq) : mulSq (F := Ideal) (lift X) (lift Y) = lift (X * Y) := by
  refine ext2 fun i j => ?_
  refine (Ideal.matmul_plain_apply (M := 64) (K := 64) (N := 64) (φ₁ := .f32) (φ₂ := .f32) (some .fp32) (lift X) (lift Y) _ i j).trans ?_
  show Ideal.ofBits .f32 0x00000000#32 + _ = _
  rw [Ideal.ofBits_zero_f32, zero_add, lift_apply, Matrix.mul_apply, Cert.Rec.coe_sum]
  exact Finset.sum_congr rfl fun k _ => (EReal.coe_mul _ _).symm

theorem subf_lift (X Y : Cert.Rec.Sq) : (subf (F := Ideal) (φ := .f32) (lift X : FVec Ideal S64x64 .f32) (lift Y : FVec Ideal S64x64 .f32)) = lift (X - Y) :=
  ext2 fun _ _ => (EReal.coe_sub _ _).symm

/-- A bit that says whether `p` holds. -/
abbrev bit (p : Prop) [Decidable p] : BitVec 1 := if p then 1#1 else 0#1

theorem cmp_eq : ∀ a b : Fin 64, IntOp.cmpi .eq (BitVec.ofNat 32 a.val) (BitVec.ofNat 32 b.val) = bit (a.val = b.val) := by decide +kernel
theorem cmp_sge : ∀ a b : Fin 64, IntOp.cmpi .sge (BitVec.ofNat 32 a.val) (BitVec.ofNat 32 b.val) = bit (b.val ≤ a.val) := by decide +kernel
theorem cmp_sgt : ∀ a b : Fin 64, IntOp.cmpi .sgt (BitVec.ofNat 32 a.val) (BitVec.ofNat 32 b.val) = bit (b.val < a.val) := by decide +kernel
theorem cmp_slt : ∀ a b : Fin 64, IntOp.cmpi .slt (BitVec.ofNat 32 a.val) (BitVec.ofNat 32 b.val) = bit (a.val < b.val) := by decide +kernel

theorem and_bit (p q : Prop) [Decidable p] [Decidable q] : IntOp.andi (bit p) (bit q) = bit (p ∧ q) := by
  by_cases hp : p <;> by_cases hq : q <;> simp [bit, hp, hq, IntOp.andi]

theorem rowNo_apply (i j : Fin 64) : rowNo (ix2 i j) = BitVec.ofNat 32 i.val := iota_single_apply _ _ _ _ _ _
theorem colNo_apply (i j : Fin 64) : colNo (ix2 i j) = BitVec.ofNat 32 j.val := iota_single_apply _ _ _ _ _ _

/-- `quo` at one element. -/
def quoWord (b x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt b 0#32)) (Scalar.extui (Scalar.cmpi .slt b 0#32))))
      (IntOp.cmpi .ne (IntOp.remsi .vector x b) 0#32))
    (IntOp.subi (IntOp.divsi .vector x b) 1#32) (IntOp.divsi .vector x b)

/-- `md` at one element. -/
def mdWord (b x : BitVec 32) : BitVec 32 :=
  Scalar.select
    (IntOp.andi
      (IntOp.xori (IntOp.cmpi .slt (IntOp.remsi .vector x (modulus b)) 0#32) (Scalar.cmpi .slt (modulus b) 0#32))
      (IntOp.cmpi .ne (IntOp.remsi .vector x (modulus b)) 0#32))
    (IntOp.addi (IntOp.remsi .vector x (modulus b)) (modulus b)) (IntOp.remsi .vector x (modulus b))

theorem quo_apply (b : BitVec 32) (x : IVec S64x64 32) (i : S64x64.Idx) : quo b x i = quoWord b (x i) := rfl
theorem md_apply (b : BitVec 32) (x : IVec S64x64 32) (i : S64x64.Idx) : md b x i = mdWord b (x i) := rfl

theorem quoWord_eq : ∀ (e : Fin 6) (x : Fin 64), quoWord (BitVec.ofNat 32 (2 * 2 ^ e.val)) (BitVec.ofNat 32 x.val) = BitVec.ofNat 32 (x.val / (2 * 2 ^ e.val)) := by
  decide +kernel
theorem mdWord_eq : ∀ (e : Fin 6) (x : Fin 64), mdWord (BitVec.ofNat 32 (2 * 2 ^ e.val)) (BitVec.ofNat 32 x.val) = BitVec.ofNat 32 (x.val % (2 * 2 ^ e.val)) := by
  decide +kernel

/-- The kernel's mask holds where a block of `2 ^ e` rows meets its neighbour. -/
theorem cross_eq (e : Fin 6) (i j : Fin 64) : cross (BitVec.ofNat 32 (2 * 2 ^ e.val)) (BitVec.ofNat 32 (2 ^ e.val)) (ix2 i j)
    = bit ((i.val / (2 * 2 ^ e.val) = j.val / (2 * 2 ^ e.val) ∧ 2 ^ e.val ≤ i.val % (2 * 2 ^ e.val)) ∧ j.val % (2 * 2 ^ e.val) < 2 ^ e.val) := by
  have hp : 2 ^ e.val < 64 := Nat.pow_lt_pow_right (m := e.val) (n := 6) (a := 2) (by decide) e.isLt
  have hi := Nat.div_le_self i.val (2 * 2 ^ e.val)
  have hj := Nat.div_le_self j.val (2 * 2 ^ e.val)
  have hi' := Nat.mod_le i.val (2 * 2 ^ e.val)
  have hj' := Nat.mod_le j.val (2 * 2 ^ e.val)
  show IntOp.andi (IntOp.andi (IntOp.cmpi .eq (quo _ rowNo (ix2 i j)) (quo _ colNo (ix2 i j))) (IntOp.cmpi .sge (md _ rowNo (ix2 i j)) _))
    (IntOp.cmpi .slt (md _ colNo (ix2 i j)) _) = _
  rw [quo_apply, quo_apply, md_apply, md_apply, rowNo_apply, colNo_apply, quoWord_eq, quoWord_eq, mdWord_eq, mdWord_eq]
  show IntOp.andi (IntOp.andi _ (IntOp.cmpi .sge _ (BitVec.ofNat 32 (2 ^ e.val)))) (IntOp.cmpi .slt _ (BitVec.ofNat 32 (2 ^ e.val))) = _
  rw [cmp_eq ⟨_, lt_of_le_of_lt hi i.isLt⟩ ⟨_, lt_of_le_of_lt hj j.isLt⟩, cmp_sge ⟨_, lt_of_le_of_lt hi' i.isLt⟩ ⟨_, hp⟩,
    cmp_slt ⟨_, lt_of_le_of_lt hj' j.isLt⟩ ⟨_, hp⟩, and_bit, and_bit]

/-- What the mask leaves of a real square. -/
theorem masked_lift (e : Fin 6) (A : Cert.Rec.Sq) :
    (select (cross (BitVec.ofNat 32 (2 * 2 ^ e.val)) (BitVec.ofNat 32 (2 ^ e.val))) (lift A) (zeroSq (F := Ideal))) = lift (Cert.Rec.across (2 ^ e.val) A) := by
  refine ext2 fun i j => ?_
  show Scalar.select (cross _ _ (ix2 i j)) _ (FloatOps.ofBits (F := Ideal) .f32 0x00000000#32) = _
  rw [cross_eq, lift_apply, lift_apply, Cert.Rec.across_apply, zero_f32]
  by_cases h : i.val / (2 * 2 ^ e.val) = j.val / (2 * 2 ^ e.val) ∧ 2 ^ e.val ≤ i.val % (2 * 2 ^ e.val) ∧ j.val % (2 * 2 ^ e.val) < 2 ^ e.val
  · rw [if_pos h]
    unfold bit
    rw [if_pos ⟨⟨h.1, h.2.1⟩, h.2.2⟩]
    rfl
  · rw [if_neg h]
    unfold bit
    rw [if_neg fun hh => h ⟨hh.1.1, hh.1.2, hh.2⟩]
    rfl

theorem double_lift (e : Fin 6) (A X : Cert.Rec.Sq) :
    double (F := Ideal) (BitVec.ofNat 32 (2 * 2 ^ e.val)) (BitVec.ofNat 32 (2 ^ e.val)) (lift A) (lift X) = lift (Cert.Rec.double (2 ^ e.val) A X) := by
  unfold double
  rw [masked_lift, mulSq_lift, mulSq_lift, subf_lift]
  rfl

theorem eye_lift : eye (F := Ideal) = lift (1 : Cert.Rec.Sq) := by
  refine ext2 fun i j => ?_
  show Scalar.select (IntOp.cmpi .eq (rowNo (ix2 i j)) (colNo (ix2 i j))) (Ideal.ofBits .f32 0x3F800000#32) (FloatOps.ofBits (F := Ideal) .f32 0x00000000#32) = _
  rw [rowNo_apply, colNo_apply, cmp_eq, zero_f32, one_f32, lift_apply, Matrix.one_apply]
  by_cases h : i = j
  · rw [if_pos h, bit, if_pos (congrArg _ h)]; exact EReal.coe_one.symm
  · rw [if_neg h, bit, if_neg fun hh => h (Fin.ext hh)]; exact EReal.coe_zero.symm

/-- The kernel's doubling inverts. -/
theorem inverse_lift (A : Cert.Rec.Sq) (h : Cert.Rec.Strict A) : inverse (F := Ideal) (lift A) = lift ((1 + A)⁻¹) := by
  rw [← Cert.Rec.blockInverse_eq A h]
  unfold inverse Cert.Rec.blockInverse
  have h1 : (subf (F := Ideal) (φ := .f32) (eye (F := Ideal)) (select (cross 2#32 1#32) (lift A) (zeroSq (F := Ideal))) : FVec Ideal S64x64 .f32) = lift (1 - Cert.Rec.across 1 A) := by
    refine Eq.trans ?_ (subf_lift 1 (Cert.Rec.across 1 A))
    rw [eye_lift]
    exact congrArg _ (masked_lift 0 A)
  rw [h1]
  refine (congrArg _ ?_).trans (double_lift 5 A _)
  refine (congrArg _ ?_).trans (double_lift 4 A _)
  refine (congrArg _ ?_).trans (double_lift 3 A _)
  refine (congrArg _ ?_).trans (double_lift 2 A _)
  exact double_lift 1 A _

/-! ## Log decays and step sizes -/

/-- The raw values of one chunk: its activations against the unpacked weights. -/
def rawSum (x : FVec Ideal S1x64x2304 .bf16) (w : FVec Ideal S32x2304 .bf16) (i : Fin 64) (n : Fin 32) : EReal :=
  ∑ k : Fin 2304, x (ix3 0 i k) * w (ix2 n k)

theorem raw_apply (x : FVec Ideal S1x64x2304 .bf16) (w : FVec Ideal S32x2304 .bf16) (i : Fin 64) (n : Fin 32) :
    raw (F := Ideal) x w (ix2 i n) = rawSum x w i n := by
  show matmul (F := Ideal) dot_S64x2304_S32x2304_S64x32_1_1_0_0_n_n none (shapeCast S64x2304 x shapeCasts_S1x64x2304_S64x2304) w
    (constant S64x32 .f32 0x00000000#32) (ix2 i n) = _
  refine (Ideal.matmul_transposedRhs_apply (M := 64) (K := 2304) (N := 32) (φ₁ := .bf16) (φ₂ := .bf16) none
    (shapeCast S64x2304 x shapeCasts_S1x64x2304_S64x2304) w _ i n).trans ?_
  show Ideal.ofBits .f32 0x00000000#32 + _ = _
  rw [Ideal.ofBits_zero_f32, zero_add]
  unfold rawSum
  refine Finset.sum_congr rfl fun k _ => ?_
  rw [shapeCast_1ab_ab_apply (a := 64) (b := 2304)]

theorem biased_apply (r : FVec Ideal S64x32 .f32) (dt : FVec Ideal S1x6 .f32) (i : Fin 64) (h : Fin 6) :
    biased (F := Ideal) r dt (ix2 i h) = r (ix2 i ⟨h.val, by omega⟩) + dt (ix2 0 h) := by
  show extractStridedSlice S64x6 ![0, 0] r slices_S64x32_o0_0_S64x6 (ix2 i h) + broadcastTo S64x6 (shapeCast S1x6 dt shapeCasts_S1x6_S1x6) broadcasts_S1x6_S64x6 (ix2 i h) = _
  rw [broadcastTo_1b_ab_apply (a := 64) (b := 6), shapeCast_self]
  congr 1
  exact extractStridedSlice_apply _ _ _ _ _ fun a => match a with
    | ⟨0, _⟩ => (Nat.zero_add _).symm
    | ⟨1, _⟩ => (Nat.zero_add _).symm

theorem logDecay_apply (r : FVec Ideal S64x32 .f32) (dt al : FVec Ideal S1x6 .f32) (i : Fin 64) (h : Fin 6) :
    logDecay (F := Ideal) r dt al (ix2 i h) = Cert.Rec.logDecay (al (ix2 0 h)) (r (ix2 i ⟨h.val, by omega⟩) + dt (ix2 0 h)) := by
  show broadcastTo S64x6 (subf (broadcast S1x6 (FloatOps.ofBits (F := Ideal) .f32 0x00000000#32)) (exp (F := Ideal) (shapeCast S1x6 al shapeCasts_S1x6_S1x6))) broadcasts_S1x6_S64x6 (ix2 i h)
    * (max (biased (F := Ideal) r dt (ix2 i h)) (FloatOps.ofBits (F := Ideal) .f32 0x00000000#32)
      + Ideal.log1p (Ideal.exp (FloatOps.ofBits (F := Ideal) .f32 0x00000000#32 - max (biased (F := Ideal) r dt (ix2 i h)) (-(biased (F := Ideal) r dt (ix2 i h)))))) = _
  rw [broadcastTo_1b_ab_apply (a := 64) (b := 6), shapeCast_self, biased_apply]
  show (FloatOps.ofBits (F := Ideal) .f32 0x00000000#32 - Ideal.exp (al (ix2 0 h))) * _ = _
  rw [zero_f32, zero_sub, zero_sub]
  rfl

theorem stepSize_apply (r : FVec Ideal S64x32 .f32) (i : Fin 64) (h : Fin 6) :
    stepSize (F := Ideal) r (ix2 i h) = Cert.Rec.stepSize (r (ix2 i ⟨16 + h.val, by omega⟩)) := by
  have e : extractStridedSlice S64x6 ![0, 16] r slices_S64x32_o0_16_S64x6 (ix2 i h) = r (ix2 i ⟨16 + h.val, by omega⟩) :=
    extractStridedSlice_apply _ _ _ _ _ fun a => match a with
      | ⟨0, _⟩ => (Nat.zero_add _).symm
      | ⟨1, _⟩ => rfl
  show Ideal.div (Ideal.ofBits .f32 0x3F800000#32) (Ideal.ofBits .f32 0x3F800000#32 + Ideal.exp (FloatOps.ofBits (F := Ideal) .f32 0x00000000#32
    - extractStridedSlice S64x6 ![0, 16] r slices_S64x32_o0_16_S64x6 (ix2 i h))) = _
  rw [e, zero_f32, one_f32, zero_sub]
  rfl

theorem tri_apply (i j : Fin 64) : tri (F := Ideal) (ix2 i j) = if j ≤ i then 1 else 0 := by
  show Scalar.select (IntOp.cmpi .sge (rowNo (ix2 i j)) (colNo (ix2 i j))) (Ideal.ofBits .f32 0x3F800000#32) (FloatOps.ofBits (F := Ideal) .f32 0x00000000#32) = _
  rw [rowNo_apply, colNo_apply, cmp_sge, zero_f32, one_f32]
  by_cases h : j ≤ i
  · rw [if_pos h, bit, if_pos (show j.val ≤ i.val from h)]; rfl
  · rw [if_neg h, bit, if_neg (show ¬ j.val ≤ i.val from h)]; rfl

theorem summed_apply (g : FVec Ideal S64x6 .f32) (i : Fin 64) (h : Fin 6) :
    summed (F := Ideal) g (ix2 i h) = Cert.Rec.cum (fun j => g (ix2 j h)) i := by
  refine (Ideal.matmul_plain_apply (M := 64) (K := 64) (N := 6) (φ₁ := .f32) (φ₂ := .f32) (some .fp32) (tri (F := Ideal)) g _ i h).trans ?_
  show Ideal.ofBits .f32 0x00000000#32 + _ = _
  rw [Ideal.ofBits_zero_f32, zero_add]
  unfold Cert.Rec.cum
  refine Finset.sum_congr rfl fun j _ => ?_
  rw [tri_apply]
  split
  · rw [one_mul]
  · rw [zero_mul]

/-! ## Reading slices and transposes -/

section Reads
variable (h : Fin 6) (hc : S64x6.Slices ![0, h.val] S64x1) (hr : S6x64.Slices ![h.val, 0] S1x64)

theorem col_apply (y : FVec Ideal S64x6 .f32) (i j : Fin 64) :
    broadcastTo S64x64 (extractStridedSlice S64x1 ![0, h.val] y hc) broadcasts_S64x1_S64x64 (ix2 i j) = y (ix2 i h) := by
  rw [broadcastTo_apply _ _ (ix2 i j) (ix2 i (0 : Fin 1)) (fun a => match a with | ⟨0, _⟩ => rfl | ⟨1, _⟩ => rfl)]
  exact extractStridedSlice_apply _ _ _ _ _ fun a => match a with
    | ⟨0, _⟩ => (Nat.zero_add _).symm
    | ⟨1, _⟩ => rfl

theorem row_apply (y : FVec Ideal S64x6 .f32) (j : Fin 64) :
    extractStridedSlice S1x64 ![h.val, 0] (transpose S6x64 [1, 0] y transposes_S64x6_p1_0_S6x64) hr (ix2 0 j) = y (ix2 j h) := by
  rw [extractStridedSlice_apply _ _ _ _ (ix2 h j) fun a => match a with
    | ⟨0, _⟩ => rfl
    | ⟨1, _⟩ => (Nat.zero_add _).symm]
  exact transpose_ix2_apply _ _ _ _

theorem bcol_apply (y : FVec Ideal S64x1 .f32) (i j : Fin 64) : broadcastTo S64x64 y broadcasts_S64x1_S64x64 (ix2 i j) = y (ix2 i 0) :=
  broadcastTo_apply _ _ (ix2 i j) (ix2 i (0 : Fin 1)) (fun a => match a with | ⟨0, _⟩ => rfl | ⟨1, _⟩ => rfl)

theorem brow_apply (y : FVec Ideal S1x64 .f32) (i j : Fin 64) : broadcastTo S64x64 y broadcasts_S1x64_S64x64 (ix2 i j) = y (ix2 0 j) :=
  broadcastTo_1b_ab_apply (a := 64) (b := 64) _ _ _ _

theorem decay_apply (gc : FVec Ideal S64x6 .f32) (i j : Fin 64) (hij : j ≤ i) :
    decay (F := Ideal) hc hr gc (ix2 i j) = Ideal.exp (gc (ix2 i h) - gc (ix2 j h)) := by
  show Ideal.exp (Scalar.select (IntOp.cmpi .sge (rowNo (ix2 i j)) (colNo (ix2 i j)))
    (broadcastTo S64x64 (extractStridedSlice S64x1 ![0, h.val] gc hc) broadcasts_S64x1_S64x64 (ix2 i j)
      - broadcastTo S64x64 (extractStridedSlice S1x64 ![h.val, 0] (transpose S6x64 [1, 0] gc transposes_S64x6_p1_0_S6x64) hr) broadcasts_S1x64_S64x64 (ix2 i j)) _) = _
  rw [rowNo_apply, colNo_apply, cmp_sge, bit, if_pos (show j.val ≤ i.val from hij), col_apply, brow_apply, row_apply]
  rfl

/-! ## The chunk -/

variable (k : FVec Ideal S1x64x256 .bf16) (kr : Fin 64 → Fin 256 → EReal) (hk : ∀ i d, k (ix3 0 i d) = kr i d)

theorem keys_apply (i : Fin 64) (d : Fin 256) : keys (F := Ideal) k (ix2 i d) = k (ix3 0 i d) := shapeCast_1ab_ab_apply (a := 64) (b := 256) _ _ _ _

include hk in
theorem keys_eq (i : Fin 64) (d : Fin 256) : keys (F := Ideal) k (ix2 i d) = kr i d := (keys_apply k i d).trans (hk i d)

include hk in
theorem keyScale_apply (i : Fin 64) : keyScale (F := Ideal) k (ix2 i 0) = ((Cert.Rec.scaleOf kr i : ℝ) : EReal) := by
  rw [← Cert.Rec.rsqrt_coe]
  show Ideal.rsqrt (shapeCast S64x1 _ shapeCasts_S64_S64x1 (ix2 i 0) + Ideal.ofBits .f32 0x358637BD#32) = _
  rw [shapeCast_a_a1_apply (a := 64)]
  congr 2
  refine (Ideal.multiReduction_add_single _ _ _ _ _ _).trans ?_
  refine Finset.sum_congr rfl fun d _ => ?_
  refine Eq.trans ?_ (congrArg (fun a => a * a) (keys_eq k kr hk i d))
  exact congrArg (fun y => keys (F := Ideal) k y * keys (F := Ideal) k y) (funext fun a => match a with | ⟨0, _⟩ => rfl | ⟨1, _⟩ => rfl)

include hk in
theorem keyScaleT_apply (i : Fin 64) : keyScaleT (F := Ideal) k (ix2 0 i) = ((Cert.Rec.scaleOf kr i : ℝ) : EReal) := by
  rw [← keyScale_apply k kr hk]
  exact transpose_ix2_apply _ _ _ _

variable (beta gc : FVec Ideal S64x6 .f32) (b g : Fin 64 → EReal) (hb : ∀ i, beta (ix2 i h) = Cert.Rec.stepSize (b i))
  (hgc : ∀ i, gc (ix2 i h) = Cert.Rec.cum g i) (hg : ∀ i, g i ≤ 0)

include hk hb hgc hg in
theorem coupling_lift : coupling (F := Ideal) hc hr beta gc k = lift (Cert.Rec.coupling b g kr) := by
  refine ext2 fun i j => ?_
  show Scalar.select (IntOp.cmpi .sgt (rowNo (ix2 i j)) (colNo (ix2 i j)))
    ((broadcastTo S64x64 (extractStridedSlice S64x1 ![0, h.val] beta hc) broadcasts_S64x1_S64x64 (ix2 i j)
      * ((matmul (F := Ideal) dot_S64x256_S64x256_S64x64_1_1_0_0_n_n none (keys k) (keys k) (constant S64x64 .f32 0x00000000#32) (ix2 i j)
        * broadcastTo S64x64 (keyScale (F := Ideal) k) broadcasts_S64x1_S64x64 (ix2 i j))
        * broadcastTo S64x64 (keyScaleT (F := Ideal) k) broadcasts_S1x64_S64x64 (ix2 i j)))
      * decay (F := Ideal) hc hr gc (ix2 i j)) (FloatOps.ofBits (F := Ideal) .f32 0x00000000#32) = _
  rw [rowNo_apply, colNo_apply, cmp_sgt, zero_f32, lift_apply, Cert.Rec.coupling_apply]
  by_cases hij : j < i
  · rw [if_pos hij, bit, if_pos (show j.val < i.val from hij), col_apply, bcol_apply, brow_apply, decay_apply h hc hr gc i j hij.le,
      keyScale_apply k kr hk, keyScaleT_apply k kr hk, hb, hgc, hgc, Cert.Rec.between_coe g hg i j hij.le]
    rw [Cert.Rec.stepSize_coe]
    have e : matmul (F := Ideal) dot_S64x256_S64x256_S64x64_1_1_0_0_n_n none (keys k) (keys k) (constant S64x64 .f32 0x00000000#32) (ix2 i j)
        = ∑ d, kr i d * kr j d := by
      refine (Ideal.matmul_transposedRhs_apply (M := 64) (K := 256) (N := 64) (φ₁ := .bf16) (φ₂ := .bf16) none (keys (F := Ideal) k) (keys (F := Ideal) k) _ i j).trans ?_
      show Ideal.ofBits .f32 0x00000000#32 + _ = _
      rw [Ideal.ofBits_zero_f32, zero_add]
      exact Finset.sum_congr rfl fun d _ => congrArg₂ (fun a c : EReal => a * c) (keys_eq k kr hk i d) (keys_eq k kr hk j d)
    rw [e, Cert.Rec.dot_unitKey, ← EReal.coe_mul, ← EReal.coe_mul]
    rfl
  · rw [if_neg hij, bit, if_neg (show ¬ j.val < i.val from hij)]
    exact EReal.coe_zero.symm

/-! ## Products with a square split in three -/

/-- A sum over three times 64. -/
theorem sum_three (f : Fin 192 → EReal) :
    ∑ c, f c = ∑ j : Fin 64, f ⟨j.val, by omega⟩ + (∑ j : Fin 64, f ⟨64 + j.val, by omega⟩ + ∑ j : Fin 64, f ⟨64 + (64 + j.val), by omega⟩) := by
  refine (Fin.sum_univ_add (a := 64) (b := 128) f).trans ?_
  refine congrArg (_ + ·) ?_
  exact Fin.sum_univ_add (a := 64) (b := 64) fun c : Fin 128 => f (Fin.natAdd 64 c)

/-- A real square split in three: itself and two zeros. -/
theorem split_apply (T : Cert.Rec.Sq) (i j : Fin 64) :
    split (F := Ideal) (lift T) (ix2 i ⟨j.val, by omega⟩) = ((T i j : ℝ) : EReal) ∧ split (F := Ideal) (lift T) (ix2 i ⟨64 + j.val, by omega⟩) = 0
      ∧ split (F := Ideal) (lift T) (ix2 i ⟨64 + (64 + j.val), by omega⟩) = 0 := by
  have z (X : Cert.Rec.Sq) (i j : Fin 64) : (lift X (ix2 i j) : EReal) - lift X (ix2 i j) = 0 := by
    rw [lift_apply, ← EReal.coe_sub, sub_self]; exact EReal.coe_zero
  unfold split
  refine ⟨?_, ?_, ?_⟩
  · refine (concatenate_apply_piece (t := S64x192) 1 _ _ _ 0 (by simp) S64x64 _ rfl rfl 0 rfl (ix2 i j)
      (fun b hb => match b with | ⟨0, _⟩ => rfl | ⟨1, _⟩ => absurd rfl hb) (Nat.zero_add _)).trans ?_
    rfl
  · refine (concatenate_apply_piece (t := S64x192) 1 _ _ _ 1 (by simp) S64x64 _ rfl rfl 64 rfl (ix2 i j)
      (fun b hb => match b with | ⟨0, _⟩ => rfl | ⟨1, _⟩ => absurd rfl hb) rfl).trans ?_
    exact z T i j
  · refine (concatenate_apply_piece (t := S64x192) 1 _ _ _ 2 (by simp) S64x64 _ rfl rfl 128 rfl (ix2 i j)
      (fun b hb => match b with | ⟨0, _⟩ => rfl | ⟨1, _⟩ => absurd rfl hb) (by show 128 + j.val = 64 + (64 + j.val); omega)).trans ?_
    show (lift T (ix2 i j) - lift T (ix2 i j)) - (lift T (ix2 i j) - lift T (ix2 i j)) = (0 : EReal)
    rw [z, sub_zero]

/-- Three copies of an array one below the other. -/
theorem stack_apply {n : Nat} (y : (Mat 64 n).Idx → EReal) (hc3 : Shape.Concatenates [Mat 64 n, Mat 64 n, Mat 64 n] (Mat 192 n) 0) (j : Fin 64) (d : Fin n) :
    concatenate (Mat 192 n) 0 [⟨Mat 64 n, y⟩, ⟨Mat 64 n, y⟩, ⟨Mat 64 n, y⟩] hc3 (ix2 ⟨j.val, by omega⟩ d) = y (ix2 j d) :=
  concatenate_apply_piece (t := Mat 192 n) 0 _ _ _ 0 (by simp) (Mat 64 n) _ rfl rfl 0 rfl (ix2 j d)
    (fun b hb => match b with | ⟨0, _⟩ => absurd rfl hb | ⟨1, _⟩ => rfl) (Nat.zero_add _)

/-- The product of a real square split in three with three copies of an array is the product of the square with the array. -/
theorem split_mul {n : Nat} (T : Cert.Rec.Sq) (y : (Mat 64 n).Idx → EReal) (hc3 : Shape.Concatenates [Mat 64 n, Mat 64 n, Mat 64 n] (Mat 192 n) 0)
    (Y : Fin 64 → Fin n → EReal) (hY : ∀ j d, y (ix2 j d) = Y j d) (i : Fin 64) (d : Fin n) :
    (∑ c : Fin 192, split (F := Ideal) (lift T) (ix2 i c) * concatenate (Mat 192 n) 0 [⟨Mat 64 n, y⟩, ⟨Mat 64 n, y⟩, ⟨Mat 64 n, y⟩] hc3 (ix2 c d))
      = ∑ j, ((T i j : ℝ) : EReal) * Y j d := by
  rw [sum_three]
  rw [Finset.sum_eq_zero (s := Finset.univ) (f := fun j : Fin 64 => split (F := Ideal) (lift T) (ix2 i ⟨64 + j.val, by omega⟩) * _) fun j _ => by
    rw [(split_apply T i j).2.1, zero_mul]]
  rw [Finset.sum_eq_zero (s := Finset.univ) (f := fun j : Fin 64 => split (F := Ideal) (lift T) (ix2 i ⟨64 + (64 + j.val), by omega⟩) * _) fun j _ => by
    rw [(split_apply T i j).2.2, zero_mul]]
  rw [add_zero, add_zero]
  refine Finset.sum_congr rfl fun j _ => ?_
  rw [(split_apply T i j).1, stack_apply, hY]

/-! ## The read keys and written values -/

include hk hb hgc hg in
/-- The block of read keys of one head. -/
theorem headW_apply (i : Fin 64) (d : Fin 256) : headW (F := Ideal) hc hr beta gc k (ix4 0 0 i d) = ((Cert.Rec.readKeys b g kr i d : ℝ) : EReal) := by
  unfold headW
  refine (shapeCast_apply _ _ _ (ix2 i d) ?_).trans ?_
  · show ((Mat 64 256).rowMajor (ix2 i d)).val = (S1x1x64x256.rowMajor (ix4 0 0 i d)).val
    rewrite [Shape.rowMajor_val_two, Shape.rowMajor_val_four]
    show i.val * 256 + d.val = ((0 * 1 + 0) * 64 + i.val) * 256 + d.val
    omega
  show matmul (F := Ideal) dot_S64x192_S192x256_S64x256_1_0_0_1_n_n none (split _) (concatenate S192x256 0 [⟨S64x256, keys (F := Ideal) k⟩, ⟨S64x256, keys (F := Ideal) k⟩, ⟨S64x256, keys (F := Ideal) k⟩] _)
    (constant S64x256 .f32 0x00000000#32) (ix2 i d) = _
  refine (Ideal.matmul_plain_apply (M := 64) (K := 192) (N := 256) (φ₁ := .bf16) (φ₂ := .bf16) none _ _ _ i d).trans ?_
  show Ideal.ofBits .f32 0x00000000#32 + _ = _
  rw [Ideal.ofBits_zero_f32, zero_add, coupling_lift h hc hr k kr hk beta gc b g hb hgc hg, inverse_lift _ (Cert.Rec.coupling_strict b g kr)]
  have e : (mulf (F := Ideal) (φ := .f32) (lift ((1 + Cert.Rec.coupling b g kr)⁻¹) : FVec Ideal S64x64 .f32) (broadcastTo S64x64
            (mulf (mulf (keyScaleT k) (stepRow hr beta))
              (exp (extractStridedSlice S1x64 ![h.val, 0] (transpose S6x64 [1, 0] gc transposes_S64x6_p1_0_S6x64) hr))) broadcasts_S1x64_S64x64))
      = lift (Matrix.of fun i j => (1 + Cert.Rec.coupling b g kr)⁻¹ i j * (Cert.Rec.scaleOf kr j * (Cert.Rec.stepSize (b j)).toReal * Cert.Rec.fromStart g j)) := by
    refine ext2 fun i j => ?_
    show lift _ (ix2 i j) * broadcastTo S64x64 _ broadcasts_S1x64_S64x64 (ix2 i j) = _
    rw [brow_apply]
    show lift _ (ix2 i j) * ((keyScaleT (F := Ideal) k (ix2 0 j) * stepRow (F := Ideal) hr beta (ix2 0 j))
      * Ideal.exp (extractStridedSlice S1x64 ![h.val, 0] (transpose S6x64 [1, 0] gc transposes_S64x6_p1_0_S6x64) hr (ix2 0 j))) = _
    rw [row_apply, keyScaleT_apply k kr hk, show stepRow (F := Ideal) hr beta (ix2 0 j) = _ from row_apply h hr beta j, hb, hgc, Cert.Rec.fromStart_coe g hg,
      Cert.Rec.stepSize_coe, lift_apply, ← EReal.coe_mul, ← EReal.coe_mul, ← EReal.coe_mul]
    rfl
  rw [e]
  refine (split_mul _ (keys (F := Ideal) k) _ kr (fun j d => (keys_apply k j d).trans (hk j d)) i d).trans ?_
  unfold Cert.Rec.readKeys
  rw [Cert.Rec.coe_sum]
  refine Finset.sum_congr rfl fun j _ => ?_
  rw [Matrix.of_apply, EReal.coe_mul, EReal.coe_mul, EReal.coe_mul, EReal.coe_mul _ (_ * _), EReal.coe_mul (Cert.Rec.unitKey kr j d), EReal.coe_mul _ (Cert.Rec.fromStart g j),
    ← Cert.Rec.unitKey_coe]
  ac_rfl

include hk hb hgc hg in
/-- The block of written values of one head. -/
theorem headU_apply (v : FVec Ideal S1x64x512 .bf16) (vr : Fin 64 → Fin 512 → EReal) (hv : ∀ i d, v (ix3 0 i d) = vr i d) (i : Fin 64) (d : Fin 512) :
    headU (F := Ideal) hc hr beta gc k v (ix4 0 0 i d) = Cert.Rec.writtenValues b g kr vr i d := by
  unfold headU
  refine (shapeCast_apply _ _ _ (ix2 i d) ?_).trans ?_
  · show ((Mat 64 512).rowMajor (ix2 i d)).val = (S1x1x64x512.rowMajor (ix4 0 0 i d)).val
    rewrite [Shape.rowMajor_val_two, Shape.rowMajor_val_four]
    show i.val * 512 + d.val = ((0 * 1 + 0) * 64 + i.val) * 512 + d.val
    omega
  show matmul (F := Ideal) dot_S64x192_S192x512_S64x512_1_0_0_1_n_n none (split _) (concatenate S192x512 0 [⟨S64x512, shapeCast S64x512 v shapeCasts_S1x64x512_S64x512⟩, ⟨S64x512, shapeCast S64x512 v shapeCasts_S1x64x512_S64x512⟩, ⟨S64x512, shapeCast S64x512 v shapeCasts_S1x64x512_S64x512⟩] _)
    (constant S64x512 .f32 0x00000000#32) (ix2 i d) = _
  refine (Ideal.matmul_plain_apply (M := 64) (K := 192) (N := 512) (φ₁ := .bf16) (φ₂ := .bf16) none _ _ _ i d).trans ?_
  show Ideal.ofBits .f32 0x00000000#32 + _ = _
  rw [Ideal.ofBits_zero_f32, zero_add, coupling_lift h hc hr k kr hk beta gc b g hb hgc hg, inverse_lift _ (Cert.Rec.coupling_strict b g kr)]
  have e : (mulf (F := Ideal) (φ := .f32) (lift ((1 + Cert.Rec.coupling b g kr)⁻¹) : FVec Ideal S64x64 .f32) (broadcastTo S64x64 (stepRow hr beta) broadcasts_S1x64_S64x64))
      = lift (Matrix.of fun i j => (1 + Cert.Rec.coupling b g kr)⁻¹ i j * (Cert.Rec.stepSize (b j)).toReal) := by
    refine ext2 fun i j => ?_
    show lift _ (ix2 i j) * broadcastTo S64x64 _ broadcasts_S1x64_S64x64 (ix2 i j) = _
    rw [brow_apply, show stepRow (F := Ideal) hr beta (ix2 0 j) = _ from row_apply h hr beta j, hb, Cert.Rec.stepSize_coe, lift_apply, ← EReal.coe_mul]
    rfl
  rw [e]
  refine (split_mul _ (shapeCast S64x512 v shapeCasts_S1x64x512_S64x512) _ vr (fun j d => (shapeCast_1ab_ab_apply (a := 64) (b := 512) _ _ _ _).trans (hv j d)) i d).trans ?_
  unfold Cert.Rec.writtenValues
  refine Finset.sum_congr rfl fun j _ => ?_
  rw [Matrix.of_apply, EReal.coe_mul, ← Cert.Rec.stepSize_coe]
  ac_rfl

/-- The raw values one head's step sizes and log decays are made from. -/
abbrev headB (x : FVec Ideal S1x64x2304 .bf16) (w : FVec Ideal S32x2304 .bf16) (h : Fin 6) : Fin 64 → EReal := fun i => rawSum x w i ⟨16 + h.val, by omega⟩

/-- One head's log decays. -/
abbrev headG (x : FVec Ideal S1x64x2304 .bf16) (w : FVec Ideal S32x2304 .bf16) (dt al : FVec Ideal S1x6 .f32) (h : Fin 6) : Fin 64 → EReal := fun i =>
  Cert.Rec.logDecay (al (ix2 0 h)) (rawSum x w i ⟨h.val, by omega⟩ + dt (ix2 0 h))

variable (x : FVec Ideal S1x64x2304 .bf16) (w : FVec Ideal S32x2304 .bf16) (dt al : FVec Ideal S1x6 .f32)

theorem stepSize_head (i : Fin 64) : stepSize (F := Ideal) (raw x w) (ix2 i h) = Cert.Rec.stepSize (headB x w h i) := by rw [stepSize_apply, raw_apply]

theorem summed_head (i : Fin 64) : summed (F := Ideal) (logDecay (raw x w) dt al) (ix2 i h) = Cert.Rec.cum (headG x w dt al h) i := by
  rw [summed_apply]
  refine congrArg (fun f => Cert.Rec.cum f i) (funext fun j => ?_)
  rw [logDecay_apply, raw_apply]

include hk in
theorem pieceW_apply (i : Fin 64) (d : Fin 256) :
    pieceW (F := Ideal) hc hr x w dt al k (ix4 0 0 i d) = ((Cert.Rec.readKeys (headB x w h) (headG x w dt al h) kr i d : ℝ) : EReal) :=
  headW_apply h hc hr k kr hk _ _ _ _ (stepSize_head h x w) (summed_head h x w dt al) (fun _ => Cert.Rec.logDecay_nonpos _ _) i d

include hk in
theorem pieceU_apply (v : FVec Ideal S1x64x512 .bf16) (vr : Fin 64 → Fin 512 → EReal) (hv : ∀ i d, v (ix3 0 i d) = vr i d) (i : Fin 64) (d : Fin 512) :
    pieceU (F := Ideal) hc hr x w dt al k v (ix4 0 0 i d) = Cert.Rec.writtenValues (headB x w h) (headG x w dt al h) kr vr i d :=
  headU_apply h hc hr k kr hk _ _ _ _ (stepSize_head h x w) (summed_head h x w dt al) (fun _ => Cert.Rec.logDecay_nonpos _ _) v vr hv i d

end Reads

end Cert.RecIdeal.Head

end
-- ==== Proof.RecBlock.lean ====
/-
  One grid point's blocks of the read keys and of the written values: for both sequences and every head, the block the recurrence kernel stores
  is the mathematics' read keys and written values of that chunk, with the gates taken from the point's chunk of the activations and the
  projection weights the kernel keeps unpacked in scratch from the first point on.
-/
module

public import proofs.«01_k».proof.Proof.Gen.RecIdeal.Value
public import proofs.«01_k».proof.Proof.RecHeadValue

@[expose] public section

set_option maxRecDepth 16384

noncomputable section

open Idealize.ShloMosaic Idealize.ShloMosaic.TcCoe Idealize.SL.Sem Idealize.ShloMosaic.ValueIdx

namespace Cert.RecIdeal.RefValue

open Cert.RecIdeal Cert.RecIdeal.Gen Cert.RecIdeal.Head Cert.Dequant

section Point

variable (x : Vec Ideal S2x64x2304 .bf16) (w : Vec Ideal S32x2304 .bf16) (al dt : Vec Ideal S1x6 .f32) (kk : Vec Ideal S2x64x1536 .bf16)
  (vv : Vec Ideal S2x64x3072 .bf16)

/-- Row `n` of the raw gate values at position `i` of sequence `b`'s chunk. -/
def rawAt (b : Fin 2) (i : Fin 64) (n : Fin 32) : EReal := ∑ k : Fin 2304, x (ix3 b i k) * w (ix2 n k)

/-- The raw step sizes of one head. -/
def bAt (b : Fin 2) (h : Fin 6) (i : Fin 64) : EReal := rawAt x w b i ⟨16 + h.val, by omega⟩

/-- The log decays of one head. -/
def gAt (b : Fin 2) (h : Fin 6) (i : Fin 64) : EReal := Cert.Rec.logDecay (al (ix2 0 h)) (rawAt x w b i ⟨h.val, by omega⟩ + dt (ix2 0 h))

/-- The read keys of sequence `j 0` and head `j 1`, at position `j 2` and channel `j 3`. -/
def blockW (kr : Fin 2 → Fin 6 → Fin 64 → Fin 256 → EReal) (j : S2x6x64x256.Idx) : EReal :=
  ((Cert.Rec.readKeys (bAt x w (j 0) (j 1)) (gAt x w al dt (j 0) (j 1)) (kr (j 0) (j 1)) (j 2) (j 3) : ℝ) : EReal)

/-- The written values of sequence `j 0` and head `j 1`, at position `j 2` and channel `j 3`. -/
def blockU (kr : Fin 2 → Fin 6 → Fin 64 → Fin 256 → EReal) (vr : Fin 2 → Fin 6 → Fin 64 → Fin 512 → EReal) (j : S2x6x64x512.Idx) : EReal :=
  Cert.Rec.writtenValues (bAt x w (j 0) (j 1)) (gAt x w al dt (j 0) (j 1)) (kr (j 0) (j 1)) (vr (j 0) (j 1)) (j 2) (j 3)

/-- The slices the heads take, all in range. -/
theorem sliceCol : ∀ h : Fin 6, S64x6.Slices ![0, h.val] S64x1 := by decide
theorem sliceRow : ∀ h : Fin 6, S6x64.Slices ![h.val, 0] S1x64 := by decide
theorem inX : ∀ b : Fin 2, ∀ a, (![b.val, 0, 0] : Fin 3 → Nat) a + (![1, 64, 2304] : Fin 3 → Nat) a ≤ S2x64x2304.size a := by decide
theorem inK : ∀ (b : Fin 2) (h : Fin 6), ∀ a, (![b.val, 0, 256 * h.val] : Fin 3 → Nat) a + (![1, 64, 256] : Fin 3 → Nat) a ≤ S2x64x1536.size a := by decide
theorem inV : ∀ (b : Fin 2) (h : Fin 6), ∀ a, (![b.val, 0, 512 * h.val] : Fin 3 → Nat) a + (![1, 64, 512] : Fin 3 → Nat) a ≤ S2x64x3072.size a := by decide
theorem inW : ∀ (b : Fin 2) (h : Fin 6), ∀ a, (![b.val, h.val, 0, 0] : Fin 4 → Nat) a + (![1, 1, 64, 256] : Fin 4 → Nat) a ≤ S2x6x64x256.size a := by decide
theorem inU : ∀ (b : Fin 2) (h : Fin 6), ∀ a, (![b.val, h.val, 0, 0] : Fin 4 → Nat) a + (![1, 1, 64, 512] : Fin 4 → Nat) a ≤ S2x6x64x512.size a := by decide
theorem inG : ∀ a, (![0, 0] : Fin 2 → Nat) a + (![1, 6] : Fin 2 → Nat) a ≤ S1x6.size a := by decide
theorem inA : ∀ a, (![0, 0] : Fin 2 → Nat) a + (![32, 2304] : Fin 2 → Nat) a ≤ S32x2304.size a := by decide

/-- One sequence's chunk of the activations. -/
def ldX (b : Fin 2) : Vec Ideal S1x64x2304 .bf16 :=
  View.ld (Val := Elt Ideal) (e' := .bf16) x (Rect.unit (s := S2x64x2304) ![b.val, 0, 0] ![1, 64, 2304] (inX b))
/-- One head's chunk of the keys. -/
def ldK (b : Fin 2) (h : Fin 6) : Vec Ideal S1x64x256 .bf16 :=
  View.ld (Val := Elt Ideal) (e' := .bf16) kk (Rect.unit (s := S2x64x1536) ![b.val, 0, 256 * h.val] ![1, 64, 256] (inK b h))
/-- One head's chunk of the values. -/
def ldV (b : Fin 2) (h : Fin 6) : Vec Ideal S1x64x512 .bf16 :=
  View.ld (Val := Elt Ideal) (e' := .bf16) vv (Rect.unit (s := S2x64x3072) ![b.val, 0, 512 * h.val] ![1, 64, 512] (inV b h))
/-- A row of one number per head, whole. -/
def ldG (g : Vec Ideal S1x6 .f32) : Vec Ideal S1x6 .f32 :=
  View.ld (Val := Elt Ideal) (e' := .f32) g (Rect.unit (s := S1x6) ![0, 0] ![1, 6] inG)
/-- The unpacked projection weights, whole. -/
def ldA : Vec Ideal S32x2304 .bf16 :=
  View.ld (Val := Elt Ideal) (e' := .bf16) w (Rect.unit (s := S32x2304) ![0, 0] ![32, 2304] inA)

theorem ldX_apply (b : Fin 2) (i : Fin 64) (k : Fin 2304) : ldX x b (ix3 0 i k) = x (ix3 b i k) := by
  show x _ = x _
  refine congrArg x (funext fun a => Fin.ext ?_)
  match a with
  | ⟨0, _⟩ => show b.val + 1 * 0 = b.val; omega
  | ⟨1, _⟩ => show 0 + 1 * i.val = i.val; omega
  | ⟨2, _⟩ => show 0 + 1 * k.val = k.val; omega

theorem ldK_apply (b : Fin 2) (h : Fin 6) (i : Fin 64) (d : Fin 256) : ldK kk b h (ix3 0 i d) = kk (ix3 b i ⟨256 * h.val + d.val, by omega⟩) := by
  show kk _ = kk _
  refine congrArg kk (funext fun a => Fin.ext ?_)
  match a with
  | ⟨0, _⟩ => show b.val + 1 * 0 = b.val; omega
  | ⟨1, _⟩ => show 0 + 1 * i.val = i.val; omega
  | ⟨2, _⟩ => show 256 * h.val + 1 * d.val = 256 * h.val + d.val; omega

theorem ldV_apply (b : Fin 2) (h : Fin 6) (i : Fin 64) (d : Fin 512) : ldV vv b h (ix3 0 i d) = vv (ix3 b i ⟨512 * h.val + d.val, by omega⟩) := by
  show vv _ = vv _
  refine congrArg vv (funext fun a => Fin.ext ?_)
  match a with
  | ⟨0, _⟩ => show b.val + 1 * 0 = b.val; omega
  | ⟨1, _⟩ => show 0 + 1 * i.val = i.val; omega
  | ⟨2, _⟩ => show 512 * h.val + 1 * d.val = 512 * h.val + d.val; omega

theorem zero2 : (![0, 0] : Fin 2 → Nat) = fun _ => 0 := by funext a; match a with | ⟨0, _⟩ => rfl | ⟨1, _⟩ => rfl

theorem ldG_eq (g : Vec Ideal S1x6 .f32) : ldG g = g := View.ld_unit_zero (S := S1x6) zero2 _ _
theorem ldA_eq : ldA w = w := View.ld_unit_zero (S := S32x2304) zero2 _ _

theorem headB_ld (b : Fin 2) (h : Fin 6) : headB (ldX x b) w h = bAt x w b h := funext fun i =>
  Finset.sum_congr rfl fun k _ => congrArg (· * _) (ldX_apply x b i k)

theorem headG_ld (b : Fin 2) (h : Fin 6) : headG (ldX x b) w dt al h = gAt x w al dt b h := funext fun i =>
  congrArg (fun r => Cert.Rec.logDecay (al (ix2 0 h)) (r + dt (ix2 0 h))) (Finset.sum_congr rfl fun k _ => congrArg (· * _) (ldX_apply x b i k))

variable (kr : Fin 2 → Fin 6 → Fin 64 → Fin 256 → EReal)
  (hk : ∀ b h i d, kk (ix3 b i ⟨256 * h.val + d.val, by omega⟩) = kr b h i d)
  (vr : Fin 2 → Fin 6 → Fin 64 → Fin 512 → EReal)
  (hv : ∀ b h i d, vv (ix3 b i ⟨512 * h.val + d.val, by omega⟩) = vr b h i d)

include hk in
/-- One head's block of the read keys, as the kernel computes it from what the point loads, where it is stored. -/
theorem atW (wl : Vec Ideal S32x2304 .bf16) (hwl : wl = w) (b : Fin 2) (h : Fin 6) (y : S1x1x64x256.Idx) :
    pieceW (F := Ideal) (sliceCol h) (sliceRow h) (ldX x b) wl (ldG dt) (ldG al) (ldK kk b h) y
      = blockW x w al dt kr ((Rect.unit (s := S2x6x64x256) ![b.val, h.val, 0, 0] ![1, 1, 64, 256] (inW b h)).emb y) := by
  have e : (Rect.unit (s := S2x6x64x256) ![b.val, h.val, 0, 0] ![1, 1, 64, 256] (inW b h)).emb y = ix4 b h (y 2) (y 3) := by
    funext a
    apply Fin.ext
    have h0 : (y 0).val < 1 := (y 0).isLt
    have h1 : (y 1).val < 1 := (y 1).isLt
    match a with
    | ⟨0, _⟩ => show b.val + 1 * (y 0).val = b.val; omega
    | ⟨1, _⟩ => show h.val + 1 * (y 1).val = h.val; omega
    | ⟨2, _⟩ => show 0 + 1 * (y 2).val = (y 2).val; omega
    | ⟨3, _⟩ => show 0 + 1 * (y 3).val = (y 3).val; omega
  rw [e, ldG_eq, ldG_eq, hwl]
  refine (congrArg _ (?_ : y = ix4 0 0 (y 2) (y 3))).trans ?_
  · funext a
    apply Fin.ext
    have h0 : (y 0).val < 1 := (y 0).isLt
    have h1 : (y 1).val < 1 := (y 1).isLt
    match a with
    | ⟨0, _⟩ => show (y 0).val = 0; omega
    | ⟨1, _⟩ => show (y 1).val = 0; omega
    | ⟨2, _⟩ => rfl
    | ⟨3, _⟩ => rfl
  refine (pieceW_apply h (sliceCol h) (sliceRow h) (ldK kk b h) (kr b h) (fun i d => (ldK_apply kk b h i d).trans (hk b h i d)) (ldX x b) w dt al (y 2) (y 3)).trans ?_
  rw [headB_ld, headG_ld]
  rfl

include hk hv in
/-- One head's block of the written values, as the kernel computes it from what the point loads, where it is stored. -/
theorem atU (wl : Vec Ideal S32x2304 .bf16) (hwl : wl = w) (b : Fin 2) (h : Fin 6) (y : S1x1x64x512.Idx) :
    pieceU (F := Ideal) (sliceCol h) (sliceRow h) (ldX x b) wl (ldG dt) (ldG al) (ldK kk b h) (ldV vv b h) y
      = blockU x w al dt kr vr ((Rect.unit (s := S2x6x64x512) ![b.val, h.val, 0, 0] ![1, 1, 64, 512] (inU b h)).emb y) := by
  have e : (Rect.unit (s := S2x6x64x512) ![b.val, h.val, 0, 0] ![1, 1, 64, 512] (inU b h)).emb y = ix4 b h (y 2) (y 3) := by
    funext a
    apply Fin.ext
    have h0 : (y 0).val < 1 := (y 0).isLt
    have h1 : (y 1).val < 1 := (y 1).isLt
    match a with
    | ⟨0, _⟩ => show b.val + 1 * (y 0).val = b.val; omega
    | ⟨1, _⟩ => show h.val + 1 * (y 1).val = h.val; omega
    | ⟨2, _⟩ => show 0 + 1 * (y 2).val = (y 2).val; omega
    | ⟨3, _⟩ => show 0 + 1 * (y 3).val = (y 3).val; omega
  rw [e, ldG_eq, ldG_eq, hwl]
  refine (congrArg _ (?_ : y = ix4 0 0 (y 2) (y 3))).trans ?_
  · funext a
    apply Fin.ext
    have h0 : (y 0).val < 1 := (y 0).isLt
    have h1 : (y 1).val < 1 := (y 1).isLt
    match a with
    | ⟨0, _⟩ => show (y 0).val = 0; omega
    | ⟨1, _⟩ => show (y 1).val = 0; omega
    | ⟨2, _⟩ => rfl
    | ⟨3, _⟩ => rfl
  refine (pieceU_apply h (sliceCol h) (sliceRow h) (ldK kk b h) (kr b h) (fun i d => (ldK_apply kk b h i d).trans (hk b h i d)) (ldX x b) w dt al
    (ldV vv b h) (vr b h) (fun i d => (ldV_apply vv b h i d).trans (hv b h i d)) (y 2) (y 3)).trans ?_
  rw [headB_ld, headG_ld]
  rfl

/-! ## The unpacked projection weights -/

theorem inS : ∀ j : Fin 18, ∀ a, (![0, 128 * j.val] : Fin 2 → Nat) a + (![32, 128] : Fin 2 → Nat) a ≤ S32x2304.size a := by decide
theorem inF : ∀ a, (![0, 0] : Fin 2 → Nat) a + (![72, 32] : Fin 2 → Nat) a ≤ S72x32.size a := by decide

variable (codes : Vec Ideal S32x2304 .fp8e4m3) (scales : Vec Ideal S72x32 .i8)

/-- The store of one slab of 128 unpacked columns. -/
def slabAt (j : Fin 18) : View.Piece (Elt Ideal) S32x2304 .bf16 :=
  ⟨Rect.unit (s := S32x2304) ![0, 128 * j.val] ![32, 128] (inS j),
    slab (F := Ideal) shapeCasts_S32x128_S32x128x1 shapeCasts_S32x128x1_S32x128 shapeCasts_S32x128_S32x128 bitsLt_bf16_f32 bitsLt_fp8e4m3_bf16
      (factors (nb := 72) (np := 56) transposes_S72x32_p1_0_S32x72 shapeCasts_S72x32_S72x32 concatenates_S32x72_S32x56_S32x128_d1
        bitsLt_bf16_f32 (View.ld (Val := Elt Ideal) (e' := .i8) scales (Rect.unit (s := S72x32) ![0, 0] ![72, 32] inF)))
      (group iota_S32x128_d1_w32) (BitVec.ofNat 32 (4 * j.val))
      (View.ld (Val := Elt Ideal) (e' := .fp8e4m3) codes (Rect.unit (s := S32x2304) ![0, 128 * j.val] ![32, 128] (inS j)))⟩

/-- The first point's stores of all the slabs, the last one first. -/
def slabs : List (View.Piece (Elt Ideal) S32x2304 .bf16) :=
  [17, 16, 15, 14, 13, 12, 11, 10, 9, 8, 7, 6, 5, 4, 3, 2, 1, 0].map (slabAt codes scales)

/-- What they leave is the unpacked weights. -/
theorem canon_slabs (y : S32x2304.Idx) : View.canon (slabs codes scales) y = weights (nb := 72) (by decide) codes scales y := by
  refine View.canon_apply_of_pieces (Val := Elt Ideal) (S := S32x2304) (e := .bf16) (weights (nb := 72) (by decide) codes scales) _ ?_ _
    (View.cover_of_tiledL _ ![32, 128] (by sl_kernel_rfl) _)
  intro p hp
  obtain ⟨j, -, rfl⟩ := List.mem_map.1 hp
  intro z
  refine Eq.trans ?_ (slab_piece (K := 2304) (nb := 72) (np := 56) (by decide) shapeCasts_S32x128_S32x128x1 shapeCasts_S32x128x1_S32x128
    shapeCasts_S32x128_S32x128 bitsLt_bf16_f32 bitsLt_fp8e4m3_bf16 iota_S32x128_d1_w32 transposes_S72x32_p1_0_S32x72 shapeCasts_S72x32_S72x32
    concatenates_S32x72_S32x56_S32x128_d1 ⟨j.val, by omega⟩ codes scales (inS j) z)
  refine congrFun (congrArg (fun s => slab (F := Ideal) shapeCasts_S32x128_S32x128x1 shapeCasts_S32x128x1_S32x128 shapeCasts_S32x128_S32x128
    bitsLt_bf16_f32 bitsLt_fp8e4m3_bf16 (factors (nb := 72) (np := 56) transposes_S72x32_p1_0_S32x72 shapeCasts_S72x32_S72x32
      concatenates_S32x72_S32x56_S32x128_d1 bitsLt_bf16_f32 s) (group iota_S32x128_d1_w32) (BitVec.ofNat 32 (4 * j.val))
      (View.ld (Val := Elt Ideal) (e' := .fp8e4m3) codes (Rect.unit (s := S32x2304) ![0, 128 * j.val] ![32, 128] (inS j))))
    (View.ld_unit_zero (S := S72x32) zero2 _ scales)) z

/-- What a later load of the whole finds. -/
def ldS (v : View sig .tc .vmem S32x2304 .bf16) : Vec Ideal S32x2304 .bf16 :=
  v.readCov (Val := Elt Ideal) (slabs codes scales) (Rect.unit (s := S32x2304) ![0, 0] ![32, 2304] inA).toLoadRect

theorem readCov_slabs (v : View sig .tc .vmem S32x2304 .bf16) : ldS codes scales v = weights (nb := 72) (by decide) codes scales := by
  unfold ldS
  rw [View.readCov_eq_canon']
  funext j
  refine (canon_slabs codes scales _).trans (congrArg _ ?_)
  funext t
  apply Fin.ext
  match t with
  | ⟨0, _⟩ => show 0 + 1 * (j 0).val = (j 0).val; omega
  | ⟨1, _⟩ => show 0 + 1 * (j 1).val = (j 1).val; omega

end Point

section Cases

variable (c : Dev nD) (i : grid0.Coords)
  (arg1 : Memref sig .tc .vmem S2x64x2304 .bf16) (harg1 : arg1.IsWhole) (arg2 : Memref sig .tc .vmem S2x64x1536 .bf16) (harg2 : arg2.IsWhole)
  (arg3 : Memref sig .tc .vmem S2x64x1536 .bf16) (harg3 : arg3.IsWhole) (arg4 : Memref sig .tc .vmem S2x64x3072 .bf16) (harg4 : arg4.IsWhole)
  (arg5 : Memref sig .tc .vmem S2x64x3072 .bf16) (harg5 : arg5.IsWhole) (arg6 : Memref sig .tc .vmem S32x2304 .fp8e4m3) (harg6 : arg6.IsWhole)
  (arg7 : Memref sig .tc .vmem S72x32 .i8) (harg7 : arg7.IsWhole) (arg8 : Memref sig .tc .vmem S1x6 .f32) (harg8 : arg8.IsWhole)
  (arg9 : Memref sig .tc .vmem S1x6 .f32) (harg9 : arg9.IsWhole) (arg10 : Memref sig .tc .vmem S1x512 .f32) (harg10 : arg10.IsWhole)
  (arg11 : Memref sig .tc .vmem S2x6x256x512 .fp8e4m3) (harg11 : arg11.IsWhole) (arg12 : Memref sig .tc .vmem S6x2x256 .f32) (harg12 : arg12.IsWhole)
  (arg13 : Memref sig .tc .vmem S2x64x3072 .bf16) (harg13 : arg13.IsWhole) (arg14 : Memref sig .tc .vmem S2x64x3072 .bf16) (harg14 : arg14.IsWhole)
  (arg15 : Memref sig .tc .vmem S2x6x64x512 .bf16) (harg15 : arg15.IsWhole) (arg16 : Memref sig .tc .vmem S2x6x64x256 .bf16) (harg16 : arg16.IsWhole)
  (arg17 : Memref sig .tc .vmem S2x6x256x512 .fp8e4m3) (harg17 : arg17.IsWhole) (arg18 : Memref sig .tc .vmem S6x2x256 .f32) (harg18 : arg18.IsWhole)
  (arg19 : Memref sig .tc .vmem S2x6x256x512 .f32) (harg19 : arg19.IsWhole) (arg20 : Memref sig .tc .vmem S32x2304 .bf16) (harg20 : arg20.IsWhole)
  (x0 : Vec Ideal S2x64x2304 .bf16) (x1 : Vec Ideal S2x64x1536 .bf16) (x2 : Vec Ideal S2x64x1536 .bf16) (x3 : Vec Ideal S2x64x3072 .bf16) (x4 : Vec Ideal S2x64x3072 .bf16) (x5 : Vec Ideal S32x2304 .fp8e4m3) (x6 : Vec Ideal S72x32 .i8) (x7 : Vec Ideal S1x6 .f32) (x8 : Vec Ideal S1x6 .f32) (x9 : Vec Ideal S1x512 .f32) (x10 : Vec Ideal S2x6x256x512 .fp8e4m3) (x11 : Vec Ideal S6x2x256 .f32)
  (xs0 : Vec Ideal S2x6x256x512 .f32) (xs1 : Vec Ideal S32x2304 .bf16)

  (kr : Fin 2 → Fin 6 → Fin 64 → Fin 256 → EReal)
  (hk : ∀ b h i d, x2 (ix3 b i ⟨256 * h.val + d.val, by omega⟩) = kr b h i d)
  (vr : Fin 2 → Fin 6 → Fin 64 → Fin 512 → EReal)
  (hv : ∀ b h i d, x3 (ix3 b i ⟨512 * h.val + d.val, by omega⟩) = vr b h i d)

set_option maxHeartbeats 1000000 in
include hk in
/-- The read keys of the first point, from the weights it has just unpacked. -/
theorem blockW_A (hc0 : cond0_0 i) (hc1 : ¬cond0_1 i) (j : S2x6x64x256.Idx) :
    out0_A_15 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      hc0 hc1 x0 x1 x2 x3 x4 x5 x6 x7 x8 x9 x10 x11 j
      = blockW x0 (weights (nb := 72) (by decide) x5 x6) x7 x8 kr j := by
  unfold out0_A_15
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  refine View.canon_apply_of_pieces (Val := Elt Ideal) (S := S2x6x64x256) (e := .bf16) (blockW x0 (weights (nb := 72) (by decide) x5 x6) x7 x8 kr) _ ?_ _
    (View.cover_of_tiledL _ ![1, 1, 64, 256] (by sl_kernel_rfl) _)
  refine List.forall_mem_cons.2 ⟨fun y => Eq.trans (by sl_kernel_rfl) (atW x0 _ x7 x8 x2 kr hk (ldS x5 x6 arg20.view) (readCov_slabs x5 x6 arg20.view) 1 5 y), ?_⟩
  refine List.forall_mem_cons.2 ⟨fun y => Eq.trans (by sl_kernel_rfl) (atW x0 _ x7 x8 x2 kr hk (ldS x5 x6 arg20.view) (readCov_slabs x5 x6 arg20.view) 1 4 y), ?_⟩
  refine List.forall_mem_cons.2 ⟨fun y => Eq.trans (by sl_kernel_rfl) (atW x0 _ x7 x8 x2 kr hk (ldS x5 x6 arg20.view) (readCov_slabs x5 x6 arg20.view) 1 3 y), ?_⟩
  refine List.forall_mem_cons.2 ⟨fun y => Eq.trans (by sl_kernel_rfl) (atW x0 _ x7 x8 x2 kr hk (ldS x5 x6 arg20.view) (readCov_slabs x5 x6 arg20.view) 1 2 y), ?_⟩
  refine List.forall_mem_cons.2 ⟨fun y => Eq.trans (by sl_kernel_rfl) (atW x0 _ x7 x8 x2 kr hk (ldS x5 x6 arg20.view) (readCov_slabs x5 x6 arg20.view) 1 1 y), ?_⟩
  refine List.forall_mem_cons.2 ⟨fun y => Eq.trans (by sl_kernel_rfl) (atW x0 _ x7 x8 x2 kr hk (ldS x5 x6 arg20.view) (readCov_slabs x5 x6 arg20.view) 1 0 y), ?_⟩
  refine List.forall_mem_cons.2 ⟨fun y => Eq.trans (by sl_kernel_rfl) (atW x0 _ x7 x8 x2 kr hk (ldS x5 x6 arg20.view) (readCov_slabs x5 x6 arg20.view) 0 5 y), ?_⟩
  refine List.forall_mem_cons.2 ⟨fun y => Eq.trans (by sl_kernel_rfl) (atW x0 _ x7 x8 x2 kr hk (ldS x5 x6 arg20.view) (readCov_slabs x5 x6 arg20.view) 0 4 y), ?_⟩
  refine List.forall_mem_cons.2 ⟨fun y => Eq.trans (by sl_kernel_rfl) (atW x0 _ x7 x8 x2 kr hk (ldS x5 x6 arg20.view) (readCov_slabs x5 x6 arg20.view) 0 3 y), ?_⟩
  refine List.forall_mem_cons.2 ⟨fun y => Eq.trans (by sl_kernel_rfl) (atW x0 _ x7 x8 x2 kr hk (ldS x5 x6 arg20.view) (readCov_slabs x5 x6 arg20.view) 0 2 y), ?_⟩
  refine List.forall_mem_cons.2 ⟨fun y => Eq.trans (by sl_kernel_rfl) (atW x0 _ x7 x8 x2 kr hk (ldS x5 x6 arg20.view) (readCov_slabs x5 x6 arg20.view) 0 1 y), ?_⟩
  refine List.forall_mem_cons.2 ⟨fun y => Eq.trans (by sl_kernel_rfl) (atW x0 _ x7 x8 x2 kr hk (ldS x5 x6 arg20.view) (readCov_slabs x5 x6 arg20.view) 0 0 y), ?_⟩
  exact fun _ h => absurd h List.not_mem_nil

set_option maxHeartbeats 1000000 in
include hk hv in
/-- The written values of the first point, from the weights it has just unpacked. -/
theorem blockU_A (hc0 : cond0_0 i) (hc1 : ¬cond0_1 i) (j : S2x6x64x512.Idx) :
    out0_A_14 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      hc0 hc1 x0 x1 x2 x3 x4 x5 x6 x7 x8 x9 x10 x11 j
      = blockU x0 (weights (nb := 72) (by decide) x5 x6) x7 x8 kr vr j := by
  unfold out0_A_14
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  refine View.canon_apply_of_pieces (Val := Elt Ideal) (S := S2x6x64x512) (e := .bf16) (blockU x0 (weights (nb := 72) (by decide) x5 x6) x7 x8 kr vr) _ ?_ _
    (View.cover_of_tiledL _ ![1, 1, 64, 512] (by sl_kernel_rfl) _)
  refine List.forall_mem_cons.2 ⟨fun y => Eq.trans (by sl_kernel_rfl) (atU x0 _ x7 x8 x2 x3 kr hk vr hv (ldS x5 x6 arg20.view) (readCov_slabs x5 x6 arg20.view) 1 5 y), ?_⟩
  refine List.forall_mem_cons.2 ⟨fun y => Eq.trans (by sl_kernel_rfl) (atU x0 _ x7 x8 x2 x3 kr hk vr hv (ldS x5 x6 arg20.view) (readCov_slabs x5 x6 arg20.view) 1 4 y), ?_⟩
  refine List.forall_mem_cons.2 ⟨fun y => Eq.trans (by sl_kernel_rfl) (atU x0 _ x7 x8 x2 x3 kr hk vr hv (ldS x5 x6 arg20.view) (readCov_slabs x5 x6 arg20.view) 1 3 y), ?_⟩
  refine List.forall_mem_cons.2 ⟨fun y => Eq.trans (by sl_kernel_rfl) (atU x0 _ x7 x8 x2 x3 kr hk vr hv (ldS x5 x6 arg20.view) (readCov_slabs x5 x6 arg20.view) 1 2 y), ?_⟩
  refine List.forall_mem_cons.2 ⟨fun y => Eq.trans (by sl_kernel_rfl) (atU x0 _ x7 x8 x2 x3 kr hk vr hv (ldS x5 x6 arg20.view) (readCov_slabs x5 x6 arg20.view) 1 1 y), ?_⟩
  refine List.forall_mem_cons.2 ⟨fun y => Eq.trans (by sl_kernel_rfl) (atU x0 _ x7 x8 x2 x3 kr hk vr hv (ldS x5 x6 arg20.view) (readCov_slabs x5 x6 arg20.view) 1 0 y), ?_⟩
  refine List.forall_mem_cons.2 ⟨fun y => Eq.trans (by sl_kernel_rfl) (atU x0 _ x7 x8 x2 x3 kr hk vr hv (ldS x5 x6 arg20.view) (readCov_slabs x5 x6 arg20.view) 0 5 y), ?_⟩
  refine List.forall_mem_cons.2 ⟨fun y => Eq.trans (by sl_kernel_rfl) (atU x0 _ x7 x8 x2 x3 kr hk vr hv (ldS x5 x6 arg20.view) (readCov_slabs x5 x6 arg20.view) 0 4 y), ?_⟩
  refine List.forall_mem_cons.2 ⟨fun y => Eq.trans (by sl_kernel_rfl) (atU x0 _ x7 x8 x2 x3 kr hk vr hv (ldS x5 x6 arg20.view) (readCov_slabs x5 x6 arg20.view) 0 3 y), ?_⟩
  refine List.forall_mem_cons.2 ⟨fun y => Eq.trans (by sl_kernel_rfl) (atU x0 _ x7 x8 x2 x3 kr hk vr hv (ldS x5 x6 arg20.view) (readCov_slabs x5 x6 arg20.view) 0 2 y), ?_⟩
  refine List.forall_mem_cons.2 ⟨fun y => Eq.trans (by sl_kernel_rfl) (atU x0 _ x7 x8 x2 x3 kr hk vr hv (ldS x5 x6 arg20.view) (readCov_slabs x5 x6 arg20.view) 0 1 y), ?_⟩
  refine List.forall_mem_cons.2 ⟨fun y => Eq.trans (by sl_kernel_rfl) (atU x0 _ x7 x8 x2 x3 kr hk vr hv (ldS x5 x6 arg20.view) (readCov_slabs x5 x6 arg20.view) 0 0 y), ?_⟩
  exact fun _ h => absurd h List.not_mem_nil

include hk in
/-- The read keys of a middle point, from the weights in scratch. -/
theorem blockW_B (hc0 : ¬cond0_0 i) (hc1 : ¬cond0_1 i) (j : S2x6x64x256.Idx) :
    out0_B_15 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      hc0 hc1 x0 x1 x2 x3 x4 x5 x6 x7 x8 x9 x10 x11 xs0 xs1 j
      = blockW x0 xs1 x7 x8 kr j := by
  unfold out0_B_15
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  refine View.canon_apply_of_pieces (Val := Elt Ideal) (S := S2x6x64x256) (e := .bf16) (blockW x0 xs1 x7 x8 kr) _ ?_ _
    (View.cover_of_tiledL _ ![1, 1, 64, 256] (by sl_kernel_rfl) _)
  refine List.forall_mem_cons.2 ⟨fun y => Eq.trans (by sl_kernel_rfl) (atW x0 _ x7 x8 x2 kr hk (ldA xs1) (ldA_eq xs1) 1 5 y), ?_⟩
  refine List.forall_mem_cons.2 ⟨fun y => Eq.trans (by sl_kernel_rfl) (atW x0 _ x7 x8 x2 kr hk (ldA xs1) (ldA_eq xs1) 1 4 y), ?_⟩
  refine List.forall_mem_cons.2 ⟨fun y => Eq.trans (by sl_kernel_rfl) (atW x0 _ x7 x8 x2 kr hk (ldA xs1) (ldA_eq xs1) 1 3 y), ?_⟩
  refine List.forall_mem_cons.2 ⟨fun y => Eq.trans (by sl_kernel_rfl) (atW x0 _ x7 x8 x2 kr hk (ldA xs1) (ldA_eq xs1) 1 2 y), ?_⟩
  refine List.forall_mem_cons.2 ⟨fun y => Eq.trans (by sl_kernel_rfl) (atW x0 _ x7 x8 x2 kr hk (ldA xs1) (ldA_eq xs1) 1 1 y), ?_⟩
  refine List.forall_mem_cons.2 ⟨fun y => Eq.trans (by sl_kernel_rfl) (atW x0 _ x7 x8 x2 kr hk (ldA xs1) (ldA_eq xs1) 1 0 y), ?_⟩
  refine List.forall_mem_cons.2 ⟨fun y => Eq.trans (by sl_kernel_rfl) (atW x0 _ x7 x8 x2 kr hk (ldA xs1) (ldA_eq xs1) 0 5 y), ?_⟩
  refine List.forall_mem_cons.2 ⟨fun y => Eq.trans (by sl_kernel_rfl) (atW x0 _ x7 x8 x2 kr hk (ldA xs1) (ldA_eq xs1) 0 4 y), ?_⟩
  refine List.forall_mem_cons.2 ⟨fun y => Eq.trans (by sl_kernel_rfl) (atW x0 _ x7 x8 x2 kr hk (ldA xs1) (ldA_eq xs1) 0 3 y), ?_⟩
  refine List.forall_mem_cons.2 ⟨fun y => Eq.trans (by sl_kernel_rfl) (atW x0 _ x7 x8 x2 kr hk (ldA xs1) (ldA_eq xs1) 0 2 y), ?_⟩
  refine List.forall_mem_cons.2 ⟨fun y => Eq.trans (by sl_kernel_rfl) (atW x0 _ x7 x8 x2 kr hk (ldA xs1) (ldA_eq xs1) 0 1 y), ?_⟩
  refine List.forall_mem_cons.2 ⟨fun y => Eq.trans (by sl_kernel_rfl) (atW x0 _ x7 x8 x2 kr hk (ldA xs1) (ldA_eq xs1) 0 0 y), ?_⟩
  exact fun _ h => absurd h List.not_mem_nil

include hk hv in
/-- The written values of a middle point, from the weights in scratch. -/
theorem blockU_B (hc0 : ¬cond0_0 i) (hc1 : ¬cond0_1 i) (j : S2x6x64x512.Idx) :
    out0_B_14 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      hc0 hc1 x0 x1 x2 x3 x4 x5 x6 x7 x8 x9 x10 x11 xs0 xs1 j
      = blockU x0 xs1 x7 x8 kr vr j := by
  unfold out0_B_14
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  refine View.canon_apply_of_pieces (Val := Elt Ideal) (S := S2x6x64x512) (e := .bf16) (blockU x0 xs1 x7 x8 kr vr) _ ?_ _
    (View.cover_of_tiledL _ ![1, 1, 64, 512] (by sl_kernel_rfl) _)
  refine List.forall_mem_cons.2 ⟨fun y => Eq.trans (by sl_kernel_rfl) (atU x0 _ x7 x8 x2 x3 kr hk vr hv (ldA xs1) (ldA_eq xs1) 1 5 y), ?_⟩
  refine List.forall_mem_cons.2 ⟨fun y => Eq.trans (by sl_kernel_rfl) (atU x0 _ x7 x8 x2 x3 kr hk vr hv (ldA xs1) (ldA_eq xs1) 1 4 y), ?_⟩
  refine List.forall_mem_cons.2 ⟨fun y => Eq.trans (by sl_kernel_rfl) (atU x0 _ x7 x8 x2 x3 kr hk vr hv (ldA xs1) (ldA_eq xs1) 1 3 y), ?_⟩
  refine List.forall_mem_cons.2 ⟨fun y => Eq.trans (by sl_kernel_rfl) (atU x0 _ x7 x8 x2 x3 kr hk vr hv (ldA xs1) (ldA_eq xs1) 1 2 y), ?_⟩
  refine List.forall_mem_cons.2 ⟨fun y => Eq.trans (by sl_kernel_rfl) (atU x0 _ x7 x8 x2 x3 kr hk vr hv (ldA xs1) (ldA_eq xs1) 1 1 y), ?_⟩
  refine List.forall_mem_cons.2 ⟨fun y => Eq.trans (by sl_kernel_rfl) (atU x0 _ x7 x8 x2 x3 kr hk vr hv (ldA xs1) (ldA_eq xs1) 1 0 y), ?_⟩
  refine List.forall_mem_cons.2 ⟨fun y => Eq.trans (by sl_kernel_rfl) (atU x0 _ x7 x8 x2 x3 kr hk vr hv (ldA xs1) (ldA_eq xs1) 0 5 y), ?_⟩
  refine List.forall_mem_cons.2 ⟨fun y => Eq.trans (by sl_kernel_rfl) (atU x0 _ x7 x8 x2 x3 kr hk vr hv (ldA xs1) (ldA_eq xs1) 0 4 y), ?_⟩
  refine List.forall_mem_cons.2 ⟨fun y => Eq.trans (by sl_kernel_rfl) (atU x0 _ x7 x8 x2 x3 kr hk vr hv (ldA xs1) (ldA_eq xs1) 0 3 y), ?_⟩
  refine List.forall_mem_cons.2 ⟨fun y => Eq.trans (by sl_kernel_rfl) (atU x0 _ x7 x8 x2 x3 kr hk vr hv (ldA xs1) (ldA_eq xs1) 0 2 y), ?_⟩
  refine List.forall_mem_cons.2 ⟨fun y => Eq.trans (by sl_kernel_rfl) (atU x0 _ x7 x8 x2 x3 kr hk vr hv (ldA xs1) (ldA_eq xs1) 0 1 y), ?_⟩
  refine List.forall_mem_cons.2 ⟨fun y => Eq.trans (by sl_kernel_rfl) (atU x0 _ x7 x8 x2 x3 kr hk vr hv (ldA xs1) (ldA_eq xs1) 0 0 y), ?_⟩
  exact fun _ h => absurd h List.not_mem_nil

include hk in
/-- The read keys of the last point, from the weights in scratch. -/
theorem blockW_C (hc0 : ¬cond0_0 i) (hc1 : cond0_1 i) (j : S2x6x64x256.Idx) :
    out0_C_15 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      hc0 hc1 x0 x1 x2 x3 x4 x5 x6 x7 x8 x9 x10 x11 xs0 xs1 j
      = blockW x0 xs1 x7 x8 kr j := by
  unfold out0_C_15
  rw [View.read_writes_junk_eq_canon]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  refine View.canon_apply_of_pieces (Val := Elt Ideal) (S := S2x6x64x256) (e := .bf16) (blockW x0 xs1 x7 x8 kr) _ ?_ _
    (View.cover_of_tiledL _ ![1, 1, 64, 256] (by sl_kernel_rfl) _)
  refine List.forall_mem_cons.2 ⟨fun y => Eq.trans (by sl_kernel_rfl) (atW x0 _ x7 x8 x2 kr hk (ldA xs1) (ldA_eq xs1) 1 5 y), ?_⟩
  refine List.forall_mem_cons.2 ⟨fun y => Eq.trans (by sl_kernel_rfl) (atW x0 _ x7 x8 x2 kr hk (ldA xs1) (ldA_eq xs1) 1 4 y), ?_⟩
  refine List.forall_mem_cons.2 ⟨fun y => Eq.trans (by sl_kernel_rfl) (atW x0 _ x7 x8 x2 kr hk (ldA xs1) (ldA_eq xs1) 1 3 y), ?_⟩
  refine List.forall_mem_cons.2 ⟨fun y => Eq.trans (by sl_kernel_rfl) (atW x0 _ x7 x8 x2 kr hk (ldA xs1) (ldA_eq xs1) 1 2 y), ?_⟩
  refine List.forall_mem_cons.2 ⟨fun y => Eq.trans (by sl_kernel_rfl) (atW x0 _ x7 x8 x2 kr hk (ldA xs1) (ldA_eq xs1) 1 1 y), ?_⟩
  refine List.forall_mem_cons.2 ⟨fun y => Eq.trans (by sl_kernel_rfl) (atW x0 _ x7 x8 x2 kr hk (ldA xs1) (ldA_eq xs1) 1 0 y), ?_⟩
  refine List.forall_mem_cons.2 ⟨fun y => Eq.trans (by sl_kernel_rfl) (atW x0 _ x7 x8 x2 kr hk (ldA xs1) (ldA_eq xs1) 0 5 y), ?_⟩
  refine List.forall_mem_cons.2 ⟨fun y => Eq.trans (by sl_kernel_rfl) (atW x0 _ x7 x8 x2 kr hk (ldA xs1) (ldA_eq xs1) 0 4 y), ?_⟩
  refine List.forall_mem_cons.2 ⟨fun y => Eq.trans (by sl_kernel_rfl) (atW x0 _ x7 x8 x2 kr hk (ldA xs1) (ldA_eq xs1) 0 3 y), ?_⟩
  refine List.forall_mem_cons.2 ⟨fun y => Eq.trans (by sl_kernel_rfl) (atW x0 _ x7 x8 x2 kr hk (ldA xs1) (ldA_eq xs1) 0 2 y), ?_⟩
  refine List.forall_mem_cons.2 ⟨fun y => Eq.trans (by sl_kernel_rfl) (atW x0 _ x7 x8 x2 kr hk (ldA xs1) (ldA_eq xs1) 0 1 y), ?_⟩
  refine List.forall_mem_cons.2 ⟨fun y => Eq.trans (by sl_kernel_rfl) (atW x0 _ x7 x8 x2 kr hk (ldA xs1) (ldA_eq xs1) 0 0 y), ?_⟩
  exact fun _ h => absurd h List.not_mem_nil

include hk hv in
/-- The written values of the last point, from the weights in scratch. -/
theorem blockU_C (hc0 : ¬cond0_0 i) (hc1 : cond0_1 i) (j : S2x6x64x512.Idx) :
    out0_C_14 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      hc0 hc1 x0 x1 x2 x3 x4 x5 x6 x7 x8 x9 x10 x11 xs0 xs1 j
      = blockU x0 xs1 x7 x8 kr vr j := by
  unfold out0_C_14
  rw [View.read_writes_junk_eq_canon]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  refine View.canon_apply_of_pieces (Val := Elt Ideal) (S := S2x6x64x512) (e := .bf16) (blockU x0 xs1 x7 x8 kr vr) _ ?_ _
    (View.cover_of_tiledL _ ![1, 1, 64, 512] (by sl_kernel_rfl) _)
  refine List.forall_mem_cons.2 ⟨fun y => Eq.trans (by sl_kernel_rfl) (atU x0 _ x7 x8 x2 x3 kr hk vr hv (ldA xs1) (ldA_eq xs1) 1 5 y), ?_⟩
  refine List.forall_mem_cons.2 ⟨fun y => Eq.trans (by sl_kernel_rfl) (atU x0 _ x7 x8 x2 x3 kr hk vr hv (ldA xs1) (ldA_eq xs1) 1 4 y), ?_⟩
  refine List.forall_mem_cons.2 ⟨fun y => Eq.trans (by sl_kernel_rfl) (atU x0 _ x7 x8 x2 x3 kr hk vr hv (ldA xs1) (ldA_eq xs1) 1 3 y), ?_⟩
  refine List.forall_mem_cons.2 ⟨fun y => Eq.trans (by sl_kernel_rfl) (atU x0 _ x7 x8 x2 x3 kr hk vr hv (ldA xs1) (ldA_eq xs1) 1 2 y), ?_⟩
  refine List.forall_mem_cons.2 ⟨fun y => Eq.trans (by sl_kernel_rfl) (atU x0 _ x7 x8 x2 x3 kr hk vr hv (ldA xs1) (ldA_eq xs1) 1 1 y), ?_⟩
  refine List.forall_mem_cons.2 ⟨fun y => Eq.trans (by sl_kernel_rfl) (atU x0 _ x7 x8 x2 x3 kr hk vr hv (ldA xs1) (ldA_eq xs1) 1 0 y), ?_⟩
  refine List.forall_mem_cons.2 ⟨fun y => Eq.trans (by sl_kernel_rfl) (atU x0 _ x7 x8 x2 x3 kr hk vr hv (ldA xs1) (ldA_eq xs1) 0 5 y), ?_⟩
  refine List.forall_mem_cons.2 ⟨fun y => Eq.trans (by sl_kernel_rfl) (atU x0 _ x7 x8 x2 x3 kr hk vr hv (ldA xs1) (ldA_eq xs1) 0 4 y), ?_⟩
  refine List.forall_mem_cons.2 ⟨fun y => Eq.trans (by sl_kernel_rfl) (atU x0 _ x7 x8 x2 x3 kr hk vr hv (ldA xs1) (ldA_eq xs1) 0 3 y), ?_⟩
  refine List.forall_mem_cons.2 ⟨fun y => Eq.trans (by sl_kernel_rfl) (atU x0 _ x7 x8 x2 x3 kr hk vr hv (ldA xs1) (ldA_eq xs1) 0 2 y), ?_⟩
  refine List.forall_mem_cons.2 ⟨fun y => Eq.trans (by sl_kernel_rfl) (atU x0 _ x7 x8 x2 x3 kr hk vr hv (ldA xs1) (ldA_eq xs1) 0 1 y), ?_⟩
  refine List.forall_mem_cons.2 ⟨fun y => Eq.trans (by sl_kernel_rfl) (atU x0 _ x7 x8 x2 x3 kr hk vr hv (ldA xs1) (ldA_eq xs1) 0 0 y), ?_⟩
  exact fun _ h => absurd h List.not_mem_nil

/-- The first point leaves the unpacked weights in scratch. -/
theorem scratch_A (hc0 : cond0_0 i) (hc1 : ¬cond0_1 i) :
    sout0_A_1 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      hc0 hc1 x0 x1 x2 x3 x4 x5 x6 x7 x8 x9 x10 x11
      = weights (nb := 72) (by decide) x5 x6 := by
  unfold sout0_A_1
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  funext j
  exact Eq.trans (by sl_kernel_rfl) (canon_slabs x5 x6 j)

end Cases

end Cert.RecIdeal.RefValue

end
-- ==== Proof.RecResult.lean ====
/-
  The two results of the recurrence this certificate speaks of, as functions of the call's arguments: 1024 positions in 16 chunks of 64, and in
  every chunk the read keys and the written values of each sequence and head. The gates' raw values are the activations times the projection
  weights, each code times the factor of its group's scale byte; how a byte becomes a factor is left open.
-/
module

public import proofs.«01_k».proof.Proof.RecSpec
public import proofs.«01_k».proof.Proof.Dequant

@[expose] public section

noncomputable section

open Idealize.ShloMosaic Idealize.ShloMosaic.ValueIdx

namespace Cert.Rec

/-- Position `i` of chunk `n`. -/
def pos (n : Fin 16) (i : Fin 64) : Fin 1024 := ⟨64 * n.val + i.val, by omega⟩

variable (fac : BitVec 8 → EReal) (x : FVec Ideal ⟨3, ![2, 1024, 2304]⟩ .bf16) (wab : FVec Ideal ⟨2, ![32, 2304]⟩ .fp8e4m3)
  (sab : IVec ⟨2, ![32, 72]⟩ 8) (al dt : FVec Ideal ⟨1, ![6]⟩ .f32) (kc : FVec Ideal ⟨3, ![2, 1024, 1536]⟩ .bf16)
  (vc : FVec Ideal ⟨3, ![2, 1024, 3072]⟩ .bf16)

/-- One entry of the unpacked projection weights. -/
def unpacked (n : Fin 32) (k : Fin 2304) : EReal := wab (ix2 n k) * fac (sab (ix2 n ⟨k.val / 32, by omega⟩))

/-- Raw gate value `n` at position `t` of sequence `b`. -/
def rawGate (b : Fin 2) (t : Fin 1024) (n : Fin 32) : EReal := ∑ k : Fin 2304, x (ix3 b t k) * unpacked fac wab sab n k

/-- The raw step sizes of head `h` in chunk `n` of sequence `b`. -/
def chunkB (b : Fin 2) (h : Fin 6) (n : Fin 16) (i : Fin 64) : EReal := rawGate fac x wab sab b (pos n i) ⟨16 + h.val, by omega⟩

/-- The log decays there. -/
def chunkG (b : Fin 2) (h : Fin 6) (n : Fin 16) (i : Fin 64) : EReal :=
  logDecay (al (ix1 h)) (rawGate fac x wab sab b (pos n i) ⟨h.val, by omega⟩ + dt (ix1 h))

/-- The keys there. -/
def chunkK (b : Fin 2) (h : Fin 6) (n : Fin 16) (i : Fin 64) (d : Fin 256) : EReal := kc (ix3 b (pos n i) ⟨256 * h.val + d.val, by omega⟩)

/-- The values there. -/
def chunkV (b : Fin 2) (h : Fin 6) (n : Fin 16) (i : Fin 64) (d : Fin 512) : EReal := vc (ix3 b (pos n i) ⟨512 * h.val + d.val, by omega⟩)

/-- The chunk position `t` is in. -/
def chunkOf (t : Fin 1024) : Fin 16 := ⟨t.val / 64, by omega⟩
/-- Where in it. -/
def within (t : Fin 1024) : Fin 64 := ⟨t.val % 64, by omega⟩

theorem chunkOf_pos (n : Fin 16) (i : Fin 64) : chunkOf (pos n i) = n := Fin.ext (by show (64 * n.val + i.val) / 64 = n.val; omega)
theorem within_pos (n : Fin 16) (i : Fin 64) : within (pos n i) = i := Fin.ext (by show (64 * n.val + i.val) % 64 = i.val; omega)
theorem pos_chunkOf (t : Fin 1024) : pos (chunkOf t) (within t) = t := Fin.ext (by show 64 * (t.val / 64) + t.val % 64 = t.val; omega)

/-- The keys every chunk reads the state with. -/
def resultW : FVec Ideal ⟨4, ![2, 6, 1024, 256]⟩ .bf16 := fun j =>
  ((readKeys (chunkB fac x wab sab (j 0) (j 1) (chunkOf (j 2))) (chunkG fac x wab sab al dt (j 0) (j 1) (chunkOf (j 2)))
    (chunkK kc (j 0) (j 1) (chunkOf (j 2))) (within (j 2)) (j 3) : ℝ) : EReal)

/-- The values every chunk writes into the state. -/
def resultU : FVec Ideal ⟨4, ![2, 6, 1024, 512]⟩ .bf16 := fun j =>
  writtenValues (chunkB fac x wab sab (j 0) (j 1) (chunkOf (j 2))) (chunkG fac x wab sab al dt (j 0) (j 1) (chunkOf (j 2)))
    (chunkK kc (j 0) (j 1) (chunkOf (j 2))) (chunkV vc (j 0) (j 1) (chunkOf (j 2))) (within (j 2)) (j 3)

theorem resultW_apply (b : Fin 2) (h : Fin 6) (n : Fin 16) (i : Fin 64) (d : Fin 256) :
    resultW fac x wab sab al dt kc (ix4 b h (pos n i) d)
      = ((readKeys (chunkB fac x wab sab b h n) (chunkG fac x wab sab al dt b h n) (chunkK kc b h n) i d : ℝ) : EReal) := by
  show ((readKeys (chunkB fac x wab sab b h (chunkOf (pos n i))) (chunkG fac x wab sab al dt b h (chunkOf (pos n i)))
    (chunkK kc b h (chunkOf (pos n i))) (within (pos n i)) d : ℝ) : EReal) = _
  rw [chunkOf_pos, within_pos]

theorem resultU_apply (b : Fin 2) (h : Fin 6) (n : Fin 16) (i : Fin 64) (d : Fin 512) :
    resultU fac x wab sab al dt kc vc (ix4 b h (pos n i) d)
      = writtenValues (chunkB fac x wab sab b h n) (chunkG fac x wab sab al dt b h n) (chunkK kc b h n) (chunkV vc b h n) i d := by
  show writtenValues (chunkB fac x wab sab b h (chunkOf (pos n i))) (chunkG fac x wab sab al dt b h (chunkOf (pos n i)))
    (chunkK kc b h (chunkOf (pos n i))) (chunkV vc b h (chunkOf (pos n i))) (within (pos n i)) d = _
  rw [chunkOf_pos, within_pos]

/-- Where no scale byte is 0 or 255, the kernel's factors and the reference's unpack the same weights. -/
theorem unpacked_congr (hs : ∀ i, sab i ≠ 0#8 ∧ sab i ≠ 255#8) : unpacked Dequant.kfac wab sab = unpacked Dequant.rfac wab sab := by
  funext n k
  unfold unpacked
  rw [Dequant.kfac_eq_rfac _ (hs _).1 (hs _).2]

theorem rawGate_congr (hs : ∀ i, sab i ≠ 0#8 ∧ sab i ≠ 255#8) : rawGate Dequant.kfac x wab sab = rawGate Dequant.rfac x wab sab := by
  unfold rawGate
  rw [unpacked_congr wab sab hs]

theorem resultW_congr (hs : ∀ i, sab i ≠ 0#8 ∧ sab i ≠ 255#8) :
    resultW Dequant.kfac x wab sab al dt kc = resultW Dequant.rfac x wab sab al dt kc := by
  unfold resultW chunkB chunkG
  rw [rawGate_congr x wab sab hs]

theorem resultU_congr (hs : ∀ i, sab i ≠ 0#8 ∧ sab i ≠ 255#8) :
    resultU Dequant.kfac x wab sab al dt kc vc = resultU Dequant.rfac x wab sab al dt kc vc := by
  unfold resultU chunkB chunkG
  rw [rawGate_congr x wab sab hs]

end Cert.Rec

end
-- ==== Proof.RecGrid.lean ====
/-
  The recurrence kernel's two results over its whole grid: 16 points, one per chunk. Every point's blocks of the arguments are the chunk's, the
  weights in scratch are the unpacked projection weights from the first point on, and the blocks the points write back tile both results.
-/
module

public import proofs.«01_k».proof.Proof.RecBlock
public import proofs.«01_k».proof.Proof.RecResult

@[expose] public section

set_option maxRecDepth 16384

noncomputable section

open Idealize.ShloMosaic Idealize.ShloMosaic.TcCoe Idealize.SL.Sem Idealize.ShloMosaic.ValueIdx Idealize.ShloMosaic.StableHlo

namespace Cert.RecIdeal.RefValue

open Cert.RecIdeal Cert.RecIdeal.Gen Cert.RecIdeal.Head Cert.Dequant

variable (m : (ℓ : Loc nD τ sig) → Buf (Elt Ideal) ℓ)

/-- The scale bytes as the region finds them: the argument transposed. -/
theorem V_main_v0 (c : Dev nD) :
    V m c main_v0 = transpose S72x32 [1, 0] (m ((c : Thread nD τ).loc main_arg6)) transposes_S32x72_S72x32_1_0 := by
  show StableHlo.after hostOps0 _ (Proc.devRef .tc main_v0) = _
  simp only [hostOps0]
  after_results <;> rfl

/-- The logarithms of the decay rates as the region finds them: the argument as a row. -/
theorem V_main_v1 (c : Dev nD) : V m c main_v1 = shapeCast S1x6 (m ((c : Thread nD τ).loc main_arg7)) shapeCasts_S6_S1x6 := by
  show StableHlo.after hostOps0 _ (Proc.devRef .tc main_v1) = _
  simp only [hostOps0]
  after_results <;> rfl

/-- The biases as the region finds them: the argument as a row. -/
theorem V_main_v2 (c : Dev nD) : V m c main_v2 = shapeCast S1x6 (m ((c : Thread nD τ).loc main_arg8)) shapeCasts_S6_S1x6 := by
  show StableHlo.after hostOps0 _ (Proc.devRef .tc main_v2) = _
  simp only [hostOps0]
  after_results <;> rfl

/-- Which blocks grid point `t` works on: chunk `t` of the sequences, all of the rest. -/
theorem index_in : ∀ t : Fin cfg0.N, (win0_0.index t 0 = 0 ∧ win0_0.index t 1 = t.val ∧ win0_0.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) :=
  (by decide +kernel : ∀ t : Fin grid0.N, (win0_0.index t 0 = 0 ∧ win0_0.index t 1 = t.val ∧ win0_0.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0))

theorem index_out : ∀ t : Fin cfg0.N, (win0_14.index t 0 = 0 ∧ win0_14.index t 1 = 0 ∧ win0_14.index t 2 = t.val ∧ win0_14.index t 3 = 0)
    ∧ (win0_15.index t 0 = 0 ∧ win0_15.index t 1 = 0 ∧ win0_15.index t 2 = t.val ∧ win0_15.index t 3 = 0) :=
  (by decide +kernel : ∀ t : Fin grid0.N, (win0_14.index t 0 = 0 ∧ win0_14.index t 1 = 0 ∧ win0_14.index t 2 = t.val ∧ win0_14.index t 3 = 0)
    ∧ (win0_15.index t 0 = 0 ∧ win0_15.index t 1 = 0 ∧ win0_15.index t 2 = t.val ∧ win0_15.index t 3 = 0))

/-- The chunk grid point `t` works on. -/
def chunk (t : Fin cfg0.N) : Fin 16 := ⟨t.val, lt_of_lt_of_eq t.isLt (show cfg0.N = 16 from N_0)⟩

theorem iblk0_apply (c : Dev nD) (t : Fin cfg0.N) (b : Fin 2) (i : Fin 64) (k : Fin 2304) :
    iblk m c 0 t (ix3 b i k) = m ((c : Thread nD τ).loc main_arg0) (ix3 b (Cert.Rec.pos (chunk t) i) k) := by
  obtain ⟨⟨e0, e1, e2⟩, -⟩ := index_in t
  have e : (win0_0.rect t).emb (ix3 b i k) = (ix3 b (Cert.Rec.pos (chunk t) i) k : S2x1024x2304.Idx) := by
    funext d
    apply Fin.ext
    match d with
    | ⟨0, _⟩ => show win0_0.index t 0 * 2 + 1 * b.val = b.val; rw [e0]; omega
    | ⟨1, _⟩ => show win0_0.index t 1 * 64 + 1 * i.val = 64 * t.val + i.val; rw [e1]; omega
    | ⟨2, _⟩ => show win0_0.index t 2 * 2304 + 1 * k.val = k.val; rw [e2]; omega
  show V m c main_arg0 ((win0_0.rect t).emb (ix3 b i k)) = _
  rw [V_main_arg0]
  exact congrArg _ e

theorem iblk2_apply (c : Dev nD) (t : Fin cfg0.N) (b : Fin 2) (i : Fin 64) (k : Fin 1536) :
    iblk m c 2 t (ix3 b i k) = m ((c : Thread nD τ).loc main_arg2) (ix3 b (Cert.Rec.pos (chunk t) i) k) := by
  obtain ⟨-, ⟨e0, e1, e2⟩, -⟩ := index_in t
  have e : (win0_2.rect t).emb (ix3 b i k) = (ix3 b (Cert.Rec.pos (chunk t) i) k : S2x1024x1536.Idx) := by
    funext d
    apply Fin.ext
    match d with
    | ⟨0, _⟩ => show win0_2.index t 0 * 2 + 1 * b.val = b.val; rw [e0]; omega
    | ⟨1, _⟩ => show win0_2.index t 1 * 64 + 1 * i.val = 64 * t.val + i.val; rw [e1]; omega
    | ⟨2, _⟩ => show win0_2.index t 2 * 1536 + 1 * k.val = k.val; rw [e2]; omega
  show V m c main_arg2 ((win0_2.rect t).emb (ix3 b i k)) = _
  rw [V_main_arg2]
  exact congrArg _ e

theorem iblk3_apply (c : Dev nD) (t : Fin cfg0.N) (b : Fin 2) (i : Fin 64) (k : Fin 3072) :
    iblk m c 3 t (ix3 b i k) = m ((c : Thread nD τ).loc main_arg3) (ix3 b (Cert.Rec.pos (chunk t) i) k) := by
  obtain ⟨-, -, ⟨e0, e1, e2⟩, -⟩ := index_in t
  have e : (win0_3.rect t).emb (ix3 b i k) = (ix3 b (Cert.Rec.pos (chunk t) i) k : S2x1024x3072.Idx) := by
    funext d
    apply Fin.ext
    match d with
    | ⟨0, _⟩ => show win0_3.index t 0 * 2 + 1 * b.val = b.val; rw [e0]; omega
    | ⟨1, _⟩ => show win0_3.index t 1 * 64 + 1 * i.val = 64 * t.val + i.val; rw [e1]; omega
    | ⟨2, _⟩ => show win0_3.index t 2 * 3072 + 1 * k.val = k.val; rw [e2]; omega
  show V m c main_arg3 ((win0_3.rect t).emb (ix3 b i k)) = _
  rw [V_main_arg3]
  exact congrArg _ e

theorem iblk5_apply (c : Dev nD) (t : Fin cfg0.N) (n : Fin 32) (k : Fin 2304) :
    iblk m c 5 t (ix2 n k) = m ((c : Thread nD τ).loc main_arg5) (ix2 n k) := by
  obtain ⟨-, -, -, ⟨e0, e1⟩, -⟩ := index_in t
  have e : (win0_5.rect t).emb (ix2 n k) = (ix2 n k : S32x2304.Idx) := by
    funext d
    apply Fin.ext
    match d with
    | ⟨0, _⟩ => show win0_5.index t 0 * 32 + 1 * n.val = n.val; rw [e0]; omega
    | ⟨1, _⟩ => show win0_5.index t 1 * 2304 + 1 * k.val = k.val; rw [e1]; omega
  show V m c main_arg5 ((win0_5.rect t).emb (ix2 n k)) = _
  rw [V_main_arg5]
  exact congrArg _ e

theorem iblk6_apply (c : Dev nD) (t : Fin cfg0.N) (g : Fin 72) (n : Fin 32) :
    iblk m c 6 t (ix2 g n) = m ((c : Thread nD τ).loc main_arg6) (ix2 n g) := by
  obtain ⟨-, -, -, -, ⟨e0, e1⟩, -⟩ := index_in t
  have e : (win0_6.rect t).emb (ix2 g n) = (ix2 g n : S72x32.Idx) := by
    funext d
    apply Fin.ext
    match d with
    | ⟨0, _⟩ => show win0_6.index t 0 * 72 + 1 * g.val = g.val; rw [e0]; omega
    | ⟨1, _⟩ => show win0_6.index t 1 * 32 + 1 * n.val = n.val; rw [e1]; omega
  show V m c main_v0 ((win0_6.rect t).emb (ix2 g n)) = _
  rw [V_main_v0]
  refine (congrArg _ e).trans ?_
  exact transpose_ix2_apply _ _ _ _

theorem iblk7_apply (c : Dev nD) (t : Fin cfg0.N) (h : Fin 6) : iblk m c 7 t (ix2 0 h) = m ((c : Thread nD τ).loc main_arg7) (ix1 h) := by
  obtain ⟨-, -, -, -, -, ⟨e0, e1⟩, -⟩ := index_in t
  have e : (win0_7.rect t).emb (ix2 0 h) = (ix2 0 h : S1x6.Idx) := by
    funext d
    apply Fin.ext
    match d with
    | ⟨0, _⟩ => show win0_7.index t 0 * 1 + 1 * 0 = 0; rw [e0]
    | ⟨1, _⟩ => show win0_7.index t 1 * 6 + 1 * h.val = h.val; rw [e1]; omega
  show V m c main_v1 ((win0_7.rect t).emb (ix2 0 h)) = _
  rw [V_main_v1]
  refine (congrArg _ e).trans ?_
  refine shapeCast_apply _ _ _ _ ?_
  show (S6.rowMajor (ix1 h)).val = (S1x6.rowMajor (ix2 0 h)).val
  rewrite [Shape.rowMajor_val_one, Shape.rowMajor_val_two]
  show h.val = 0 * 6 + h.val
  omega

theorem iblk8_apply (c : Dev nD) (t : Fin cfg0.N) (h : Fin 6) : iblk m c 8 t (ix2 0 h) = m ((c : Thread nD τ).loc main_arg8) (ix1 h) := by
  obtain ⟨-, -, -, -, -, -, e0, e1⟩ := index_in t
  have e : (win0_8.rect t).emb (ix2 0 h) = (ix2 0 h : S1x6.Idx) := by
    funext d
    apply Fin.ext
    match d with
    | ⟨0, _⟩ => show win0_8.index t 0 * 1 + 1 * 0 = 0; rw [e0]
    | ⟨1, _⟩ => show win0_8.index t 1 * 6 + 1 * h.val = h.val; rw [e1]; omega
  show V m c main_v2 ((win0_8.rect t).emb (ix2 0 h)) = _
  rw [V_main_v2]
  refine (congrArg _ e).trans ?_
  refine shapeCast_apply _ _ _ _ ?_
  show (S6.rowMajor (ix1 h)).val = (S1x6.rowMajor (ix2 0 h)).val
  rewrite [Shape.rowMajor_val_one, Shape.rowMajor_val_two]
  show h.val = 0 * 6 + h.val
  omega

/-! ## The weights in scratch -/

/-- The unpacked projection weights of device `c`'s arguments. -/
def wAll (c : Dev nD) : Vec Ideal S32x2304 .bf16 := fun j =>
  Cert.Rec.unpacked kfac (m ((c : Thread nD τ).loc main_arg5)) (m ((c : Thread nD τ).loc main_arg6)) (j 0) (j 1)

/-- What any point's blocks of codes and scales unpack to. -/
theorem weights_eq (c : Dev nD) (t : Fin cfg0.N) : weights (nb := 72) (by decide) (iblk m c 5 t) (iblk m c 6 t) = wAll m c := by
  funext j
  obtain ⟨n, k, rfl⟩ : ∃ (n : Fin 32) (k : Fin 2304), j = ix2 n k := ⟨j 0, j 1, eq_ix2 j⟩
  exact congrArg₂ (fun (a : EReal) s => a * kfac s) (iblk5_apply m c t n k) (iblk6_apply m c t ⟨k.val / 32, by omega⟩ n)

/-- The first point leaves them in scratch, and the later ones leave them there. -/
theorem scratch_eq (c : Dev nD) : ∀ (n : ℕ) (hn : n < cfg0.N), (outsAt0 m c n hn).2.2.2.2.2.2.2 = wAll m c := by
  intro n
  induction n with
  | zero =>
    intro hn
    refine (congrArg (fun o => o.2.2.2.2.2.2.2) (outsAt0_A m c ⟨0, hn⟩ (Nat.zero_mod _) (by show ¬ 0 % 16 = 15; omega))).trans ?_
    dsimp only
    rw [scratch_A]
    exact weights_eq m c _
  | succ n ih =>
    intro hn
    have hN : n + 1 < 16 := lt_of_lt_of_eq hn (show cfg0.N = 16 from N_0)
    by_cases h1 : (n + 1) % 16 = 15
    · refine (congrArg (fun o => o.2.2.2.2.2.2.2) (outsAt0_C m c ⟨n + 1, hn⟩ (by show ¬ (n + 1) % 16 = 0; omega) h1)).trans ?_
      dsimp only
      unfold sout0_C_1
      exact ih _
    · refine (congrArg (fun o => o.2.2.2.2.2.2.2) (outsAt0_B m c ⟨n + 1, hn⟩ (by show ¬ (n + 1) % 16 = 0; omega) h1)).trans ?_
      dsimp only
      unfold sout0_B_1
      exact ih _

/-! ## The results -/

/-- The read keys of device `c`'s arguments, with the factors the kernel makes. -/
abbrev wholeW (c : Dev nD) : FVec Ideal S2x6x1024x256 .bf16 :=
  Cert.Rec.resultW kfac (m ((c : Thread nD τ).loc main_arg0)) (m ((c : Thread nD τ).loc main_arg5)) (m ((c : Thread nD τ).loc main_arg6))
    (m ((c : Thread nD τ).loc main_arg7)) (m ((c : Thread nD τ).loc main_arg8)) (m ((c : Thread nD τ).loc main_arg2))

/-- The written values. -/
abbrev wholeU (c : Dev nD) : FVec Ideal S2x6x1024x512 .bf16 :=
  Cert.Rec.resultU kfac (m ((c : Thread nD τ).loc main_arg0)) (m ((c : Thread nD τ).loc main_arg5)) (m ((c : Thread nD τ).loc main_arg6))
    (m ((c : Thread nD τ).loc main_arg7)) (m ((c : Thread nD τ).loc main_arg8)) (m ((c : Thread nD τ).loc main_arg2))
    (m ((c : Thread nD τ).loc main_arg3))

theorem bAt_eq (c : Dev nD) (t : Fin cfg0.N) (b : Fin 2) (h : Fin 6) :
    bAt (iblk m c 0 t) (wAll m c) b h = Cert.Rec.chunkB kfac (m ((c : Thread nD τ).loc main_arg0)) (m ((c : Thread nD τ).loc main_arg5))
      (m ((c : Thread nD τ).loc main_arg6)) b h (chunk t) := by
  funext i
  unfold bAt rawAt Cert.Rec.chunkB Cert.Rec.rawGate
  refine Finset.sum_congr rfl fun k _ => ?_
  rw [iblk0_apply]
  rfl

theorem gAt_eq (c : Dev nD) (t : Fin cfg0.N) (b : Fin 2) (h : Fin 6) :
    gAt (iblk m c 0 t) (wAll m c) (iblk m c 7 t) (iblk m c 8 t) b h
      = Cert.Rec.chunkG kfac (m ((c : Thread nD τ).loc main_arg0)) (m ((c : Thread nD τ).loc main_arg5))
      (m ((c : Thread nD τ).loc main_arg6)) (m ((c : Thread nD τ).loc main_arg7)) (m ((c : Thread nD τ).loc main_arg8)) b h (chunk t) := by
  funext i
  unfold gAt Cert.Rec.chunkG
  rw [iblk7_apply, iblk8_apply]
  refine congrArg (fun r => Cert.Rec.logDecay _ (r + _)) ?_
  unfold rawAt Cert.Rec.rawGate
  refine Finset.sum_congr rfl fun k _ => ?_
  rw [iblk0_apply]
  rfl

/-- The keys of the chunk point `t` works on. -/
abbrev krOf (c : Dev nD) (t : Fin cfg0.N) (b : Fin 2) (h : Fin 6) : Fin 64 → Fin 256 → EReal :=
  Cert.Rec.chunkK (m ((c : Thread nD τ).loc main_arg2)) b h (chunk t)
/-- The values. -/
abbrev vrOf (c : Dev nD) (t : Fin cfg0.N) (b : Fin 2) (h : Fin 6) : Fin 64 → Fin 512 → EReal :=
  Cert.Rec.chunkV (m ((c : Thread nD τ).loc main_arg3)) b h (chunk t)

theorem kr_eq (c : Dev nD) (t : Fin cfg0.N) : ∀ (b : Fin 2) (h : Fin 6) (i : Fin 64) (d : Fin 256),
    iblk m c 2 t (ix3 b i ⟨256 * h.val + d.val, by omega⟩) = krOf m c t b h i d :=
  fun b h i d => iblk2_apply m c t b i _

theorem vr_eq (c : Dev nD) (t : Fin cfg0.N) : ∀ (b : Fin 2) (h : Fin 6) (i : Fin 64) (d : Fin 512),
    iblk m c 3 t (ix3 b i ⟨512 * h.val + d.val, by omega⟩) = vrOf m c t b h i d :=
  fun b h i d => iblk3_apply m c t b i _

/-- A point's block of the read keys is the block of the whole at chunk `t`. -/
theorem blockW_eq (c : Dev nD) (t : Fin cfg0.N) (y : S2x6x64x256.Idx) :
    blockW (iblk m c 0 t) (wAll m c) (iblk m c 7 t) (iblk m c 8 t) (krOf m c t) y = wholeW m c ((win0_15.rect t).emb y) := by
  obtain ⟨b, h, i, d, rfl⟩ : ∃ (b : Fin 2) (h : Fin 6) (i : Fin 64) (d : Fin 256), y = ix4 b h i d := ⟨y 0, y 1, y 2, y 3, eq_ix4 y⟩
  obtain ⟨-, e0, e1, e2, e3⟩ := index_out t
  have e : (win0_15.rect t).emb (ix4 b h i d) = (ix4 b h (Cert.Rec.pos (chunk t) i) d : S2x6x1024x256.Idx) := by
    funext a
    apply Fin.ext
    match a with
    | ⟨0, _⟩ => show win0_15.index t 0 * 2 + 1 * b.val = b.val; rw [e0]; omega
    | ⟨1, _⟩ => show win0_15.index t 1 * 6 + 1 * h.val = h.val; rw [e1]; omega
    | ⟨2, _⟩ => show win0_15.index t 2 * 64 + 1 * i.val = 64 * t.val + i.val; rw [e2]; omega
    | ⟨3, _⟩ => show win0_15.index t 3 * 256 + 1 * d.val = d.val; rw [e3]; omega
  refine Eq.trans ?_ ((congrArg (wholeW m c) e).trans (Cert.Rec.resultW_apply _ _ _ _ _ _ _ b h (chunk t) i d)).symm
  show ((Cert.Rec.readKeys (bAt (iblk m c 0 t) (wAll m c) b h) (gAt (iblk m c 0 t) (wAll m c) (iblk m c 7 t) (iblk m c 8 t) b h) _ i d : ℝ) : EReal) = _
  rw [bAt_eq, gAt_eq]

/-- A point's block of the written values likewise. -/
theorem blockU_eq (c : Dev nD) (t : Fin cfg0.N) (y : S2x6x64x512.Idx) :
    blockU (iblk m c 0 t) (wAll m c) (iblk m c 7 t) (iblk m c 8 t) (krOf m c t) (vrOf m c t) y = wholeU m c ((win0_14.rect t).emb y) := by
  obtain ⟨b, h, i, d, rfl⟩ : ∃ (b : Fin 2) (h : Fin 6) (i : Fin 64) (d : Fin 512), y = ix4 b h i d := ⟨y 0, y 1, y 2, y 3, eq_ix4 y⟩
  obtain ⟨⟨e0, e1, e2, e3⟩, -⟩ := index_out t
  have e : (win0_14.rect t).emb (ix4 b h i d) = (ix4 b h (Cert.Rec.pos (chunk t) i) d : S2x6x1024x512.Idx) := by
    funext a
    apply Fin.ext
    match a with
    | ⟨0, _⟩ => show win0_14.index t 0 * 2 + 1 * b.val = b.val; rw [e0]; omega
    | ⟨1, _⟩ => show win0_14.index t 1 * 6 + 1 * h.val = h.val; rw [e1]; omega
    | ⟨2, _⟩ => show win0_14.index t 2 * 64 + 1 * i.val = 64 * t.val + i.val; rw [e2]; omega
    | ⟨3, _⟩ => show win0_14.index t 3 * 512 + 1 * d.val = d.val; rw [e3]; omega
  refine Eq.trans ?_ ((congrArg (wholeU m c) e).trans (Cert.Rec.resultU_apply _ _ _ _ _ _ _ _ b h (chunk t) i d)).symm
  show Cert.Rec.writtenValues (bAt (iblk m c 0 t) (wAll m c) b h) (gAt (iblk m c 0 t) (wAll m c) (iblk m c 7 t) (iblk m c 8 t) b h) _ _ i d = _
  rw [bAt_eq, gAt_eq]

/-- What grid point `t` writes back of the read keys is its block of the whole. -/
theorem flushed15_eq (c : Dev nD) (t : Fin cfg0.N) :
    (dats m 0 c).flushed 15 t = (win0_15.blk t).view.read (Elt Ideal) (wholeW m c) := by
  have hN : t.val < 16 := lt_of_lt_of_eq t.isLt (show cfg0.N = 16 from N_0)
  by_cases h0 : t.val % 16 = 0
  · refine (Value.flushed15_A m c t h0 (by omega)).trans (funext fun y => ?_)
    refine Eq.trans ?_ (blockW_eq m c t y)
    refine (blockW_A (kr := krOf m c t) (hk := kr_eq m c t) ..).trans ?_
    rw [weights_eq]
  · by_cases h1 : t.val % 16 = 15
    · refine (Value.flushed15_C m c t h0 h1).trans (funext fun y => ?_)
      refine Eq.trans ?_ (blockW_eq m c t y)
      refine (blockW_C (kr := krOf m c t) (hk := kr_eq m c t) ..).trans ?_
      rw [scratch_eq]
    · refine (Value.flushed15_B m c t h0 h1).trans (funext fun y => ?_)
      refine Eq.trans ?_ (blockW_eq m c t y)
      refine (blockW_B (kr := krOf m c t) (hk := kr_eq m c t) ..).trans ?_
      rw [scratch_eq]

/-- What grid point `t` writes back of the written values is its block of the whole. -/
theorem flushed14_eq (c : Dev nD) (t : Fin cfg0.N) :
    (dats m 0 c).flushed 14 t = (win0_14.blk t).view.read (Elt Ideal) (wholeU m c) := by
  have hN : t.val < 16 := lt_of_lt_of_eq t.isLt (show cfg0.N = 16 from N_0)
  by_cases h0 : t.val % 16 = 0
  · refine (Value.flushed14_A m c t h0 (by omega)).trans (funext fun y => ?_)
    refine Eq.trans ?_ (blockU_eq m c t y)
    refine (blockU_A (kr := krOf m c t) (hk := kr_eq m c t) (vr := vrOf m c t) (hv := vr_eq m c t) ..).trans ?_
    rw [weights_eq]
  · by_cases h1 : t.val % 16 = 15
    · refine (Value.flushed14_C m c t h0 h1).trans (funext fun y => ?_)
      refine Eq.trans ?_ (blockU_eq m c t y)
      refine (blockU_C (kr := krOf m c t) (hk := kr_eq m c t) (vr := vrOf m c t) (hv := vr_eq m c t) ..).trans ?_
      rw [scratch_eq]
    · refine (Value.flushed14_B m c t h0 h1).trans (funext fun y => ?_)
      refine Eq.trans ?_ (blockU_eq m c t y)
      refine (blockU_B (kr := krOf m c t) (hk := kr_eq m c t) (vr := vrOf m c t) (hv := vr_eq m c t) ..).trans ?_
      rw [scratch_eq]

/-- An index whose position is in chunk `t` is in that point's block of the read keys. -/
theorem mem_blk15 (t : Fin cfg0.N) (i : S2x6x1024x256.Idx) (h : 64 * t.val ≤ (i 2).val ∧ (i 2).val < 64 * t.val + 64) :
    i ∈ ((cfg0.win 15).blk t).view.set := by
  have h0 : (i 0).val < 2 := (i 0).isLt
  have h1 : (i 1).val < 6 := (i 1).isLt
  have h3 : (i 3).val < 256 := (i 3).isLt
  obtain ⟨-, e0, e1, e2, e3⟩ := index_out t
  show i ∈ ((View.whole main_v5_3).slice (win0_15.rect t)).set
  rw [View.set_slice_whole, Rect.mem_set_unit]
  intro a
  match a with
  | ⟨0, _⟩ => show win0_15.index t 0 * 2 ≤ (i 0).val ∧ (i 0).val < win0_15.index t 0 * 2 + 2
              rw [e0]; omega
  | ⟨1, _⟩ => show win0_15.index t 1 * 6 ≤ (i 1).val ∧ (i 1).val < win0_15.index t 1 * 6 + 6
              rw [e1]; omega
  | ⟨2, _⟩ => show win0_15.index t 2 * 64 ≤ (i 2).val ∧ (i 2).val < win0_15.index t 2 * 64 + 64
              rw [e2]; omega
  | ⟨3, _⟩ => show win0_15.index t 3 * 256 ≤ (i 3).val ∧ (i 3).val < win0_15.index t 3 * 256 + 256
              rw [e3]; omega

/-- The same of the written values. -/
theorem mem_blk14 (t : Fin cfg0.N) (i : S2x6x1024x512.Idx) (h : 64 * t.val ≤ (i 2).val ∧ (i 2).val < 64 * t.val + 64) :
    i ∈ ((cfg0.win 14).blk t).view.set := by
  have h0 : (i 0).val < 2 := (i 0).isLt
  have h1 : (i 1).val < 6 := (i 1).isLt
  have h3 : (i 3).val < 512 := (i 3).isLt
  obtain ⟨⟨e0, e1, e2, e3⟩, -⟩ := index_out t
  show i ∈ ((View.whole main_v5_2).slice (win0_14.rect t)).set
  rw [View.set_slice_whole, Rect.mem_set_unit]
  intro a
  match a with
  | ⟨0, _⟩ => show win0_14.index t 0 * 2 ≤ (i 0).val ∧ (i 0).val < win0_14.index t 0 * 2 + 2
              rw [e0]; omega
  | ⟨1, _⟩ => show win0_14.index t 1 * 6 ≤ (i 1).val ∧ (i 1).val < win0_14.index t 1 * 6 + 6
              rw [e1]; omega
  | ⟨2, _⟩ => show win0_14.index t 2 * 64 ≤ (i 2).val ∧ (i 2).val < win0_14.index t 2 * 64 + 64
              rw [e2]; omega
  | ⟨3, _⟩ => show win0_14.index t 3 * 512 ≤ (i 3).val ∧ (i 3).val < win0_14.index t 3 * 512 + 512
              rw [e3]; omega

/-- The blocks tile both results: position `p` is in chunk `p / 64`. -/
theorem cover15 (i : S2x6x1024x256.Idx) : ∃ t : Fin cfg0.N, (cfg0.win 15).flush t = true ∧ i ∈ ((cfg0.win 15).blk t).view.set := by
  have h2 : (i 2).val < 1024 := (i 2).isLt
  have hN : cfg0.N = 16 := N_0
  refine ⟨⟨(i 2).val / 64, by omega⟩, flush0_15 _, mem_blk15 _ i ?_⟩
  dsimp only
  omega

theorem cover14 (i : S2x6x1024x512.Idx) : ∃ t : Fin cfg0.N, (cfg0.win 14).flush t = true ∧ i ∈ ((cfg0.win 14).blk t).view.set := by
  have h2 : (i 2).val < 1024 := (i 2).isLt
  have hN : cfg0.N = 16 := N_0
  refine ⟨⟨(i 2).val / 64, by omega⟩, flush0_14 _, mem_blk14 _ i ?_⟩
  dsimp only
  omega

/-- So the kernel's arrays end at the read keys and the written values. -/
theorem final15 (c : Dev nD) : (dats m 0 c).arrAt 15 cfg0.N = wholeW m c :=
  (dats m 0 c).arrAt_eq_of_cover 15 (wholeW m c) (fun t _ => flushed15_eq m c t) cover15

theorem final14 (c : Dev nD) : (dats m 0 c).arrAt 14 cfg0.N = wholeU m c :=
  (dats m 0 c).arrAt_eq_of_cover 14 (wholeU m c) (fun t _ => flushed14_eq m c t) cover14

end Cert.RecIdeal.RefValue

end
-- ==== Proof.RecRef.lean ====
/-
  The recurrence's reference, one operation after another, over the reals: its gates, keys and values in chunks of 64 positions, the coupling
  of every chunk, the inverse it takes as a product of six factors, and the two results that come of it.
-/
module

public import proofs.«01_k».proof.Proof.Gen.RecRefIdeal.Read
public import proofs.«01_k».proof.Proof.RecResult

@[expose] public section

set_option maxRecDepth 16384

noncomputable section

open Idealize.ShloMosaic Idealize.ShloMosaic.TcCoe Idealize.ShloMosaic.ValueIdx Idealize.ShloMosaic.StableHlo

namespace Cert.RecRefIdeal.RefValue

open Cert.RecRefIdeal Cert.RecRefIdeal.Gen Cert.Dequant Cert.Rec

/-! ## Indices from their coordinates -/

theorem ix1_of {n0 : Nat} (j : (⟨1, ![n0]⟩ : Shape).Idx) (a : Fin n0) (h0 : (j 0).val = a.val) : j = ix1 a := by
  funext d; match d with | ⟨0, _⟩ => exact Fin.ext h0

theorem ix2_of {n0 n1 : Nat} (j : (⟨2, ![n0, n1]⟩ : Shape).Idx) (a : Fin n0) (b : Fin n1) (h0 : (j 0).val = a.val) (h1 : (j 1).val = b.val) :
    j = ix2 a b := by
  funext d; match d with | ⟨0, _⟩ => exact Fin.ext h0 | ⟨1, _⟩ => exact Fin.ext h1

theorem ix3_of {n0 n1 n2 : Nat} (j : (⟨3, ![n0, n1, n2]⟩ : Shape).Idx) (a : Fin n0) (b : Fin n1) (c : Fin n2) (h0 : (j 0).val = a.val)
    (h1 : (j 1).val = b.val) (h2 : (j 2).val = c.val) : j = ix3 a b c := by
  funext d; match d with | ⟨0, _⟩ => exact Fin.ext h0 | ⟨1, _⟩ => exact Fin.ext h1 | ⟨2, _⟩ => exact Fin.ext h2

theorem ix4_of {n0 n1 n2 n3 : Nat} (j : (⟨4, ![n0, n1, n2, n3]⟩ : Shape).Idx) (a : Fin n0) (b : Fin n1) (c : Fin n2) (d : Fin n3)
    (h0 : (j 0).val = a.val) (h1 : (j 1).val = b.val) (h2 : (j 2).val = c.val) (h3 : (j 3).val = d.val) : j = ix4 a b c d := by
  funext e; match e with | ⟨0, _⟩ => exact Fin.ext h0 | ⟨1, _⟩ => exact Fin.ext h1 | ⟨2, _⟩ => exact Fin.ext h2 | ⟨3, _⟩ => exact Fin.ext h3

theorem ix5_of {n0 n1 n2 n3 n4 : Nat} (j : (⟨5, ![n0, n1, n2, n3, n4]⟩ : Shape).Idx) (a : Fin n0) (b : Fin n1) (c : Fin n2) (d : Fin n3)
    (e : Fin n4) (h0 : (j 0).val = a.val) (h1 : (j 1).val = b.val) (h2 : (j 2).val = c.val) (h3 : (j 3).val = d.val)
    (h4 : (j 4).val = e.val) : j = ix5 a b c d e := by
  funext k
  match k with
  | ⟨0, _⟩ => exact Fin.ext h0 | ⟨1, _⟩ => exact Fin.ext h1 | ⟨2, _⟩ => exact Fin.ext h2 | ⟨3, _⟩ => exact Fin.ext h3 | ⟨4, _⟩ => exact Fin.ext h4

/-! ## The running sum -/

/-- A fold that adds is a sum. -/
theorem foldl_add {n : Nat} (f : Fin n → EReal) (v : EReal) : (List.finRange n).foldl (fun r i => r + f i) v = v + ∑ i, f i := by
  rw [Fin.sum_univ_def]
  generalize List.finRange n = l
  induction l generalizing v with
  | nil => simp
  | cons a l ih => rw [List.foldl_cons, ih, List.map_cons, List.sum_cons, add_assoc]

/-- The positions of a window one row wide. -/
def windowEquiv : Fin 64 ≃ (⟨4, ![1, 1, 1, 64]⟩ : Shape).Idx where
  toFun k := ix4 0 0 0 k
  invFun i := i 3
  left_inv _ := rfl
  right_inv i := (ix4_of i 0 0 0 (i 3) (by have := (i 0).isLt; change (i 0).val < 1 at this; show (i 0).val = 0; omega)
    (by have := (i 1).isLt; change (i 1).val < 1 at this; show (i 1).val = 0; omega)
    (by have := (i 2).isLt; change (i 2).val < 1 at this; show (i 2).val = 0; omega) rfl).symm

/-- A window of 64 that ends at `j` holds the entries up to `j`. -/
theorem sum_upto (f : Fin 64 → EReal) (j : Fin 64) :
    (∑ k : Fin 64, if h : 63 ≤ j.val + k.val then f ⟨j.val + k.val - 63, by omega⟩ else 0) = ∑ i : Fin 64, if i ≤ j then f i else 0 := by
  rw [← Finset.sum_filter, Finset.sum_dite, Finset.sum_const_zero, add_zero]
  refine (Finset.sum_bij' (i := fun (i : Fin 64) hi => (⟨⟨63 - j.val + i.val, ?_⟩, ?_⟩ : {x : Fin 64 // x ∈ Finset.univ.filter fun k : Fin 64 => 63 ≤ j.val + k.val}))
    (j := fun k _ => (⟨j.val + k.1.val - 63, ?_⟩ : Fin 64)) ?_ ?_ ?_ ?_ ?_).symm
  · have := (Finset.mem_filter.1 hi).2
    have : i.val ≤ j.val := this
    omega
  · rw [Finset.mem_filter]
    refine ⟨Finset.mem_univ _, ?_⟩
    show 63 ≤ j.val + (63 - j.val + i.val)
    omega
  · omega
  · exact fun _ _ => Finset.mem_attach _ _
  · intro k _
    have := (Finset.mem_filter.1 k.2).2
    rw [Finset.mem_filter]
    refine ⟨Finset.mem_univ _, ?_⟩
    show j.val + k.1.val - 63 ≤ j.val
    omega
  · intro i hi
    exact Fin.ext (by show j.val + (63 - j.val + i.val) - 63 = i.val; omega)
  · intro k _
    have := (Finset.mem_filter.1 k.2).2
    exact Subtype.ext (Fin.ext (by show 63 - j.val + (j.val + k.1.val - 63) = k.1.val; omega))
  · intro i hi
    refine congrArg f (Fin.ext ?_)
    show i.val = j.val + (63 - j.val + i.val) - 63
    omega

/-- The reference's running sum along the last axis. -/
theorem runningSum_apply (y : FVec Ideal S16x2x6x64 .f32) (init : FVec Ideal S_ .f32) (hinit : init (Shape.Idx.first h_S_) = 0)
    (n : Fin 16) (b : Fin 2) (h : Fin 6) (j : Fin 64) :
    Host.reduceWindowAdd ![1, 1, 1, 64] ![1, 1, 1, 1] ![0, 0, 0, 63] ![0, 0, 0, 0] y init
      reduceWindows_S16x2x6x64_S16x2x6x64_w1s1p0_0_w1s1p0_0_w1s1p0_0_w64s1p63_0 h_S_ (ix4 n b h j) = cum (fun i => y (ix4 n b h i)) j := by
  unfold cum
  rw [← sum_upto]
  unfold Host.reduceWindowAdd
  rw [Ideal.hostReduceWindowAdd_def, hinit]
  unfold Ideal.hostReduceWindowAdd Host.reduceWindow
  refine (foldl_add _ _).trans ?_
  refine (zero_add _).trans ?_
  refine ((Equiv.sum_comp (⟨4, ![1, 1, 1, 64]⟩ : Shape).rowMajor _).symm.trans (Equiv.sum_comp windowEquiv _).symm).trans ?_
  refine Finset.sum_congr rfl fun k _ => ?_
  have hj : j.val < 64 := j.isLt
  have hk : k.val < 64 := k.isLt
  simp only [Equiv.symm_apply_apply]
  by_cases hc : 63 ≤ j.val + k.val
  · rw [dif_pos hc, dif_pos]
    · refine congrArg y (ix4_of _ _ _ _ _ ?_ ?_ ?_ ?_)
      · show n.val * 1 + 0 - 0 = n.val; omega
      · show b.val * 1 + 0 - 0 = b.val; omega
      · show h.val * 1 + 0 - 0 = h.val; omega
      · show j.val * 1 + k.val - 63 = j.val + k.val - 63; omega
    · intro a
      have hn : n.val < 16 := n.isLt
      have hb : b.val < 2 := b.isLt
      have hh : h.val < 6 := h.isLt
      match a with
      | ⟨0, _⟩ => show 0 ≤ n.val * 1 + 0 ∧ n.val * 1 + 0 - 0 < 16; omega
      | ⟨1, _⟩ => show 0 ≤ b.val * 1 + 0 ∧ b.val * 1 + 0 - 0 < 2; omega
      | ⟨2, _⟩ => show 0 ≤ h.val * 1 + 0 ∧ h.val * 1 + 0 - 0 < 6; omega
      | ⟨3, _⟩ => show 63 ≤ j.val * 1 + k.val ∧ j.val * 1 + k.val - 63 < 64; omega
  · rw [dif_neg hc, dif_neg]
    intro hin
    have h3 := (hin 3).1
    change 63 ≤ j.val * 1 + k.val at h3
    omega

/-! ## The gates, keys and values -/

theorem zero_f32 : (FloatOps.ofBits (F := Ideal) .f32 0x00000000#32) = (0 : EReal) := Ideal.ofBits_zero_f32

theorem one_f32 : (FloatOps.ofBits (F := Ideal) .f32 0x3F800000#32) = (1 : EReal) := by
  show Ideal.ofBits .f32 0x3F800000#32 = _
  simp [Ideal.ofBits, Ideal.ieee, -EReal.coe_mul]; norm_num

/-- The factors the reference broadcasts over each group. -/
abbrev facs (scales : IVec ⟨2, ![32, 72]⟩ 8) : FVec Ideal ⟨2, ![32, 72]⟩ .bf16 :=
  truncf .bf16 (Host.powf (broadcastInDim S32x72 ![] bcast_S_S32x72 (constant S_ .f32 0x40000000#32))
    (sitofp .f32 (subi (extui 32 scales natLt_8_32) (broadcastInDim S32x72 ![] bcast_S_S32x72 (constantI S_ 32 127#32))))) bitsLt_bf16_f32

theorem facs_apply (scales : IVec ⟨2, ![32, 72]⟩ 8) (i : (⟨2, ![32, 72]⟩ : Shape).Idx) : facs scales i = rfac (scales i) := rfl

/-- The weights' codes, widened. -/
abbrev wide (w : FVec Ideal ⟨2, ![32, 2304]⟩ .fp8e4m3) : FVec Ideal ⟨2, ![32, 2304]⟩ .bf16 := extf .bf16 w bitsLt_fp8e4m3_bf16

section Operations

variable (x : FVec Ideal ⟨3, ![2, 1024, 2304]⟩ .bf16) (w : FVec Ideal ⟨2, ![32, 2304]⟩ .fp8e4m3)
  (s : IVec ⟨2, ![32, 72]⟩ 8) (al dt : FVec Ideal ⟨1, ![6]⟩ .f32) (kc : FVec Ideal ⟨3, ![2, 1024, 1536]⟩ .bf16)
  (vc : FVec Ideal ⟨3, ![2, 1024, 3072]⟩ .bf16)

/-- The raw gate values. -/
theorem raw_apply (b : Fin 2) (t : Fin 1024) (n : Fin 32) :
    Read.val_main_v14 (F := Ideal) x (wide w) (facs s) (ix3 b t n) = rawGate rfac x w s b t n := by
  rw [Read.val_main_v14_apply, Read.val_main_v13_apply]
  show (∑ k : Fin 2304, _) = _
  unfold rawGate unpacked
  refine Finset.sum_congr rfl fun k _ => ?_
  have hn : n.val < 32 := n.isLt
  have hk : k.val < 2304 := k.isLt
  congr 1
  · exact congrArg x (ix3_of _ b t k rfl rfl rfl)
  · rw [Read.val_main_v12_apply, Read.val_main_v11_apply, Read.val_main_v8_apply, Read.val_main_v10_apply, Read.val_main_v9_apply, facs_apply]
    show w _ * rfac _ = _
    congr 1
    · refine congrArg w (ix2_of _ n k ?_ ?_)
      · show (((n.val * 2304 + k.val) / 2304 * 72 + (n.val * 2304 + k.val) / 32 % 72) * 32 + (n.val * 2304 + k.val) % 32) / 2304 = n.val; omega
      · show (((n.val * 2304 + k.val) / 2304 * 72 + (n.val * 2304 + k.val) / 32 % 72) * 32 + (n.val * 2304 + k.val) % 32) % 2304 = k.val; omega
    · refine congrArg (fun j => rfac (s j)) (ix2_of _ n ⟨k.val / 32, by omega⟩ ?_ ?_)
      · show (n.val * 2304 + k.val) / 2304 = n.val; omega
      · show (n.val * 2304 + k.val) / 32 % 72 = k.val / 32; omega

/-- The logarithm of one plus the exponential, as the reference writes it. -/
theorem softplus_eq (z : EReal) : Scalar.select (FloatOps.cmpf (F := Ideal) (φ := .f32) .une (z - 0) (z - 0)) (z + 0)
    (max z 0 + Ideal.log1p (Ideal.exp (-(max (z - 0) (-(z - 0)))))) = softplus z := by
  have h : FloatOps.cmpf (F := Ideal) (φ := .f32) .une (z - 0) (z - 0) = 0#1 := by simp [Ideal.cmpf_def, Ideal.cmp]
  rw [h, sub_zero]
  rfl

/-- The log decays. -/
theorem logDecay_apply (b : Fin 2) (t : Fin 1024) (h : Fin 6) :
    Read.val_main_v38 (F := Ideal) x al dt (wide w) (facs s) (ix3 b t h)
      = logDecay (al (ix1 h)) (rawGate rfac x w s b t ⟨h.val, by omega⟩ + dt (ix1 h)) := by
  have h34 : Read.val_main_v34 (F := Ideal) x dt (wide w) (facs s) (ix3 b t h)
      = rawGate rfac x w s b t ⟨h.val, by omega⟩ + dt (ix1 h) := by
    rw [Read.val_main_v34_apply, Read.val_main_v31_apply, Read.val_main_v15_apply, Read.val_main_v33_apply, Read.val_main_v32_apply,
      ix3_of (Read.idx_main_v15 (ix3 b t h)) b t (⟨h.val, by omega⟩ : Fin 32) rfl rfl rfl,
      ix1_of (Read.idx_main_v32 (Read.idx_main_v33 (ix3 b t h))) h rfl, raw_apply]
    rfl
  have h35 : Read.val_main_v35 (F := Ideal) x dt (wide w) (facs s) (ix3 b t h)
      = softplus (rawGate rfac x w s b t ⟨h.val, by omega⟩ + dt (ix1 h)) := by
    rw [← softplus_eq, ← h34, ← zero_f32]
    rfl
  rw [Read.val_main_v38_apply, h35, Read.val_main_v37_apply, Read.val_main_v36_apply,
    ix1_of (Read.idx_main_v36 (Read.idx_main_v37 (ix3 b t h))) h rfl]
  rfl

/-- The step sizes. -/
theorem stepSize_apply (b : Fin 2) (t : Fin 1024) (h : Fin 6) :
    Read.val_main_v45 (F := Ideal) x (wide w) (facs s) (ix3 b t h) = stepSize (rawGate rfac x w s b t ⟨16 + h.val, by omega⟩) := by
  rw [Read.val_main_v45_apply, Read.val_main_v44_apply, Read.val_main_cst_3_apply, Read.val_main_v43_apply, Read.val_main_v42_apply,
    Read.val_main_cst_2_apply, Read.val_main_v41_apply, Read.val_main_v40_apply, Read.val_main_v39_apply, Read.val_main_v16_apply,
    ix3_of (Read.idx_main_v16 (ix3 b t h)) b t (⟨16 + h.val, by omega⟩ : Fin 32) rfl rfl rfl, raw_apply, one_f32]
  rfl

/-- A step size's place in its chunk. -/
theorem chunkedStep_apply (n : Fin 16) (b : Fin 2) (h : Fin 6) (i : Fin 64) :
    Read.val_main_v53 (F := Ideal) x (wide w) (facs s) (ix4 n b h i) = stepSize (chunkB rfac x w s b h n i) := by
  have hn : n.val < 16 := n.isLt
  have hb : b.val < 2 := b.isLt
  have hh : h.val < 6 := h.isLt
  have hi : i.val < 64 := i.isLt
  rw [Read.val_main_v53_apply, Read.val_main_v52_apply, ix3_of (Read.idx_main_v52 (Read.idx_main_v53 (ix4 n b h i))) b (pos n i) h
    (by show (((b.val * 16 + n.val) * 64 + i.val) * 6 + h.val) / 6144 = b.val; omega)
    (by show (((b.val * 16 + n.val) * 64 + i.val) * 6 + h.val) / 6 % 1024 = 64 * n.val + i.val; omega)
    (by show (((b.val * 16 + n.val) * 64 + i.val) * 6 + h.val) % 6 = h.val; omega), stepSize_apply]
  rfl

/-- A log decay's. -/
theorem chunkedDecay_apply (n : Fin 16) (b : Fin 2) (h : Fin 6) (i : Fin 64) :
    Read.val_main_v51 (F := Ideal) x al dt (wide w) (facs s) (ix4 n b h i) = chunkG rfac x w s al dt b h n i := by
  have hn : n.val < 16 := n.isLt
  have hb : b.val < 2 := b.isLt
  have hh : h.val < 6 := h.isLt
  have hi : i.val < 64 := i.isLt
  rw [Read.val_main_v51_apply, Read.val_main_v50_apply, ix3_of (Read.idx_main_v50 (Read.idx_main_v51 (ix4 n b h i))) b (pos n i) h
    (by show (((b.val * 16 + n.val) * 64 + i.val) * 6 + h.val) / 6144 = b.val; omega)
    (by show (((b.val * 16 + n.val) * 64 + i.val) * 6 + h.val) / 6 % 1024 = 64 * n.val + i.val; omega)
    (by show (((b.val * 16 + n.val) * 64 + i.val) * 6 + h.val) % 6 = h.val; omega), logDecay_apply]
  rfl

/-- The log decays summed from the start of their chunk. -/
theorem cum_apply (n : Fin 16) (b : Fin 2) (h : Fin 6) (i : Fin 64) :
    Read.val_main_v54 (F := Ideal) x al dt (wide w) (facs s) (ix4 n b h i) = cum (chunkG rfac x w s al dt b h n) i := by
  unfold Read.val_main_v54
  refine (runningSum_apply _ _ ?_ n b h i).trans ?_
  · exact zero_f32
  · exact congrArg (fun g => cum g i) (funext fun j => chunkedDecay_apply x w s al dt n b h j)

theorem chunkG_nonpos (n : Fin 16) (b : Fin 2) (h : Fin 6) (i : Fin 64) : chunkG rfac x w s al dt b h n i ≤ 0 := logDecay_nonpos _ _

/-- A head's keys before they are brought to length one. -/
theorem rawKey_apply (b : Fin 2) (n : Fin 16) (i : Fin 64) (h : Fin 6) (d : Fin 256) :
    Read.val_main_v18 (F := Ideal) kc (ix4 b (pos n i) h d) = chunkK kc b h n i d := by
  have hb : b.val < 2 := b.isLt
  have hh : h.val < 6 := h.isLt
  have hd : d.val < 256 := d.isLt
  have ht : (pos n i).val < 1024 := (pos n i).isLt
  rw [Read.val_main_v18_apply, Read.val_main_v17_apply,
    ix3_of (Read.idx_main_v18 (ix4 b (pos n i) h d)) b (pos n i) ⟨256 * h.val + d.val, by omega⟩
      (by show (((b.val * 1024 + (pos n i).val) * 6 + h.val) * 256 + d.val) / 1572864 = b.val; omega)
      (by show (((b.val * 1024 + (pos n i).val) * 6 + h.val) * 256 + d.val) / 1536 % 1024 = (pos n i).val; omega)
      (by show (((b.val * 1024 + (pos n i).val) * 6 + h.val) * 256 + d.val) % 1536 = 256 * h.val + d.val; omega)]
  rfl

/-- One over a key's length. -/
theorem scale_apply (b : Fin 2) (n : Fin 16) (i : Fin 64) (h : Fin 6) (d : Fin 256) :
    Read.val_main_v25 (F := Ideal) kc (ix4 b (pos n i) h d) = ((scaleOf (chunkK kc b h n) i : ℝ) : EReal) := by
  rw [Read.val_main_v25_apply, Read.val_main_v24_apply, Read.val_main_v23_apply, Read.val_main_v21_apply,
    ix3_of (Read.idx_main_v21 (Read.idx_main_v25 (ix4 b (pos n i) h d))) b (pos n i) h rfl rfl rfl, Read.val_main_v20_apply, ← rsqrt_coe]
  show Ideal.rsqrt ((FloatOps.ofBits (F := Ideal) .f32 0x00000000#32 + _) + _) = _
  rw [zero_f32, zero_add]
  refine congrArg Ideal.rsqrt (congrArg₂ (fun (a c : EReal) => a + c) (Finset.sum_congr rfl fun e _ => ?_) rfl)
  rw [ix4_of (Read.idx_main_v20 (ix3 b (pos n i) h) e) b (pos n i) h e rfl rfl rfl rfl, Read.val_main_v19_apply, rawKey_apply kc]
  rfl

/-- The keys of a chunk. -/
theorem key_apply (n : Fin 16) (b : Fin 2) (h : Fin 6) (i : Fin 64) (d : Fin 256) :
    Read.val_main_v47 (F := Ideal) kc (ix5 n b h i d) = ((unitKey (chunkK kc b h n) i d : ℝ) : EReal) := by
  have hn : n.val < 16 := n.isLt
  have hb : b.val < 2 := b.isLt
  have hh : h.val < 6 := h.isLt
  have hi : i.val < 64 := i.isLt
  have hd : d.val < 256 := d.isLt
  rw [Read.val_main_v47_apply, Read.val_main_v46_apply, ix4_of (Read.idx_main_v46 (Read.idx_main_v47 (ix5 n b h i d))) b (pos n i) h d
    (by show ((((b.val * 16 + n.val) * 64 + i.val) * 6 + h.val) * 256 + d.val) / 1572864 = b.val; omega)
    (by show ((((b.val * 16 + n.val) * 64 + i.val) * 6 + h.val) * 256 + d.val) / 1536 % 1024 = 64 * n.val + i.val; omega)
    (by show ((((b.val * 16 + n.val) * 64 + i.val) * 6 + h.val) * 256 + d.val) / 256 % 6 = h.val; omega)
    (by show ((((b.val * 16 + n.val) * 64 + i.val) * 6 + h.val) * 256 + d.val) % 256 = d.val; omega),
    Read.val_main_v26_apply, rawKey_apply kc, scale_apply kc, ← unitKey_coe]
  rfl

/-- The values of a chunk. -/
theorem value_apply (n : Fin 16) (b : Fin 2) (h : Fin 6) (i : Fin 64) (d : Fin 512) :
    Read.val_main_v49 (F := Ideal) vc (ix5 n b h i d) = chunkV vc b h n i d := by
  have hn : n.val < 16 := n.isLt
  have hb : b.val < 2 := b.isLt
  have hh : h.val < 6 := h.isLt
  have hi : i.val < 64 := i.isLt
  have hd : d.val < 512 := d.isLt
  have ht : (pos n i).val < 1024 := (pos n i).isLt
  rw [Read.val_main_v49_apply, Read.val_main_v48_apply, ix4_of (Read.idx_main_v48 (Read.idx_main_v49 (ix5 n b h i d))) b (pos n i) h d
    (by show ((((b.val * 16 + n.val) * 64 + i.val) * 6 + h.val) * 512 + d.val) / 3145728 = b.val; omega)
    (by show ((((b.val * 16 + n.val) * 64 + i.val) * 6 + h.val) * 512 + d.val) / 3072 % 1024 = 64 * n.val + i.val; omega)
    (by show ((((b.val * 16 + n.val) * 64 + i.val) * 6 + h.val) * 512 + d.val) / 512 % 6 = h.val; omega)
    (by show ((((b.val * 16 + n.val) * 64 + i.val) * 6 + h.val) * 512 + d.val) % 512 = d.val; omega),
    Read.val_main_v28_apply, Read.val_main_v27_apply,
    ix3_of (Read.idx_main_v28 (ix4 b (pos n i) h d)) b (pos n i) ⟨512 * h.val + d.val, by omega⟩
      (by show (((b.val * 1024 + (pos n i).val) * 6 + h.val) * 512 + d.val) / 3145728 = b.val; omega)
      (by show (((b.val * 1024 + (pos n i).val) * 6 + h.val) * 512 + d.val) / 3072 % 1024 = (pos n i).val; omega)
      (by show (((b.val * 1024 + (pos n i).val) * 6 + h.val) * 512 + d.val) % 3072 = 512 * h.val + d.val; omega)]
  rfl

/-! ## The coupling and its inverse -/

theorem cmp_eq : ∀ a b : Fin 64, IntOp.cmpi .eq (IntOp.addi (BitVec.ofNat 32 a.val) 0#32) (BitVec.ofNat 32 b.val) = if a = b then 1#1 else 0#1 := by
  decide +kernel
theorem cmp_sgt : ∀ a b : Fin 64, IntOp.cmpi .sgt (BitVec.ofNat 32 a.val) (BitVec.ofNat 32 b.val) = if b < a then 1#1 else 0#1 := by decide +kernel

/-- The mask of the earlier positions. -/
theorem mask_apply (i j : Fin 64) : Read.val_main_v61 (F := Ideal) (ix2 i j) = if j < i then 1#1 else 0#1 := cmp_sgt i j

/-- The decay from an earlier position to a later one, and zero elsewhere. -/
theorem between_apply (n : Fin 16) (b : Fin 2) (h : Fin 6) (i j : Fin 64) :
    Read.val_main_v69 (F := Ideal) x al dt (wide w) (facs s) (ix5 n b h i j)
      = if j < i then ((between (chunkG rfac x w s al dt b h n) i j : ℝ) : EReal) else 0 := by
  rw [Read.val_main_v69_apply, Read.val_main_v68_apply, Read.val_main_v67_apply, Read.val_main_call3_v1_apply, Read.val_main_call2_v1_apply,
    ix2_of (Read.idx_main_call3_v1 (ix5 n b h i j)) i j rfl rfl, ix2_of (Read.idx_main_call2_v1 (ix5 n b h i j)) i j rfl rfl, mask_apply]
  by_cases hij : j < i
  · rw [if_pos hij, if_pos hij, ← between_coe _ (chunkG_nonpos x w s al dt n b h) i j hij.le, Read.val_main_v66_apply, Read.val_main_v64_apply,
      Read.val_main_v62_apply, Read.val_main_v65_apply, Read.val_main_v63_apply,
      ix4_of (Read.idx_main_v62 (Read.idx_main_v64 (ix5 n b h i j))) n b h i rfl rfl rfl rfl,
      ix4_of (Read.idx_main_v63 (Read.idx_main_v65 (ix5 n b h i j))) n b h j rfl rfl rfl rfl, cum_apply, cum_apply]
    rfl
  · rw [if_neg hij, if_neg hij]
    exact zero_f32

/-- The array's square at chunk `n`, sequence `b`, head `h` is `A`. -/
def Holds (n : Fin 16) (b : Fin 2) (h : Fin 6) (y : FVec Ideal ⟨5, ![16, 2, 6, 64, 64]⟩ .f32) (A : Sq) : Prop :=
  ∀ i j, y (ix5 n b h i j) = ((A i j : ℝ) : EReal)

section Square
variable {n : Fin 16} {b : Fin 2} {h : Fin 6}

/-- A product of squares. -/
theorem Holds.dot {y z : FVec Ideal ⟨5, ![16, 2, 6, 64, 64]⟩ .f32} {A B : Sq} (hA : Holds n b h y A) (hB : Holds n b h z B)
    (u : FVec Ideal ⟨5, ![16, 2, 6, 64, 64]⟩ .f32)
    (hu : ∀ i j, u (ix5 n b h i j) = ∑ k : Fin 64, (y (ix5 n b h i k) : EReal) * z (ix5 n b h k j)) : Holds n b h u (A * B) :=
  fun i j => by
    rw [hu, Matrix.mul_apply, coe_sum]
    refine Finset.sum_congr rfl fun k _ => ?_
    rw [hA, hB, EReal.coe_mul]

/-- A sum. -/
theorem Holds.add {y z : FVec Ideal ⟨5, ![16, 2, 6, 64, 64]⟩ .f32} {A B : Sq} (hA : Holds n b h y A) (hB : Holds n b h z B) :
    Holds n b h (addf (F := Ideal) (φ := .f32) y z) (A + B) := fun i j => by
  show (y (ix5 n b h i j) + z (ix5 n b h i j) : EReal) = _
  rw [hA, hB, ← EReal.coe_add]
  rfl

theorem eye_holds : Holds n b h (Read.val_main_v82 (F := Ideal)) 1 := fun i j => by
  rw [Read.val_main_v82_apply, Read.val_main_v81_apply, ix2_of (Read.idx_main_v81 (Read.idx_main_v82 (ix5 n b h i j))) i j rfl rfl,
    Read.val_main_v80_apply, Read.val_main_v79_apply]
  show FloatOps.uitofp (F := Ideal) .f32 (IntOp.cmpi .eq (IntOp.addi (BitVec.ofNat 32 i.val) 0#32) (BitVec.ofNat 32 j.val)) = _
  rw [cmp_eq, Matrix.one_apply]
  by_cases hij : i = j
  · rw [if_pos hij, if_pos hij]; show (((1#1 : BitVec 1).toNat : ℝ) : EReal) = _; norm_num
  · rw [if_neg hij, if_neg hij]; show (((0#1 : BitVec 1).toNat : ℝ) : EReal) = _; norm_num

end Square

section Inverse
variable (n : Fin 16) (b : Fin 2) (h : Fin 6)

/-- A chunk's coupling. -/
abbrev couplingAt : Sq := coupling (chunkB rfac x w s b h n) (chunkG rfac x w s al dt b h n) (chunkK kc b h n)

theorem coupling_holds : Holds n b h (Read.val_main_v74 (F := Ideal) x kc al dt (wide w) (facs s)) (couplingAt x w s al dt kc n b h) := fun i j => by
  rw [Read.val_main_v74_apply, Read.val_main_v73_apply, Read.val_main_v72_apply, Read.val_main_v71_apply,
    ix4_of (Read.idx_main_v71 (Read.idx_main_v72 (ix5 n b h i j))) n b h i rfl rfl rfl rfl, chunkedStep_apply, between_apply,
    Read.val_main_v70_apply]
  refine Eq.trans ?_ (congrArg Real.toEReal (coupling_apply (chunkB rfac x w s b h n) (chunkG rfac x w s al dt b h n) (chunkK kc b h n) i j)).symm
  have e : (∑ d : Fin 256, Read.val_main_v47 (F := Ideal) kc (Read.lidx_main_v70 (ix5 n b h i j) d) * Read.val_main_v47 (F := Ideal) kc (Read.ridx_main_v70 (ix5 n b h i j) d))
      = ((∑ d, unitKey (chunkK kc b h n) i d * unitKey (chunkK kc b h n) j d : ℝ) : EReal) := by
    rw [coe_sum]
    refine Finset.sum_congr rfl fun d _ => ?_
    rw [ix5_of (Read.lidx_main_v70 (ix5 n b h i j) d) n b h i d rfl rfl rfl rfl rfl,
      ix5_of (Read.ridx_main_v70 (ix5 n b h i j) d) n b h j d rfl rfl rfl rfl rfl, key_apply kc, key_apply kc, ← EReal.coe_mul]
  rw [e]
  by_cases hij : j < i
  · rw [if_pos hij, if_pos hij, EReal.coe_mul, EReal.coe_mul, ← stepSize_coe]
    rfl
  · rw [if_neg hij, if_neg hij]
    exact mul_zero _

/-- The six factors multiply to the inverse. -/
theorem inverse_holds :
    Holds n b h (Read.val_main_v98 (F := Ideal) x kc al dt (wide w) (facs s)) ((1 + couplingAt x w s al dt kc n b h)⁻¹) := by
  have h74 := coupling_holds x w s al dt kc n b h
  have h83 : Holds n b h (Read.val_main_v83 (F := Ideal) x kc al dt (wide w) (facs s)) (1 - couplingAt x w s al dt kc n b h) :=
    fun i j => by
      rw [Read.val_main_v83_apply, h74, eye_holds]
      exact (EReal.coe_sub _ _).symm
  have h84 := h74.dot h74 (Read.val_main_v84 (F := Ideal) x kc al dt (wide w) (facs s)) fun i j =>
    (Read.val_main_v84_apply ..).trans (Finset.sum_congr rfl fun k _ => by
      rw [ix5_of (Read.lidx_main_v84 (ix5 n b h i j) k) n b h i k rfl rfl rfl rfl rfl, ix5_of (Read.ridx_main_v84 (ix5 n b h i j) k) n b h k j rfl rfl rfl rfl rfl])
  have h85 := h83.dot h84 (Read.val_main_v85 (F := Ideal) x kc al dt (wide w) (facs s)) fun i j =>
    (Read.val_main_v85_apply ..).trans (Finset.sum_congr rfl fun k _ => by
      rw [ix5_of (Read.lidx_main_v85 (ix5 n b h i j) k) n b h i k rfl rfl rfl rfl rfl, ix5_of (Read.ridx_main_v85 (ix5 n b h i j) k) n b h k j rfl rfl rfl rfl rfl])
  have h86 := h83.add h85
  have h87 := h84.dot h84 (Read.val_main_v87 (F := Ideal) x kc al dt (wide w) (facs s)) fun i j =>
    (Read.val_main_v87_apply ..).trans (Finset.sum_congr rfl fun k _ => by
      rw [ix5_of (Read.lidx_main_v87 (ix5 n b h i j) k) n b h i k rfl rfl rfl rfl rfl, ix5_of (Read.ridx_main_v87 (ix5 n b h i j) k) n b h k j rfl rfl rfl rfl rfl])
  have h88 := h86.dot h87 (Read.val_main_v88 (F := Ideal) x kc al dt (wide w) (facs s)) fun i j =>
    (Read.val_main_v88_apply ..).trans (Finset.sum_congr rfl fun k _ => by
      rw [ix5_of (Read.lidx_main_v88 (ix5 n b h i j) k) n b h i k rfl rfl rfl rfl rfl, ix5_of (Read.ridx_main_v88 (ix5 n b h i j) k) n b h k j rfl rfl rfl rfl rfl]; rfl)
  have h89 := h86.add h88
  have h90 := h87.dot h87 (Read.val_main_v90 (F := Ideal) x kc al dt (wide w) (facs s)) fun i j =>
    (Read.val_main_v90_apply ..).trans (Finset.sum_congr rfl fun k _ => by
      rw [ix5_of (Read.lidx_main_v90 (ix5 n b h i j) k) n b h i k rfl rfl rfl rfl rfl, ix5_of (Read.ridx_main_v90 (ix5 n b h i j) k) n b h k j rfl rfl rfl rfl rfl])
  have h91 := h89.dot h90 (Read.val_main_v91 (F := Ideal) x kc al dt (wide w) (facs s)) fun i j =>
    (Read.val_main_v91_apply ..).trans (Finset.sum_congr rfl fun k _ => by
      rw [ix5_of (Read.lidx_main_v91 (ix5 n b h i j) k) n b h i k rfl rfl rfl rfl rfl, ix5_of (Read.ridx_main_v91 (ix5 n b h i j) k) n b h k j rfl rfl rfl rfl rfl]; rfl)
  have h92 := h89.add h91
  have h93 := h90.dot h90 (Read.val_main_v93 (F := Ideal) x kc al dt (wide w) (facs s)) fun i j =>
    (Read.val_main_v93_apply ..).trans (Finset.sum_congr rfl fun k _ => by
      rw [ix5_of (Read.lidx_main_v93 (ix5 n b h i j) k) n b h i k rfl rfl rfl rfl rfl, ix5_of (Read.ridx_main_v93 (ix5 n b h i j) k) n b h k j rfl rfl rfl rfl rfl])
  have h94 := h92.dot h93 (Read.val_main_v94 (F := Ideal) x kc al dt (wide w) (facs s)) fun i j =>
    (Read.val_main_v94_apply ..).trans (Finset.sum_congr rfl fun k _ => by
      rw [ix5_of (Read.lidx_main_v94 (ix5 n b h i j) k) n b h i k rfl rfl rfl rfl rfl, ix5_of (Read.ridx_main_v94 (ix5 n b h i j) k) n b h k j rfl rfl rfl rfl rfl]; rfl)
  have h95 := h92.add h94
  have h96 := h93.dot h93 (Read.val_main_v96 (F := Ideal) x kc al dt (wide w) (facs s)) fun i j =>
    (Read.val_main_v96_apply ..).trans (Finset.sum_congr rfl fun k _ => by
      rw [ix5_of (Read.lidx_main_v96 (ix5 n b h i j) k) n b h i k rfl rfl rfl rfl rfl, ix5_of (Read.ridx_main_v96 (ix5 n b h i j) k) n b h k j rfl rfl rfl rfl rfl])
  have h97 := h95.dot h96 (Read.val_main_v97 (F := Ideal) x kc al dt (wide w) (facs s)) fun i j =>
    (Read.val_main_v97_apply ..).trans (Finset.sum_congr rfl fun k _ => by
      rw [ix5_of (Read.lidx_main_v97 (ix5 n b h i j) k) n b h i k rfl rfl rfl rfl rfl, ix5_of (Read.ridx_main_v97 (ix5 n b h i j) k) n b h k j rfl rfl rfl rfl rfl]; rfl)
  rw [← powerInverse_eq _ (coupling_strict _ _ _)]
  exact h95.add h97

end Inverse

/-! ## The results -/

/-- The keys the chunks read the state with. -/
theorem readKeys_apply (n : Fin 16) (b : Fin 2) (h : Fin 6) (i : Fin 64) (d : Fin 256) :
    Read.val_main_v103 (F := Ideal) x kc al dt (wide w) (facs s) (ix5 n b h i d)
      = ((readKeys (chunkB rfac x w s b h n) (chunkG rfac x w s al dt b h n) (chunkK kc b h n) i d : ℝ) : EReal) := by
  rw [Read.val_main_v103_apply]
  unfold readKeys
  rw [coe_sum]
  refine Finset.sum_congr rfl fun j _ => ?_
  rw [ix5_of (Read.lidx_main_v103 (ix5 n b h i d) j) n b h i j rfl rfl rfl rfl rfl,
    ix5_of (Read.ridx_main_v103 (ix5 n b h i d) j) n b h j d rfl rfl rfl rfl rfl, inverse_holds x w s al dt kc n b h, Read.val_main_v102_apply,
    key_apply kc, Read.val_main_v101_apply, Read.val_main_v100_apply,
    ix4_of (Read.idx_main_v100 (Read.idx_main_v101 (ix5 n b h j d))) n b h j rfl rfl rfl rfl, Read.val_main_v99_apply, chunkedStep_apply,
    Read.val_main_v55_apply, cum_apply, EReal.coe_mul, EReal.coe_mul, EReal.coe_mul, ← stepSize_coe,
    ← fromStart_coe _ (chunkG_nonpos x w s al dt n b h)]
  rfl

/-- The values they write into it. -/
theorem writtenValues_apply (n : Fin 16) (b : Fin 2) (h : Fin 6) (i : Fin 64) (d : Fin 512) :
    Read.val_main_v108 (F := Ideal) x kc vc al dt (wide w) (facs s) (ix5 n b h i d)
      = writtenValues (chunkB rfac x w s b h n) (chunkG rfac x w s al dt b h n) (chunkK kc b h n) (chunkV vc b h n) i d := by
  rw [Read.val_main_v108_apply]
  unfold writtenValues
  refine Finset.sum_congr rfl fun j _ => ?_
  rw [ix5_of (Read.lidx_main_v108 (ix5 n b h i d) j) n b h i j rfl rfl rfl rfl rfl,
    ix5_of (Read.ridx_main_v108 (ix5 n b h i d) j) n b h j d rfl rfl rfl rfl rfl, inverse_holds x w s al dt kc n b h, Read.val_main_v107_apply,
    value_apply vc, Read.val_main_v106_apply, Read.val_main_v105_apply,
    ix4_of (Read.idx_main_v105 (Read.idx_main_v106 (ix5 n b h j d))) n b h j rfl rfl rfl rfl, chunkedStep_apply]
  rfl

/-- The reference's second result. -/
theorem resultW_eq : Read.val_main_v113 (F := Ideal) x kc al dt (wide w) (facs s) = resultW rfac x w s al dt kc := by
  funext q
  obtain ⟨b, h, t, d, rfl⟩ : ∃ (b : Fin 2) (h : Fin 6) (t : Fin 1024) (d : Fin 256), q = ix4 b h t d := ⟨q 0, q 1, q 2, q 3, eq_ix4 q⟩
  have hb : b.val < 2 := b.isLt
  have hh : h.val < 6 := h.isLt
  have ht : t.val < 1024 := t.isLt
  have hd : d.val < 256 := d.isLt
  rw [Read.val_main_v113_apply, Read.val_main_v112_apply, Read.val_main_v104_apply,
    ix5_of (Read.idx_main_v112 (Read.idx_main_v113 (ix4 b h t d))) (chunkOf t) b h (within t) d
      (by show (((b.val * 6 + h.val) * 1024 + t.val) * 256 + d.val) / 16384 % 16 = t.val / 64; omega)
      (by show (((b.val * 6 + h.val) * 1024 + t.val) * 256 + d.val) / 1572864 = b.val; omega)
      (by show (((b.val * 6 + h.val) * 1024 + t.val) * 256 + d.val) / 262144 % 6 = h.val; omega)
      (by show (((b.val * 6 + h.val) * 1024 + t.val) * 256 + d.val) / 256 % 64 = t.val % 64; omega)
      (by show (((b.val * 6 + h.val) * 1024 + t.val) * 256 + d.val) % 256 = d.val; omega), readKeys_apply x w s al dt kc]
  rfl

/-- Its first. -/
theorem resultU_eq : Read.val_main_v111 (F := Ideal) x kc vc al dt (wide w) (facs s) = resultU rfac x w s al dt kc vc := by
  funext q
  obtain ⟨b, h, t, d, rfl⟩ : ∃ (b : Fin 2) (h : Fin 6) (t : Fin 1024) (d : Fin 512), q = ix4 b h t d := ⟨q 0, q 1, q 2, q 3, eq_ix4 q⟩
  have hb : b.val < 2 := b.isLt
  have hh : h.val < 6 := h.isLt
  have ht : t.val < 1024 := t.isLt
  have hd : d.val < 512 := d.isLt
  rw [Read.val_main_v111_apply, Read.val_main_v110_apply, Read.val_main_v109_apply,
    ix5_of (Read.idx_main_v110 (Read.idx_main_v111 (ix4 b h t d))) (chunkOf t) b h (within t) d
      (by show (((b.val * 6 + h.val) * 1024 + t.val) * 512 + d.val) / 32768 % 16 = t.val / 64; omega)
      (by show (((b.val * 6 + h.val) * 1024 + t.val) * 512 + d.val) / 3145728 = b.val; omega)
      (by show (((b.val * 6 + h.val) * 1024 + t.val) * 512 + d.val) / 524288 % 6 = h.val; omega)
      (by show (((b.val * 6 + h.val) * 1024 + t.val) * 512 + d.val) / 512 % 64 = t.val % 64; omega)
      (by show (((b.val * 6 + h.val) * 1024 + t.val) * 512 + d.val) % 512 = d.val; omega), writtenValues_apply x w s al dt kc vc]
  rfl

end Operations

end Cert.RecRefIdeal.RefValue

end
-- ==== Proof.RecClaims.lean ====
/-
  The recurrence's claim: over the reals, where no scale byte is 0 or 255, the kernel's read keys and written values are the reference's.
-/
module

public import proofs.«01_k».proof.Defs
public import proofs.«01_k».proof.Proof.RecGrid
public import proofs.«01_k».proof.Proof.RecRef
public import proofs.«01_k».proof.Proof.Gen.RecIdeal.Value
public import proofs.«01_k».proof.Proof.Gen.Pre_rec_scales_normal

@[expose] public section

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

/-! ## The reference's region -/

namespace Cert.RecRefIdeal.RefValue

open Cert.RecRefIdeal Cert.RecRefIdeal.Gen Cert.Dequant Cert.Rec

variable (m : (ℓ : Loc nD τ sig) → Buf (Elt Ideal) ℓ)

theorem hz : (![0, 0] : Fin 2 → Nat) = fun _ => 0 := funext fun a => by fin_cases a <;> rfl

theorem widen_flushed (c : Dev nD) (t : Fin cfg0.N) :
    (dats m 0 c).flushed 1 t = (win0_1.blk t).view.read (Elt Ideal) (wide (m ((c : Thread nD τ).loc main_arg5))) := by
  show (cfg0.win 1).cut (grid0.coords t) ((dats m 0 c).after 1 t) = _
  rw [after0_1]
  unfold out0_1
  rw [View.canon_unit_zero hz, View.ld_unit_zero hz]
  unfold iblk wide
  rw [show V m c (Pipeline.arrRef spec0 0) = m ((c : Thread nD τ).loc main_arg5) from V_main_arg5 m c]
  rfl

theorem widen_mem (t : Fin cfg0.N) (i : S32x2304.Idx) : i ∈ ((cfg0.win 1).blk t).view.set := by
  have h0 : (i 0).val < 32 := (i 0).isLt
  have h1 : (i 1).val < 2304 := (i 1).isLt
  show i ∈ ((View.whole main_v7).slice (win0_1.rect t)).set
  rw [View.set_slice_whole, Rect.mem_set_unit]
  have e : ∀ t : Fin cfg0.N, win0_1.index t 0 = 0 ∧ win0_1.index t 1 = 0 :=
    (by decide +kernel : ∀ t : Fin grid0.N, win0_1.index t 0 = 0 ∧ win0_1.index t 1 = 0)
  intro a
  match a with
  | ⟨0, _⟩ => show win0_1.index t 0 * 32 ≤ (i 0).val ∧ (i 0).val < win0_1.index t 0 * 32 + 32
              rw [(e t).1]; omega
  | ⟨1, _⟩ => show win0_1.index t 1 * 2304 ≤ (i 1).val ∧ (i 1).val < win0_1.index t 1 * 2304 + 2304
              rw [(e t).2]; omega

theorem widen_cover (i : S32x2304.Idx) : ∃ t : Fin cfg0.N, (cfg0.win 1).flush t = true ∧ i ∈ ((cfg0.win 1).blk t).view.set :=
  have hN : cfg0.N = 1 := N_0
  ⟨⟨0, by omega⟩, flush0_1 _, widen_mem _ i⟩

/-- The reference's one region widens the codes of the projection weights: over the reals the codes themselves. -/
theorem widen (c : Dev nD) : Value.reg_main_v7 m c = wide (m ((c : Thread nD τ).loc main_arg5)) :=
  (dats m 0 c).arrAt_eq_of_cover 1 (wide (m ((c : Thread nD τ).loc main_arg5))) (fun t _ => widen_flushed m c t) widen_cover

end Cert.RecRefIdeal.RefValue

/-! ## The claim -/

namespace Cert.Proof.RecClaims

open Cert.Dequant Cert.Rec

/-- Over the reals, where no scale byte is 0 or 255, the kernel and the reference end with equal results and unchanged arguments. -/
theorem algebraic : Cert.algebraic_RecIdeal_RecRefIdeal_pre_rec_scales_normal := fun m g m' g' hpre hag => by
  have hS : ∀ (c : Dev Cert.RecIdeal.nD) i, m ((c : Thread Cert.RecIdeal.nD Cert.RecIdeal.τ).loc Cert.RecIdeal.main_arg6) i ≠ 0#8
      ∧ m ((c : Thread Cert.RecIdeal.nD Cert.RecIdeal.τ).loc Cert.RecIdeal.main_arg6) i ≠ 255#8 :=
    fun c i => normal_of_pre _ (congrFun (hpre c) i)
  refine ⟨fun c => Cert.RecIdeal.RefValue.wholeU m c, fun c => Cert.RecIdeal.RefValue.wholeW m c, ?_, ?_⟩
  · exact (θ_run Cert.RecIdeal.defs _ _).mono (fun _ h c =>
      ⟨(h c).2.2.1.trans (Cert.RecIdeal.RefValue.final14 m c), (h c).2.2.2.1.trans (Cert.RecIdeal.RefValue.final15 m c),
        (h c).2.2.2.2.2.2⟩) (Cert.RecIdeal.Value.run_blocks m g)
  · refine (θ_run Cert.RecRefIdeal.defs _ _).mono (fun _ h c => ⟨(h c).1.trans ?_, (h c).2.1.trans ?_, (h c).2.2⟩)
      (Cert.RecRefIdeal.Value.run m' g')
    · refine (Cert.RecRefIdeal.Read.val_main_v111_eq (Cert.RecRefIdeal.Value.exitV m' c)).trans ?_
      rw [Cert.RecRefIdeal.Value.exit_main_arg0, Cert.RecRefIdeal.Value.exit_main_arg2, Cert.RecRefIdeal.Value.exit_main_arg3,
        Cert.RecRefIdeal.Value.exit_main_arg7, Cert.RecRefIdeal.Value.exit_main_arg8, Cert.RecRefIdeal.Value.exit_main_v7,
        Cert.RecRefIdeal.Value.exit_main_v6, Cert.RecRefIdeal.RefValue.widen, (hag c).1, (hag c).2.2.1, (hag c).2.2.2.1,
        (hag c).2.2.2.2.2.1, (hag c).2.2.2.2.2.2.1, (hag c).2.2.2.2.2.2.2.1, (hag c).2.2.2.2.2.2.2.2.1]
      refine (Cert.RecRefIdeal.RefValue.resultU_eq _ _ _ _ _ _ _).trans ?_
      exact (resultU_congr _ _ _ _ _ _ _ (hS c)).symm
    · refine (Cert.RecRefIdeal.Read.val_main_v113_eq (Cert.RecRefIdeal.Value.exitV m' c)).trans ?_
      rw [Cert.RecRefIdeal.Value.exit_main_arg0, Cert.RecRefIdeal.Value.exit_main_arg2,
        Cert.RecRefIdeal.Value.exit_main_arg7, Cert.RecRefIdeal.Value.exit_main_arg8, Cert.RecRefIdeal.Value.exit_main_v7,
        Cert.RecRefIdeal.Value.exit_main_v6, Cert.RecRefIdeal.RefValue.widen, (hag c).1, (hag c).2.2.1,
        (hag c).2.2.2.2.2.1, (hag c).2.2.2.2.2.2.1, (hag c).2.2.2.2.2.2.2.1, (hag c).2.2.2.2.2.2.2.2.1]
      refine (Cert.RecRefIdeal.RefValue.resultW_eq _ _ _ _ _ _).trans ?_
      exact (resultW_congr _ _ _ _ _ _ (hS c)).symm

end Cert.Proof.RecClaims

end
-- ==== Proof.lean ====
/-
  The certificate's claim: the frames, the idealizations and the value claims of each program, gathered. The frames of these programs are
  generated for the plain projections, the recurrence and the references and proved in Proof/ConvQkRun.lean, Proof/ConvVRun.lean and the two modules
  beside them for the convolution projections; the value claims are proved in Proof/GateValue.lean, Proof/OutValue.lean,
  Proof/ConvQkValue.lean, Proof/ConvVValue.lean and Proof/RecClaims.lean.
-/
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Skeleton
public import proofs.«01_k».proof.Proof.Gen.GateRefIdeal.Launch
public import proofs.«01_k».proof.Proof.Gen.GateRefIdeal.Points
public import proofs.«01_k».proof.Proof.Gen.GateRefIdeal.Frame
public import proofs.«01_k».proof.Proof.Gen.GateRefIdeal.Run
public import proofs.«01_k».proof.Proof.Gen.GateRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Skeleton
public import proofs.«01_k».proof.Proof.Gen.OutRefIdeal.Launch
public import proofs.«01_k».proof.Proof.Gen.OutRefIdeal.Points
public import proofs.«01_k».proof.Proof.Gen.OutRefIdeal.Frame
public import proofs.«01_k».proof.Proof.Gen.OutRefIdeal.Run
public import proofs.«01_k».proof.Proof.Gen.OutRefIdeal.Read
public import proofs.«01_k».proof.Proof.Gen.ConvQk
public import proofs.«01_k».proof.Proof.Gen.ConvQk.Skeleton
public import proofs.«01_k».proof.Proof.Gen.ConvQk.Launch
public import proofs.«01_k».proof.Proof.Gen.ConvQk.Points
public import proofs.«01_k».proof.Proof.Gen.ConvQk.Frame
public import proofs.«01_k».proof.Proof.Gen.ConvQkIdeal
public import proofs.«01_k».proof.Proof.Gen.ConvQkIdeal.Skeleton
public import proofs.«01_k».proof.Proof.Gen.ConvQkIdeal.Launch
public import proofs.«01_k».proof.Proof.Gen.ConvQkIdeal.Points
public import proofs.«01_k».proof.Proof.Gen.ConvQkIdeal.Frame
public import proofs.«01_k».proof.Proof.Gen.ConvQkRefIdeal
public import proofs.«01_k».proof.Proof.Gen.ConvQkRefIdeal.Skeleton
public import proofs.«01_k».proof.Proof.Gen.ConvQkRefIdeal.Launch
public import proofs.«01_k».proof.Proof.Gen.ConvQkRefIdeal.Points
public import proofs.«01_k».proof.Proof.Gen.ConvQkRefIdeal.Frame
public import proofs.«01_k».proof.Proof.Gen.ConvQkRefIdeal.Run
public import proofs.«01_k».proof.Proof.Gen.ConvQkRefIdeal.Read
public import proofs.«01_k».proof.Proof.Gen.ConvV
public import proofs.«01_k».proof.Proof.Gen.ConvV.Skeleton
public import proofs.«01_k».proof.Proof.Gen.ConvV.Launch
public import proofs.«01_k».proof.Proof.Gen.ConvV.Points
public import proofs.«01_k».proof.Proof.Gen.ConvV.Frame
public import proofs.«01_k».proof.Proof.Gen.ConvVIdeal
public import proofs.«01_k».proof.Proof.Gen.ConvVIdeal.Skeleton
public import proofs.«01_k».proof.Proof.Gen.ConvVIdeal.Launch
public import proofs.«01_k».proof.Proof.Gen.ConvVIdeal.Points
public import proofs.«01_k».proof.Proof.Gen.ConvVIdeal.Frame
public import proofs.«01_k».proof.Proof.Gen.ConvVRefIdeal
public import proofs.«01_k».proof.Proof.Gen.ConvVRefIdeal.Skeleton
public import proofs.«01_k».proof.Proof.Gen.ConvVRefIdeal.Launch
public import proofs.«01_k».proof.Proof.Gen.ConvVRefIdeal.Points
public import proofs.«01_k».proof.Proof.Gen.ConvVRefIdeal.Frame
public import proofs.«01_k».proof.Proof.Gen.ConvVRefIdeal.Run
public import proofs.«01_k».proof.Proof.Gen.ConvVRefIdeal.Read
public import proofs.«01_k».proof.Proof.Gen.Rec
public import proofs.«01_k».proof.Proof.Gen.Rec.Skeleton
public import proofs.«01_k».proof.Proof.Gen.Rec.Launch
public import proofs.«01_k».proof.Proof.Gen.Rec.Points
public import proofs.«01_k».proof.Proof.Gen.Rec.Frame
public import proofs.«01_k».proof.Proof.Gen.RecIdeal
public import proofs.«01_k».proof.Proof.Gen.RecIdeal.Skeleton
public import proofs.«01_k».proof.Proof.Gen.RecIdeal.Launch
public import proofs.«01_k».proof.Proof.Gen.RecIdeal.Points
public import proofs.«01_k».proof.Proof.Gen.RecIdeal.Frame
public import proofs.«01_k».proof.Proof.Gen.RecIdeal.Value
public import proofs.«01_k».proof.Proof.Gen.RecRefIdeal
public import proofs.«01_k».proof.Proof.Gen.RecRefIdeal.Skeleton
public import proofs.«01_k».proof.Proof.Gen.RecRefIdeal.Launch
public import proofs.«01_k».proof.Proof.Gen.RecRefIdeal.Points
public import proofs.«01_k».proof.Proof.Gen.RecRefIdeal.Frame
public import proofs.«01_k».proof.Proof.Gen.RecRefIdeal.Run
public import proofs.«01_k».proof.Proof.Gen.RecRefIdeal.Read
public import proofs.«01_k».proof.Proof.Gen.Pre_rec_scales_normal
public import proofs.«01_k».proof.Proof.Gen.Pre_conv_qk_scales_normal
public import proofs.«01_k».proof.Proof.Gen.Pre_conv_v_scales_normal
public import proofs.«01_k».proof.Proof.Gen.Pre_gate_scales_normal
public import proofs.«01_k».proof.Proof.Gen.Pre_out_scales_normal
public import proofs.«01_k».proof.Proof.GateValue
public import proofs.«01_k».proof.Proof.OutValue
public import proofs.«01_k».proof.Proof.ConvQkRun
public import proofs.«01_k».proof.Proof.ConvVRun
public import proofs.«01_k».proof.Proof.ConvQkValue
public import proofs.«01_k».proof.Proof.ConvVValue
public import proofs.«01_k».proof.Proof.RecClaims
public import Idealize.ShloMosaic.Adequacy
public import Idealize.ShloMosaic.Init

@[expose] public section

noncomputable section

namespace Cert.Proof

open Idealize.ShloMosaic Idealize.SL.Sem Cert.Gate

theorem claim : Cert.Claim := ⟨Cert.Gate.Gen.facts, Cert.GateIdeal.Gen.facts, Cert.GateRefIdeal.Gen.facts, Cert.Out.Gen.facts, Cert.OutIdeal.Gen.facts, Cert.OutRefIdeal.Gen.facts, Cert.ConvQk.Gen.facts, Cert.ConvQkIdeal.Gen.facts, Cert.ConvQkRefIdeal.Gen.facts, Cert.ConvV.Gen.facts, Cert.ConvVIdeal.Gen.facts, Cert.ConvVRefIdeal.Gen.facts, Cert.Rec.Gen.facts, Cert.RecIdeal.Gen.facts, Cert.RecRefIdeal.Gen.facts, Cert.Pre_gate_scales_normal.Gen.facts, Cert.Pre_out_scales_normal.Gen.facts, Cert.Pre_conv_qk_scales_normal.Gen.facts, Cert.Pre_conv_v_scales_normal.Gen.facts, Cert.Pre_rec_scales_normal.Gen.facts, by
  refine ⟨?_, ?_, ?_, ?_, ?_, ?_, ?_, ?_, ?_, ?_, ?_, ?_, ?_, ?_, ?_, ?_, ?_, ?_, ?_, ?_, ?_, ?_, ?_, ?_, ?_,
    trivial, GateClaims.algebraic, trivial, OutClaims.algebraic, trivial, ConvQkClaims.algebraic, trivial, ConvVClaims.algebraic,
    trivial, RecClaims.algebraic⟩
  · exact fun m ρ _ => Cert.Gate.Gen.frame m ρ
  · exact fun m ρ _ => Cert.GateIdeal.Gen.frame m ρ
  · exact fun m ρ _ => Cert.GateIdeal.Gen.frame m ρ
  · exact fun m ρ _ => Cert.GateRefIdeal.Gen.frame m ρ
  · exact fun m ρ _ => Cert.GateRefIdeal.Gen.frame m ρ
  · exact fun m ρ _ => Cert.Out.Gen.frame m ρ
  · exact fun m ρ _ => Cert.OutIdeal.Gen.frame m ρ
  · exact fun m ρ _ => Cert.OutIdeal.Gen.frame m ρ
  · exact fun m ρ _ => Cert.OutRefIdeal.Gen.frame m ρ
  · exact fun m ρ _ => Cert.OutRefIdeal.Gen.frame m ρ
  · exact fun m ρ _ => Cert.ConvQk.Hand.frame m ρ
  · exact fun m ρ _ => Cert.ConvQkIdeal.Hand.frame m ρ
  · exact fun m ρ _ => Cert.ConvQkIdeal.Hand.frame m ρ
  · exact fun m ρ _ => Cert.ConvQkRefIdeal.Gen.frame m ρ
  · exact fun m ρ _ => Cert.ConvQkRefIdeal.Gen.frame m ρ
  · exact fun m ρ _ => Cert.ConvV.Hand.frame m ρ
  · exact fun m ρ _ => Cert.ConvVIdeal.Hand.frame m ρ
  · exact fun m ρ _ => Cert.ConvVIdeal.Hand.frame m ρ
  · exact fun m ρ _ => Cert.ConvVRefIdeal.Gen.frame m ρ
  · exact fun m ρ _ => Cert.ConvVRefIdeal.Gen.frame m ρ
  · exact fun m ρ _ => Cert.Rec.Gen.frame m ρ
  · exact fun m ρ _ => Cert.RecIdeal.Gen.frame m ρ
  · exact fun m ρ _ => Cert.RecIdeal.Gen.frame m ρ
  · exact fun m ρ _ => Cert.RecRefIdeal.Gen.frame m ρ
  · exact fun m ρ _ => Cert.RecRefIdeal.Gen.frame m ρ⟩

end Cert.Proof

end
